-- ==== Defs.lean ====
def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_finite_sgu [hPre_finite_sgu : Cert.Pre_finite_sgu.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))) = (fun _ => 1#1)

def Pre_SguRefIdeal (m : (ℓ : Loc Cert.SguRefIdeal.nD Cert.SguRefIdeal.τ Cert.SguRefIdeal.sig) → Buf (Elt Ideal) ℓ) : Prop :=
  True

def Pre_SguRefIdeal_finite_sgu [hPre_finite_sgu : Cert.Pre_finite_sgu.Facts] (m : (ℓ : Loc Cert.SguRefIdeal.nD Cert.SguRefIdeal.τ Cert.SguRefIdeal.sig) → Buf (Elt Ideal) ℓ) : Prop :=
  ∀ c : Dev Cert.SguRefIdeal.nD,
    (Cert.Pre_finite_sgu.fn (F := Ideal) (m ((c.tc : Thread Cert.SguRefIdeal.nD Cert.SguRefIdeal.τ).loc Cert.SguRefIdeal.main_arg0)) (m ((c.tc : Thread Cert.SguRefIdeal.nD Cert.SguRefIdeal.τ).loc Cert.SguRefIdeal.main_arg1)) (m ((c.tc : Thread Cert.SguRefIdeal.nD Cert.SguRefIdeal.τ).loc Cert.SguRefIdeal.main_arg2)) (m ((c.tc : Thread Cert.SguRefIdeal.nD Cert.SguRefIdeal.τ).loc Cert.SguRefIdeal.main_arg3)) (m ((c.tc : Thread Cert.SguRefIdeal.nD Cert.SguRefIdeal.τ).loc Cert.SguRefIdeal.main_arg4)) (m ((c.tc : Thread Cert.SguRefIdeal.nD Cert.SguRefIdeal.τ).loc Cert.SguRefIdeal.main_arg5)) (m ((c.tc : Thread Cert.SguRefIdeal.nD Cert.SguRefIdeal.τ).loc Cert.SguRefIdeal.main_arg6))) = (fun _ => 1#1)

def Pre_DxBwd (m : (ℓ : Loc Cert.DxBwd.nD Cert.DxBwd.τ Cert.DxBwd.sig) → Buf (Elt Bits) ℓ) : Prop :=
  True

def Pre_DxBwdIdeal (m : (ℓ : Loc Cert.DxBwdIdeal.nD Cert.DxBwdIdeal.τ Cert.DxBwdIdeal.sig) → Buf (Elt Ideal) ℓ) : Prop :=
  True

def Pre_DxBwdIdeal_finite_dx [hPre_finite_dx : Cert.Pre_finite_dx.Facts] (m : (ℓ : Loc Cert.DxBwdIdeal.nD Cert.DxBwdIdeal.τ Cert.DxBwdIdeal.sig) → Buf (Elt Ideal) ℓ) : Prop :=
  ∀ c : Dev Cert.DxBwdIdeal.nD,
    (Cert.Pre_finite_dx.fn (F := Ideal) (m ((c.tc : Thread Cert.DxBwdIdeal.nD Cert.DxBwdIdeal.τ).loc Cert.DxBwdIdeal.main_arg0)) (m ((c.tc : Thread Cert.DxBwdIdeal.nD Cert.DxBwdIdeal.τ).loc Cert.DxBwdIdeal.main_arg1)) (m ((c.tc : Thread Cert.DxBwdIdeal.nD Cert.DxBwdIdeal.τ).loc Cert.DxBwdIdeal.main_arg2)) (m ((c.tc : Thread Cert.DxBwdIdeal.nD Cert.DxBwdIdeal.τ).loc Cert.DxBwdIdeal.main_arg3)) (m ((c.tc : Thread Cert.DxBwdIdeal.nD Cert.DxBwdIdeal.τ).loc Cert.DxBwdIdeal.main_arg4))) = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_finite_dx [hPre_finite_dx : Cert.Pre_finite_dx.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4))) = (fun _ => 1#1)

def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossIdeal_finite_ol [hPre_finite_ol : Cert.Pre_finite_ol.Facts] (m : (ℓ : Loc Cert.OutLossIdeal.nD Cert.OutLossIdeal.τ Cert.OutLossIdeal.sig) → Buf (Elt Ideal) ℓ) : Prop :=
  ∀ c : Dev Cert.OutLossIdeal.nD,
    (Cert.Pre_finite_ol.fn (F := Ideal) (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4))) = (fun _ => 1#1)

def Pre_OutLossRefIdeal (m : (ℓ : Loc Cert.OutLossRefIdeal.nD Cert.OutLossRefIdeal.τ Cert.OutLossRefIdeal.sig) → Buf (Elt Ideal) ℓ) : Prop :=
  True

def Pre_OutLossRefIdeal_finite_ol [hPre_finite_ol : Cert.Pre_finite_ol.Facts] (m : (ℓ : Loc Cert.OutLossRefIdeal.nD Cert.OutLossRefIdeal.τ Cert.OutLossRefIdeal.sig) → Buf (Elt Ideal) ℓ) : Prop :=
  ∀ c : Dev Cert.OutLossRefIdeal.nD,
    (Cert.Pre_finite_ol.fn (F := Ideal) (m ((c.tc : Thread Cert.OutLossRefIdeal.nD Cert.OutLossRefIdeal.τ).loc Cert.OutLossRefIdeal.main_arg0)) (m ((c.tc : Thread Cert.OutLossRefIdeal.nD Cert.OutLossRefIdeal.τ).loc Cert.OutLossRefIdeal.main_arg1)) (m ((c.tc : Thread Cert.OutLossRefIdeal.nD Cert.OutLossRefIdeal.τ).loc Cert.OutLossRefIdeal.main_arg2)) (m ((c.tc : Thread Cert.OutLossRefIdeal.nD Cert.OutLossRefIdeal.τ).loc Cert.OutLossRefIdeal.main_arg3)) (m ((c.tc : Thread Cert.OutLossRefIdeal.nD Cert.OutLossRefIdeal.τ).loc Cert.OutLossRefIdeal.main_arg4))) = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_finite_conv [hPre_finite_conv : Cert.Pre_finite_conv.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_finite_conv.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5)
      ∧ r.2.mem ((c.tc : Thread Cert.SguBwd.nD Cert.SguBwd.τ).loc Cert.SguBwd.main_arg6) = m ((c.tc : Thread Cert.SguBwd.nD Cert.SguBwd.τ).loc Cert.SguBwd.main_arg6))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ r.2.sem = fun _ => 0)

def quiescent_SguBwdIdeal_pre_finite_sgu [hSguBwdIdeal : Cert.SguBwdIdeal.Facts] [hPre_finite_sgu : Cert.Pre_finite_sgu.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_finite_sgu m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_SguRefIdeal_pre_finite_sgu [hSguRefIdeal : Cert.SguRefIdeal.Facts] [hPre_finite_sgu : Cert.Pre_finite_sgu.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal_finite_sgu m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_DxBwd [hDxBwd : Cert.DxBwd.Facts] : Prop :=
  ∀ (m : (ℓ : Loc Cert.DxBwd.nD Cert.DxBwd.τ Cert.DxBwd.sig) → Buf (Elt Bits) ℓ) (g : Dev Cert.DxBwd.nD → PrngReg), Pre_DxBwd m →
    θ_run (Cert.DxBwd.defs (F := Bits)) (onTc (τ := Cert.DxBwd.τ) (Cert.DxBwd.main (F := Bits))) ⟨m, fun _ => 0, g⟩ (fun r => (∀ c : Dev Cert.DxBwd.nD,
      r.2.mem ((c.tc : Thread Cert.DxBwd.nD Cert.DxBwd.τ).loc Cert.DxBwd.main_arg0) = m ((c.tc : Thread Cert.DxBwd.nD Cert.DxBwd.τ).loc Cert.DxBwd.main_arg0)
      ∧ r.2.mem ((c.tc : Thread Cert.DxBwd.nD Cert.DxBwd.τ).loc Cert.DxBwd.main_arg1) = m ((c.tc : Thread Cert.DxBwd.nD Cert.DxBwd.τ).loc Cert.DxBwd.main_arg1)
      ∧ r.2.mem ((c.tc : Thread Cert.DxBwd.nD Cert.DxBwd.τ).loc Cert.DxBwd.main_arg2) = m ((c.tc : Thread Cert.DxBwd.nD Cert.DxBwd.τ).loc Cert.DxBwd.main_arg2)
      ∧ r.2.mem ((c.tc : Thread Cert.DxBwd.nD Cert.DxBwd.τ).loc Cert.DxBwd.main_arg3) = m ((c.tc : Thread Cert.DxBwd.nD Cert.DxBwd.τ).loc Cert.DxBwd.main_arg3)
      ∧ r.2.mem ((c.tc : Thread Cert.DxBwd.nD Cert.DxBwd.τ).loc Cert.DxBwd.main_arg4) = m ((c.tc : Thread Cert.DxBwd.nD Cert.DxBwd.τ).loc Cert.DxBwd.main_arg4))
      ∧ r.2.sem = fun _ => 0)

def quiescent_DxBwdIdeal [hDxBwdIdeal : Cert.DxBwdIdeal.Facts] : Prop :=
  ∀ (m : (ℓ : Loc Cert.DxBwdIdeal.nD Cert.DxBwdIdeal.τ Cert.DxBwdIdeal.sig) → Buf (Elt Ideal) ℓ) (g : Dev Cert.DxBwdIdeal.nD → PrngReg), Pre_DxBwdIdeal m →
    θ_run (Cert.DxBwdIdeal.defs (F := Ideal)) (onTc (τ := Cert.DxBwdIdeal.τ) (Cert.DxBwdIdeal.main (F := Ideal))) ⟨m, fun _ => 0, g⟩ (fun r => (∀ c : Dev Cert.DxBwdIdeal.nD,
      r.2.mem ((c.tc : Thread Cert.DxBwdIdeal.nD Cert.DxBwdIdeal.τ).loc Cert.DxBwdIdeal.main_arg0) = m ((c.tc : Thread Cert.DxBwdIdeal.nD Cert.DxBwdIdeal.τ).loc Cert.DxBwdIdeal.main_arg0)
      ∧ r.2.mem ((c.tc : Thread Cert.DxBwdIdeal.nD Cert.DxBwdIdeal.τ).loc Cert.DxBwdIdeal.main_arg1) = m ((c.tc : Thread Cert.DxBwdIdeal.nD Cert.DxBwdIdeal.τ).loc Cert.DxBwdIdeal.main_arg1)
      ∧ r.2.mem ((c.tc : Thread Cert.DxBwdIdeal.nD Cert.DxBwdIdeal.τ).loc Cert.DxBwdIdeal.main_arg2) = m ((c.tc : Thread Cert.DxBwdIdeal.nD Cert.DxBwdIdeal.τ).loc Cert.DxBwdIdeal.main_arg2)
      ∧ r.2.mem ((c.tc : Thread Cert.DxBwdIdeal.nD Cert.DxBwdIdeal.τ).loc Cert.DxBwdIdeal.main_arg3) = m ((c.tc : Thread Cert.DxBwdIdeal.nD Cert.DxBwdIdeal.τ).loc Cert.DxBwdIdeal.main_arg3)
      ∧ r.2.mem ((c.tc : Thread Cert.DxBwdIdeal.nD Cert.DxBwdIdeal.τ).loc Cert.DxBwdIdeal.main_arg4) = m ((c.tc : Thread Cert.DxBwdIdeal.nD Cert.DxBwdIdeal.τ).loc Cert.DxBwdIdeal.main_arg4))
      ∧ r.2.sem = fun _ => 0)

def quiescent_DxBwdIdeal_pre_finite_dx [hDxBwdIdeal : Cert.DxBwdIdeal.Facts] [hPre_finite_dx : Cert.Pre_finite_dx.Facts] : Prop :=
  ∀ (m : (ℓ : Loc Cert.DxBwdIdeal.nD Cert.DxBwdIdeal.τ Cert.DxBwdIdeal.sig) → Buf (Elt Ideal) ℓ) (g : Dev Cert.DxBwdIdeal.nD → PrngReg), Pre_DxBwdIdeal_finite_dx m →
    θ_run (Cert.DxBwdIdeal.defs (F := Ideal)) (onTc (τ := Cert.DxBwdIdeal.τ) (Cert.DxBwdIdeal.main (F := Ideal))) ⟨m, fun _ => 0, g⟩ (fun r => (∀ c : Dev Cert.DxBwdIdeal.nD,
      r.2.mem ((c.tc : Thread Cert.DxBwdIdeal.nD Cert.DxBwdIdeal.τ).loc Cert.DxBwdIdeal.main_arg0) = m ((c.tc : Thread Cert.DxBwdIdeal.nD Cert.DxBwdIdeal.τ).loc Cert.DxBwdIdeal.main_arg0)
      ∧ r.2.mem ((c.tc : Thread Cert.DxBwdIdeal.nD Cert.DxBwdIdeal.τ).loc Cert.DxBwdIdeal.main_arg1) = m ((c.tc : Thread Cert.DxBwdIdeal.nD Cert.DxBwdIdeal.τ).loc Cert.DxBwdIdeal.main_arg1)
      ∧ r.2.mem ((c.tc : Thread Cert.DxBwdIdeal.nD Cert.DxBwdIdeal.τ).loc Cert.DxBwdIdeal.main_arg2) = m ((c.tc : Thread Cert.DxBwdIdeal.nD Cert.DxBwdIdeal.τ).loc Cert.DxBwdIdeal.main_arg2)
      ∧ r.2.mem ((c.tc : Thread Cert.DxBwdIdeal.nD Cert.DxBwdIdeal.τ).loc Cert.DxBwdIdeal.main_arg3) = m ((c.tc : Thread Cert.DxBwdIdeal.nD Cert.DxBwdIdeal.τ).loc Cert.DxBwdIdeal.main_arg3)
      ∧ r.2.mem ((c.tc : Thread Cert.DxBwdIdeal.nD Cert.DxBwdIdeal.τ).loc Cert.DxBwdIdeal.main_arg4) = m ((c.tc : Thread Cert.DxBwdIdeal.nD Cert.DxBwdIdeal.τ).loc Cert.DxBwdIdeal.main_arg4))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_DxRefIdeal_pre_finite_dx [hDxRefIdeal : Cert.DxRefIdeal.Facts] [hPre_finite_dx : Cert.Pre_finite_dx.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_finite_dx m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ r.2.sem = fun _ => 0)

def quiescent_OutLossIdeal_pre_finite_ol [hOutLossIdeal : Cert.OutLossIdeal.Facts] [hPre_finite_ol : Cert.Pre_finite_ol.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal_finite_ol m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4))
      ∧ r.2.sem = fun _ => 0)

def quiescent_OutLossRefIdeal_pre_finite_ol [hOutLossRefIdeal : Cert.OutLossRefIdeal.Facts] [hPre_finite_ol : Cert.Pre_finite_ol.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal_finite_ol m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvRefIdeal_pre_finite_conv [hConvRefIdeal : Cert.ConvRefIdeal.Facts] [hPre_finite_conv : Cert.Pre_finite_conv.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_finite_conv m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4)
      ∧ r.2.mem ((c.tc : Thread Cert.SguFwd.nD Cert.SguFwd.τ).loc Cert.SguFwd.main_arg5) = m ((c.tc : Thread Cert.SguFwd.nD Cert.SguFwd.τ).loc Cert.SguFwd.main_arg5))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
      ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4)
      ∧ r.2.mem ((c.tc : Thread Cert.SguFwdRefIdeal.nD Cert.SguFwdRefIdeal.τ).loc Cert.SguFwdRefIdeal.main_arg5) = m ((c.tc : Thread Cert.SguFwdRefIdeal.nD Cert.SguFwdRefIdeal.τ).loc Cert.SguFwdRefIdeal.main_arg5))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2))
      ∧ r.2.sem = fun _ => 0)

def preserves_SguBwd_SguBwdIdeal : Prop :=
  True

def algebraic_SguBwdIdeal_SguRefIdeal_pre_finite_sgu [hSguBwdIdeal : Cert.SguBwdIdeal.Facts] [hSguRefIdeal : Cert.SguRefIdeal.Facts] [hPre_finite_sgu : Cert.Pre_finite_sgu.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguBwdIdeal_finite_sgu m →
    (∀ c : Dev Cert.SguBwdIdeal.nD,
      m' ((c.tc : Thread Cert.SguRefIdeal.nD Cert.SguRefIdeal.τ).loc Cert.SguRefIdeal.main_arg0) = m ((c.tc : Thread Cert.SguBwdIdeal.nD Cert.SguBwdIdeal.τ).loc Cert.SguBwdIdeal.main_arg0)
      ∧ m' ((c.tc : Thread Cert.SguRefIdeal.nD Cert.SguRefIdeal.τ).loc Cert.SguRefIdeal.main_arg1) = m ((c.tc : Thread Cert.SguBwdIdeal.nD Cert.SguBwdIdeal.τ).loc Cert.SguBwdIdeal.main_arg1)
      ∧ m' ((c.tc : Thread Cert.SguRefIdeal.nD Cert.SguRefIdeal.τ).loc Cert.SguRefIdeal.main_arg2) = m ((c.tc : Thread Cert.SguBwdIdeal.nD Cert.SguBwdIdeal.τ).loc Cert.SguBwdIdeal.main_arg2)
      ∧ m' ((c.tc : Thread Cert.SguRefIdeal.nD Cert.SguRefIdeal.τ).loc Cert.SguRefIdeal.main_arg3) = m ((c.tc : Thread Cert.SguBwdIdeal.nD Cert.SguBwdIdeal.τ).loc Cert.SguBwdIdeal.main_arg3)
      ∧ m' ((c.tc : Thread Cert.SguRefIdeal.nD Cert.SguRefIdeal.τ).loc Cert.SguRefIdeal.main_arg4) = m ((c.tc : Thread Cert.SguBwdIdeal.nD Cert.SguBwdIdeal.τ).loc Cert.SguBwdIdeal.main_arg4)
      ∧ m' ((c.tc : Thread Cert.SguRefIdeal.nD Cert.SguRefIdeal.τ).loc Cert.SguRefIdeal.main_arg5) = m ((c.tc : Thread Cert.SguBwdIdeal.nD Cert.SguBwdIdeal.τ).loc Cert.SguBwdIdeal.main_arg5)
      ∧ m' ((c.tc : Thread Cert.SguRefIdeal.nD Cert.SguRefIdeal.τ).loc Cert.SguRefIdeal.main_arg6) = m ((c.tc : Thread Cert.SguBwdIdeal.nD Cert.SguBwdIdeal.τ).loc Cert.SguBwdIdeal.main_arg6)) →
    ∃ (v0 : (c : Dev Cert.SguBwdIdeal.nD) → Buf (Elt Ideal) ((c.tc : Thread Cert.SguBwdIdeal.nD Cert.SguBwdIdeal.τ).loc Cert.SguBwdIdeal.main_v11_0)) (v1 : (c : Dev Cert.SguBwdIdeal.nD) → Buf (Elt Ideal) ((c.tc : Thread Cert.SguBwdIdeal.nD Cert.SguBwdIdeal.τ).loc Cert.SguBwdIdeal.main_v12)) (v2 : (c : Dev Cert.SguBwdIdeal.nD) → Buf (Elt Ideal) ((c.tc : Thread Cert.SguBwdIdeal.nD Cert.SguBwdIdeal.τ).loc Cert.SguBwdIdeal.main_v16)) (v3 : (c : Dev Cert.SguBwdIdeal.nD) → Buf (Elt Ideal) ((c.tc : Thread Cert.SguBwdIdeal.nD Cert.SguBwdIdeal.τ).loc Cert.SguBwdIdeal.main_v18)) (v4 : (c : Dev Cert.SguBwdIdeal.nD) → Buf (Elt Ideal) ((c.tc : Thread Cert.SguBwdIdeal.nD Cert.SguBwdIdeal.τ).loc Cert.SguBwdIdeal.main_v20)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v11_0) = v0 c
          ∧ r.2.mem ((c.tc : Thread Cert.SguBwdIdeal.nD Cert.SguBwdIdeal.τ).loc Cert.SguBwdIdeal.main_v12) = v1 c
          ∧ r.2.mem ((c.tc : Thread Cert.SguBwdIdeal.nD Cert.SguBwdIdeal.τ).loc Cert.SguBwdIdeal.main_v16) = v2 c
          ∧ r.2.mem ((c.tc : Thread Cert.SguBwdIdeal.nD Cert.SguBwdIdeal.τ).loc Cert.SguBwdIdeal.main_v18) = v3 c
          ∧ r.2.mem ((c.tc : Thread Cert.SguBwdIdeal.nD Cert.SguBwdIdeal.τ).loc Cert.SguBwdIdeal.main_v20) = v4 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
          ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v93) = v0 c
          ∧ r.2.mem ((c.tc : Thread Cert.SguRefIdeal.nD Cert.SguRefIdeal.τ).loc Cert.SguRefIdeal.main_v58) = v1 c
          ∧ r.2.mem ((c.tc : Thread Cert.SguRefIdeal.nD Cert.SguRefIdeal.τ).loc Cert.SguRefIdeal.main_v53) = v2 c
          ∧ r.2.mem ((c.tc : Thread Cert.SguRefIdeal.nD Cert.SguRefIdeal.τ).loc Cert.SguRefIdeal.main_v64) = v3 c
          ∧ r.2.mem ((c.tc : Thread Cert.SguRefIdeal.nD Cert.SguRefIdeal.τ).loc Cert.SguRefIdeal.main_v61) = v4 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6))

def preserves_DxBwd_DxBwdIdeal : Prop :=
  True

def algebraic_DxBwdIdeal_DxRefIdeal_pre_finite_dx [hDxBwdIdeal : Cert.DxBwdIdeal.Facts] [hDxRefIdeal : Cert.DxRefIdeal.Facts] [hPre_finite_dx : Cert.Pre_finite_dx.Facts] : Prop :=
  ∀ (m : (ℓ : Loc Cert.DxBwdIdeal.nD Cert.DxBwdIdeal.τ Cert.DxBwdIdeal.sig) → Buf (Elt Ideal) ℓ) (g : Dev Cert.DxBwdIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxBwdIdeal_finite_dx m →
    (∀ c : Dev Cert.DxBwdIdeal.nD,
      m' ((c.tc : Thread Cert.DxRefIdeal.nD Cert.DxRefIdeal.τ).loc Cert.DxRefIdeal.main_arg0) = m ((c.tc : Thread Cert.DxBwdIdeal.nD Cert.DxBwdIdeal.τ).loc Cert.DxBwdIdeal.main_arg0)
      ∧ m' ((c.tc : Thread Cert.DxRefIdeal.nD Cert.DxRefIdeal.τ).loc Cert.DxRefIdeal.main_arg1) = m ((c.tc : Thread Cert.DxBwdIdeal.nD Cert.DxBwdIdeal.τ).loc Cert.DxBwdIdeal.main_arg1)
      ∧ m' ((c.tc : Thread Cert.DxRefIdeal.nD Cert.DxRefIdeal.τ).loc Cert.DxRefIdeal.main_arg2) = m ((c.tc : Thread Cert.DxBwdIdeal.nD Cert.DxBwdIdeal.τ).loc Cert.DxBwdIdeal.main_arg2)
      ∧ m' ((c.tc : Thread Cert.DxRefIdeal.nD Cert.DxRefIdeal.τ).loc Cert.DxRefIdeal.main_arg3) = m ((c.tc : Thread Cert.DxBwdIdeal.nD Cert.DxBwdIdeal.τ).loc Cert.DxBwdIdeal.main_arg3)
      ∧ m' ((c.tc : Thread Cert.DxRefIdeal.nD Cert.DxRefIdeal.τ).loc Cert.DxRefIdeal.main_arg4) = m ((c.tc : Thread Cert.DxBwdIdeal.nD Cert.DxBwdIdeal.τ).loc Cert.DxBwdIdeal.main_arg4)) →
    ∃ (v0 : (c : Dev Cert.DxBwdIdeal.nD) → Buf (Elt Ideal) ((c.tc : Thread Cert.DxBwdIdeal.nD Cert.DxBwdIdeal.τ).loc Cert.DxBwdIdeal.main_v5_0)) (v1 : (c : Dev Cert.DxBwdIdeal.nD) → Buf (Elt Ideal) ((c.tc : Thread Cert.DxBwdIdeal.nD Cert.DxBwdIdeal.τ).loc Cert.DxBwdIdeal.main_v7)),
      θ_run (Cert.DxBwdIdeal.defs (F := Ideal)) (onTc (τ := Cert.DxBwdIdeal.τ) (Cert.DxBwdIdeal.main (F := Ideal))) ⟨m, fun _ => 0, g⟩ (fun r => ∀ c : Dev Cert.DxBwdIdeal.nD,
          r.2.mem ((c.tc : Thread Cert.DxBwdIdeal.nD Cert.DxBwdIdeal.τ).loc Cert.DxBwdIdeal.main_v5_0) = v0 c
          ∧ r.2.mem ((c.tc : Thread Cert.DxBwdIdeal.nD Cert.DxBwdIdeal.τ).loc Cert.DxBwdIdeal.main_v7) = v1 c
          ∧ r.2.mem ((c.tc : Thread Cert.DxBwdIdeal.nD Cert.DxBwdIdeal.τ).loc Cert.DxBwdIdeal.main_arg0) = m ((c.tc : Thread Cert.DxBwdIdeal.nD Cert.DxBwdIdeal.τ).loc Cert.DxBwdIdeal.main_arg0)
          ∧ r.2.mem ((c.tc : Thread Cert.DxBwdIdeal.nD Cert.DxBwdIdeal.τ).loc Cert.DxBwdIdeal.main_arg1) = m ((c.tc : Thread Cert.DxBwdIdeal.nD Cert.DxBwdIdeal.τ).loc Cert.DxBwdIdeal.main_arg1)
          ∧ r.2.mem ((c.tc : Thread Cert.DxBwdIdeal.nD Cert.DxBwdIdeal.τ).loc Cert.DxBwdIdeal.main_arg2) = m ((c.tc : Thread Cert.DxBwdIdeal.nD Cert.DxBwdIdeal.τ).loc Cert.DxBwdIdeal.main_arg2)
          ∧ r.2.mem ((c.tc : Thread Cert.DxBwdIdeal.nD Cert.DxBwdIdeal.τ).loc Cert.DxBwdIdeal.main_arg3) = m ((c.tc : Thread Cert.DxBwdIdeal.nD Cert.DxBwdIdeal.τ).loc Cert.DxBwdIdeal.main_arg3)
          ∧ r.2.mem ((c.tc : Thread Cert.DxBwdIdeal.nD Cert.DxBwdIdeal.τ).loc Cert.DxBwdIdeal.main_arg4) = m ((c.tc : Thread Cert.DxBwdIdeal.nD Cert.DxBwdIdeal.τ).loc Cert.DxBwdIdeal.main_arg4))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v37) = v0 c
          ∧ r.2.mem ((c.tc : Thread Cert.DxRefIdeal.nD Cert.DxRefIdeal.τ).loc Cert.DxRefIdeal.main_v20) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4))

def preserves_OutLoss_OutLossIdeal : Prop :=
  True

def algebraic_OutLossIdeal_OutLossRefIdeal_pre_finite_ol [hOutLossIdeal : Cert.OutLossIdeal.Facts] [hOutLossRefIdeal : Cert.OutLossRefIdeal.Facts] [hPre_finite_ol : Cert.Pre_finite_ol.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal_finite_ol m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)) →
    ∃ (v0 : (c : Dev Cert.OutLossIdeal.nD) → Buf (Elt Ideal) ((c.tc : Thread Cert.OutLossIdeal.nD Cert.OutLossIdeal.τ).loc Cert.OutLossIdeal.main_v8)) (v1 : (c : Dev Cert.OutLossIdeal.nD) → Buf (Elt Ideal) ((c.tc : Thread Cert.OutLossIdeal.nD Cert.OutLossIdeal.τ).loc Cert.OutLossIdeal.main_v4_0)) (v2 : (c : Dev Cert.OutLossIdeal.nD) → Buf (Elt Ideal) ((c.tc : Thread Cert.OutLossIdeal.nD Cert.OutLossIdeal.τ).loc Cert.OutLossIdeal.main_v4_1)) (v3 : (c : Dev Cert.OutLossIdeal.nD) → Buf (Elt Ideal) ((c.tc : Thread Cert.OutLossIdeal.nD Cert.OutLossIdeal.τ).loc Cert.OutLossIdeal.main_v4_2)) (v4 : (c : Dev Cert.OutLossIdeal.nD) → Buf (Elt Ideal) ((c.tc : Thread Cert.OutLossIdeal.nD Cert.OutLossIdeal.τ).loc Cert.OutLossIdeal.main_v9)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v8) = v0 c
          ∧ r.2.mem ((c.tc : Thread Cert.OutLossIdeal.nD Cert.OutLossIdeal.τ).loc Cert.OutLossIdeal.main_v4_0) = v1 c
          ∧ r.2.mem ((c.tc : Thread Cert.OutLossIdeal.nD Cert.OutLossIdeal.τ).loc Cert.OutLossIdeal.main_v4_1) = v2 c
          ∧ r.2.mem ((c.tc : Thread Cert.OutLossIdeal.nD Cert.OutLossIdeal.τ).loc Cert.OutLossIdeal.main_v4_2) = v3 c
          ∧ r.2.mem ((c.tc : Thread Cert.OutLossIdeal.nD Cert.OutLossIdeal.τ).loc Cert.OutLossIdeal.main_v9) = v4 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v27) = v0 c
          ∧ r.2.mem ((c.tc : Thread Cert.OutLossRefIdeal.nD Cert.OutLossRefIdeal.τ).loc Cert.OutLossRefIdeal.main_v53) = v1 c
          ∧ r.2.mem ((c.tc : Thread Cert.OutLossRefIdeal.nD Cert.OutLossRefIdeal.τ).loc Cert.OutLossRefIdeal.main_v58) = v2 c
          ∧ r.2.mem ((c.tc : Thread Cert.OutLossRefIdeal.nD Cert.OutLossRefIdeal.τ).loc Cert.OutLossRefIdeal.main_v60) = v3 c
          ∧ r.2.mem ((c.tc : Thread Cert.OutLossRefIdeal.nD Cert.OutLossRefIdeal.τ).loc Cert.OutLossRefIdeal.main_v39) = v4 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4))

def preserves_ConvBwd_ConvBwdIdeal : Prop :=
  True

def algebraic_ConvBwdIdeal_ConvRefIdeal_pre_finite_conv [hConvBwdIdeal : Cert.ConvBwdIdeal.Facts] [hConvRefIdeal : Cert.ConvRefIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal_finite_conv m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)
      ∧ m' ((c.tc : Thread Cert.ConvRefIdeal.nD Cert.ConvRefIdeal.τ).loc Cert.ConvRefIdeal.main_arg4) = m ((c.tc : Thread Cert.ConvBwdIdeal.nD Cert.ConvBwdIdeal.τ).loc Cert.ConvBwdIdeal.main_arg4)
      ∧ m' ((c.tc : Thread Cert.ConvRefIdeal.nD Cert.ConvRefIdeal.τ).loc Cert.ConvRefIdeal.main_arg5) = m ((c.tc : Thread Cert.ConvBwdIdeal.nD Cert.ConvBwdIdeal.τ).loc Cert.ConvBwdIdeal.main_arg5)) →
    ∃ (v0 : (c : Dev Cert.ConvBwdIdeal.nD) → Buf (Elt Ideal) ((c.tc : Thread Cert.ConvBwdIdeal.nD Cert.ConvBwdIdeal.τ).loc Cert.ConvBwdIdeal.main_v97)) (v1 : (c : Dev Cert.ConvBwdIdeal.nD) → Buf (Elt Ideal) ((c.tc : Thread Cert.ConvBwdIdeal.nD Cert.ConvBwdIdeal.τ).loc Cert.ConvBwdIdeal.main_v100)) (v2 : (c : Dev Cert.ConvBwdIdeal.nD) → Buf (Elt Ideal) ((c.tc : Thread Cert.ConvBwdIdeal.nD Cert.ConvBwdIdeal.τ).loc Cert.ConvBwdIdeal.main_v102)) (v3 : (c : Dev Cert.ConvBwdIdeal.nD) → Buf (Elt Ideal) ((c.tc : Thread Cert.ConvBwdIdeal.nD Cert.ConvBwdIdeal.τ).loc Cert.ConvBwdIdeal.main_v104)) (v4 : (c : Dev Cert.ConvBwdIdeal.nD) → Buf (Elt Ideal) ((c.tc : Thread Cert.ConvBwdIdeal.nD Cert.ConvBwdIdeal.τ).loc Cert.ConvBwdIdeal.main_v106)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v97) = v0 c
          ∧ r.2.mem ((c.tc : Thread Cert.ConvBwdIdeal.nD Cert.ConvBwdIdeal.τ).loc Cert.ConvBwdIdeal.main_v100) = v1 c
          ∧ r.2.mem ((c.tc : Thread Cert.ConvBwdIdeal.nD Cert.ConvBwdIdeal.τ).loc Cert.ConvBwdIdeal.main_v102) = v2 c
          ∧ r.2.mem ((c.tc : Thread Cert.ConvBwdIdeal.nD Cert.ConvBwdIdeal.τ).loc Cert.ConvBwdIdeal.main_v104) = v3 c
          ∧ r.2.mem ((c.tc : Thread Cert.ConvBwdIdeal.nD Cert.ConvBwdIdeal.τ).loc Cert.ConvBwdIdeal.main_v106) = v4 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v296) = v0 c
          ∧ r.2.mem ((c.tc : Thread Cert.ConvRefIdeal.nD Cert.ConvRefIdeal.τ).loc Cert.ConvRefIdeal.main_v291) = v1 c
          ∧ r.2.mem ((c.tc : Thread Cert.ConvRefIdeal.nD Cert.ConvRefIdeal.τ).loc Cert.ConvRefIdeal.main_v290) = v2 c
          ∧ r.2.mem ((c.tc : Thread Cert.ConvRefIdeal.nD Cert.ConvRefIdeal.τ).loc Cert.ConvRefIdeal.main_v129) = v3 c
          ∧ r.2.mem ((c.tc : Thread Cert.ConvRefIdeal.nD Cert.ConvRefIdeal.τ).loc Cert.ConvRefIdeal.main_v126) = v4 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v5)) (v1 : (c : Dev Cert.ConvFwdIdeal.nD) → Buf (Elt Ideal) ((c.tc : Thread Cert.ConvFwdIdeal.nD Cert.ConvFwdIdeal.τ).loc Cert.ConvFwdIdeal.main_v4_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v5) = v0 c
          ∧ r.2.mem ((c.tc : Thread Cert.ConvFwdIdeal.nD Cert.ConvFwdIdeal.τ).loc Cert.ConvFwdIdeal.main_v4_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v195) = v0 c
          ∧ r.2.mem ((c.tc : Thread Cert.ConvFwdRefIdeal.nD Cert.ConvFwdRefIdeal.τ).loc Cert.ConvFwdRefIdeal.main_v196) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_SguFwd_SguFwdIdeal : Prop :=
  True

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)
      ∧ m' ((c.tc : Thread Cert.SguFwdRefIdeal.nD Cert.SguFwdRefIdeal.τ).loc Cert.SguFwdRefIdeal.main_arg5) = m ((c.tc : Thread Cert.SguFwdIdeal.nD Cert.SguFwdIdeal.τ).loc Cert.SguFwdIdeal.main_arg5)) →
    ∃ (v0 : (c : Dev Cert.SguFwdIdeal.nD) → Buf (Elt Ideal) ((c.tc : Thread Cert.SguFwdIdeal.nD Cert.SguFwdIdeal.τ).loc Cert.SguFwdIdeal.main_v7)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v7) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
          ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v41) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4)
          ∧ r.2.mem ((c.tc : Thread Cert.SguFwdRefIdeal.nD Cert.SguFwdRefIdeal.τ).loc Cert.SguFwdRefIdeal.main_arg5) = m' ((c.tc : Thread Cert.SguFwdRefIdeal.nD Cert.SguFwdRefIdeal.τ).loc Cert.SguFwdRefIdeal.main_arg5))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)) →
    ∃ (v0 : (c : Dev Cert.ProjFwdIdeal.nD) → Buf (Elt Ideal) ((c.tc : Thread Cert.ProjFwdIdeal.nD Cert.ProjFwdIdeal.τ).loc Cert.ProjFwdIdeal.main_v4_0)) (v1 : (c : Dev Cert.ProjFwdIdeal.nD) → Buf (Elt Ideal) ((c.tc : Thread Cert.ProjFwdIdeal.nD Cert.ProjFwdIdeal.τ).loc Cert.ProjFwdIdeal.main_v4_1)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v4_0) = v0 c
          ∧ r.2.mem ((c.tc : Thread Cert.ProjFwdIdeal.nD Cert.ProjFwdIdeal.τ).loc Cert.ProjFwdIdeal.main_v4_1) = v1 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v14) = v0 c
          ∧ r.2.mem ((c.tc : Thread Cert.ProjFwdRefIdeal.nD Cert.ProjFwdRefIdeal.τ).loc Cert.ProjFwdRefIdeal.main_v16) = v1 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2))

def Claim : Prop :=
  ∃ (hSguBwd : Cert.SguBwd.Facts) (hSguBwdIdeal : Cert.SguBwdIdeal.Facts) (hSguRefIdeal : Cert.SguRefIdeal.Facts) (hDxBwd : Cert.DxBwd.Facts) (hDxBwdIdeal : Cert.DxBwdIdeal.Facts) (hDxRefIdeal : Cert.DxRefIdeal.Facts) (hOutLoss : Cert.OutLoss.Facts) (hOutLossIdeal : Cert.OutLossIdeal.Facts) (hOutLossRefIdeal : Cert.OutLossRefIdeal.Facts) (hConvBwd : Cert.ConvBwd.Facts) (hConvBwdIdeal : Cert.ConvBwdIdeal.Facts) (hConvRefIdeal : Cert.ConvRefIdeal.Facts) (hConvFwd : Cert.ConvFwd.Facts) (hConvFwdIdeal : Cert.ConvFwdIdeal.Facts) (hConvFwdRefIdeal : Cert.ConvFwdRefIdeal.Facts) (hSguFwd : Cert.SguFwd.Facts) (hSguFwdIdeal : Cert.SguFwdIdeal.Facts) (hSguFwdRefIdeal : Cert.SguFwdRefIdeal.Facts) (hProjFwd : Cert.ProjFwd.Facts) (hProjFwdIdeal : Cert.ProjFwdIdeal.Facts) (hProjFwdRefIdeal : Cert.ProjFwdRefIdeal.Facts) (hPre_finite_sgu : Cert.Pre_finite_sgu.Facts) (hPre_finite_dx : Cert.Pre_finite_dx.Facts) (hPre_finite_ol : Cert.Pre_finite_ol.Facts) (hPre_finite_conv : Cert.Pre_finite_conv.Facts),
    quiescent_SguBwd (hSguBwd := hSguBwd)
    ∧ quiescent_SguBwdIdeal (hSguBwdIdeal := hSguBwdIdeal)
    ∧ quiescent_SguBwdIdeal_pre_finite_sgu (hSguBwdIdeal := hSguBwdIdeal) (hPre_finite_sgu := hPre_finite_sgu)
    ∧ quiescent_SguRefIdeal (hSguRefIdeal := hSguRefIdeal)
    ∧ quiescent_SguRefIdeal_pre_finite_sgu (hSguRefIdeal := hSguRefIdeal) (hPre_finite_sgu := hPre_finite_sgu)
    ∧ quiescent_DxBwd (hDxBwd := hDxBwd)
    ∧ quiescent_DxBwdIdeal (hDxBwdIdeal := hDxBwdIdeal)
    ∧ quiescent_DxBwdIdeal_pre_finite_dx (hDxBwdIdeal := hDxBwdIdeal) (hPre_finite_dx := hPre_finite_dx)
    ∧ quiescent_DxRefIdeal (hDxRefIdeal := hDxRefIdeal)
    ∧ quiescent_DxRefIdeal_pre_finite_dx (hDxRefIdeal := hDxRefIdeal) (hPre_finite_dx := hPre_finite_dx)
    ∧ quiescent_OutLoss (hOutLoss := hOutLoss)
    ∧ quiescent_OutLossIdeal (hOutLossIdeal := hOutLossIdeal)
    ∧ quiescent_OutLossIdeal_pre_finite_ol (hOutLossIdeal := hOutLossIdeal) (hPre_finite_ol := hPre_finite_ol)
    ∧ quiescent_OutLossRefIdeal (hOutLossRefIdeal := hOutLossRefIdeal)
    ∧ quiescent_OutLossRefIdeal_pre_finite_ol (hOutLossRefIdeal := hOutLossRefIdeal) (hPre_finite_ol := hPre_finite_ol)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvRefIdeal (hConvRefIdeal := hConvRefIdeal)
    ∧ quiescent_ConvRefIdeal_pre_finite_conv (hConvRefIdeal := hConvRefIdeal) (hPre_finite_conv := hPre_finite_conv)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ preserves_SguBwd_SguBwdIdeal
    ∧ algebraic_SguBwdIdeal_SguRefIdeal_pre_finite_sgu (hSguBwdIdeal := hSguBwdIdeal) (hSguRefIdeal := hSguRefIdeal) (hPre_finite_sgu := hPre_finite_sgu)
    ∧ preserves_DxBwd_DxBwdIdeal
    ∧ algebraic_DxBwdIdeal_DxRefIdeal_pre_finite_dx (hDxBwdIdeal := hDxBwdIdeal) (hDxRefIdeal := hDxRefIdeal) (hPre_finite_dx := hPre_finite_dx)
    ∧ preserves_OutLoss_OutLossIdeal
    ∧ algebraic_OutLossIdeal_OutLossRefIdeal_pre_finite_ol (hOutLossIdeal := hOutLossIdeal) (hOutLossRefIdeal := hOutLossRefIdeal) (hPre_finite_ol := hPre_finite_ol)
    ∧ preserves_ConvBwd_ConvBwdIdeal
    ∧ algebraic_ConvBwdIdeal_ConvRefIdeal_pre_finite_conv (hConvBwdIdeal := hConvBwdIdeal) (hConvRefIdeal := hConvRefIdeal) (hPre_finite_conv := hPre_finite_conv)
    ∧ preserves_ConvFwd_ConvFwdIdeal
    ∧ algebraic_ConvFwdIdeal_ConvFwdRefIdeal (hConvFwdIdeal := hConvFwdIdeal) (hConvFwdRefIdeal := hConvFwdRefIdeal)
    ∧ preserves_SguFwd_SguFwdIdeal
    ∧ algebraic_SguFwdIdeal_SguFwdRefIdeal (hSguFwdIdeal := hSguFwdIdeal) (hSguFwdRefIdeal := hSguFwdRefIdeal)
    ∧ preserves_ProjFwd_ProjFwdIdeal
    ∧ algebraic_ProjFwdIdeal_ProjFwdRefIdeal (hProjFwdIdeal := hProjFwdIdeal) (hProjFwdRefIdeal := hProjFwdRefIdeal)
-- ==== Pre_finite_conv.lean ====
abbrev S8192x6144 : Shape := ⟨2, ![8192, 6144]⟩
abbrev S8192x2048 : Shape := ⟨2, ![8192, 2048]⟩
abbrev S1x31x1024 : Shape := ⟨3, ![1, 31, 1024]⟩
abbrev S1x1024 : Shape := ⟨2, ![1, 1024]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1x31x1024 : S_.BroadcastsInDim S1x31x1024 (![] : Fin 0 → Fin S1x31x1024.rank)
  reducesTo_S1x31x1024_S_d0_1_2 : S1x31x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S1x1024 .f32 := Host.absf main_arg5
  let main_cst_9 : FVec F S_ .f32 := constant S_ .f32 0x7F800000#32
  let main_v26 : FVec F S1x1024 .f32 := broadcastInDim S1x1024 ![] bcast_S_S1x1024 main_cst_9
  let main_v27 : IVec S1x1024 1 := cmpf .olt main_v25 main_v26
  let main_c_10 : IVec S_ 1 := constantI S_ 1 1#1
  let main_v28 : IVec S_ 1 := (fun x v => Host.reduce IntOp.andi x v reducesTo_S1x1024_S_d0_1 h_S_) main_v27 main_c_10
  let main_v29 : IVec S_ 1 := andi main_v24 main_v28
  main_v29

def fn {F : FTy → Type} [FloatOps F] (main_arg0 : FVec F S8192x6144 .f32) (main_arg1 : FVec F S8192x2048 .f32) (main_arg2 : FVec F S1x31x1024 .f32) (main_arg3 : FVec F S1x1024 .f32) (main_arg4 : FVec F S1x1024 .f32) (main_arg5 : FVec F S1x1024 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_c_0 : IVec S_ 1 := constantI S_ 1 1#1
  let main_v4 : IVec S_ 1 := andi main_c_0 main_v3
  let main_v5 : FVec F S8192x2048 .f32 := Host.absf main_arg1
  let main_cst_1 : FVec F S_ .f32 := constant S_ .f32 0x7F800000#32
  let main_v6 : FVec F S8192x2048 .f32 := broadcastInDim S8192x2048 ![] bcast_S_S8192x2048 main_cst_1
  let main_v7 : IVec S8192x2048 1 := cmpf .olt main_v5 main_v6
  let main_c_2 : IVec S_ 1 := constantI S_ 1 1#1
  let main_v8 : IVec S_ 1 := (fun x v => Host.reduce IntOp.andi x v reducesTo_S8192x2048_S_d0_1 h_S_) main_v7 main_c_2
  let main_v9 : IVec S_ 1 := andi main_v4 main_v8
  let main_v10 : FVec F S1x31x1024 .f32 := Host.absf main_arg2
  let main_cst_3 : FVec F S_ .f32 := constant S_ .f32 0x7F800000#32
  let main_v11 : FVec F S1x31x1024 .f32 := broadcastInDim S1x31x1024 ![] bcast_S_S1x31x1024 main_cst_3
  let main_v12 : IVec S1x31x1024 1 := cmpf .olt main_v10 main_v11
  let main_c_4 : IVec S_ 1 := constantI S_ 1 1#1
  let main_v13 : IVec S_ 1 := (fun x v => Host.reduce IntOp.andi x v reducesTo_S1x31x1024_S_d0_1_2 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg5 main_v14 main_v15 main_cst_5
-- ==== Pre_finite_dx.lean ====
abbrev S8192x6144 : Shape := ⟨2, ![8192, 6144]⟩
abbrev S1x1024x6144 : Shape := ⟨3, ![1, 1024, 6144]⟩
abbrev S8192x1024 : Shape := ⟨2, ![8192, 1024]⟩
abbrev S1x1024 : Shape := ⟨2, ![1, 1024]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S1x1024x6144 : S_.BroadcastsInDim S1x1024x6144 (![] : Fin 0 → Fin S1x1024x6144.rank)
  reducesTo_S1x1024x6144_S_d0_1_2 : S1x1024x6144.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  main_v19

def fn {F : FTy → Type} [FloatOps F] (main_arg0 : FVec F S8192x6144 .f32) (main_arg1 : FVec F S1x1024x6144 .f32) (main_arg2 : FVec F S8192x1024 .f32) (main_arg3 : FVec F S1x1024 .f32) (main_arg4 : FVec F S8192x1024 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_c_0 : IVec S_ 1 := constantI S_ 1 1#1
  let main_v4 : IVec S_ 1 := andi main_c_0 main_v3
  let main_v5 : FVec F S1x1024x6144 .f32 := Host.absf main_arg1
  let main_cst_1 : FVec F S_ .f32 := constant S_ .f32 0x7F800000#32
  let main_v6 : FVec F S1x1024x6144 .f32 := broadcastInDim S1x1024x6144 ![] bcast_S_S1x1024x6144 main_cst_1
  let main_v7 : IVec S1x1024x6144 1 := cmpf .olt main_v5 main_v6
  let main_c_2 : IVec S_ 1 := constantI S_ 1 1#1
  let main_v8 : IVec S_ 1 := (fun x v => Host.reduce IntOp.andi x v reducesTo_S1x1024x6144_S_d0_1_2 h_S_) main_v7 main_c_2
  let main_v9 : IVec S_ 1 := andi main_v4 main_v8
  let main_v10 : FVec F S8192x1024 .f32 := Host.absf main_arg2
  let main_cst_3 : FVec F S_ .f32 := constant S_ .f32 0x7F800000#32
  let main_v11 : FVec F S8192x1024 .f32 := broadcastInDim S8192x1024 ![] bcast_S_S8192x1024 main_cst_3
  let main_v12 : IVec S8192x1024 1 := cmpf .olt main_v10 main_v11
  let main_c_4 : IVec S_ 1 := constantI S_ 1 1#1
  let main_v13 : IVec S_ 1 := (fun x v => Host.reduce IntOp.andi x v reducesTo_S8192x1024_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_v14 main_v15 main_cst_5
-- ==== Pre_finite_ol.lean ====
abbrev S8192x1024 : Shape := ⟨2, ![8192, 1024]⟩
abbrev S8192x2048 : Shape := ⟨2, ![8192, 2048]⟩
abbrev S1x2048x1024 : Shape := ⟨3, ![1, 2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  let main_v20 : FVec F S8192x1024 .f32 := Host.absf main_arg4
  let main_cst_7 : FVec F S_ .f32 := constant S_ .f32 0x7F800000#32
  let main_v21 : FVec F S8192x1024 .f32 := broadcastInDim S8192x1024 ![] bcast_S_S8192x1024 main_cst_7
  let main_v22 : IVec S8192x1024 1 := cmpf .olt main_v20 main_v21
  let main_c_8 : IVec S_ 1 := constantI S_ 1 1#1
  let main_v23 : IVec S_ 1 := (fun x v => Host.reduce IntOp.andi x v reducesTo_S8192x1024_S_d0_1 h_S_) main_v22 main_c_8
  let main_v24 : IVec S_ 1 := andi main_v19 main_v23
  main_v24

def fn {F : FTy → Type} [FloatOps F] (main_arg0 : FVec F S8192x1024 .f32) (main_arg1 : FVec F S8192x2048 .f32) (main_arg2 : FVec F S1x2048x1024 .f32) (main_arg3 : FVec F S1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x2048 .f32 := Host.absf main_arg1
  let main_cst_1 : FVec F S_ .f32 := constant S_ .f32 0x7F800000#32
  let main_v6 : FVec F S8192x2048 .f32 := broadcastInDim S8192x2048 ![] bcast_S_S8192x2048 main_cst_1
  let main_v7 : IVec S8192x2048 1 := cmpf .olt main_v5 main_v6
  let main_c_2 : IVec S_ 1 := constantI S_ 1 1#1
  let main_v8 : IVec S_ 1 := (fun x v => Host.reduce IntOp.andi x v reducesTo_S8192x2048_S_d0_1 h_S_) main_v7 main_c_2
  let main_v9 : IVec S_ 1 := andi main_v4 main_v8
  let main_v10 : FVec F S1x2048x1024 .f32 := Host.absf main_arg2
  let main_cst_3 : FVec F S_ .f32 := constant S_ .f32 0x7F800000#32
  let main_v11 : FVec F S1x2048x1024 .f32 := broadcastInDim S1x2048x1024 ![] bcast_S_S1x2048x1024 main_cst_3
  let main_v12 : IVec S1x2048x1024 1 := cmpf .olt main_v10 main_v11
  let main_c_4 : IVec S_ 1 := constantI S_ 1 1#1
  let main_v13 : IVec S_ 1 := (fun x v => Host.reduce IntOp.andi x v reducesTo_S1x2048x1024_S_d0_1_2 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_arg4 main_v14 main_v15 main_cst_5
-- ==== Pre_finite_sgu.lean ====
abbrev S8192x6144 : Shape := ⟨2, ![8192, 6144]⟩
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part1 {F : FTy → Type} [FloatOps F] (main_arg5 : FVec F S1x8x128x128 .f32) (main_arg6 : FVec F S1x8x128 .f32) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x8x128x128 .f32 := Host.absf main_arg5
  let main_cst_7 : FVec F S_ .f32 := constant S_ .f32 0x7F800000#32
  let main_v21 : FVec F S1x8x128x128 .f32 := broadcastInDim S1x8x128x128 ![] bcast_S_S1x8x128x128 main_cst_7
  let main_v22 : IVec S1x8x128x128 1 := cmpf .olt main_v20 main_v21
  let main_c_8 : IVec S_ 1 := constantI S_ 1 1#1
  let main_v23 : IVec S_ 1 := (fun x v => Host.reduce IntOp.andi x v reducesTo_S1x8x128x128_S_d0_1_2_3 h_S_) main_v22 main_c_8
  let main_v24 : IVec S_ 1 := andi main_v19 main_v23
  let main_v25 : FVec F S1x8x128 .f32 := Host.absf main_arg6
  let main_cst_9 : FVec F S_ .f32 := constant S_ .f32 0x7F800000#32
  let main_v26 : FVec F S1x8x128 .f32 := broadcastInDim S1x8x128 ![] bcast_S_S1x8x128 main_cst_9
  let main_v27 : IVec S1x8x128 1 := cmpf .olt main_v25 main_v26
  let main_c_10 : IVec S_ 1 := constantI S_ 1 1#1
  let main_v28 : IVec S_ 1 := (fun x v => Host.reduce IntOp.andi x v reducesTo_S1x8x128_S_d0_1_2 h_S_) main_v27 main_c_10
  let main_v29 : IVec S_ 1 := andi main_v24 main_v28
  main_v29

def fn {F : FTy → Type} [FloatOps F] (main_arg0 : FVec F S8192x6144 .f32) (main_arg1 : FVec F S8192x2048 .f32) (main_arg2 : FVec F S8192x6144 .bf16) (main_arg3 : FVec F S1x1024 .f32) (main_arg4 : FVec F S1x1024 .f32) (main_arg5 : FVec F S1x8x128x128 .f32) (main_arg6 : FVec F S1x8x128 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_c_0 : IVec S_ 1 := constantI S_ 1 1#1
  let main_v4 : IVec S_ 1 := andi main_c_0 main_v3
  let main_v5 : FVec F S8192x2048 .f32 := Host.absf main_arg1
  let main_cst_1 : FVec F S_ .f32 := constant S_ .f32 0x7F800000#32
  let main_v6 : FVec F S8192x2048 .f32 := broadcastInDim S8192x2048 ![] bcast_S_S8192x2048 main_cst_1
  let main_v7 : IVec S8192x2048 1 := cmpf .olt main_v5 main_v6
  let main_c_2 : IVec S_ 1 := constantI S_ 1 1#1
  let main_v8 : IVec S_ 1 := (fun x v => Host.reduce IntOp.andi x v reducesTo_S8192x2048_S_d0_1 h_S_) main_v7 main_c_2
  let main_v9 : IVec S_ 1 := andi main_v4 main_v8
  let main_v10 : FVec F S1x1024 .f32 := Host.absf main_arg3
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S1x1024 .f32 := Host.absf main_arg4
  let main_cst_5 : FVec F S_ .f32 := constant S_ .f32 0x7F800000#32
  fn_part1 (F := F) main_arg5 main_arg6 main_v14 main_v15 main_cst_5
-- ==== SguBwd.lean ====
abbrev S8192x6144 : Shape := ⟨2, ![8192, 6144]⟩
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S8x1024 : Shape := ⟨2, ![8, 1024]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S64x8x1024 : Shape := ⟨3, ![64, 8, 1024]⟩
abbrev S_ : Shape := ⟨0, ![]⟩
abbrev S1024 : Shape := ⟨1, ![1024]⟩

abbrev nBuf : Space → Nat
  | .hbm => 35
  | .vmem => 20
  | .smem => 0
  | _ => 0

abbrev bufTy : (tb : Table) → Fin (tcTables nBuf tb) → BufTy
  | .hbm, ⟨0, _⟩ => ⟨S8192x6144, .f32⟩
  | .hbm, ⟨1, _⟩ => ⟨S8192x2048, .f32⟩
  | .hbm, ⟨2, _⟩ => ⟨S8192x6144, .bf16⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S8x128x128, .f32⟩
  | .hbm, ⟨8, _⟩ => ⟨S8x128x128, .bf16⟩
  | .hbm, ⟨9, _⟩ => ⟨S8x128x128, .f32⟩
  | .hbm, ⟨10, _⟩ => ⟨S8x128x128, .f32⟩
  | .hbm, ⟨11, _⟩ => ⟨S8x128x128, .bf16⟩
  | .hbm, ⟨12, _⟩ => ⟨S8x128, .f32⟩
  | .hbm, ⟨13, _⟩ => ⟨S128x8, .f32⟩
  | .hbm, ⟨14, _⟩ => ⟨S128x8x128, .f32⟩
  | .hbm, ⟨15, _⟩ => ⟨S128x1024, .f32⟩
  | .hbm, ⟨16, _⟩ => ⟨S8192x6144, .bf16⟩
  | .hbm, ⟨17, _⟩ => ⟨S8192x2048, .bf16⟩
  | .hbm, ⟨18, _⟩ => ⟨S8192x6144, .bf16⟩
  | .hbm, ⟨19, _⟩ => ⟨S8x128x128, .f32⟩
  | .hbm, ⟨20, _⟩ => ⟨S128x1024, .f32⟩
  | .hbm, ⟨21, _⟩ => ⟨S8x1024, .f32⟩
  | .hbm, ⟨22, _⟩ => ⟨S8x1024, .f32⟩
  | .hbm, ⟨23, _⟩ => ⟨S1x8x128x128, .f32⟩
  | .hbm, ⟨24, _⟩ => ⟨S128x8x128, .f32⟩
  | .hbm, ⟨25, _⟩ => ⟨S_, .f32⟩
  | .hbm, ⟨26, _⟩ => ⟨S128x8, .f32⟩
  | .hbm, ⟨27, _⟩ => ⟨S8x128, .f32⟩
  | .hbm, ⟨28, _⟩ => ⟨S1x8x128, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S_, .f32⟩
  | .hbm, ⟨33, _⟩ => ⟨S1024, .f32⟩
  | .hbm, ⟨34, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S8x128x128, .bf16⟩
  | .local _ .vmem, ⟨11, _⟩ => ⟨S8x128x128, .bf16⟩
  | .local _ .vmem, ⟨12, _⟩ => ⟨S128x1024, .f32⟩
  | .local _ .vmem, ⟨13, _⟩ => ⟨S512x3072, .bf16⟩
  | .local _ .vmem, ⟨14, _⟩ => ⟨S512x3072, .bf16⟩
  | .local _ .vmem, ⟨15, _⟩ => ⟨S8x128x128, .f32⟩
  | .local _ .vmem, ⟨16, _⟩ => ⟨S128x1024, .f32⟩
  | .local _ .vmem, ⟨17, _⟩ => ⟨S8x1024, .f32⟩
  | .local _ .vmem, ⟨18, _⟩ => ⟨S8x1024, .f32⟩
  | .local _ .vmem, ⟨19, _⟩ => ⟨S512x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== SguRefIdeal.lean ====
abbrev S8192x6144 : Shape := ⟨2, ![8192, 6144]⟩
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S8x128x128 : Shape := ⟨3, ![8, 128, 128]⟩
abbrev S8x64x128x128 : Shape := ⟨4, ![8, 64, 128, 128]⟩
abbrev S8x128 : Shape := ⟨2, ![8, 128]⟩
abbrev S128x8 : Shape := ⟨2, ![128, 8]⟩
abbrev S1x128x8x1 : Shape := ⟨4, ![1, 128, 8, 1]⟩
abbrev S1024 : Shape := ⟨1, ![1024]⟩
abbrev S8192x3072 : Shape := ⟨2, ![8192, 3072]⟩

abbrev nBuf : Space → Nat
  | .hbm => 132
  | .vmem => 0
  | .smem => 0
  | _ => 0

abbrev hbmTy0_0 (i : Nat) : BufTy := match i % 128 with
  | 0 => ⟨S8192x6144, .f32⟩
  | 1 => ⟨S8192x2048, .f32⟩
  | 2 => ⟨S8192x6144, .bf16⟩
  | 3 => ⟨S1x1024, .f32⟩
  | 4 => ⟨S1x1024, .f32⟩
  | 5 => ⟨S1x8x128x128, .f32⟩
  | 6 => ⟨S1x8x128, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S64x128x8x128, .f32⟩
  | 43 => ⟨S8x128x128, .f32⟩
  | 44 => ⟨S8x64x128x128, .f32⟩
  | 45 => ⟨S64x128x8x128, .f32⟩
  | 46 => ⟨S8x128, .f32⟩
  | 47 => ⟨S128x8, .f32⟩
  | 48 => ⟨S1x128x8x1, .f32⟩
  | 49 => ⟨S64x128x8x128, .f32⟩
  | 50 => ⟨S64x128x8x128, .f32⟩
  | 51 => ⟨S8192x1024, .f32⟩
  | 52 => ⟨S8192x1024, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S64x128x8x128, .f32⟩
  | 77 => ⟨S_, .f32⟩
  | 78 => ⟨S128x8, .f32⟩
  | 79 => ⟨S1x128x8x1, .f32⟩
  | 80 => ⟨S_, .f32⟩
  | 81 => ⟨S128x8, .f32⟩
  | 82 => ⟨S8x128, .f32⟩
  | 83 => ⟨S1x8x128, .f32⟩
  | 84 => ⟨S8x64x128x128, .f32⟩
  | 85 => ⟨S8x128x128, .f32⟩
  | 86 => ⟨S8x64x128x128, .f32⟩
  | 87 => ⟨S64x128x8x128, .f32⟩
  | 88 => ⟨S1x8x128x128, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S_, .f32⟩
  | 95 => ⟨S1024, .f32⟩
  | 96 => ⟨S1x1024, .f32⟩
  | 97 => ⟨S8192x1024, .f32⟩
  | 98 => ⟨S8192x1024, .f32⟩
  | 99 => ⟨S8192x1024, .f32⟩
  | 100 => ⟨S_, .f32⟩
  | 101 => ⟨S8192, .f32⟩
  | 102 => ⟨S8192x1, .f32⟩
  | 103 => ⟨S8192x1024, .f32⟩
  | 104 => ⟨S8192x1024, .f32⟩
  | 105 => ⟨S8192x1, .f32⟩
  | 106 => ⟨S_, .f32⟩
  | 107 => ⟨S8192x1, .f32⟩
  | 108 => ⟨S8192x1, .f32⟩
  | 109 => ⟨S_, .f32⟩
  | 110 => ⟨S8192, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S_, .f32⟩
  | 118 => ⟨S8192, .f32⟩
  | 119 => ⟨S8192x1, .f32⟩
  | 120 => ⟨S_, .f32⟩
  | 121 => ⟨S8192x1, .f32⟩
  | 122 => ⟨S8192x1, .f32⟩
  | 123 => ⟨S_, .f32⟩
  | 124 => ⟨S8192, .f32⟩
  | 125 => ⟨S8192x1024, .f32⟩
  | 126 => ⟨S8192x1024, .f32⟩
  | 127 => ⟨S8192x3072, .bf16⟩
  | _ => ⟨S8192x6144, .f32⟩

abbrev hbmTy0_1 (i : Nat) : BufTy := match i % 128 with
  | 0 => ⟨S8192x1024, .bf16⟩
  | 1 => ⟨S8192x1024, .bf16⟩
  | 2 => ⟨S8192x1024, .bf16⟩
  | 3 => ⟨S8192x6144, .bf16⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_v40_2 : Ref sig .tc := ⟨.hbm, 60, rfl⟩
abbrev main_call0_cst_1 : Ref sig .tc := ⟨.hbm, 61, rfl⟩
abbrev main_call0_v6 : Ref sig .tc := ⟨.hbm, 62, rfl⟩
abbrev main_call0_v7 : Ref sig .tc := ⟨.hbm, 63, rfl⟩
abbrev main_v40_1 : Ref sig .tc := ⟨.hbm, 64, rfl⟩
abbrev main_v40_0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_5 : Ref sig .tc := ⟨.hbm, 77, rfl⟩
abbrev main_v49 : Ref sig .tc := ⟨.hbm, 78, rfl⟩
abbrev main_v50 : Ref sig .tc := ⟨.hbm, 79, rfl⟩
abbrev main_cst_6 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_7 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_9 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_10 : Ref sig .tc := ⟨.hbm, 106, rfl⟩
abbrev main_v73 : Ref sig .tc := ⟨.hbm, 107, rfl⟩
abbrev main_v74 : Ref sig .tc := ⟨.hbm, 108, rfl⟩
abbrev main_cst_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_12 : Ref sig .tc := ⟨.hbm, 117, rfl⟩
abbrev main_v82 : Ref sig .tc := ⟨.hbm, 118, rfl⟩
abbrev main_v83 : Ref sig .tc := ⟨.hbm, 119, rfl⟩
abbrev main_cst_13 : Ref sig .tc := ⟨.hbm, 120, rfl⟩
abbrev main_v84 : Ref sig .tc := ⟨.hbm, 121, rfl⟩
abbrev main_v85 : Ref sig .tc := ⟨.hbm, 122, rfl⟩
abbrev main_cst_14 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩

abbrev nD : Nat := 1
abbrev τ : Topo := Topo.v7x

variable {F : FTy → Type} [FloatOps F]
-- ==== DxBwd.lean ====
abbrev S8192x6144 : Shape := ⟨2, ![8192, 6144]⟩
abbrev S1x1024x6144 : Shape := ⟨3, ![1, 1024, 6144]⟩
abbrev S8192x1024 : Shape := ⟨2, ![8192, 1024]⟩
abbrev S1x1024 : Shape := ⟨2, ![1, 1024]⟩
abbrev S1024x6144 : Shape := ⟨2, ![1024, 6144]⟩
abbrev S1024x8x768 : Shape := ⟨3, ![1024, 8, 768]⟩
abbrev S8x1024x768 : Shape := ⟨3, ![8, 1024, 768]⟩
abbrev S8x1024 : Shape := ⟨2, ![8, 1024]⟩
abbrev S512x6144 : Shape := ⟨2, ![512, 6144]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S8192x6144, .f32⟩
  | .hbm, ⟨1, _⟩ => ⟨S1x1024x6144, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x6144, .f32⟩
  | .hbm, ⟨6, _⟩ => ⟨S1024x8x768, .f32⟩
  | .hbm, ⟨7, _⟩ => ⟨S8x1024x768, .f32⟩
  | .hbm, ⟨8, _⟩ => ⟨S8x1024x768, .bf16⟩
  | .hbm, ⟨9, _⟩ => ⟨S8192x6144, .bf16⟩
  | .hbm, ⟨10, _⟩ => ⟨S8192x1024, .f32⟩
  | .hbm, ⟨11, _⟩ => ⟨S8x1024, .f32⟩
  | .hbm, ⟨12, _⟩ => ⟨S_, .f32⟩
  | .hbm, ⟨13, _⟩ => ⟨S1024, .f32⟩
  | .hbm, ⟨14, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S8x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxRefIdeal.lean ====
abbrev S8192x6144 : Shape := ⟨2, ![8192, 6144]⟩
abbrev S1x1024x6144 : Shape := ⟨3, ![1, 1024, 6144]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x6144 : Shape := ⟨2, ![1024, 6144]⟩
abbrev S1024 : Shape := ⟨1, ![1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S1x1024x6144, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x6144, .f32⟩
  | .hbm, ⟨25, _⟩ => ⟨S8192x6144, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== OutLoss.lean ====
abbrev S8192x1024 : Shape := ⟨2, ![8192, 1024]⟩
abbrev S8192x2048 : Shape := ⟨2, ![8192, 2048]⟩
abbrev S1x2048x1024 : Shape := ⟨3, ![1, 2048, 1024]⟩
abbrev S1024 : Shape := ⟨1, ![1024]⟩
abbrev S2048x1024 : Shape := ⟨2, ![2048, 1024]⟩
abbrev S1x1024 : Shape := ⟨2, ![1, 1024]⟩
abbrev S8x1024 : Shape := ⟨2, ![8, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 23
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1x2048x1024, .f32⟩
  | .hbm, ⟨3, _⟩ => ⟨S1024, .f32⟩
  | .hbm, ⟨4, _⟩ => ⟨S8192x1024, .f32⟩
  | .hbm, ⟨5, _⟩ => ⟨S2048x1024, .f32⟩
  | .hbm, ⟨6, _⟩ => ⟨S2048x1024, .bf16⟩
  | .hbm, ⟨7, _⟩ => ⟨S8192x2048, .bf16⟩
  | .hbm, ⟨8, _⟩ => ⟨S1x1024, .f32⟩
  | .hbm, ⟨9, _⟩ => ⟨S8192x1024, .f32⟩
  | .hbm, ⟨10, _⟩ => ⟨S8192x2048, .bf16⟩
  | .hbm, ⟨11, _⟩ => ⟨S2048x1024, .bf16⟩
  | .hbm, ⟨12, _⟩ => ⟨S8x1024, .f32⟩
  | .hbm, ⟨13, _⟩ => ⟨S8x1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | .local _ .vmem, ⟨11, _⟩ => ⟨S512x2048, .bf16⟩
  | .local _ .vmem, ⟨12, _⟩ => ⟨S2048x1024, .bf16⟩
  | .local _ .vmem, ⟨13, _⟩ => ⟨S8x1024, .f32⟩
  | .local _ .vmem, ⟨14, _⟩ => ⟨S8x1024, .f32⟩
  | .local _ .vmem, ⟨15, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v67 : BitVec 1 := Scalar.cmpi .eq arg0 c15_i32
  let v68 : BitVec 32 := Scalar.extui v67
  let c0_i32_38 : BitVec 32 := 0#32
  let v69 : BitVec 1 := Scalar.cmpi .ne v68 c0_i32_38
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutLossRefIdeal.lean ====
abbrev S8192x1024 : Shape := ⟨2, ![8192, 1024]⟩
abbrev S8192x2048 : Shape := ⟨2, ![8192, 2048]⟩
abbrev S1x2048x1024 : Shape := ⟨3, ![1, 2048, 1024]⟩
abbrev S1024 : Shape := ⟨1, ![1024]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2048 : Shape := ⟨2, ![1024, 2048]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1x2048x1024, .f32⟩
  | .hbm, ⟨3, _⟩ => ⟨S1024, .f32⟩
  | .hbm, ⟨4, _⟩ => ⟨S8192x1024, .f32⟩
  | .hbm, ⟨5, _⟩ => ⟨S2048x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S1024x2048, .f32⟩
  | .hbm, ⟨77, _⟩ => ⟨S2048x1024, .f32⟩
  | .hbm, ⟨78, _⟩ => ⟨S8192x2048, .f32⟩
  | .hbm, ⟨79, _⟩ => ⟨S1x2048x1024, .f32⟩
  | .hbm, ⟨80, _⟩ => ⟨S8192x2048, .bf16⟩
  | .hbm, ⟨81, _⟩ => ⟨S2048x1024, .f32⟩
  | .hbm, ⟨82, _⟩ => ⟨S2048x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== ConvBwd.lean ====
abbrev S8192x6144 : Shape := ⟨2, ![8192, 6144]⟩
abbrev S8192x2048 : Shape := ⟨2, ![8192, 2048]⟩
abbrev S1x31x1024 : Shape := ⟨3, ![1, 31, 1024]⟩
abbrev S1x1024 : Shape := ⟨2, ![1, 1024]⟩
abbrev S31x1024 : Shape := ⟨2, ![31, 1024]⟩
abbrev S_ : Shape := ⟨0, ![]⟩
abbrev S32x1024 : Shape := ⟨2, ![32, 1024]⟩
abbrev S32x8x128 : Shape := ⟨3, ![32, 8, 128]⟩
abbrev S8192x1024 : Shape := ⟨2, ![8192, 1024]⟩
abbrev S1024 : Shape := ⟨1, ![1024]⟩
abbrev S15x1024 : Shape := ⟨2, ![15, 1024]⟩
abbrev S8222x1024 : Shape := ⟨2, ![8222, 1024]⟩
abbrev S1x8192x1024 : Shape := ⟨3, ![1, 8192, 1024]⟩
abbrev S16x8192x1024 : Shape := ⟨3, ![16, 8192, 1024]⟩
abbrev S15x8192x1024 : Shape := ⟨3, ![15, 8192, 1024]⟩
abbrev S31x8192x1024 : Shape := ⟨3, ![31, 8192, 1024]⟩
abbrev S31x1x1024 : Shape := ⟨3, ![31, 1, 1024]⟩
abbrev S8x1024 : Shape := ⟨2, ![8, 1024]⟩
abbrev S512x1024 : Shape := ⟨2, ![512, 1024]⟩
abbrev S16x1024 : Shape := ⟨2, ![16, 1024]⟩
abbrev S512x3072 : Shape := ⟨2, ![512, 3072]⟩
abbrev S544x8x128 : Shape := ⟨3, ![544, 8, 128]⟩
abbrev S512x8x128 : Shape := ⟨3, ![512, 8, 128]⟩
abbrev S544x1024 : Shape := ⟨2, ![544, 1024]⟩
abbrev S544 : Shape := ⟨1, ![544]⟩
abbrev S544x1 : Shape := ⟨2, ![544, 1]⟩
abbrev S64x8x1024 : Shape := ⟨3, ![64, 8, 1024]⟩
abbrev S16x8x128 : Shape := ⟨3, ![16, 8, 128]⟩
abbrev S1x8x128 : Shape := ⟨3, ![1, 8, 128]⟩
abbrev S8x128 : Shape := ⟨2, ![8, 128]⟩
abbrev S8192x3072 : Shape := ⟨2, ![8192, 3072]⟩

abbrev nBuf : Space → Nat
  | .hbm => 126
  | .vmem => 34
  | .smem => 0
  | _ => 0

abbrev bufTy : (tb : Table) → Fin (tcTables nBuf tb) → BufTy
  | .hbm, ⟨0, _⟩ => ⟨S8192x6144, .f32⟩
  | .hbm, ⟨1, _⟩ => ⟨S8192x2048, .f32⟩
  | .hbm, ⟨2, _⟩ => ⟨S1x31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x6144, .bf16⟩
  | .hbm, ⟨7, _⟩ => ⟨S31x1024, .f32⟩
  | .hbm, ⟨8, _⟩ => ⟨S_, .i32⟩
  | .hbm, ⟨9, _⟩ => ⟨S_, .f32⟩
  | .hbm, ⟨10, _⟩ => ⟨S32x1024, .f32⟩
  | .hbm, ⟨11, _⟩ => ⟨S32x8x128, .f32⟩
  | .hbm, ⟨12, _⟩ => ⟨S8192x6144, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S31x1024, .f32⟩
  | .hbm, ⟨29, _⟩ => ⟨S1024, .f32⟩
  | .hbm, ⟨30, _⟩ => ⟨S_, .f32⟩
  | .hbm, ⟨31, _⟩ => ⟨S15x1024, .f32⟩
  | .hbm, ⟨32, _⟩ => ⟨S8222x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S1x8192x1024, .f32⟩
  | .hbm, ⟨65, _⟩ => ⟨S1x8192x1024, .f32⟩
  | .hbm, ⟨66, _⟩ => ⟨S1x8192x1024, .f32⟩
  | .hbm, ⟨67, _⟩ => ⟨S1x8192x1024, .f32⟩
  | .hbm, ⟨68, _⟩ => ⟨S1x8192x1024, .f32⟩
  | .hbm, ⟨69, _⟩ => ⟨S1x8192x1024, .f32⟩
  | .hbm, ⟨70, _⟩ => ⟨S1x8192x1024, .f32⟩
  | .hbm, ⟨71, _⟩ => ⟨S1x8192x1024, .f32⟩
  | .hbm, ⟨72, _⟩ => ⟨S1x8192x1024, .f32⟩
  | .hbm, ⟨73, _⟩ => ⟨S1x8192x1024, .f32⟩
  | .hbm, ⟨74, _⟩ => ⟨S1x8192x1024, .f32⟩
  | .hbm, ⟨75, _⟩ => ⟨S1x8192x1024, .f32⟩
  | .hbm, ⟨76, _⟩ => ⟨S1x8192x1024, .f32⟩
  | .hbm, ⟨77, _⟩ => ⟨S1x8192x1024, .f32⟩
  | .hbm, ⟨78, _⟩ => ⟨S1x8192x1024, .f32⟩
  | .hbm, ⟨79, _⟩ => ⟨S1x8192x1024, .f32⟩
  | .hbm, ⟨80, _⟩ => ⟨S1x8192x1024, .f32⟩
  | .hbm, ⟨81, _⟩ => ⟨S1x8192x1024, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S1x8192x1024, .f32⟩
  | .hbm, ⟨88, _⟩ => ⟨S1x8192x1024, .f32⟩
  | .hbm, ⟨89, _⟩ => ⟨S1x8192x1024, .f32⟩
  | .hbm, ⟨90, _⟩ => ⟨S1x8192x1024, .f32⟩
  | .hbm, ⟨91, _⟩ => ⟨S1x8192x1024, .f32⟩
  | .hbm, ⟨92, _⟩ => ⟨S1x8192x1024, .f32⟩
  | .hbm, ⟨93, _⟩ => ⟨S1x8192x1024, .f32⟩
  | .hbm, ⟨94, _⟩ => ⟨S1x8192x1024, .f32⟩
  | .hbm, ⟨95, _⟩ => ⟨S16x8192x1024, .f32⟩
  | .hbm, ⟨96, _⟩ => ⟨S15x8192x1024, .f32⟩
  | .hbm, ⟨97, _⟩ => ⟨S31x8192x1024, .f32⟩
  | .hbm, ⟨98, _⟩ => ⟨S31x1x1024, .f32⟩
  | .hbm, ⟨99, _⟩ => ⟨S31x8192x1024, .f32⟩
  | .hbm, ⟨100, _⟩ => ⟨S31x8192x1024, .f32⟩
  | .hbm, ⟨101, _⟩ => ⟨S_, .f32⟩
  | .hbm, ⟨102, _⟩ => ⟨S8192x1024, .f32⟩
  | .hbm, ⟨103, _⟩ => ⟨S1x1024, .f32⟩
  | .hbm, ⟨104, _⟩ => ⟨S8192x1024, .f32⟩
  | .hbm, ⟨105, _⟩ => ⟨S8192x1024, .f32⟩
  | .hbm, ⟨106, _⟩ => ⟨S8192x1024, .bf16⟩
  | .hbm, ⟨107, _⟩ => ⟨S8192x2048, .bf16⟩
  | .hbm, ⟨108, _⟩ => ⟨S8192x6144, .bf16⟩
  | .hbm, ⟨109, _⟩ => ⟨S32x8x128, .f32⟩
  | .hbm, ⟨110, _⟩ => ⟨S8x1024, .f32⟩
  | .hbm, ⟨111, _⟩ => ⟨S8x1024, .f32⟩
  | .hbm, ⟨112, _⟩ => ⟨S8x1024, .f32⟩
  | .hbm, ⟨113, _⟩ => ⟨S8192x3072, .bf16⟩
  | .hbm, ⟨114, _⟩ => ⟨S32x1024, .f32⟩
  | .hbm, ⟨115, _⟩ => ⟨S31x1024, .f32⟩
  | .hbm, ⟨116, _⟩ => ⟨S1x31x1024, .f32⟩
  | .hbm, ⟨117, _⟩ => ⟨S_, .f32⟩
  | .hbm, ⟨118, _⟩ => ⟨S1024, .f32⟩
  | .hbm, ⟨119, _⟩ => ⟨S1x1024, .f32⟩
  | .hbm, ⟨120, _⟩ => ⟨S_, .f32⟩
  | .hbm, ⟨121, _⟩ => ⟨S1024, .f32⟩
  | .hbm, ⟨122, _⟩ => ⟨S1x1024, .f32⟩
  | .hbm, ⟨123, _⟩ => ⟨S_, .f32⟩
  | .hbm, ⟨124, _⟩ => ⟨S1024, .f32⟩
  | .hbm, ⟨125, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S512x1024, .bf16⟩
  | .local _ .vmem, ⟨13, _⟩ => ⟨S512x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S512x1024, .bf16⟩
  | .local _ .vmem, ⟨19, _⟩ => ⟨S512x1024, .bf16⟩
  | .local _ .vmem, ⟨20, _⟩ => ⟨S16x1024, .bf16⟩
  | .local _ .vmem, ⟨21, _⟩ => ⟨S16x1024, .bf16⟩
  | .local _ .vmem, ⟨22, _⟩ => ⟨S32x8x128, .f32⟩
  | .local _ .vmem, ⟨23, _⟩ => ⟨S1x1024, .f32⟩
  | .local _ .vmem, ⟨24, _⟩ => ⟨S1x1024, .f32⟩
  | .local _ .vmem, ⟨25, _⟩ => ⟨S512x3072, .bf16⟩
  | .local _ .vmem, ⟨26, _⟩ => ⟨S512x3072, .bf16⟩
  | .local _ .vmem, ⟨27, _⟩ => ⟨S32x8x128, .f32⟩
  | .local _ .vmem, ⟨28, _⟩ => ⟨S8x1024, .f32⟩
  | .local _ .vmem, ⟨29, _⟩ => ⟨S8x1024, .f32⟩
  | .local _ .vmem, ⟨30, _⟩ => ⟨S8x1024, .f32⟩
  | .local _ .vmem, ⟨31, _⟩ => ⟨S544x8x128, .f32⟩
  | .local _ .vmem, ⟨32, _⟩ => ⟨S512x8x128, .f32⟩
  | .local _ .vmem, ⟨33, _⟩ => ⟨S512x8x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_2 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96_0 : Ref sig .tc := ⟨.hbm, 108, rfl⟩
abbrev main_v96_1 : Ref sig .tc := ⟨.hbm, 109, rfl⟩
abbrev main_v96_2 : Ref sig .tc := ⟨.hbm, 110, rfl⟩
abbrev main_v96_3 : Ref sig .tc := ⟨.hbm, 111, rfl⟩
abbrev main_v96_4 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_cst_3 : Ref sig .tc := ⟨.hbm, 117, rfl⟩
abbrev main_v101 : Ref sig .tc := ⟨.hbm, 118, rfl⟩
abbrev main_v102 : Ref sig .tc := ⟨.hbm, 119, rfl⟩
abbrev main_cst_4 : Ref sig .tc := ⟨.hbm, 120, rfl⟩
abbrev main_v103 : Ref sig .tc := ⟨.hbm, 121, rfl⟩
abbrev main_v104 : Ref sig .tc := ⟨.hbm, 122, rfl⟩
abbrev main_cst_5 : Ref sig .tc := ⟨.hbm, 123, rfl⟩
abbrev main_v105 : Ref sig .tc := ⟨.hbm, 124, rfl⟩
abbrev main_v106 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_76 : BitVec 32 := 0#32
  let c32_i32 : BitVec 32 := 32#32
  let v169 : BitVec 32 := Scalar.addi c0_i32_76 c32_i32
  let c1_i32 : BitVec 32 := 1#32
  ⟨c0_i32_76, v169, c1_i32⟩
def k0_off1 (k0_t1 : Fin k0_t1_loop.trips) (c0_i32_90 : BitVec 32) (c0_i32_91 : BitVec 32) : Fin 3 → Nat :=
  let c0_i32_76 : BitVec 32 := 0#32
  let c1_i32 : BitVec 32 := 1#32
  let arg23 : BitVec 32 := Scf.iv c0_i32_76 c1_i32 k0_t1
  let c16_i32 : BitVec 32 := 16#32
  let v182 : BitVec 32 := Scalar.muli arg23 c16_i32
  let c16_i32_88 : BitVec 32 := 16#32
  let v185 : BitVec 32 := Scalar.addi v182 c16_i32_88
  let c15_i32_89 : BitVec 32 := 15#32
  let v186 : BitVec 32 := Scalar.addi v185 c15_i32_89
  let v187 : BitVec 32 := Scalar.addi v186 c0_i32_90
  let v188 : BitVec 32 := Scalar.subi v187 c0_i32_91
  let v189 : Index := Scalar.indexCast v188
  let c0_92 : Index := 0#32
  let c0_93 : Index := 0#32
  ![v189.toNat, 0, 0]
def k0_off2 (k0_t1 : Fin k0_t1_loop.trips) (c0_i32_94 : BitVec 32) : Fin 3 → Nat :=
  let c0_i32_76 : BitVec 32 := 0#32
  let c1_i32 : BitVec 32 := 1#32
  let arg23 : BitVec 32 := Scf.iv c0_i32_76 c1_i32 k0_t1
  let c16_i32 : BitVec 32 := 16#32
  let v182 : BitVec 32 := Scalar.muli arg23 c16_i32
  let v193 : BitVec 32 := Scalar.addi v182 c0_i32_94
  let v194 : Index := Scalar.indexCast v193
  let c0_95 : Index := 0#32
  let c0_96 : Index := 0#32
  ![v194.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S32x8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ConvRefIdeal.lean ====
abbrev S8192x6144 : Shape := ⟨2, ![8192, 6144]⟩
abbrev S8192x2048 : Shape := ⟨2, ![8192, 2048]⟩
abbrev S1x31x1024 : Shape := ⟨3, ![1, 31, 1024]⟩
abbrev S1x1024 : Shape := ⟨2, ![1, 1024]⟩
abbrev S8192x1024 : Shape := ⟨2, ![8192, 1024]⟩
abbrev S_ : Shape := ⟨0, ![]⟩
abbrev S31x1024 : Shape := ⟨2, ![31, 1024]⟩
abbrev S1024 : Shape := ⟨1, ![1024]⟩
abbrev S15x1024 : Shape := ⟨2, ![15, 1024]⟩
abbrev S8222x1024 : Shape := ⟨2, ![8222, 1024]⟩
abbrev S1x8192x1024 : Shape := ⟨3, ![1, 8192, 1024]⟩
abbrev S16x8192x1024 : Shape := ⟨3, ![16, 8192, 1024]⟩
abbrev S15x8192x1024 : Shape := ⟨3, ![15, 8192, 1024]⟩
abbrev S31x8192x1024 : Shape := ⟨3, ![31, 8192, 1024]⟩
abbrev S31x1x1024 : Shape := ⟨3, ![31, 1, 1024]⟩
abbrev S8192 : Shape := ⟨1, ![8192]⟩
abbrev S8192x1 : Shape := ⟨2, ![8192, 1]⟩
abbrev S8192x3072 : Shape := ⟨2, ![8192, 3072]⟩

abbrev nBuf : Space → Nat
  | .hbm => 389
  | .vmem => 0
  | .smem => 0
  | _ => 0

abbrev hbmTy0_0 (i : Nat) : BufTy := match i % 128 with
  | 0 => ⟨S8192x6144, .f32⟩
  | 1 => ⟨S8192x2048, .f32⟩
  | 2 => ⟨S1x31x1024, .f32⟩
  | 3 => ⟨S1x1024, .f32⟩
  | 4 => ⟨S1x1024, .f32⟩
  | 5 => ⟨S1x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S8192x1024, .f32⟩
  | 24 => ⟨S8192x1024, .f32⟩
  | 25 => ⟨S31x1024, .f32⟩
  | 26 => ⟨S1024, .f32⟩
  | 27 => ⟨S_, .f32⟩
  | 28 => ⟨S15x1024, .f32⟩
  | 29 => ⟨S8222x1024, .f32⟩
  | 30 => ⟨S_, .f32⟩
  | 31 => ⟨S15x1024, .f32⟩
  | 32 => ⟨S_, .f32⟩
  | 33 => ⟨S15x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S1x8192x1024, .f32⟩
  | 66 => ⟨S1x8192x1024, .f32⟩
  | 67 => ⟨S1x8192x1024, .f32⟩
  | 68 => ⟨S1x8192x1024, .f32⟩
  | 69 => ⟨S1x8192x1024, .f32⟩
  | 70 => ⟨S1x8192x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S1x8192x1024, .f32⟩
  | 78 => ⟨S1x8192x1024, .f32⟩
  | 79 => ⟨S1x8192x1024, .f32⟩
  | 80 => ⟨S1x8192x1024, .f32⟩
  | 81 => ⟨S1x8192x1024, .f32⟩
  | 82 => ⟨S1x8192x1024, .f32⟩
  | 83 => ⟨S1x8192x1024, .f32⟩
  | 84 => ⟨S1x8192x1024, .f32⟩
  | 85 => ⟨S1x8192x1024, .f32⟩
  | 86 => ⟨S1x8192x1024, .f32⟩
  | 87 => ⟨S1x8192x1024, .f32⟩
  | 88 => ⟨S1x8192x1024, .f32⟩
  | 89 => ⟨S1x8192x1024, .f32⟩
  | 90 => ⟨S1x8192x1024, .f32⟩
  | 91 => ⟨S1x8192x1024, .f32⟩
  | 92 => ⟨S1x8192x1024, .f32⟩
  | 93 => ⟨S1x8192x1024, .f32⟩
  | 94 => ⟨S1x8192x1024, .f32⟩
  | 95 => ⟨S1x8192x1024, .f32⟩
  | 96 => ⟨S16x8192x1024, .f32⟩
  | 97 => ⟨S15x8192x1024, .f32⟩
  | 98 => ⟨S31x8192x1024, .f32⟩
  | 99 => ⟨S31x1x1024, .f32⟩
  | 100 => ⟨S31x8192x1024, .f32⟩
  | 101 => ⟨S31x8192x1024, .f32⟩
  | 102 => ⟨S_, .f32⟩
  | 103 => ⟨S8192x1024, .f32⟩
  | 104 => ⟨S1x1024, .f32⟩
  | 105 => ⟨S8192x1024, .f32⟩
  | 106 => ⟨S8192x1024, .f32⟩
  | 107 => ⟨S_, .f32⟩
  | 108 => ⟨S8192, .f32⟩
  | 109 => ⟨S8192x1, .f32⟩
  | 110 => ⟨S_, .f32⟩
  | 111 => ⟨S8192x1, .f32⟩
  | 112 => ⟨S8192x1, .f32⟩
  | 113 => ⟨S8192x1024, .f32⟩
  | 114 => ⟨S8192x1024, .f32⟩
  | 115 => ⟨S8192x1024, .f32⟩
  | 116 => ⟨S_, .f32⟩
  | 117 => ⟨S8192, .f32⟩
  | 118 => ⟨S8192x1, .f32⟩
  | 119 => ⟨S_, .f32⟩
  | 120 => ⟨S8192x1, .f32⟩
  | 121 => ⟨S8192x1, .f32⟩
  | 122 => ⟨S_, .f32⟩
  | 123 => ⟨S8192x1, .f32⟩
  | 124 => ⟨S8192x1, .f32⟩
  | 125 => ⟨S8192x1, .f32⟩
  | 126 => ⟨S8192x1, .f32⟩
  | 127 => ⟨S_, .f32⟩
  | _ => ⟨S8192x6144, .f32⟩

abbrev hbmTy0_1 (i : Nat) : BufTy := match i % 128 with
  | 0 => ⟨S8192x1, .f32⟩
  | 1 => ⟨S8192x1, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S_, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S1024, .f32⟩
  | 48 => ⟨S1x1024, .f32⟩
  | 49 => ⟨S8192x1024, .f32⟩
  | 50 => ⟨S_, .f32⟩
  | 51 => ⟨S1024, .f32⟩
  | 52 => ⟨S1x1024, .f32⟩
  | 53 => ⟨S8192x1024, .f32⟩
  | 54 => ⟨S8192x1024, .f32⟩
  | 55 => ⟨S8192x1024, .f32⟩
  | 56 => ⟨S_, .f32⟩
  | 57 => ⟨S8192, .f32⟩
  | 58 => ⟨S8192x1, .f32⟩
  | 59 => ⟨S8192x1024, .f32⟩
  | 60 => ⟨S8192x1024, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S8192, .f32⟩
  | 75 => ⟨S8192x1, .f32⟩
  | 76 => ⟨S_, .f32⟩
  | 77 => ⟨S8192x1, .f32⟩
  | 78 => ⟨S8192x1, .f32⟩
  | 79 => ⟨S_, .f32⟩
  | 80 => ⟨S8192, .f32⟩
  | 81 => ⟨S8192x1024, .f32⟩
  | 82 => ⟨S8192x1024, .f32⟩
  | 83 => ⟨S_, .f32⟩
  | 84 => ⟨S1024, .f32⟩
  | 85 => ⟨S1x1024, .f32⟩
  | 86 => ⟨S_, .f32⟩
  | 87 => ⟨S1024, .f32⟩
  | 88 => ⟨S31x8192x1024, .f32⟩
  | 89 => ⟨S31x8192x1024, .f32⟩
  | 90 => ⟨S_, .f32⟩
  | 91 => ⟨S31x1024, .f32⟩
  | 92 => ⟨S31x1x1024, .f32⟩
  | 93 => ⟨S31x8192x1024, .f32⟩
  | 94 => ⟨S31x8192x1024, .f32⟩
  | 95 => ⟨S_, .f32⟩
  | 96 => ⟨S31x1024, .f32⟩
  | 97 => ⟨S1x8192x1024, .f32⟩
  | 98 => ⟨S8192x1024, .f32⟩
  | 99 => ⟨S1x8192x1024, .f32⟩
  | 100 => ⟨S8192x1024, .f32⟩
  | 101 => ⟨S1x8192x1024, .f32⟩
  | 102 => ⟨S8192x1024, .f32⟩
  | 103 => ⟨S1x8192x1024, .f32⟩
  | 104 => ⟨S8192x1024, .f32⟩
  | 105 => ⟨S1x8192x1024, .f32⟩
  | 106 => ⟨S8192x1024, .f32⟩
  | 107 => ⟨S1x8192x1024, .f32⟩
  | 108 => ⟨S8192x1024, .f32⟩
  | 109 => ⟨S1x8192x1024, .f32⟩
  | 110 => ⟨S8192x1024, .f32⟩
  | 111 => ⟨S1x8192x1024, .f32⟩
  | 112 => ⟨S8192x1024, .f32⟩
  | 113 => ⟨S1x8192x1024, .f32⟩
  | 114 => ⟨S8192x1024, .f32⟩
  | 115 => ⟨S1x8192x1024, .f32⟩
  | 116 => ⟨S8192x1024, .f32⟩
  | 117 => ⟨S1x8192x1024, .f32⟩
  | 118 => ⟨S8192x1024, .f32⟩
  | 119 => ⟨S1x8192x1024, .f32⟩
  | 120 => ⟨S8192x1024, .f32⟩
  | 121 => ⟨S1x8192x1024, .f32⟩
  | 122 => ⟨S8192x1024, .f32⟩
  | 123 => ⟨S1x8192x1024, .f32⟩
  | 124 => ⟨S8192x1024, .f32⟩
  | 125 => ⟨S1x8192x1024, .f32⟩
  | 126 => ⟨S8192x1024, .f32⟩
  | 127 => ⟨S1x8192x1024, .f32⟩
  | _ => ⟨S8192x6144, .f32⟩

abbrev hbmTy0_2 (i : Nat) : BufTy := match i % 128 with
  | 0 => ⟨S8192x1024, .f32⟩
  | 1 => ⟨S1x8192x1024, .f32⟩
  | 2 => ⟨S8192x1024, .f32⟩
  | 3 => ⟨S1x8192x1024, .f32⟩
  | 4 => ⟨S8192x1024, .f32⟩
  | 5 => ⟨S1x8192x1024, .f32⟩
  | 6 => ⟨S8192x1024, .f32⟩
  | 7 => ⟨S1x8192x1024, .f32⟩
  | 8 => ⟨S8192x1024, .f32⟩
  | 9 => ⟨S1x8192x1024, .f32⟩
  | 10 => ⟨S8192x1024, .f32⟩
  | 11 => ⟨S1x8192x1024, .f32⟩
  | 12 => ⟨S8192x1024, .f32⟩
  | 13 => ⟨S1x8192x1024, .f32⟩
  | 14 => ⟨S8192x1024, .f32⟩
  | 15 => ⟨S1x8192x1024, .f32⟩
  | 16 => ⟨S8192x1024, .f32⟩
  | 17 => ⟨S1x8192x1024, .f32⟩
  | 18 => ⟨S8192x1024, .f32⟩
  | 19 => ⟨S1x8192x1024, .f32⟩
  | 20 => ⟨S8192x1024, .f32⟩
  | 21 => ⟨S1x8192x1024, .f32⟩
  | 22 => ⟨S8192x1024, .f32⟩
  | 23 => ⟨S1x8192x1024, .f32⟩
  | 24 => ⟨S8192x1024, .f32⟩
  | 25 => ⟨S1x8192x1024, .f32⟩
  | 26 => ⟨S8192x1024, .f32⟩
  | 27 => ⟨S1x8192x1024, .f32⟩
  | 28 => ⟨S8192x1024, .f32⟩
  | 29 => ⟨S1x8192x1024, .f32⟩
  | 30 => ⟨S8192x1024, .f32⟩
  | 31 => ⟨S_, .f32⟩
  | 32 => ⟨S8222x1024, .f32⟩
  | 33 => ⟨S_, .f32⟩
  | 34 => ⟨S8222x1024, .f32⟩
  | 35 => ⟨S8222x1024, .f32⟩
  | 36 => ⟨S_, .f32⟩
  | 37 => ⟨S8222x1024, .f32⟩
  | 38 => ⟨S8222x1024, .f32⟩
  | 39 => ⟨S_, .f32⟩
  | 40 => ⟨S8222x1024, .f32⟩
  | 41 => ⟨S8222x1024, .f32⟩
  | 42 => ⟨S_, .f32⟩
  | 43 => ⟨S8222x1024, .f32⟩
  | 44 => ⟨S8222x1024, .f32⟩
  | 45 => ⟨S_, .f32⟩
  | 46 => ⟨S8222x1024, .f32⟩
  | 47 => ⟨S8222x1024, .f32⟩
  | 48 => ⟨S_, .f32⟩
  | 49 => ⟨S8222x1024, .f32⟩
  | 50 => ⟨S8222x1024, .f32⟩
  | 51 => ⟨S_, .f32⟩
  | 52 => ⟨S8222x1024, .f32⟩
  | 53 => ⟨S8222x1024, .f32⟩
  | 54 => ⟨S_, .f32⟩
  | 55 => ⟨S8222x1024, .f32⟩
  | 56 => ⟨S8222x1024, .f32⟩
  | 57 => ⟨S_, .f32⟩
  | 58 => ⟨S8222x1024, .f32⟩
  | 59 => ⟨S8222x1024, .f32⟩
  | 60 => ⟨S_, .f32⟩
  | 61 => ⟨S8222x1024, .f32⟩
  | 62 => ⟨S8222x1024, .f32⟩
  | 63 => ⟨S_, .f32⟩
  | 64 => ⟨S8222x1024, .f32⟩
  | 65 => ⟨S8222x1024, .f32⟩
  | 66 => ⟨S_, .f32⟩
  | 67 => ⟨S8222x1024, .f32⟩
  | 68 => ⟨S8222x1024, .f32⟩
  | 69 => ⟨S_, .f32⟩
  | 70 => ⟨S8222x1024, .f32⟩
  | 71 => ⟨S8222x1024, .f32⟩
  | 72 => ⟨S_, .f32⟩
  | 73 => ⟨S8222x1024, .f32⟩
  | 74 => ⟨S8222x1024, .f32⟩
  | 75 => ⟨S_, .f32⟩
  | 76 => ⟨S8222x1024, .f32⟩
  | 77 => ⟨S8222x1024, .f32⟩
  | 78 => ⟨S_, .f32⟩
  | 79 => ⟨S8222x1024, .f32⟩
  | 80 => ⟨S8222x1024, .f32⟩
  | 81 => ⟨S_, .f32⟩
  | 82 => ⟨S8222x1024, .f32⟩
  | 83 => ⟨S8222x1024, .f32⟩
  | 84 => ⟨S_, .f32⟩
  | 85 => ⟨S8222x1024, .f32⟩
  | 86 => ⟨S8222x1024, .f32⟩
  | 87 => ⟨S_, .f32⟩
  | 88 => ⟨S8222x1024, .f32⟩
  | 89 => ⟨S8222x1024, .f32⟩
  | 90 => ⟨S_, .f32⟩
  | 91 => ⟨S8222x1024, .f32⟩
  | 92 => ⟨S8222x1024, .f32⟩
  | 93 => ⟨S_, .f32⟩
  | 94 => ⟨S8222x1024, .f32⟩
  | 95 => ⟨S8222x1024, .f32⟩
  | 96 => ⟨S_, .f32⟩
  | 97 => ⟨S8222x1024, .f32⟩
  | 98 => ⟨S8222x1024, .f32⟩
  | 99 => ⟨S_, .f32⟩
  | 100 => ⟨S8222x1024, .f32⟩
  | 101 => ⟨S8222x1024, .f32⟩
  | 102 => ⟨S_, .f32⟩
  | 103 => ⟨S8222x1024, .f32⟩
  | 104 => ⟨S8222x1024, .f32⟩
  | 105 => ⟨S_, .f32⟩
  | 106 => ⟨S8222x1024, .f32⟩
  | 107 => ⟨S8222x1024, .f32⟩
  | 108 => ⟨S_, .f32⟩
  | 109 => ⟨S8222x1024, .f32⟩
  | 110 => ⟨S8222x1024, .f32⟩
  | 111 => ⟨S_, .f32⟩
  | 112 => ⟨S8222x1024, .f32⟩
  | 113 => ⟨S8222x1024, .f32⟩
  | 114 => ⟨S_, .f32⟩
  | 115 => ⟨S8222x1024, .f32⟩
  | 116 => ⟨S8222x1024, .f32⟩
  | 117 => ⟨S_, .f32⟩
  | 118 => ⟨S8222x1024, .f32⟩
  | 119 => ⟨S8222x1024, .f32⟩
  | 120 => ⟨S_, .f32⟩
  | 121 => ⟨S8222x1024, .f32⟩
  | 122 => ⟨S8222x1024, .f32⟩
  | 123 => ⟨S15x1024, .f32⟩
  | 124 => ⟨S8192x1024, .f32⟩
  | 125 => ⟨S15x1024, .f32⟩
  | 126 => ⟨S1x1024, .f32⟩
  | 127 => ⟨S1x31x1024, .f32⟩
  | _ => ⟨S8192x6144, .f32⟩

abbrev hbmTy0_3 (i : Nat) : BufTy := match i % 128 with
  | 0 => ⟨S8192x1024, .f32⟩
  | 1 => ⟨S8192x1024, .f32⟩
  | 2 => ⟨S8192x1024, .f32⟩
  | 3 => ⟨S8192x3072, .f32⟩
  | 4 => ⟨S8192x3072, .bf16⟩
  | _ => ⟨S8192x6144, .f32⟩

abbrev hbmTy (i : Nat) : BufTy := match i / 128 with
  | 0 => hbmTy0_0 i
  | 1 => hbmTy0_1 i
  | 2 => hbmTy0_2 i
  | 3 => hbmTy0_3 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_cst_5 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_cst_6 : Ref sig .tc := ⟨.hbm, 107, rfl⟩
abbrev main_v94 : Ref sig .tc := ⟨.hbm, 108, rfl⟩
abbrev main_v95 : Ref sig .tc := ⟨.hbm, 109, rfl⟩
abbrev main_cst_7 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_8 : Ref sig .tc := ⟨.hbm, 116, rfl⟩
abbrev main_v101 : Ref sig .tc := ⟨.hbm, 117, rfl⟩
abbrev main_v102 : Ref sig .tc := ⟨.hbm, 118, rfl⟩
abbrev main_cst_9 : Ref sig .tc := ⟨.hbm, 119, rfl⟩
abbrev main_v103 : Ref sig .tc := ⟨.hbm, 120, rfl⟩
abbrev main_v104 : Ref sig .tc := ⟨.hbm, 121, rfl⟩
abbrev main_cst_10 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_cst_11 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_call0_v0 : Ref sig .tc := ⟨.hbm, 136, rfl⟩
abbrev main_call0_v1 : Ref sig .tc := ⟨.hbm, 137, rfl⟩
abbrev main_call0_cst : Ref sig .tc := ⟨.hbm, 138, rfl⟩
abbrev main_call0_v2 : Ref sig .tc := ⟨.hbm, 139, rfl⟩
abbrev main_call0_v3 : Ref sig .tc := ⟨.hbm, 140, rfl⟩
abbrev main_call0_cst_0 : Ref sig .tc := ⟨.hbm, 141, rfl⟩
abbrev main_call0_v4 : Ref sig .tc := ⟨.hbm, 142, rfl⟩
abbrev main_v117_2 : Ref sig .tc := ⟨.hbm, 143, rfl⟩
abbrev main_call0_cst_1 : Ref sig .tc := ⟨.hbm, 144, rfl⟩
abbrev main_call0_v6 : Ref sig .tc := ⟨.hbm, 145, rfl⟩
abbrev main_call0_v7 : Ref sig .tc := ⟨.hbm, 146, rfl⟩
abbrev main_v117_1 : Ref sig .tc := ⟨.hbm, 147, rfl⟩
abbrev main_v117_0 : Ref sig .tc := ⟨.hbm, 148, rfl⟩
abbrev main_call1_v0 : Ref sig .tc := ⟨.hbm, 149, rfl⟩
abbrev main_call1_v1 : Ref sig .tc := ⟨.hbm, 150, rfl⟩
abbrev main_call1_cst : Ref sig .tc := ⟨.hbm, 151, rfl⟩
abbrev main_call1_v2 : Ref sig .tc := ⟨.hbm, 152, rfl⟩
abbrev main_call1_v3 : Ref sig .tc := ⟨.hbm, 153, rfl⟩
abbrev main_call1_cst_0 : Ref sig .tc := ⟨.hbm, 154, rfl⟩
abbrev main_call1_v4 : Ref sig .tc := ⟨.hbm, 155, rfl⟩
abbrev main_v118_2 : Ref sig .tc := ⟨.hbm, 156, rfl⟩
abbrev main_call1_cst_1 : Ref sig .tc := ⟨.hbm, 157, rfl⟩
abbrev main_call1_v6 : Ref sig .tc := ⟨.hbm, 158, rfl⟩
abbrev main_call1_v7 : Ref sig .tc := ⟨.hbm, 159, rfl⟩
abbrev main_v118_1 : Ref sig .tc := ⟨.hbm, 160, rfl⟩
abbrev main_v118_0 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_v123 : Ref sig .tc := ⟨.hbm, 169, rfl⟩
abbrev main_call3_v0 : Ref sig .tc := ⟨.hbm, 170, rfl⟩
abbrev main_call3_v1 : Ref sig .tc := ⟨.hbm, 171, rfl⟩
abbrev main_call3_v2 : Ref sig .tc := ⟨.hbm, 172, rfl⟩
abbrev main_v124 : Ref sig .tc := ⟨.hbm, 173, rfl⟩
abbrev main_cst_12 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_13 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_14 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_15 : Ref sig .tc := ⟨.hbm, 190, rfl⟩
abbrev main_v138 : Ref sig .tc := ⟨.hbm, 191, rfl⟩
abbrev main_v139 : Ref sig .tc := ⟨.hbm, 192, rfl⟩
abbrev main_cst_16 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_17 : Ref sig .tc := ⟨.hbm, 201, rfl⟩
abbrev main_v147 : Ref sig .tc := ⟨.hbm, 202, rfl⟩
abbrev main_v148 : Ref sig .tc := ⟨.hbm, 203, rfl⟩
abbrev main_cst_18 : Ref sig .tc := ⟨.hbm, 204, rfl⟩
abbrev main_v149 : Ref sig .tc := ⟨.hbm, 205, rfl⟩
abbrev main_v150 : Ref sig .tc := ⟨.hbm, 206, rfl⟩
abbrev main_cst_19 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_20 : Ref sig .tc := ⟨.hbm, 211, rfl⟩
abbrev main_v154 : Ref sig .tc := ⟨.hbm, 212, rfl⟩
abbrev main_v155 : Ref sig .tc := ⟨.hbm, 213, rfl⟩
abbrev main_cst_21 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_22 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_23 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_cst_24 : Ref sig .tc := ⟨.hbm, 287, rfl⟩
abbrev main_v226 : Ref sig .tc := ⟨.hbm, 288, rfl⟩
abbrev main_cst_25 : Ref sig .tc := ⟨.hbm, 289, rfl⟩
abbrev main_v227 : Ref sig .tc := ⟨.hbm, 290, rfl⟩
abbrev main_v228 : Ref sig .tc := ⟨.hbm, 291, rfl⟩
abbrev main_cst_26 : Ref sig .tc := ⟨.hbm, 292, rfl⟩
abbrev main_v229 : Ref sig .tc := ⟨.hbm, 293, rfl⟩
abbrev main_v230 : Ref sig .tc := ⟨.hbm, 294, rfl⟩
abbrev main_cst_27 : Ref sig .tc := ⟨.hbm, 295, rfl⟩
abbrev main_v231 : Ref sig .tc := ⟨.hbm, 296, rfl⟩
abbrev main_v232 : Ref sig .tc := ⟨.hbm, 297, rfl⟩
abbrev main_cst_28 : Ref sig .tc := ⟨.hbm, 298, rfl⟩
abbrev main_v233 : Ref sig .tc := ⟨.hbm, 299, rfl⟩
abbrev main_v234 : Ref sig .tc := ⟨.hbm, 300, rfl⟩
abbrev main_cst_29 : Ref sig .tc := ⟨.hbm, 301, rfl⟩
abbrev main_v235 : Ref sig .tc := ⟨.hbm, 302, rfl⟩
abbrev main_v236 : Ref sig .tc := ⟨.hbm, 303, rfl⟩
abbrev main_cst_30 : Ref sig .tc := ⟨.hbm, 304, rfl⟩
abbrev main_v237 : Ref sig .tc := ⟨.hbm, 305, rfl⟩
abbrev main_v238 : Ref sig .tc := ⟨.hbm, 306, rfl⟩
abbrev main_cst_31 : Ref sig .tc := ⟨.hbm, 307, rfl⟩
abbrev main_v239 : Ref sig .tc := ⟨.hbm, 308, rfl⟩
abbrev main_v240 : Ref sig .tc := ⟨.hbm, 309, rfl⟩
abbrev main_cst_32 : Ref sig .tc := ⟨.hbm, 310, rfl⟩
abbrev main_v241 : Ref sig .tc := ⟨.hbm, 311, rfl⟩
abbrev main_v242 : Ref sig .tc := ⟨.hbm, 312, rfl⟩
abbrev main_cst_33 : Ref sig .tc := ⟨.hbm, 313, rfl⟩
abbrev main_v243 : Ref sig .tc := ⟨.hbm, 314, rfl⟩
abbrev main_v244 : Ref sig .tc := ⟨.hbm, 315, rfl⟩
abbrev main_cst_34 : Ref sig .tc := ⟨.hbm, 316, rfl⟩
abbrev main_v245 : Ref sig .tc := ⟨.hbm, 317, rfl⟩
abbrev main_v246 : Ref sig .tc := ⟨.hbm, 318, rfl⟩
abbrev main_cst_35 : Ref sig .tc := ⟨.hbm, 319, rfl⟩
abbrev main_v247 : Ref sig .tc := ⟨.hbm, 320, rfl⟩
abbrev main_v248 : Ref sig .tc := ⟨.hbm, 321, rfl⟩
abbrev main_cst_36 : Ref sig .tc := ⟨.hbm, 322, rfl⟩
abbrev main_v249 : Ref sig .tc := ⟨.hbm, 323, rfl⟩
abbrev main_v250 : Ref sig .tc := ⟨.hbm, 324, rfl⟩
abbrev main_cst_37 : Ref sig .tc := ⟨.hbm, 325, rfl⟩
abbrev main_v251 : Ref sig .tc := ⟨.hbm, 326, rfl⟩
abbrev main_v252 : Ref sig .tc := ⟨.hbm, 327, rfl⟩
abbrev main_cst_38 : Ref sig .tc := ⟨.hbm, 328, rfl⟩
abbrev main_v253 : Ref sig .tc := ⟨.hbm, 329, rfl⟩
abbrev main_v254 : Ref sig .tc := ⟨.hbm, 330, rfl⟩
abbrev main_cst_39 : Ref sig .tc := ⟨.hbm, 331, rfl⟩
abbrev main_v255 : Ref sig .tc := ⟨.hbm, 332, rfl⟩
abbrev main_v256 : Ref sig .tc := ⟨.hbm, 333, rfl⟩
abbrev main_cst_40 : Ref sig .tc := ⟨.hbm, 334, rfl⟩
abbrev main_v257 : Ref sig .tc := ⟨.hbm, 335, rfl⟩
abbrev main_v258 : Ref sig .tc := ⟨.hbm, 336, rfl⟩
abbrev main_cst_41 : Ref sig .tc := ⟨.hbm, 337, rfl⟩
abbrev main_v259 : Ref sig .tc := ⟨.hbm, 338, rfl⟩
abbrev main_v260 : Ref sig .tc := ⟨.hbm, 339, rfl⟩
abbrev main_cst_42 : Ref sig .tc := ⟨.hbm, 340, rfl⟩
abbrev main_v261 : Ref sig .tc := ⟨.hbm, 341, rfl⟩
abbrev main_v262 : Ref sig .tc := ⟨.hbm, 342, rfl⟩
abbrev main_cst_43 : Ref sig .tc := ⟨.hbm, 343, rfl⟩
abbrev main_v263 : Ref sig .tc := ⟨.hbm, 344, rfl⟩
abbrev main_v264 : Ref sig .tc := ⟨.hbm, 345, rfl⟩
abbrev main_cst_44 : Ref sig .tc := ⟨.hbm, 346, rfl⟩
abbrev main_v265 : Ref sig .tc := ⟨.hbm, 347, rfl⟩
abbrev main_v266 : Ref sig .tc := ⟨.hbm, 348, rfl⟩
abbrev main_cst_45 : Ref sig .tc := ⟨.hbm, 349, rfl⟩
abbrev main_v267 : Ref sig .tc := ⟨.hbm, 350, rfl⟩
abbrev main_v268 : Ref sig .tc := ⟨.hbm, 351, rfl⟩
abbrev main_cst_46 : Ref sig .tc := ⟨.hbm, 352, rfl⟩
abbrev main_v269 : Ref sig .tc := ⟨.hbm, 353, rfl⟩
abbrev main_v270 : Ref sig .tc := ⟨.hbm, 354, rfl⟩
abbrev main_cst_47 : Ref sig .tc := ⟨.hbm, 355, rfl⟩
abbrev main_v271 : Ref sig .tc := ⟨.hbm, 356, rfl⟩
abbrev main_v272 : Ref sig .tc := ⟨.hbm, 357, rfl⟩
abbrev main_cst_48 : Ref sig .tc := ⟨.hbm, 358, rfl⟩
abbrev main_v273 : Ref sig .tc := ⟨.hbm, 359, rfl⟩
abbrev main_v274 : Ref sig .tc := ⟨.hbm, 360, rfl⟩
abbrev main_cst_49 : Ref sig .tc := ⟨.hbm, 361, rfl⟩
abbrev main_v275 : Ref sig .tc := ⟨.hbm, 362, rfl⟩
abbrev main_v276 : Ref sig .tc := ⟨.hbm, 363, rfl⟩
abbrev main_cst_50 : Ref sig .tc := ⟨.hbm, 364, rfl⟩
abbrev main_v277 : Ref sig .tc := ⟨.hbm, 365, rfl⟩
abbrev main_v278 : Ref sig .tc := ⟨.hbm, 366, rfl⟩
abbrev main_cst_51 : Ref sig .tc := ⟨.hbm, 367, rfl⟩
abbrev main_v279 : Ref sig .tc := ⟨.hbm, 368, rfl⟩
abbrev main_v280 : Ref sig .tc := ⟨.hbm, 369, rfl⟩
abbrev main_cst_52 : Ref sig .tc := ⟨.hbm, 370, rfl⟩
abbrev main_v281 : Ref sig .tc := ⟨.hbm, 371, rfl⟩
abbrev main_v282 : Ref sig .tc := ⟨.hbm, 372, rfl⟩
abbrev main_cst_53 : Ref sig .tc := ⟨.hbm, 373, rfl⟩
abbrev main_v283 : Ref sig .tc := ⟨.hbm, 374, rfl⟩
abbrev main_v284 : Ref sig .tc := ⟨.hbm, 375, rfl⟩
abbrev main_cst_54 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩

abbrev nD : Nat := 1
abbrev τ : Topo := Topo.v7x

variable {F : FTy → Type} [FloatOps F]
-- ==== ConvFwd.lean ====
abbrev S8192x6144 : Shape := ⟨2, ![8192, 6144]⟩
abbrev S1x31x1024 : Shape := ⟨3, ![1, 31, 1024]⟩
abbrev S1x1024 : Shape := ⟨2, ![1, 1024]⟩
abbrev S31x1024 : Shape := ⟨2, ![31, 1024]⟩
abbrev S_ : Shape := ⟨0, ![]⟩
abbrev S32x1024 : Shape := ⟨2, ![32, 1024]⟩
abbrev S32x8x128 : Shape := ⟨3, ![32, 8, 128]⟩
abbrev S8192x2048 : Shape := ⟨2, ![8192, 2048]⟩
abbrev S8192x1024 : Shape := ⟨2, ![8192, 1024]⟩
abbrev S16x1024 : Shape := ⟨2, ![16, 1024]⟩
abbrev S512x1024 : Shape := ⟨2, ![512, 1024]⟩
abbrev S544x8x128 : Shape := ⟨3, ![544, 8, 128]⟩
abbrev S512x8x128 : Shape := ⟨3, ![512, 8, 128]⟩
abbrev S16x8x128 : Shape := ⟨3, ![16, 8, 128]⟩
abbrev S1x8x128 : Shape := ⟨3, ![1, 8, 128]⟩
abbrev S8x128 : Shape := ⟨2, ![8, 128]⟩
abbrev S512 : Shape := ⟨1, ![512]⟩
abbrev S512x1 : Shape := ⟨2, ![512, 1]⟩

abbrev nBuf : Space → Nat
  | .hbm => 14
  | .vmem => 24
  | .smem => 0
  | _ => 0

abbrev bufTy : (tb : Table) → Fin (tcTables nBuf tb) → BufTy
  | .hbm, ⟨0, _⟩ => ⟨S8192x6144, .f32⟩
  | .hbm, ⟨1, _⟩ => ⟨S1x31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S31x1024, .f32⟩
  | .hbm, ⟨6, _⟩ => ⟨S_, .i32⟩
  | .hbm, ⟨7, _⟩ => ⟨S_, .f32⟩
  | .hbm, ⟨8, _⟩ => ⟨S32x1024, .f32⟩
  | .hbm, ⟨9, _⟩ => ⟨S32x8x128, .f32⟩
  | .hbm, ⟨10, _⟩ => ⟨S8192x6144, .bf16⟩
  | .hbm, ⟨11, _⟩ => ⟨S8192x2048, .bf16⟩
  | .hbm, ⟨12, _⟩ => ⟨S8192x1024, .bf16⟩
  | .hbm, ⟨13, _⟩ => ⟨S8192x1024, .bf16⟩
  | .local _ .vmem, ⟨0, _⟩ => ⟨S16x1024, .bf16⟩
  | .local _ .vmem, ⟨1, _⟩ => ⟨S16x1024, .bf16⟩
  | .local _ .vmem, ⟨2, _⟩ => ⟨S512x1024, .bf16⟩
  | .local _ .vmem, ⟨3, _⟩ => ⟨S512x1024, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S512x1024, .bf16⟩
  | .local _ .vmem, ⟨9, _⟩ => ⟨S512x1024, .bf16⟩
  | .local _ .vmem, ⟨10, _⟩ => ⟨S16x1024, .bf16⟩
  | .local _ .vmem, ⟨11, _⟩ => ⟨S16x1024, .bf16⟩
  | .local _ .vmem, ⟨12, _⟩ => ⟨S512x1024, .bf16⟩
  | .local _ .vmem, ⟨13, _⟩ => ⟨S512x1024, .bf16⟩
  | .local _ .vmem, ⟨14, _⟩ => ⟨S32x8x128, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S544x8x128, .f32⟩
  | .local _ .vmem, ⟨23, _⟩ => ⟨S512x8x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_28 : BitVec 32 := 0#32
  let c16_i32 : BitVec 32 := 16#32
  let v60 : BitVec 32 := Scalar.addi c0_i32_28 c16_i32
  let c1_i32 : BitVec 32 := 1#32
  ⟨c0_i32_28, v60, c1_i32⟩
def k0_off1 (k0_t1 : Fin k0_t1_loop.trips) (c0_i32_61 : BitVec 32) (c0_i32_62 : BitVec 32) : Fin 3 → Nat :=
  let c0_i32_28 : BitVec 32 := 0#32
  let c1_i32 : BitVec 32 := 1#32
  let arg16 : BitVec 32 := Scf.iv c0_i32_28 c1_i32 k0_t1
  let c32_i32 : BitVec 32 := 32#32
  let v112 : BitVec 32 := Scalar.muli arg16 c32_i32
  let c16_i32_59 : BitVec 32 := 16#32
  let v115 : BitVec 32 := Scalar.addi v112 c16_i32_59
  let c15_i32_60 : BitVec 32 := 15#32
  let v116 : BitVec 32 := Scalar.subi v115 c15_i32_60
  let v117 : BitVec 32 := Scalar.addi v116 c0_i32_61
  let v118 : BitVec 32 := Scalar.addi v117 c0_i32_62
  let v119 : Index := Scalar.indexCast v118
  let c0_63 : Index := 0#32
  let c0_64 : Index := 0#32
  ![v119.toNat, 0, 0]
def k0_off2 (k0_t1 : Fin k0_t1_loop.trips) (c0_i32_6044 : BitVec 32) : Fin 3 → Nat :=
  let c0_i32_28 : BitVec 32 := 0#32
  let c1_i32 : BitVec 32 := 1#32
  let arg16 : BitVec 32 := Scf.iv c0_i32_28 c1_i32 k0_t1
  let c32_i32 : BitVec 32 := 32#32
  let v112 : BitVec 32 := Scalar.muli arg16 c32_i32
  let v9071 : BitVec 32 := Scalar.addi v112 c0_i32_6044
  let v9072 : Index := Scalar.indexCast v9071
  let c0_6045 : Index := 0#32
  let c0_6046 : Index := 0#32
  ![v9072.toNat, 0, 0]
def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ConvFwdRefIdeal.lean ====
abbrev S8192x6144 : Shape := ⟨2, ![8192, 6144]⟩
abbrev S1x31x1024 : Shape := ⟨3, ![1, 31, 1024]⟩
abbrev S1x1024 : Shape := ⟨2, ![1, 1024]⟩
abbrev S8192x1024 : Shape := ⟨2, ![8192, 1024]⟩
abbrev S_ : Shape := ⟨0, ![]⟩
abbrev S31x1024 : Shape := ⟨2, ![31, 1024]⟩
abbrev S1024 : Shape := ⟨1, ![1024]⟩
abbrev S15x1024 : Shape := ⟨2, ![15, 1024]⟩
abbrev S8222x1024 : Shape := ⟨2, ![8222, 1024]⟩
abbrev S1x8192x1024 : Shape := ⟨3, ![1, 8192, 1024]⟩
abbrev S16x8192x1024 : Shape := ⟨3, ![16, 8192, 1024]⟩
abbrev S15x8192x1024 : Shape := ⟨3, ![15, 8192, 1024]⟩
abbrev S31x8192x1024 : Shape := ⟨3, ![31, 8192, 1024]⟩
abbrev S31x1x1024 : Shape := ⟨3, ![31, 1, 1024]⟩
abbrev S8192 : Shape := ⟨1, ![8192]⟩
abbrev S8192x1 : Shape := ⟨2, ![8192, 1]⟩

abbrev nBuf : Space → Nat
  | .hbm => 231
  | .vmem => 0
  | .smem => 0
  | _ => 0

abbrev hbmTy0_0 (i : Nat) : BufTy := match i % 128 with
  | 0 => ⟨S8192x6144, .f32⟩
  | 1 => ⟨S1x31x1024, .f32⟩
  | 2 => ⟨S1x1024, .f32⟩
  | 3 => ⟨S1x1024, .f32⟩
  | 4 => ⟨S1x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S31x1024, .f32⟩
  | 21 => ⟨S1024, .f32⟩
  | 22 => ⟨S_, .f32⟩
  | 23 => ⟨S15x1024, .f32⟩
  | 24 => ⟨S8222x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S1x8192x1024, .f32⟩
  | 57 => ⟨S1x8192x1024, .f32⟩
  | 58 => ⟨S1x8192x1024, .f32⟩
  | 59 => ⟨S1x8192x1024, .f32⟩
  | 60 => ⟨S1x8192x1024, .f32⟩
  | 61 => ⟨S1x8192x1024, .f32⟩
  | 62 => ⟨S1x8192x1024, .f32⟩
  | 63 => ⟨S1x8192x1024, .f32⟩
  | 64 => ⟨S1x8192x1024, .f32⟩
  | 65 => ⟨S1x8192x1024, .f32⟩
  | 66 => ⟨S1x8192x1024, .f32⟩
  | 67 => ⟨S1x8192x1024, .f32⟩
  | 68 => ⟨S1x8192x1024, .f32⟩
  | 69 => ⟨S1x8192x1024, .f32⟩
  | 70 => ⟨S1x8192x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S1x8192x1024, .f32⟩
  | 78 => ⟨S1x8192x1024, .f32⟩
  | 79 => ⟨S1x8192x1024, .f32⟩
  | 80 => ⟨S1x8192x1024, .f32⟩
  | 81 => ⟨S1x8192x1024, .f32⟩
  | 82 => ⟨S1x8192x1024, .f32⟩
  | 83 => ⟨S1x8192x1024, .f32⟩
  | 84 => ⟨S1x8192x1024, .f32⟩
  | 85 => ⟨S1x8192x1024, .f32⟩
  | 86 => ⟨S1x8192x1024, .f32⟩
  | 87 => ⟨S16x8192x1024, .f32⟩
  | 88 => ⟨S15x8192x1024, .f32⟩
  | 89 => ⟨S31x8192x1024, .f32⟩
  | 90 => ⟨S31x1x1024, .f32⟩
  | 91 => ⟨S31x8192x1024, .f32⟩
  | 92 => ⟨S31x8192x1024, .f32⟩
  | 93 => ⟨S_, .f32⟩
  | 94 => ⟨S8192x1024, .f32⟩
  | 95 => ⟨S1x1024, .f32⟩
  | 96 => ⟨S8192x1024, .f32⟩
  | 97 => ⟨S8192x1024, .f32⟩
  | 98 => ⟨S_, .f32⟩
  | 99 => ⟨S8192, .f32⟩
  | 100 => ⟨S8192x1, .f32⟩
  | 101 => ⟨S_, .f32⟩
  | 102 => ⟨S8192x1, .f32⟩
  | 103 => ⟨S8192x1, .f32⟩
  | 104 => ⟨S8192x1024, .f32⟩
  | 105 => ⟨S8192x1024, .f32⟩
  | 106 => ⟨S8192x1024, .f32⟩
  | 107 => ⟨S_, .f32⟩
  | 108 => ⟨S8192, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192x1, .f32⟩
  | 115 => ⟨S8192x1, .f32⟩
  | 116 => ⟨S8192x1, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S_, .f32⟩
  | 126 => ⟨S8192x1024, .f32⟩
  | 127 => ⟨S8192x1024, .f32⟩
  | _ => ⟨S8192x6144, .f32⟩

abbrev hbmTy0_1 (i : Nat) : BufTy := match i % 128 with
  | 0 => ⟨S_, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S_, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S_, .f32⟩
  | 20 => ⟨S8192x1024, .f32⟩
  | 21 => ⟨S8192x1024, .f32⟩
  | 22 => ⟨S8192x1024, .f32⟩
  | 23 => ⟨S31x1024, .f32⟩
  | 24 => ⟨S1024, .f32⟩
  | 25 => ⟨S_, .f32⟩
  | 26 => ⟨S15x1024, .f32⟩
  | 27 => ⟨S8222x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S1x8192x1024, .f32⟩
  | 60 => ⟨S1x8192x1024, .f32⟩
  | 61 => ⟨S1x8192x1024, .f32⟩
  | 62 => ⟨S1x8192x1024, .f32⟩
  | 63 => ⟨S1x8192x1024, .f32⟩
  | 64 => ⟨S1x8192x1024, .f32⟩
  | 65 => ⟨S1x8192x1024, .f32⟩
  | 66 => ⟨S1x8192x1024, .f32⟩
  | 67 => ⟨S1x8192x1024, .f32⟩
  | 68 => ⟨S1x8192x1024, .f32⟩
  | 69 => ⟨S1x8192x1024, .f32⟩
  | 70 => ⟨S1x8192x1024, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S1x8192x1024, .f32⟩
  | 78 => ⟨S1x8192x1024, .f32⟩
  | 79 => ⟨S1x8192x1024, .f32⟩
  | 80 => ⟨S1x8192x1024, .f32⟩
  | 81 => ⟨S1x8192x1024, .f32⟩
  | 82 => ⟨S1x8192x1024, .f32⟩
  | 83 => ⟨S1x8192x1024, .f32⟩
  | 84 => ⟨S1x8192x1024, .f32⟩
  | 85 => ⟨S1x8192x1024, .f32⟩
  | 86 => ⟨S1x8192x1024, .f32⟩
  | 87 => ⟨S1x8192x1024, .f32⟩
  | 88 => ⟨S1x8192x1024, .f32⟩
  | 89 => ⟨S1x8192x1024, .f32⟩
  | 90 => ⟨S16x8192x1024, .f32⟩
  | 91 => ⟨S15x8192x1024, .f32⟩
  | 92 => ⟨S31x8192x1024, .f32⟩
  | 93 => ⟨S31x1x1024, .f32⟩
  | 94 => ⟨S31x8192x1024, .f32⟩
  | 95 => ⟨S31x8192x1024, .f32⟩
  | 96 => ⟨S_, .f32⟩
  | 97 => ⟨S8192x1024, .f32⟩
  | 98 => ⟨S1x1024, .f32⟩
  | 99 => ⟨S8192x1024, .f32⟩
  | 100 => ⟨S8192x1024, .f32⟩
  | 101 => ⟨S8192x1024, .bf16⟩
  | 102 => ⟨S8192x1024, .bf16⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_cst_2 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_cst_3 : Ref sig .tc := ⟨.hbm, 98, rfl⟩
abbrev main_v89 : Ref sig .tc := ⟨.hbm, 99, rfl⟩
abbrev main_v90 : Ref sig .tc := ⟨.hbm, 100, rfl⟩
abbrev main_cst_4 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_cst_5 : Ref sig .tc := ⟨.hbm, 107, rfl⟩
abbrev main_v96 : Ref sig .tc := ⟨.hbm, 108, rfl⟩
abbrev main_v97 : Ref sig .tc := ⟨.hbm, 109, rfl⟩
abbrev main_cst_6 : Ref sig .tc := ⟨.hbm, 110, rfl⟩
abbrev main_v98 : Ref sig .tc := ⟨.hbm, 111, rfl⟩
abbrev main_v99 : Ref sig .tc := ⟨.hbm, 112, rfl⟩
abbrev main_cst_7 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_call0_v0 : Ref sig .tc := ⟨.hbm, 123, rfl⟩
abbrev main_call0_v1 : Ref sig .tc := ⟨.hbm, 124, rfl⟩
abbrev main_call0_cst : Ref sig .tc := ⟨.hbm, 125, rfl⟩
abbrev main_call0_v2 : Ref sig .tc := ⟨.hbm, 126, rfl⟩
abbrev main_call0_v3 : Ref sig .tc := ⟨.hbm, 127, rfl⟩
abbrev main_call0_cst_0 : Ref sig .tc := ⟨.hbm, 128, rfl⟩
abbrev main_call0_v4 : Ref sig .tc := ⟨.hbm, 129, rfl⟩
abbrev main_call0_v5 : Ref sig .tc := ⟨.hbm, 130, rfl⟩
abbrev main_v109 : Ref sig .tc := ⟨.hbm, 131, rfl⟩
abbrev main_call1_v0 : Ref sig .tc := ⟨.hbm, 132, rfl⟩
abbrev main_call1_v1 : Ref sig .tc := ⟨.hbm, 133, rfl⟩
abbrev main_call1_cst : Ref sig .tc := ⟨.hbm, 134, rfl⟩
abbrev main_call1_v2 : Ref sig .tc := ⟨.hbm, 135, rfl⟩
abbrev main_call1_v3 : Ref sig .tc := ⟨.hbm, 136, rfl⟩
abbrev main_call1_cst_0 : Ref sig .tc := ⟨.hbm, 137, rfl⟩
abbrev main_call1_v4 : Ref sig .tc := ⟨.hbm, 138, rfl⟩
abbrev main_call1_v5 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_8 : Ref sig .tc := ⟨.hbm, 144, rfl⟩
abbrev main_v114 : Ref sig .tc := ⟨.hbm, 145, rfl⟩
abbrev main_v115 : Ref sig .tc := ⟨.hbm, 146, rfl⟩
abbrev main_cst_9 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_10 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_cst_11 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩

abbrev nD : Nat := 1
abbrev τ : Topo := Topo.v7x

variable {F : FTy → Type} [FloatOps F]
-- ==== SguFwd.lean ====
abbrev S8192x6144 : Shape := ⟨2, ![8192, 6144]⟩
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S512x1024 : Shape := ⟨2, ![512, 1024]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 14
  | .vmem => 12
  | .smem => 0
  | _ => 0

abbrev bufTy : (tb : Table) → Fin (tcTables nBuf tb) → BufTy
  | .hbm, ⟨0, _⟩ => ⟨S8192x6144, .f32⟩
  | .hbm, ⟨1, _⟩ => ⟨S8192x2048, .bf16⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S8x128x128, .f32⟩
  | .hbm, ⟨7, _⟩ => ⟨S8x128x128, .bf16⟩
  | .hbm, ⟨8, _⟩ => ⟨S8x128, .f32⟩
  | .hbm, ⟨9, _⟩ => ⟨S128x8, .f32⟩
  | .hbm, ⟨10, _⟩ => ⟨S128x8x128, .f32⟩
  | .hbm, ⟨11, _⟩ => ⟨S128x1024, .f32⟩
  | .hbm, ⟨12, _⟩ => ⟨S8192x6144, .bf16⟩
  | .hbm, ⟨13, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .bf16⟩
  | .local _ .vmem, ⟨9, _⟩ => ⟨S128x1024, .f32⟩
  | .local _ .vmem, ⟨10, _⟩ => ⟨S512x1024, .bf16⟩
  | .local _ .vmem, ⟨11, _⟩ => ⟨S512x1024, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguFwdRefIdeal.lean ====
abbrev S8192x6144 : Shape := ⟨2, ![8192, 6144]⟩
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S8x128x128 : Shape := ⟨3, ![8, 128, 128]⟩
abbrev S8x64x128x128 : Shape := ⟨4, ![8, 64, 128, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 61
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x2048, .bf16⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S64x128x8x128, .f32⟩
  | .hbm, ⟨39, _⟩ => ⟨S8x128x128, .f32⟩
  | .hbm, ⟨40, _⟩ => ⟨S8x64x128x128, .f32⟩
  | .hbm, ⟨41, _⟩ => ⟨S64x128x8x128, .f32⟩
  | .hbm, ⟨42, _⟩ => ⟨S8x128, .f32⟩
  | .hbm, ⟨43, _⟩ => ⟨S128x8, .f32⟩
  | .hbm, ⟨44, _⟩ => ⟨S1x128x8x1, .f32⟩
  | .hbm, ⟨45, _⟩ => ⟨S64x128x8x128, .f32⟩
  | .hbm, ⟨46, _⟩ => ⟨S64x128x8x128, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S8192x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== ProjFwd.lean ====
abbrev S8192x1024 : Shape := ⟨2, ![8192, 1024]⟩
abbrev S1x1024 : Shape := ⟨2, ![1, 1024]⟩
abbrev S1x1024x6144 : Shape := ⟨3, ![1, 1024, 6144]⟩
abbrev S1024x6144 : Shape := ⟨2, ![1024, 6144]⟩
abbrev S1024x8x768 : Shape := ⟨3, ![1024, 8, 768]⟩
abbrev S8x1024x768 : Shape := ⟨3, ![8, 1024, 768]⟩
abbrev S8192x6144 : Shape := ⟨2, ![8192, 6144]⟩
abbrev S1024x8192 : Shape := ⟨2, ![1024, 8192]⟩
abbrev S1024x1024 : Shape := ⟨2, ![1024, 1024]⟩
abbrev S1024x768 : Shape := ⟨2, ![1024, 768]⟩
abbrev S8x1024x1024 : Shape := ⟨3, ![8, 1024, 1024]⟩
abbrev S1024 : Shape := ⟨1, ![1024]⟩
abbrev S1024x1 : Shape := ⟨2, ![1024, 1]⟩
abbrev S1x1024x1024 : Shape := ⟨3, ![1, 1024, 1024]⟩
abbrev S1x1024x768 : Shape := ⟨3, ![1, 1024, 768]⟩

abbrev nBuf : Space → Nat
  | .hbm => 9
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x6144, .f32⟩
  | .hbm, ⟨3, _⟩ => ⟨S1024x6144, .f32⟩
  | .hbm, ⟨4, _⟩ => ⟨S1024x8x768, .f32⟩
  | .hbm, ⟨5, _⟩ => ⟨S8x1024x768, .f32⟩
  | .hbm, ⟨6, _⟩ => ⟨S8x1024x768, .bf16⟩
  | .hbm, ⟨7, _⟩ => ⟨S8192x6144, .bf16⟩
  | .hbm, ⟨8, _⟩ => ⟨S1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x1024, .bf16⟩
  | .local _ .vmem, ⟨7, _⟩ => ⟨S1024x1024, .bf16⟩
  | .local _ .vmem, ⟨8, _⟩ => ⟨S8x1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v27 : Index := Scalar.indexCast arg1
  let c0_13 : Index := 0#32
  let c0_14 : Index := 0#32
  ![v27.toNat, 0, 0]
def k0_off2 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_off3 (i : grid0.Coords) : Fin 3 → Nat :=
  let arg0 : BitVec 32 := BitVec.ofNat 32 (i 0).val
  let v6 : Index := Scalar.indexCast arg0
  let c0_2 : Index := 0#32
  let c0_3 : Index := 0#32
  ![v6.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjFwdRefIdeal.lean ====
abbrev S8192x1024 : Shape := ⟨2, ![8192, 1024]⟩
abbrev S1x1024 : Shape := ⟨2, ![1, 1024]⟩
abbrev S1x1024x6144 : Shape := ⟨3, ![1, 1024, 6144]⟩
abbrev S_ : Shape := ⟨0, ![]⟩
abbrev S8192 : Shape := ⟨1, ![8192]⟩
abbrev S8192x1 : Shape := ⟨2, ![8192, 1]⟩
abbrev S1024x6144 : Shape := ⟨2, ![1024, 6144]⟩
abbrev S8192x6144 : Shape := ⟨2, ![8192, 6144]⟩
abbrev S1024x8192 : Shape := ⟨2, ![1024, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x6144, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x6144, .f32⟩
  | .hbm, ⟨19, _⟩ => ⟨S8192x6144, .f32⟩
  | .hbm, ⟨20, _⟩ => ⟨S8192x6144, .bf16⟩
  | .hbm, ⟨21, _⟩ => ⟨S1024x8192, .f32⟩
  | .hbm, ⟨22, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Reals.lean ====
module

public import Idealize.ShloMosaic.Lib.ReduceAll
public import Idealize.ShloMosaic.Lib.Pipeline.ValueKit
public import Idealize.ShloMosaic.PureOps.Ideal.Laws

/-!
Real numbers inside the extended reals: arrays whose entries are all real, the constants the programs write as
float words, and the operations on real arguments.
-/

@[expose] public section

set_option maxRecDepth 16384

noncomputable section

open Idealize.ShloMosaic

namespace Cert.Reals

/-- The float word of positive infinity is the top extended real. -/
theorem infinity_word : Ideal.ofBits .f32 0x7F800000#32 = ⊤ := by
  simp [Ideal.ofBits, Ideal.ieee]

/-- A number whose absolute value is below infinity is real. -/
theorem real_of_abs_lt {a : EReal} (h : max a (-a) < ⊤) : ∃ r : ℝ, a = r := by
  induction a with
  | bot => simp at h
  | coe r => exact ⟨r, rfl⟩
  | top => simp at h

/-- Every entry of the array is a real number. -/
def IsReal {ι : Type} (a : ι → EReal) : Prop := ∃ r : ι → ℝ, a = fun i => (r i : EReal)

/-- The finiteness test of one argument, as the preconditions print it, says that the array is real. -/
theorem isReal_of_all {s t : Shape} {axes : List (Fin s.rank)} [Subsingleton t.Idx] (a : FVec Ideal s .f32)
    (hb : (⟨0, ![]⟩ : Shape).BroadcastsInDim s (![] : Fin 0 → Fin s.rank)) (one : (⟨0, ![]⟩ : Shape).Idx → BitVec 1)
    (hr : s.ReducesTo axes t) (hu : 0 < (⟨0, ![]⟩ : Shape).numel) (j : t.Idx)
    (e : Host.reduce IntOp.andi (cmpf .olt (Host.absf a) (broadcastInDim s ![] hb (constant (F := Ideal) ⟨0, ![]⟩ .f32 0x7F800000#32))) one hr hu j = 1#1) :
    IsReal (ι := s.Idx) a := by
  have h : ∀ i, ∃ r : ℝ, (a i : EReal) = r := by
    intro i
    have h1 := Host.reduce_andi_all _ _ _ _ j e i
    apply real_of_abs_lt
    rw [← infinity_word]
    have h2 : Ideal.cmp .olt (max (a i : EReal) (-(a i))) (Ideal.ofBits .f32 0x7F800000#32) = 1#1 := h1
    simp only [Ideal.cmp] at h2
    by_contra hc
    simp [hc] at h2
  choose r hr using h
  exact ⟨r, funext hr⟩

/-! ### Constants -/

theorem word_1024 : Ideal.ofBits .f32 1149239296#32 = ((1024 : ℝ) : EReal) := by
  simp [Ideal.ofBits, Ideal.ieee, -EReal.coe_mul]; norm_num

/-- The rational that the programs write for 10⁻⁶. -/
def tiny : ℝ := 8796093 / 8796093022208

theorem tiny_pos : 0 < tiny := by unfold tiny; norm_num

theorem word_tiny : Ideal.ofBits .f32 897988541#32 = (tiny : EReal) := by
  simp [Ideal.ofBits, Ideal.ieee, -EReal.coe_mul, tiny]; norm_num

theorem word_neg_half : Ideal.ofBits .f32 0xBF000000#32 = ((-(1 / 2) : ℝ) : EReal) := by
  simp [Ideal.ofBits, Ideal.ieee, -EReal.coe_mul]; norm_num

/-! ### Operations on reals -/

theorem div_real (x y : ℝ) (hy : y ≠ 0) : Ideal.div (x : EReal) (y : EReal) = ((x / y : ℝ) : EReal) := by
  rw [Ideal.div_coe hy, ← EReal.coe_mul]; ring_nf

theorem rsqrt_real (x : ℝ) (hx : 0 < x) : Ideal.rsqrt (x : EReal) = (((√x)⁻¹ : ℝ) : EReal) := by
  rw [Ideal.rsqrt_coe, if_neg (not_lt.mpr hx.le), if_neg hx.ne']

theorem sum_real {ι : Type} [Fintype ι] (f : ι → ℝ) : ∑ i, (f i : EReal) = ((∑ i, f i : ℝ) : EReal) := by
  induction (Finset.univ : Finset ι) using Finset.cons_induction with
  | empty => simp
  | cons a s h ih => simp [Finset.sum_cons, ih]

/-! ### The row normalisation of the dx call -/

/-- Inverse root mean square of a row. -/
def rms (x : Fin 1024 → EReal) : EReal :=
  Ideal.rsqrt (Ideal.div (∑ k, x k * x k) (Ideal.ofBits .f32 1149239296#32) + Ideal.ofBits .f32 897988541#32)

/-- Mean square of a real row plus the small constant. -/
def msq (x : Fin 1024 → ℝ) : ℝ := (∑ k, x k * x k) / 1024 + tiny

theorem msq_pos (x : Fin 1024 → ℝ) : 0 < msq x :=
  add_pos_of_nonneg_of_pos (div_nonneg (Finset.sum_nonneg fun k _ => mul_self_nonneg _) (by norm_num)) tiny_pos

theorem msq_real (x : Fin 1024 → ℝ) :
    Ideal.div (∑ k, (x k : EReal) * (x k : EReal)) (Ideal.ofBits .f32 1149239296#32) + Ideal.ofBits .f32 897988541#32 = (msq x : EReal) := by
  simp only [← EReal.coe_mul, sum_real, word_1024, word_tiny, div_real _ _ (by norm_num : (1024 : ℝ) ≠ 0), ← EReal.coe_add]
  rfl

theorem rms_real (x : Fin 1024 → ℝ) : rms (fun k => (x k : EReal)) = (((√(msq x))⁻¹ : ℝ) : EReal) := by
  rw [rms, msq_real, rsqrt_real _ (msq_pos x)]

/-- The gradient through the normalisation as the kernel writes it. -/
def rowGrad (x dn : Fin 1024 → EReal) (d : Fin 1024) : EReal :=
  rms x * (dn d - x d * rms x * Ideal.div (∑ k, dn k * (x k * rms x)) (Ideal.ofBits .f32 1149239296#32))

/-- The factor of `x` that differentiating the mean square gives. -/
def rowPull (x dn : Fin 1024 → EReal) : EReal :=
  Ideal.div ((∑ k, x k * dn k) * (Ideal.ofBits .f32 0xBF000000#32 * Ideal.div (rms x)
    (Ideal.div (∑ k, x k * x k) (Ideal.ofBits .f32 1149239296#32) + Ideal.ofBits .f32 897988541#32))) (Ideal.ofBits .f32 1149239296#32)

/-- On real rows the kernel's form and the derivative's form agree, whatever is added to them. -/
theorem rowGrad_eq (x dn : Fin 1024 → ℝ) (a : EReal) (d : Fin 1024) :
    a + rowGrad (fun k => x k) (fun k => dn k) d
      = a + (dn d : EReal) * rms (fun k => x k) + (x d : EReal) * rowPull (fun k => x k) (fun k => dn k)
        + rowPull (fun k => x k) (fun k => dn k) * (x d : EReal) := by
  have hm := msq_pos x
  have h0 : √(msq x) ≠ 0 := (Real.sqrt_pos.mpr hm).ne'
  have hs : √(msq x) ^ 2 = msq x := Real.sq_sqrt hm.le
  have hsum : ∑ k, dn k * (x k * (√(msq x))⁻¹) = (∑ k, x k * dn k) * (√(msq x))⁻¹ := by
    rw [Finset.sum_mul]; exact Finset.sum_congr rfl fun k _ => by ring
  simp only [rowGrad, rowPull, rms_real, msq_real]
  simp only [word_1024, word_neg_half, ← EReal.coe_mul, sum_real, div_real _ _ (by norm_num : (1024 : ℝ) ≠ 0), div_real _ _ hm.ne', ← EReal.coe_sub, add_assoc, ← EReal.coe_add, hsum]
  congr 2
  generalize √(msq x) = q at *
  rw [← hs]
  field_simp
  ring

end Cert.Reals

end
-- ==== Proof.SguCell.lean ====
module

public import proofs.«01_k».proof.Proof.Gen.SguBwdIdeal.Frame
public import Idealize.ShloMosaic.Lib.Pipeline.ValueKit
public import Idealize.ShloMosaic.Lib.Pipeline.ReadBack
public import proofs.«01_k».proof.Proof.Reals

/-!
The body of the sgu kernel works cell by cell: a cell is 128 positions of one chunk by the 128 features of one head.
Here is what one cell computes, at any place of the block, read at one entry.
-/

@[expose] public section

set_option maxRecDepth 16384

noncomputable section

open Idealize.ShloMosaic Idealize.ShloMosaic.TcCoe Idealize.SL.Sem

namespace Cert.SguBwdIdeal.Value

open Cert.SguBwdIdeal Cert.SguBwdIdeal.Gen

/-- The logistic function as the kernel computes it. -/
def sgm (z : EReal) : EReal :=
  Ideal.ofBits .f32 0x3F000000#32 * Ideal.tanh (Ideal.ofBits .f32 0x3F000000#32 * z) + Ideal.ofBits .f32 0x3F000000#32

/-- A cell lies in the block. -/
def Fits (ro co : ℕ) : Prop := ro % 128 = 0 ∧ co % 128 = 0 ∧ ro < 512 ∧ co < 1024

variable {ro co : ℕ}

theorem Fits.block (h : Fits ro co) (a : Fin 2) : (![ro, co] : Fin 2 → ℕ) a + S128x128.size a ≤ S512x1024.size a := by
  obtain ⟨h1, h2, h3, h4⟩ := h
  fin_cases a <;> simp [S128x128, S512x1024] <;> omega

theorem Fits.strip (h : Fits ro co) (a : Fin 2) : (![0, co] : Fin 2 → ℕ) a + S128x128.size a ≤ S128x1024.size a := by
  obtain ⟨h1, h2, h3, h4⟩ := h
  fin_cases a <;> simp [S128x128, S128x1024] <;> omega

theorem Fits.head (h : Fits ro co) (a : Fin 3) : (![co / 128, 0, 0] : Fin 3 → ℕ) a + S1x128x128.size a ≤ S8x128x128.size a := by
  obtain ⟨h1, h2, h3, h4⟩ := h
  fin_cases a <;> simp [S1x128x128, S8x128x128] <;> omega

/-- The block's entry at place `p`, `d` of the cell. -/
def Fits.row (h : Fits ro co) (p : Fin 128) : Fin 512 := ⟨ro + p.val, by obtain ⟨h1, h2, h3, h4⟩ := h; omega⟩
def Fits.col (h : Fits ro co) (d : Fin 128) : Fin 1024 := ⟨co + d.val, by obtain ⟨h1, h2, h3, h4⟩ := h; omega⟩
def Fits.hd (h : Fits ro co) : Fin 8 := ⟨co / 128, by obtain ⟨h1, h2, h3, h4⟩ := h; omega⟩

/-- One cell of a block, as the body loads it. -/
def cell (X : FVec Ideal S512x1024 .bf16) (h : Fits ro co) : Vec Ideal S128x128 .bf16 :=
  View.ld (S := S512x1024) X (Rect.unit (s := S512x1024) ![ro, co] S128x128.size h.block)

/-- One head's 128 biases spread over its features. -/
def strip (B : FVec Ideal S128x1024 .f32) (h : Fits ro co) : Vec Ideal S128x128 .f32 :=
  View.ld (S := S128x1024) B (Rect.unit (s := S128x1024) ![0, co] S128x128.size h.strip)

/-- One head's mixing matrix. -/
def head (W : FVec Ideal S8x128x128 .bf16) (h : Fits ro co) : Vec Ideal S1x128x128 .bf16 :=
  View.ld (S := S8x128x128) W (Rect.unit (s := S8x128x128) ![co / 128, 0, 0] S1x128x128.size h.head)

theorem cell_apply (X : FVec Ideal S512x1024 .bf16) (h : Fits ro co) (p d : Fin 128) : cell X h (ix2 p d) = X (ix2 (h.row p) (h.col d)) := by
  refine View.ld_unit_apply_of (Val := Elt Ideal) (e := .bf16) (S := S512x1024) X ![ro, co] S128x128.size h.block (ix2 p d) _ fun a => ?_
  fin_cases a <;> rfl

theorem strip_apply (X : FVec Ideal S128x1024 .f32) (h : Fits ro co) (p d : Fin 128) : strip X h (ix2 p d) = X (ix2 p (h.col d)) := by
  refine View.ld_unit_apply_of (Val := Elt Ideal) (e := .f32) (S := S128x1024) X ![0, co] S128x128.size h.strip (ix2 p d) _ fun a => ?_
  fin_cases a
  · exact (Nat.zero_add _).symm
  · rfl

theorem head_apply (X : FVec Ideal S8x128x128 .bf16) (h : Fits ro co) (i : Fin 1) (p d : Fin 128) : head X h (ix3 i p d) = X (ix3 h.hd p d) := by
  obtain rfl : i = 0 := Fin.eq_zero i
  refine View.ld_unit_apply_of (Val := Elt Ideal) (e := .bf16) (S := S8x128x128) X ![co / 128, 0, 0] S1x128x128.size h.head (ix3 0 p d) _ fun a => ?_
  fin_cases a
  · rfl
  · exact (Nat.zero_add _).symm
  · exact (Nat.zero_add _).symm

/-- The cell of the normalised rows. -/
def part (N : FVec Ideal S512x1024 .bf16) (h : Fits ro co) : FVec Ideal S128x128 .bf16 :=
  extractStridedSlice S128x128 ![ro, co] N ⟨rfl, fun a => h.block a⟩

/-- What the positions of a chunk mix to. -/
def mix (N : FVec Ideal S512x1024 .bf16) (W : FVec Ideal S8x128x128 .bf16) (B : FVec Ideal S128x1024 .f32) (h : Fits ro co) : FVec Ideal S128x128 .f32 :=
  addf (matmul (φ₁ := .bf16) dot_S128x128_S128x128_S128x128_1_0_0_1_n_n none (shapeCast (α := EReal) S128x128 (head W h) shapeCasts_S1x128x128_S128x128)
    (part N h) (constant S128x128 .f32 0x00000000#32)) (shapeCast (α := EReal) S128x128 (strip B h) shapeCasts_S128x128_S128x128)

/-- The cells that the body stores or adds. -/
def duC (N : FVec Ideal S512x1024 .bf16) (W : FVec Ideal S8x128x128 .bf16) (B : FVec Ideal S128x1024 .f32) (G Y : FVec Ideal S512x1024 .bf16)
    (h : Fits ro co) : FVec Ideal S128x128 .bf16 :=
  k0_pay17 (mix N W B h) (cell G h) (cell Y h)

def dgC (N : FVec Ideal S512x1024 .bf16) (W : FVec Ideal S8x128x128 .bf16) (B : FVec Ideal S128x1024 .f32) (G U Y : FVec Ideal S512x1024 .bf16)
    (h : Fits ro co) : FVec Ideal S128x128 .bf16 :=
  k0_pay18 (mix N W B h) (cell G h) (cell U h) (cell Y h)

def dnC (T : FVec Ideal S8x128x128 .bf16) (G U Y : FVec Ideal S512x1024 .bf16) (h : Fits ro co) : FVec Ideal S128x128 .f32 :=
  k0_pay21 (cell G h) (cell U h) (cell Y h) (head T h)

def dwC (N G U Y : FVec Ideal S512x1024 .bf16) (h : Fits ro co) (acc : Vec Ideal S1x128x128 .f32) : FVec Ideal S1x128x128 .f32 :=
  k0_pay22 (part N h) (k0_pay20 (cell G h) (cell U h) (cell Y h)) acc

def dbC (G U Y : FVec Ideal S512x1024 .bf16) (h : Fits ro co) (acc : Vec Ideal S128x128 .f32) : FVec Ideal S128x128 .f32 :=
  k0_pay23 (k0_pay19 (cell G h) (cell U h) (cell Y h)) acc

/-- The gradient that reaches the mixed positions. -/
def dmE (G U Y : FVec Ideal S512x1024 .bf16) (r : Fin 512) (e : Fin 1024) : EReal :=
  Y (ix2 r e) * (G (ix2 r e) * sgm (G (ix2 r e))) * U (ix2 r e)

def mixE (N : FVec Ideal S512x1024 .bf16) (W : FVec Ideal S8x128x128 .bf16) (B : FVec Ideal S128x1024 .f32) (h : Fits ro co) (p d : Fin 128) : EReal :=
  (∑ q : Fin 128, W (ix3 h.hd p q) * N (ix2 (h.row q) (h.col d))) + B (ix2 p (h.col d))

theorem mix_apply (N : FVec Ideal S512x1024 .bf16) (W : FVec Ideal S8x128x128 .bf16) (B : FVec Ideal S128x1024 .f32) (h : Fits ro co) (p d : Fin 128) :
    mix N W B h (ix2 p d) = mixE N W B h p d := by
  pointwise [mix, mixE, part]
  simp only [head_apply, strip_apply]
  blk_ext [Fits.row, Fits.col]

theorem duC_apply (N : FVec Ideal S512x1024 .bf16) (W : FVec Ideal S8x128x128 .bf16) (B : FVec Ideal S128x1024 .f32) (G Y : FVec Ideal S512x1024 .bf16)
    (h : Fits ro co) (p d : Fin 128) : duC N W B G Y h (ix2 p d)
      = Y (ix2 (h.row p) (h.col d)) * (G (ix2 (h.row p) (h.col d)) * sgm (G (ix2 (h.row p) (h.col d)))) * mixE N W B h p d := by
  rw [← mix_apply]
  pointwise [duC, k0_pay17, k0_pay16, k0_pay15, k0_pay13, k0_pay12, sgm]
  simp only [cell_apply]

theorem dgC_apply (N : FVec Ideal S512x1024 .bf16) (W : FVec Ideal S8x128x128 .bf16) (B : FVec Ideal S128x1024 .f32) (G U Y : FVec Ideal S512x1024 .bf16)
    (h : Fits ro co) (p d : Fin 128) : dgC N W B G U Y h (ix2 p d)
      = Y (ix2 (h.row p) (h.col d)) * U (ix2 (h.row p) (h.col d)) * mixE N W B h p d
        * (sgm (G (ix2 (h.row p) (h.col d))) * (Ideal.ofBits .f32 0x3F800000#32 + G (ix2 (h.row p) (h.col d))
          * (Ideal.ofBits .f32 0x3F800000#32 - sgm (G (ix2 (h.row p) (h.col d)))))) := by
  rw [← mix_apply]
  pointwise [dgC, k0_pay18, k0_pay15, k0_pay14, k0_pay13, k0_pay12, sgm]
  simp only [cell_apply]

theorem dm_apply (G U Y : FVec Ideal S512x1024 .bf16) (h : Fits ro co) (p d : Fin 128) :
    k0_pay19 (cell G h) (cell U h) (cell Y h) (ix2 p d) = dmE G U Y (h.row p) (h.col d) := by
  pointwise [dmE, k0_pay19, k0_pay16, k0_pay15, k0_pay14, k0_pay13, k0_pay12, sgm]
  simp only [cell_apply]

theorem dnC_apply (T : FVec Ideal S8x128x128 .bf16) (G U Y : FVec Ideal S512x1024 .bf16) (h : Fits ro co) (p d : Fin 128) :
    dnC T G U Y h (ix2 p d) = ∑ q : Fin 128, T (ix3 h.hd p q) * dmE G U Y (h.row q) (h.col d) := by
  simp only [← dm_apply]
  pointwise [dnC, k0_pay21, k0_pay20]
  simp only [head_apply]

theorem dwC_apply (N G U Y : FVec Ideal S512x1024 .bf16) (h : Fits ro co) (acc : Vec Ideal S1x128x128 .f32) (i : Fin 1) (p q : Fin 128) :
    dwC N G U Y h acc (ix3 i p q) = acc (ix3 i p q) + ∑ d : Fin 128, dmE G U Y (h.row p) (h.col d) * N (ix2 (h.row q) (h.col d)) := by
  obtain rfl : i = 0 := Fin.eq_zero i
  simp only [← dm_apply]
  pointwise [dwC, k0_pay22, k0_pay20, part]
  blk_ext [Fits.row, Fits.col]

theorem dbC_apply (G U Y : FVec Ideal S512x1024 .bf16) (h : Fits ro co) (acc : Vec Ideal S128x128 .f32) (p d : Fin 128) :
    dbC G U Y h acc (ix2 p d) = acc (ix2 p d) + dmE G U Y (h.row p) (h.col d) := by
  simp only [← dm_apply]
  pointwise [dbC, k0_pay23]

end Cert.SguBwdIdeal.Value

end
-- ==== Proof.SguAcc.lean ====
module

public import proofs.«01_k».proof.Proof.SguCell

/-!
The sgu kernel adds to an output head by head and chunk by chunk, reading the sum so far back each time. What such a list
of stores leaves is the start plus one part per chunk.
-/

@[expose] public section

set_option maxRecDepth 16384

noncomputable section

open Idealize.ShloMosaic Idealize.ShloMosaic.TcCoe Idealize.SL.Sem

namespace Cert.SguBwdIdeal.Value

open Cert.SguBwdIdeal Cert.SguBwdIdeal.Gen

section Steps
variable {S : Shape} (T : S.Idx → ℕ) (X : S.Idx → EReal) (D : ℕ → S.Idx → EReal) (A : Prop)

/-- After `k` stores: the start plus the parts of the stores that reached the index. Without `A`, only where one did. -/
def Holds (k : ℕ) (L : List (View.Piece (Elt Ideal) S .f32)) : Prop :=
  ∀ j, (A ∨ T j < k) → (View.canon L j : EReal) = X j + ∑ c : Fin 4, if c.val * 8 + T j < k then D c j else 0

variable {T X D A}

theorem Holds.step {k h : ℕ} {r : Rect S} {w acc : r.shape.Idx → EReal} {L : List (View.Piece (Elt Ideal) S .f32)}
    (hT : ∀ j, T j < 8) (hk : k % 8 = h) (h32 : k < 32) (hr : ∀ j, j ∈ r.set ↔ T j = h)
    (hacc : ((∀ x, acc x = View.canon L (r.emb x)) ∧ (A ∨ 8 ≤ k)) ∨ ((∀ x, acc x = X (r.emb x)) ∧ k < 8))
    (hw : ∀ x, w x = acc x + D (k / 8) (r.emb x)) (hL : Holds T X D A k L) : Holds T X D A (k + 1) (⟨r, w⟩ :: L) := by
  intro j hj
  by_cases hm : j ∈ r.set
  · have hjT := (hr j).1 hm
    obtain ⟨x, hx⟩ : ∃ x, r.emb x = j := r.exists_idx_of_mem hm
    rw [show (View.canon (⟨r, w⟩ :: L) j : EReal) = w x from hx ▸ View.canon_cons_emb r w L x, hw x, hx]
    have hacc : (acc x = View.canon L j ∧ (A ∨ 8 ≤ k)) ∨ (acc x = X j ∧ k < 8) := by
      rcases hacc with ⟨ha, hA⟩ | ⟨ha, h8⟩
      · exact .inl ⟨hx ▸ ha x, hA⟩
      · exact .inr ⟨hx ▸ ha x, h8⟩
    have hT' := hT j
    have hc : ∀ c : Fin 4, (c.val * 8 + T j < k + 1 ↔ c.val ≤ k / 8) ∧ (c.val * 8 + T j < k ↔ c.val < k / 8) := fun c => by omega
    have hk4 : k / 8 < 4 := by omega
    have key : X j + (∑ c : Fin 4, if c.val < k / 8 then D c j else 0) + D (k / 8) j = X j + ∑ c : Fin 4, if c.val ≤ k / 8 then D c j else 0 := by
      generalize k / 8 = c0 at hk4
      simp only [Fin.sum_univ_four]
      interval_cases c0 <;> simp [add_assoc]
    simp only [hc]
    rw [← key]
    congr 1
    rcases hacc with ⟨ha, hA⟩ | ⟨ha, h8⟩
    · rw [ha, hL _ (hA.imp_right fun h8 => by omega)]
      simp only [hc]
    · rw [ha]
      simp [show k / 8 = 0 by omega]
  · have hjT : T j ≠ h := fun e => hm ((hr j).2 e)
    have hT' := hT j
    rw [View.canon_cons_of_not_mem _ L hm, hL j (hj.imp_right fun hlt => by omega)]
    congr 1
    refine Finset.sum_congr rfl fun c _ => ?_
    have : (c.val * 8 + T j < k ↔ c.val * 8 + T j < k + 1) := by omega
    simp only [this]

theorem Holds.done {L : List (View.Piece (Elt Ideal) S .f32)} (hT : ∀ j, T j < 8) (hL : Holds T X D A 32 L) (j : S.Idx) :
    (View.canon L j : EReal) = X j + ∑ c : Fin 4, D c j := by
  have hT' := hT j
  rw [hL j (.inr (by omega))]
  congr 1
  exact Finset.sum_congr rfl fun c _ => if_pos (by omega)

theorem Holds.start_false : Holds T X D False 0 [] := fun j hj => by simp at hj

theorem Holds.start_fill {off : Fin S.rank → ℕ} {inb : ∀ a, off a + S.size a ≤ S.size a} {Z : S.Idx → EReal} (h0 : ∀ a, off a = 0) (hZ : ∀ j, Z j = X j) :
    Holds T X D A 0 [⟨Rect.unit (s := S) off S.size inb, Z⟩] := fun j _ => by
  refine (congrFun (View.canon_cons_unit_lit (Val := Elt Ideal) (e := .f32) inb Z [] h0) j).trans ?_
  simp [hZ]

end Steps

/-- The cell of store `k`. -/
theorem fits {k : ℕ} (h : k < 32) : Fits (k / 8 * 128) (k % 8 * 128) := ⟨by omega, by omega, by omega, by omega⟩

/-- Place `p` of chunk `c` in a block. -/
def rowOf (c : ℕ) (p : Fin 128) : Fin 512 := ⟨(c * 128 + p.val) % 512, Nat.mod_lt _ (by norm_num)⟩
/-- Feature `d` of head `h`. -/
def colOf (h : Fin 8) (d : Fin 128) : Fin 1024 := ⟨h.val * 128 + d.val, by omega⟩

theorem row_fits {k : ℕ} (h : k < 32) (p : Fin 128) : (fits h).row p = rowOf (k / 8) p := Fin.ext (by simp [Fits.row, rowOf]; omega)

/-- One chunk's part of the mixing matrix' gradient. -/
def dwE (N G U Y : FVec Ideal S512x1024 .bf16) (c : ℕ) (h : Fin 8) (p q : Fin 128) : EReal :=
  ∑ d : Fin 128, dmE G U Y (rowOf c p) (colOf h d) * N (ix2 (rowOf c q) (colOf h d))

def dwD (N G U Y : FVec Ideal S512x1024 .bf16) (c : ℕ) (j : S8x128x128.Idx) : EReal := dwE N G U Y c (j 0) (j 1) (j 2)

/-- One chunk's part of the biases' gradient, spread over the features. -/
def dbD (G U Y : FVec Ideal S512x1024 .bf16) (c : ℕ) (j : S128x1024.Idx) : EReal := dmE G U Y (rowOf c (j 0)) (j 1)

/-- The head that an entry belongs to. -/
def tW (j : S8x128x128.Idx) : ℕ := (j 0).val
def tB (j : S128x1024.Idx) : ℕ := (j 1).val / 128

theorem dw_step {N G U Y : FVec Ideal S512x1024 .bf16} {X : S8x128x128.Idx → EReal} {A : Prop} {k h : ℕ}
    {inb : ∀ a, (![h, 0, 0] : Fin 3 → ℕ) a + (![1, 128, 128] : Fin 3 → ℕ) a ≤ S8x128x128.size a}
    {w acc : Vec Ideal S1x128x128 .f32} {L : List (View.Piece (Elt Ideal) S8x128x128 .f32)}
    (h32 : k < 32) (hk : k % 8 = h)
    (hw : w = dwC N G U Y (fits h32) acc)
    (hacc : ((∀ x, acc x = View.canon L ((Rect.unit (s := S8x128x128) ![h, 0, 0] ![1, 128, 128] inb).emb x)) ∧ (A ∨ 8 ≤ k))
      ∨ ((∀ x, acc x = X ((Rect.unit (s := S8x128x128) ![h, 0, 0] ![1, 128, 128] inb).emb x)) ∧ k < 8))
    (hL : Holds tW X (dwD N G U Y) A k L) : Holds tW X (dwD N G U Y) A (k + 1) (⟨Rect.unit (s := S8x128x128) ![h, 0, 0] ![1, 128, 128] inb, w⟩ :: L) := by
  have hh : h < 8 := by omega
  refine Holds.step (r := Rect.unit (s := S8x128x128) ![h, 0, 0] ![1, 128, 128] inb) (acc := acc) (fun j => (j 0).isLt) hk h32 (fun j => ?_) hacc (fun x => ?_) hL
  · rw [Rect.mem_set_unit]
    constructor
    · intro hm
      have := hm 0
      simp [tW] at this ⊢
      omega
    · intro e a
      fin_cases a
      · simp [tW] at e ⊢; omega
      · simpa using (j 1).isLt
      · simpa using (j 2).isLt
  · subst hw
    obtain ⟨i, p, q, rfl⟩ : ∃ (i : Fin 1) (p q : Fin 128), x = ix3 i p q := ⟨x 0, x 1, x 2, by blk_ext⟩
    refine (dwC_apply N G U Y (fits h32) acc i p q).trans ?_
    obtain rfl : i = 0 := Fin.eq_zero i
    have e : (Rect.unit (s := S8x128x128) ![h, 0, 0] ![1, 128, 128] inb).emb (ix3 0 p q) = ix3 (⟨h, hh⟩ : Fin 8) p q := by
      funext a
      refine Fin.ext ?_
      rw [Rect.emb_apply]
      fin_cases a <;> simp [Rect.unit]
    rw [e]
    have ec : ∀ d, (fits h32).col d = colOf ⟨h, hh⟩ d := fun d => Fin.ext (by simp [Fits.col, colOf, hk])
    have er : ∀ p, (fits h32).row p = rowOf (k / 8) p := row_fits h32
    simp only [er, ec]
    rfl

theorem db_step {G U Y : FVec Ideal S512x1024 .bf16} {X : S128x1024.Idx → EReal} {A : Prop} {k co : ℕ}
    {inb : ∀ a, (![0, co] : Fin 2 → ℕ) a + (![128, 128] : Fin 2 → ℕ) a ≤ S128x1024.size a}
    {w acc : Vec Ideal S128x128 .f32} {L : List (View.Piece (Elt Ideal) S128x1024 .f32)}
    (h32 : k < 32) (hk : k % 8 * 128 = co)
    (hw : w = dbC G U Y (fits h32) acc)
    (hacc : ((∀ x, acc x = View.canon L ((Rect.unit (s := S128x1024) ![0, co] ![128, 128] inb).emb x)) ∧ (A ∨ 8 ≤ k))
      ∨ ((∀ x, acc x = X ((Rect.unit (s := S128x1024) ![0, co] ![128, 128] inb).emb x)) ∧ k < 8))
    (hL : Holds tB X (dbD G U Y) A k L) : Holds tB X (dbD G U Y) A (k + 1) (⟨Rect.unit (s := S128x1024) ![0, co] ![128, 128] inb, w⟩ :: L) := by
  refine Holds.step (h := k % 8) (r := Rect.unit (s := S128x1024) ![0, co] ![128, 128] inb) (acc := acc) (fun j => by have := (j 1).isLt; simp [tB] at this ⊢; omega)
    rfl h32 (fun j => ?_) hacc (fun x => ?_) hL
  · rw [Rect.mem_set_unit]
    constructor
    · intro hm
      have := hm 1
      simp [tB] at this ⊢
      omega
    · intro e a
      fin_cases a
      · simpa using (j 0).isLt
      · simp [tB] at e ⊢; omega
  · subst hw
    subst hk
    obtain ⟨p, d, rfl⟩ : ∃ (p d : Fin 128), x = ix2 p d := ⟨x 0, x 1, by blk_ext⟩
    refine (dbC_apply G U Y (fits h32) acc p d).trans ?_
    have e : (Rect.unit (s := S128x1024) ![0, k % 8 * 128] ![128, 128] inb).emb (ix2 p d) = ix2 p ((fits h32).col d) := by
      funext a
      refine Fin.ext ?_
      rw [Rect.emb_apply]
      fin_cases a <;> simp [Rect.unit, Fits.col]
    have er : ∀ p, (fits h32).row p = rowOf (k / 8) p := row_fits h32
    rw [e, er]
    rfl

section Loads
variable {κ : Kind} {sp : Space}

theorem dw_cov {N G U Y : FVec Ideal S512x1024 .bf16} {X : S8x128x128.Idx → EReal} {A : Prop} {k h : ℕ}
    {inb : ∀ a, (![h, 0, 0] : Fin 3 → ℕ) a + (![1, 128, 128] : Fin 3 → ℕ) a ≤ S8x128x128.size a}
    {w : Vec Ideal S1x128x128 .f32} {L : List (View.Piece (Elt Ideal) S8x128x128 .f32)} {v : View sig κ sp S8x128x128 .f32}
    (h32 : k < 32) (hk : k % 8 = h) (hA : A ∨ 8 ≤ k)
    (hw : w = dwC N G U Y (fits h32) (v.readCov L (Rect.unit (s := S8x128x128) ![h, 0, 0] ![1, 128, 128] inb).toLoadRect))
    (hL : Holds tW X (dwD N G U Y) A k L) : Holds tW X (dwD N G U Y) A (k + 1) (⟨Rect.unit (s := S8x128x128) ![h, 0, 0] ![1, 128, 128] inb, w⟩ :: L) :=
  dw_step h32 hk hw (.inl ⟨fun x => congrFun (View.readCov_eq_canon' v L (Rect.unit _ _ inb).toLoadRect) x, hA⟩) hL

theorem dw_ld {N G U Y : FVec Ideal S512x1024 .bf16} {X : S8x128x128.Idx → EReal} {A : Prop} {k h : ℕ}
    {inb : ∀ a, (![h, 0, 0] : Fin 3 → ℕ) a + (![1, 128, 128] : Fin 3 → ℕ) a ≤ S8x128x128.size a}
    {w : Vec Ideal S1x128x128 .f32} {L : List (View.Piece (Elt Ideal) S8x128x128 .f32)}
    (h8 : k < 8) (hk : k % 8 = h)
    (hw : w = dwC N G U Y (fits (h8.trans (by norm_num))) (View.ld (Val := Elt Ideal) (e' := .f32) X (Rect.unit (s := S8x128x128) ![h, 0, 0] ![1, 128, 128] inb)))
    (hL : Holds tW X (dwD N G U Y) A k L) : Holds tW X (dwD N G U Y) A (k + 1) (⟨Rect.unit (s := S8x128x128) ![h, 0, 0] ![1, 128, 128] inb, w⟩ :: L) :=
  dw_step (h8.trans (by norm_num)) hk hw (.inr ⟨fun x => rfl, h8⟩) hL

theorem db_cov {G U Y : FVec Ideal S512x1024 .bf16} {X : S128x1024.Idx → EReal} {A : Prop} {k co : ℕ}
    {inb : ∀ a, (![0, co] : Fin 2 → ℕ) a + (![128, 128] : Fin 2 → ℕ) a ≤ S128x1024.size a}
    {w : Vec Ideal S128x128 .f32} {L : List (View.Piece (Elt Ideal) S128x1024 .f32)} {v : View sig κ sp S128x1024 .f32}
    (h32 : k < 32) (hk : k % 8 * 128 = co) (hA : A ∨ 8 ≤ k)
    (hw : w = dbC G U Y (fits h32) (v.readCov L (Rect.unit (s := S128x1024) ![0, co] ![128, 128] inb).toLoadRect))
    (hL : Holds tB X (dbD G U Y) A k L) : Holds tB X (dbD G U Y) A (k + 1) (⟨Rect.unit (s := S128x1024) ![0, co] ![128, 128] inb, w⟩ :: L) :=
  db_step h32 hk hw (.inl ⟨fun x => congrFun (View.readCov_eq_canon' v L (Rect.unit _ _ inb).toLoadRect) x, hA⟩) hL

theorem db_ld {G U Y : FVec Ideal S512x1024 .bf16} {X : S128x1024.Idx → EReal} {A : Prop} {k co : ℕ}
    {inb : ∀ a, (![0, co] : Fin 2 → ℕ) a + (![128, 128] : Fin 2 → ℕ) a ≤ S128x1024.size a}
    {w : Vec Ideal S128x128 .f32} {L : List (View.Piece (Elt Ideal) S128x1024 .f32)}
    (h8 : k < 8) (hk : k % 8 * 128 = co)
    (hw : w = dbC G U Y (fits (h8.trans (by norm_num))) (View.ld (Val := Elt Ideal) (e' := .f32) X (Rect.unit (s := S128x1024) ![0, co] ![128, 128] inb)))
    (hL : Holds tB X (dbD G U Y) A k L) : Holds tB X (dbD G U Y) A (k + 1) (⟨Rect.unit (s := S128x1024) ![0, co] ![128, 128] inb, w⟩ :: L) :=
  db_step (h8.trans (by norm_num)) hk hw (.inr ⟨fun x => rfl, h8⟩) hL

end Loads

end Cert.SguBwdIdeal.Value

end
-- ==== Proof.SguSum.lean ====
module

public import proofs.«01_k».proof.Proof.SguAcc

/-! What one grid point adds to the mixing matrix' and the biases' gradients. -/

@[expose] public section

set_option maxRecDepth 16384

noncomputable section

open Idealize.ShloMosaic Idealize.ShloMosaic.TcCoe Idealize.SL.Sem
open Idealize.ShloMosaic.Pipeline (Dat)

namespace Cert.SguBwdIdeal.Value

open Cert.SguBwdIdeal Cert.SguBwdIdeal.Gen

variable (m : (ℓ : Loc nD τ sig) → Buf (Elt Ideal) ℓ)

/-- The normalised rows of a block. -/
def normB (c : Dev nD) (t : Fin cfg0.N) : FVec Ideal S512x1024 .bf16 := k0_pay9 (iblk m c 1 t) (iblk m c 4 t) (iblk m c 5 t)

/-- One grid point's part of the mixing matrix' gradient. -/
def dwT (c : Dev nD) (t : Fin cfg0.N) (j : S8x128x128.Idx) : EReal :=
  ∑ k : Fin 4, dwD (normB m c t) (iblk m c 2 t) (iblk m c 0 t) (iblk m c 3 t) k j

theorem zeroW (j) : k0_pay2 (F := Ideal) j = 0 := by
  pointwise [k0_pay2]

theorem zeroB (j) : k0_pay3 (F := Ideal) j = 0 := by
  pointwise [k0_pay3]

set_option maxHeartbeats 4000000 in
theorem dw_B (c : Dev nD) (t : Fin cfg0.N) (h : ¬ t.val % 16 = 0) (j) :
    (outsAt0 m c t.val t.isLt).2.1 j = (outsAt0 m c (t.val - 1) (by have := t.isLt; omega)).2.1 j + dwT m c t j := by
  rw [outsAt0_B m c t h]; frame_out
  refine Holds.done (A := False) (T := tW) (X := (outsAt0 m c (t.val - 1) (by have := t.isLt; omega)).2.1) (fun j => (j 0).isLt) ?_ j
  iterate 24 refine dw_cov (by norm_num) rfl (.inr (by norm_num)) rfl ?_
  iterate 8 refine dw_ld (by norm_num) rfl rfl ?_
  exact Holds.start_false

set_option maxHeartbeats 4000000 in
theorem dw_A (c : Dev nD) (t : Fin cfg0.N) (h : t.val % 16 = 0) (j) :
    (outsAt0 m c t.val t.isLt).2.1 j = 0 + dwT m c t j := by
  rw [outsAt0_A m c t h]; frame_out
  refine Holds.done (A := True) (T := tW) (X := fun _ => 0) (fun j => (j 0).isLt) ?_ j
  iterate 32 refine dw_cov (by norm_num) rfl (.inl trivial) rfl ?_
  exact Holds.start_fill (fun a => by fin_cases a <;> rfl) zeroW

/-- One grid point's part of the biases' gradient, spread over the features. -/
def dbT (c : Dev nD) (t : Fin cfg0.N) (j : S128x1024.Idx) : EReal :=
  ∑ k : Fin 4, dbD (iblk m c 2 t) (iblk m c 0 t) (iblk m c 3 t) k j

theorem tB_lt (j : S128x1024.Idx) : tB j < 8 := by
  have := (j 1).isLt
  simp [tB] at this ⊢
  omega

set_option maxHeartbeats 4000000 in
theorem db_B (c : Dev nD) (t : Fin cfg0.N) (h : ¬ t.val % 16 = 0) (j) :
    (outsAt0 m c t.val t.isLt).2.2.1 j = (outsAt0 m c (t.val - 1) (by have := t.isLt; omega)).2.2.1 j + dbT m c t j := by
  rw [outsAt0_B m c t h]; frame_out
  refine Holds.done (A := False) (T := tB) (X := (outsAt0 m c (t.val - 1) (by have := t.isLt; omega)).2.2.1) tB_lt ?_ j
  iterate 24 refine db_cov (by norm_num) rfl (.inr (by norm_num)) rfl ?_
  iterate 8 refine db_ld (by norm_num) rfl rfl ?_
  exact Holds.start_false

set_option maxHeartbeats 4000000 in
theorem db_A (c : Dev nD) (t : Fin cfg0.N) (h : t.val % 16 = 0) (j) :
    (outsAt0 m c t.val t.isLt).2.2.1 j = 0 + dbT m c t j := by
  rw [outsAt0_A m c t h]; frame_out
  refine Holds.done (A := True) (T := tB) (X := fun _ => 0) tB_lt ?_ j
  iterate 32 refine db_cov (by norm_num) rfl (.inl trivial) rfl ?_
  exact Holds.start_fill (fun a => by fin_cases a <;> rfl) zeroB

end Cert.SguBwdIdeal.Value

end
-- ==== Proof.SguOut.lean ====
module

public import proofs.«01_k».proof.Proof.SguSum

/-! The cells that the sgu kernel stores, put together into whole blocks. -/

@[expose] public section

set_option maxRecDepth 16384

noncomputable section

open Idealize.ShloMosaic Idealize.ShloMosaic.TcCoe Idealize.SL.Sem
open Idealize.ShloMosaic.Pipeline (Dat)

namespace Cert.SguBwdIdeal.Value

open Cert.SguBwdIdeal Cert.SguBwdIdeal.Gen

/-- A row's place in its chunk, the chunk's row at a place, and a feature's head. -/
def place (r : Fin 512) : Fin 128 := ⟨r.val % 128, Nat.mod_lt _ (by norm_num)⟩
def mate (r : Fin 512) (q : Fin 128) : Fin 512 := ⟨r.val / 128 * 128 + q.val, by omega⟩
def headOf (e : Fin 1024) : Fin 8 := ⟨e.val / 128, by omega⟩

/-- What a block's positions mix to. -/
def mixB (N : FVec Ideal S512x1024 .bf16) (W : FVec Ideal S8x128x128 .bf16) (B : FVec Ideal S128x1024 .f32) (r : Fin 512) (e : Fin 1024) : EReal :=
  (∑ q : Fin 128, W (ix3 (headOf e) (place r) q) * N (ix2 (mate r q) e)) + B (ix2 (place r) e)

/-- A block of the gradient that reaches the normalised rows. -/
def dnB (T : FVec Ideal S8x128x128 .bf16) (G U Y : FVec Ideal S512x1024 .bf16) : FVec Ideal S512x1024 .f32 := fun i =>
  ∑ q : Fin 128, T (ix3 (headOf (i 1)) (place (i 0)) q) * dmE G U Y (mate (i 0) q) (i 1)

def duB (N : FVec Ideal S512x1024 .bf16) (W : FVec Ideal S8x128x128 .bf16) (B : FVec Ideal S128x1024 .f32) (G Y : FVec Ideal S512x1024 .bf16)
    (r : Fin 512) (e : Fin 1024) : EReal :=
  Y (ix2 r e) * (G (ix2 r e) * sgm (G (ix2 r e))) * mixB N W B r e

def dgB (N : FVec Ideal S512x1024 .bf16) (W : FVec Ideal S8x128x128 .bf16) (B : FVec Ideal S128x1024 .f32) (G U Y : FVec Ideal S512x1024 .bf16)
    (r : Fin 512) (e : Fin 1024) : EReal :=
  Y (ix2 r e) * U (ix2 r e) * mixB N W B r e
    * (sgm (G (ix2 r e)) * (Ideal.ofBits .f32 0x3F800000#32 + G (ix2 r e) * (Ideal.ofBits .f32 0x3F800000#32 - sgm (G (ix2 r e)))))

section Cells
variable {ro co : ℕ}

theorem hd_eq (h : Fits ro co) (d : Fin 128) : h.hd = headOf (h.col d) :=
  Fin.ext (by obtain ⟨h1, h2, h3, h4⟩ := h; simp [Fits.hd, headOf, Fits.col]; omega)
theorem place_eq (h : Fits ro co) (p : Fin 128) : p = place (h.row p) :=
  Fin.ext (by obtain ⟨h1, h2, h3, h4⟩ := h; simp [place, Fits.row]; omega)
theorem mate_eq (h : Fits ro co) (p q : Fin 128) : h.row q = mate (h.row p) q :=
  Fin.ext (by obtain ⟨h1, h2, h3, h4⟩ := h; simp [mate, Fits.row]; omega)

theorem mixE_eq (N : FVec Ideal S512x1024 .bf16) (W : FVec Ideal S8x128x128 .bf16) (B : FVec Ideal S128x1024 .f32) (h : Fits ro co) (p d : Fin 128) :
    mixE N W B h p d = mixB N W B (h.row p) (h.col d) := by
  simp only [mixE, mixB, ← place_eq h, ← hd_eq h d, ← mate_eq h p]

theorem fits_of (hr : ro % 128 = 0) (hc : co % 128 = 0)
    (inb : ∀ a, (![ro, co] : Fin 2 → ℕ) a + (![128, 128] : Fin 2 → ℕ) a ≤ S512x1024.size a) : Fits ro co := by
  have h0 := inb 0
  have h1 := inb 1
  simp [S512x1024] at h0 h1
  exact ⟨hr, hc, by omega, by omega⟩

theorem emb_cell (h : Fits ro co) (inb : ∀ a, (![ro, co] : Fin 2 → ℕ) a + (![128, 128] : Fin 2 → ℕ) a ≤ S512x1024.size a) (p d : Fin 128) :
    (Rect.unit (s := S512x1024) ![ro, co] ![128, 128] inb).emb (ix2 p d) = ix2 (h.row p) (h.col d) := by
  funext a
  refine Fin.ext ?_
  rw [Rect.emb_apply]
  fin_cases a <;> simp [Rect.unit, Fits.col, Fits.row]

theorem dn_step {T : FVec Ideal S8x128x128 .bf16} {G U Y : FVec Ideal S512x1024 .bf16}
    {inb : ∀ a, (![ro, co] : Fin 2 → ℕ) a + (![128, 128] : Fin 2 → ℕ) a ≤ S512x1024.size a}
    {w : Vec Ideal S128x128 .f32} {L : List (View.Piece (Elt Ideal) S512x1024 .f32)} (hr : ro % 128 = 0) (hc : co % 128 = 0)
    (hw : w = dnC T G U Y (fits_of hr hc inb)) (hL : View.PiecesOf (Val := Elt Ideal) (dnB T G U Y) L) :
    View.PiecesOf (Val := Elt Ideal) (dnB T G U Y) (⟨Rect.unit (s := S512x1024) ![ro, co] ![128, 128] inb, w⟩ :: L) := by
  refine ⟨fun x => ?_, hL⟩
  obtain ⟨p, d, rfl⟩ : ∃ (p d : Fin 128), x = ix2 p d := ⟨x 0, x 1, by blk_ext⟩
  subst hw
  refine (dnC_apply T G U Y (fits_of hr hc inb) p d).trans ?_
  rw [emb_cell (fits_of hr hc inb)]
  show _ = ∑ q : Fin 128, T (ix3 (headOf ((fits_of hr hc inb).col d)) (place ((fits_of hr hc inb).row p)) q)
    * dmE G U Y (mate ((fits_of hr hc inb).row p) q) ((fits_of hr hc inb).col d)
  simp only [← hd_eq, ← place_eq, ← mate_eq]

/-- The block of the projection's gradient that a grid point stores: three groups of columns. -/
def outB (N : FVec Ideal S512x1024 .bf16) (W : FVec Ideal S8x128x128 .bf16) (B : FVec Ideal S128x1024 .f32) (G U Y : FVec Ideal S512x1024 .bf16)
    (V : FVec Ideal S512x1024 .bf16) : FVec Ideal S512x3072 .bf16 := fun i =>
  if h1 : (i 1).val < 1024 then duB N W B G Y (i 0) ⟨(i 1).val, h1⟩
  else if h2 : (i 1).val < 2048 then V (ix2 (i 0) (⟨(i 1).val - 1024, by omega⟩ : Fin 1024))
  else dgB N W B G U Y (i 0) ⟨(i 1).val - 2048, by have := (i 1).isLt; change (i 1).val < 3072 at this; omega⟩

variable {N : FVec Ideal S512x1024 .bf16} {W : FVec Ideal S8x128x128 .bf16} {B : FVec Ideal S128x1024 .f32} {G U Y V : FVec Ideal S512x1024 .bf16}

theorem fits_wide {c2 off : ℕ} (hr : ro % 128 = 0) (hc : co % 128 = 0) (h2 : c2 = off + co) (h : co < 1024)
    (inb : ∀ a, (![ro, c2] : Fin 2 → ℕ) a + (![128, 128] : Fin 2 → ℕ) a ≤ S512x3072.size a) : Fits ro co := by
  have h0 := inb 0
  simp [S512x3072] at h0
  exact ⟨hr, hc, by omega, h⟩

theorem du_step {inb : ∀ a, (![ro, co] : Fin 2 → ℕ) a + (![128, 128] : Fin 2 → ℕ) a ≤ S512x3072.size a}
    {w : Vec Ideal S128x128 .bf16} {L : List (View.Piece (Elt Ideal) S512x3072 .bf16)} (hr : ro % 128 = 0) (hc : co % 128 = 0) (h : co < 1024)
    (hw : w = duC N W B G Y (fits_wide (off := 0) hr hc (by omega) h inb)) (hL : View.PiecesOf (Val := Elt Ideal) (outB N W B G U Y V) L) :
    View.PiecesOf (Val := Elt Ideal) (outB N W B G U Y V) (⟨Rect.unit (s := S512x3072) ![ro, co] ![128, 128] inb, w⟩ :: L) := by
  refine ⟨fun x => ?_, hL⟩
  have hf : Fits ro co := fits_wide (off := 0) hr hc (by omega) h inb
  obtain ⟨p, d, rfl⟩ : ∃ (p d : Fin 128), x = ix2 p d := ⟨x 0, x 1, by blk_ext⟩
  subst hw
  have e : (Rect.unit (s := S512x3072) ![ro, co] ![128, 128] inb).emb (ix2 p d) = ix2 (hf.row p) (⟨co + d.val, by omega⟩ : Fin 3072) := by
    funext a
    refine Fin.ext ?_
    rw [Rect.emb_apply]
    fin_cases a <;> simp [Rect.unit, Fits.row]
  refine (duC_apply N W B G Y hf p d).trans ?_
  rw [e, mixE_eq]
  have hlt : co + d.val < 1024 := (hf.col d).isLt
  refine Eq.symm ((dif_pos (c := co + d.val < 1024) hlt).trans ?_)
  rfl

theorem dg_step {c2 : ℕ} {inb : ∀ a, (![ro, c2] : Fin 2 → ℕ) a + (![128, 128] : Fin 2 → ℕ) a ≤ S512x3072.size a}
    {w : Vec Ideal S128x128 .bf16} {L : List (View.Piece (Elt Ideal) S512x3072 .bf16)} (hr : ro % 128 = 0) (hc : (c2 - 2048) % 128 = 0)
    (h2 : c2 = 2048 + (c2 - 2048)) (h : c2 - 2048 < 1024)
    (hw : w = dgC N W B G U Y (fits_wide hr hc h2 h inb)) (hL : View.PiecesOf (Val := Elt Ideal) (outB N W B G U Y V) L) :
    View.PiecesOf (Val := Elt Ideal) (outB N W B G U Y V) (⟨Rect.unit (s := S512x3072) ![ro, c2] ![128, 128] inb, w⟩ :: L) := by
  refine ⟨fun x => ?_, hL⟩
  have hf : Fits ro (c2 - 2048) := fits_wide hr hc h2 h inb
  obtain ⟨p, d, rfl⟩ : ∃ (p d : Fin 128), x = ix2 p d := ⟨x 0, x 1, by blk_ext⟩
  subst hw
  have hlt : c2 - 2048 + d.val < 1024 := (hf.col d).isLt
  have e : (Rect.unit (s := S512x3072) ![ro, c2] ![128, 128] inb).emb (ix2 p d) = ix2 (hf.row p) (⟨c2 + d.val, by omega⟩ : Fin 3072) := by
    funext a
    refine Fin.ext ?_
    rw [Rect.emb_apply]
    fin_cases a <;> simp [Rect.unit, Fits.row]
  refine (dgC_apply N W B G U Y hf p d).trans ?_
  rw [e, mixE_eq]
  have ec : (⟨c2 + d.val - 2048, by omega⟩ : Fin 1024) = hf.col d := Fin.ext (by simp [Fits.col]; omega)
  refine Eq.symm ((dif_neg (c := c2 + d.val < 1024) (by omega)).trans ((dif_neg (c := c2 + d.val < 2048) (by omega)).trans ?_))
  show dgB N W B G U Y (hf.row p) ⟨c2 + d.val - 2048, _⟩ = _
  rw [ec]
  rfl

theorem dv_step {inb : ∀ a, (![0, 1024] : Fin 2 → ℕ) a + (![512, 1024] : Fin 2 → ℕ) a ≤ S512x3072.size a}
    {w : Vec Ideal S512x1024 .bf16} {L : List (View.Piece (Elt Ideal) S512x3072 .bf16)}
    (hw : w = V) (hL : View.PiecesOf (Val := Elt Ideal) (outB N W B G U Y V) L) :
    View.PiecesOf (Val := Elt Ideal) (outB N W B G U Y V) (⟨Rect.unit (s := S512x3072) ![0, 1024] ![512, 1024] inb, w⟩ :: L) := by
  refine ⟨fun x => ?_, hL⟩
  obtain ⟨p, d, rfl⟩ : ∃ (p : Fin 512) (d : Fin 1024), x = ix2 p d := ⟨x 0, x 1, by blk_ext⟩
  subst hw
  have e : (Rect.unit (s := S512x3072) ![0, 1024] ![512, 1024] inb).emb (ix2 p d) = ix2 p (⟨1024 + d.val, by omega⟩ : Fin 3072) := by
    funext a
    refine Fin.ext ?_
    rw [Rect.emb_apply]
    fin_cases a <;> simp [Rect.unit]
  rw [e]
  have ec : (⟨1024 + d.val - 1024, by omega⟩ : Fin 1024) = d := Fin.ext (by simp)
  refine Eq.symm ((dif_neg (c := 1024 + d.val < 1024) (by omega)).trans ((dif_pos (c := 1024 + d.val < 2048) (by omega)).trans ?_))
  show w (ix2 p (⟨1024 + d.val - 1024, _⟩ : Fin 1024)) = _
  rw [ec]

end Cells

variable (m : (ℓ : Loc nD τ sig) → Buf (Elt Ideal) ℓ)

/-- The gradient that reaches the normalised rows of a block. -/
def dnT (c : Dev nD) (t : Fin cfg0.N) : FVec Ideal S512x1024 .f32 := dnB (iblk m c 7 t) (iblk m c 2 t) (iblk m c 0 t) (iblk m c 3 t)

/-- A block of the projection's gradient. -/
def outT (c : Dev nD) (t : Fin cfg0.N) : FVec Ideal S512x3072 .bf16 :=
  outB (normB m c t) (iblk m c 6 t) (iblk m c 8 t) (iblk m c 2 t) (iblk m c 0 t) (iblk m c 3 t)
    (k0_pay1 (k0_pay7 (iblk m c 1 t)) (k0_pay8 (iblk m c 1 t)) (dnT m c t) (k0_pay493 (iblk m c 4 t)))

/-- The row of a block that the eight-row sums put into their row `a`, group `b`. -/
def row (a : Fin 8) (b : Fin 64) : Fin 512 := ⟨b.val * 8 + a.val, by omega⟩

/-- One grid point's parts of the normalisation's gains and biases. -/
def gainT (c : Dev nD) (t : Fin cfg0.N) (j : S8x1024.Idx) : EReal :=
  ∑ b : Fin 64, dnT m c t (ix2 (row (j 0) b) (j 1)) * k0_pay8 (iblk m c 1 t) (ix2 (row (j 0) b) (j 1))
def biasT (c : Dev nD) (t : Fin cfg0.N) (j : S8x1024.Idx) : EReal := ∑ b : Fin 64, dnT m c t (ix2 (row (j 0) b) (j 1))

theorem gain_apply (x d : FVec Ideal S512x1024 .f32) (acc : FVec Ideal S8x1024 .f32) (j : S8x1024.Idx) :
    k0_pay491 x d acc j = acc j + ∑ b : Fin 64, d (ix2 (row (j 0) b) (j 1)) * x (ix2 (row (j 0) b) (j 1)) := by
  obtain ⟨a, e, rfl⟩ : ∃ (a : Fin 8) (e : Fin 1024), j = ix2 a e := ⟨j 0, j 1, by blk_ext⟩
  pointwise [k0_pay491, row]

theorem bias_apply (d : FVec Ideal S512x1024 .f32) (acc : FVec Ideal S8x1024 .f32) (j : S8x1024.Idx) :
    k0_pay492 d acc j = acc j + ∑ b : Fin 64, d (ix2 (row (j 0) b) (j 1)) := by
  obtain ⟨a, e, rfl⟩ : ∃ (a : Fin 8) (e : Fin 1024), j = ix2 a e := ⟨j 0, j 1, by blk_ext⟩
  pointwise [k0_pay492, row]

theorem zero4 (j) : k0_pay4 (F := Ideal) j = 0 := by
  pointwise [k0_pay4]

theorem zero5 (j) : k0_pay5 (F := Ideal) j = 0 := by
  pointwise [k0_pay5]

/-- The block that the cells fill, read back whole. -/
theorem dn_read {κ : Kind} {sp : Space} {T : FVec Ideal S8x128x128 .bf16} {G U Y : FVec Ideal S512x1024 .bf16} {v : View sig κ sp S512x1024 .f32}
    {inb : ∀ a, (![0, 0] : Fin 2 → ℕ) a + (![512, 1024] : Fin 2 → ℕ) a ≤ S512x1024.size a} {L : List (View.Piece (Elt Ideal) S512x1024 .f32)}
    (hL : View.PiecesOf (Val := Elt Ideal) (dnB T G U Y) L) (hc : ∀ y : S512x1024.Idx, ∃ p ∈ L, y ∈ p.1.set) :
    v.readCov L (Rect.unit (s := S512x1024) ![0, 0] ![512, 1024] inb).toLoadRect = dnB T G U Y := by
  rw [View.readCov_eq_canon']
  funext i
  refine (View.canon_apply_of_pieces (Val := Elt Ideal) (e := .f32) (dnB T G U Y) _ (View.PiecesOf.mem hL) _ (hc _)).trans ?_
  refine congrArg _ (funext fun a => Fin.ext ?_)
  fin_cases a <;> simp [Rect.idx_unit_val]

set_option maxHeartbeats 4000000 in
theorem out_B (c : Dev nD) (t : Fin cfg0.N) (h : ¬ t.val % 16 = 0) (j) :
    (outsAt0 m c t.val t.isLt).1 j = outT m c t j := by
  rw [outsAt0_B m c t h]; frame_out
  refine View.canon_apply_of_pieces (Val := Elt Ideal) (e := .bf16) (outT m c t) _ (View.PiecesOf.mem ?_) j (View.cover_of_tiledBy _ ![128, 128] (by sl_kernel_rfl) j)
  refine dv_step (congrArg (fun d => k0_pay1 (k0_pay7 (iblk m c 1 t)) (k0_pay8 (iblk m c 1 t)) d (k0_pay493 (iblk m c 4 t)))
    (dn_read ?_ (View.cover_of_tiledBy _ ![128, 128] (by sl_kernel_rfl)))) ?_
  · iterate 32 refine dn_step rfl rfl rfl ?_
    exact trivial
  · iterate 32 refine dg_step rfl rfl rfl (by norm_num) rfl (du_step rfl rfl (by norm_num) rfl ?_)
    exact trivial

set_option maxHeartbeats 4000000 in
theorem gain_B (c : Dev nD) (t : Fin cfg0.N) (h : ¬ t.val % 16 = 0) (j) :
    (outsAt0 m c t.val t.isLt).2.2.2.1 j = (outsAt0 m c (t.val - 1) (by have := t.isLt; omega)).2.2.2.1 j + gainT m c t j := by
  rw [outsAt0_B m c t h]; frame_out
  refine (congrFun (congrArg (fun d => k0_pay491 (k0_pay8 (iblk m c 1 t)) d (outsAt0 m c (t.val - 1) (by have := t.isLt; omega)).2.2.2.1)
    (dn_read (T := iblk m c 7 t) (G := iblk m c 2 t) (U := iblk m c 0 t) (Y := iblk m c 3 t) ?_ (View.cover_of_tiledBy _ ![128, 128] (by sl_kernel_rfl)))) j).trans
    (gain_apply _ _ _ j)
  iterate 32 refine dn_step rfl rfl rfl ?_
  exact trivial

set_option maxHeartbeats 4000000 in
theorem bias_B (c : Dev nD) (t : Fin cfg0.N) (h : ¬ t.val % 16 = 0) (j) :
    (outsAt0 m c t.val t.isLt).2.2.2.2 j = (outsAt0 m c (t.val - 1) (by have := t.isLt; omega)).2.2.2.2 j + biasT m c t j := by
  rw [outsAt0_B m c t h]; frame_out
  refine (congrFun (congrArg (fun d => k0_pay492 d (outsAt0 m c (t.val - 1) (by have := t.isLt; omega)).2.2.2.2)
    (dn_read (T := iblk m c 7 t) (G := iblk m c 2 t) (U := iblk m c 0 t) (Y := iblk m c 3 t) ?_ (View.cover_of_tiledBy _ ![128, 128] (by sl_kernel_rfl)))) j).trans
    (bias_apply _ _ j)
  iterate 32 refine dn_step rfl rfl rfl ?_
  exact trivial

set_option maxHeartbeats 4000000 in
theorem out_A (c : Dev nD) (t : Fin cfg0.N) (h : t.val % 16 = 0) (j) :
    (outsAt0 m c t.val t.isLt).1 j = outT m c t j := by
  rw [outsAt0_A m c t h]; frame_out
  refine View.canon_apply_of_pieces (Val := Elt Ideal) (e := .bf16) (outT m c t) _ (View.PiecesOf.mem ?_) j (View.cover_of_tiledBy _ ![128, 128] (by sl_kernel_rfl) j)
  refine dv_step (congrArg (fun d => k0_pay1 (k0_pay7 (iblk m c 1 t)) (k0_pay8 (iblk m c 1 t)) d (k0_pay493 (iblk m c 4 t)))
    (dn_read ?_ (View.cover_of_tiledBy _ ![128, 128] (by sl_kernel_rfl)))) ?_
  · iterate 32 refine dn_step rfl rfl rfl ?_
    exact trivial
  · iterate 32 refine dg_step rfl rfl rfl (by norm_num) rfl (du_step rfl rfl (by norm_num) rfl ?_)
    exact trivial

set_option maxHeartbeats 4000000 in
theorem gain_A (c : Dev nD) (t : Fin cfg0.N) (h : t.val % 16 = 0) (j) :
    (outsAt0 m c t.val t.isLt).2.2.2.1 j = 0 + gainT m c t j := by
  rw [outsAt0_A m c t h]; frame_out
  refine (congrFun (congrArg (fun d => k0_pay491 (k0_pay8 (iblk m c 1 t)) d (k0_pay4 (F := Ideal)))
    (dn_read (T := iblk m c 7 t) (G := iblk m c 2 t) (U := iblk m c 0 t) (Y := iblk m c 3 t) ?_ (View.cover_of_tiledBy _ ![128, 128] (by sl_kernel_rfl)))) j).trans
    ((gain_apply _ (dnT m c t) _ j).trans (congrArg (· + gainT m c t j) (zero4 j)))
  iterate 32 refine dn_step rfl rfl rfl ?_
  exact trivial

set_option maxHeartbeats 4000000 in
theorem bias_A (c : Dev nD) (t : Fin cfg0.N) (h : t.val % 16 = 0) (j) :
    (outsAt0 m c t.val t.isLt).2.2.2.2 j = 0 + biasT m c t j := by
  rw [outsAt0_A m c t h]; frame_out
  refine (congrFun (congrArg (fun d => k0_pay492 d (k0_pay5 (F := Ideal)))
    (dn_read (T := iblk m c 7 t) (G := iblk m c 2 t) (U := iblk m c 0 t) (Y := iblk m c 3 t) ?_ (View.cover_of_tiledBy _ ![128, 128] (by sl_kernel_rfl)))) j).trans
    ((bias_apply (dnT m c t) _ j).trans (congrArg (· + biasT m c t j) (zero5 j)))
  iterate 32 refine dn_step rfl rfl rfl ?_
  exact trivial

end Cert.SguBwdIdeal.Value

end
-- ==== Proof.SguMath.lean ====
module

public import proofs.«01_k».proof.Proof.Reals

/-!
The spatial gating unit's gradients as functions of a position and a feature, in the form the kernel uses and in the
form that differentiating the forward pass gives. On real arguments the two agree.
-/

@[expose] public section

set_option maxRecDepth 16384

noncomputable section

open Idealize.ShloMosaic

namespace Cert.Sgu

open Cert.Reals

theorem word_half : Ideal.ofBits .f32 1056964608#32 = ((1 / 2 : ℝ) : EReal) := by
  simp [Ideal.ofBits, Ideal.ieee, -EReal.coe_mul]; norm_num

theorem word_one : Ideal.ofBits .f32 1065353216#32 = ((1 : ℝ) : EReal) := by
  simp [Ideal.ofBits, Ideal.ieee, -EReal.coe_mul]; norm_num

/-! ### The row normalisation -/

/-- A row less its mean. -/
def cen (x : Fin 1024 → EReal) (k : Fin 1024) : EReal := x k - Ideal.div (∑ j, x j) (Ideal.ofBits .f32 1149239296#32)

/-- A row's mean square distance from its mean, plus the small constant. -/
def var (x : Fin 1024 → EReal) : EReal :=
  Ideal.div (∑ k, cen x k * cen x k) (Ideal.ofBits .f32 1149239296#32) + Ideal.ofBits .f32 897988541#32

def rstd (x : Fin 1024 → EReal) : EReal := Ideal.rsqrt (var x)

/-- The normalised row. -/
def hat (x : Fin 1024 → EReal) (k : Fin 1024) : EReal := cen x k * rstd x

/-- The gradient through the normalisation as the kernel writes it. -/
def rowK (x d : Fin 1024 → EReal) (k : Fin 1024) : EReal :=
  rstd x * (d k - Ideal.div (∑ j, d j) (Ideal.ofBits .f32 1149239296#32)
    - hat x k * Ideal.div (∑ j, d j * hat x j) (Ideal.ofBits .f32 1149239296#32))

/-- The factor of the centred row that differentiating the variance gives. -/
def pull (x d : Fin 1024 → EReal) : EReal :=
  Ideal.div ((∑ j, cen x j * d j) * (Ideal.ofBits .f32 0xBF000000#32 * Ideal.div (rstd x) (var x))) (Ideal.ofBits .f32 1149239296#32)

def rowC (x d : Fin 1024 → EReal) (k : Fin 1024) : EReal := d k * rstd x + cen x k * pull x d + pull x d * cen x k

/-- The gradient through the normalisation as differentiating it gives. -/
def rowR (x d : Fin 1024 → EReal) (k : Fin 1024) : EReal :=
  rowC x d k + Ideal.div (∑ j, -rowC x d j) (Ideal.ofBits .f32 1149239296#32)

def cenR (x : Fin 1024 → ℝ) (k : Fin 1024) : ℝ := x k - (∑ j, x j) / 1024
def varR (x : Fin 1024 → ℝ) : ℝ := (∑ k, cenR x k * cenR x k) / 1024 + tiny

theorem h1024 : (1024 : ℝ) ≠ 0 := by norm_num

theorem cen_real (x : Fin 1024 → ℝ) (k : Fin 1024) : cen (fun k => (x k : EReal)) k = (cenR x k : EReal) := by
  simp only [cen, sum_real, word_1024, div_real _ _ h1024, ← EReal.coe_sub]
  rfl

theorem varR_pos (x : Fin 1024 → ℝ) : 0 < varR x :=
  add_pos_of_nonneg_of_pos (div_nonneg (Finset.sum_nonneg fun k _ => mul_self_nonneg _) (by norm_num)) tiny_pos

theorem var_real (x : Fin 1024 → ℝ) : var (fun k => (x k : EReal)) = (varR x : EReal) := by
  simp only [var, cen_real, ← EReal.coe_mul, sum_real, word_1024, word_tiny, div_real _ _ h1024, ← EReal.coe_add]
  rfl

theorem rstd_real (x : Fin 1024 → ℝ) : rstd (fun k => (x k : EReal)) = (((√(varR x))⁻¹ : ℝ) : EReal) := by
  rw [rstd, var_real, rsqrt_real _ (varR_pos x)]

theorem hat_real (x : Fin 1024 → ℝ) (k : Fin 1024) : hat (fun k => (x k : EReal)) k = ((cenR x k * (√(varR x))⁻¹ : ℝ) : EReal) := by
  rw [hat, cen_real, rstd_real, ← EReal.coe_mul]

theorem sum_cenR (x : Fin 1024 → ℝ) : ∑ k, cenR x k = 0 := by
  simp only [cenR, Finset.sum_sub_distrib, Finset.sum_const, Finset.card_univ, Fintype.card_fin, nsmul_eq_mul]
  push_cast
  ring

theorem row_eq (x d : Fin 1024 → ℝ) (k : Fin 1024) : rowK (fun k => (x k : EReal)) (fun k => (d k : EReal)) k
    = rowR (fun k => (x k : EReal)) (fun k => (d k : EReal)) k := by
  have hm := varR_pos x
  have h0 : √(varR x) ≠ 0 := (Real.sqrt_pos.mpr hm).ne'
  have hs : √(varR x) ^ 2 = varR x := Real.sq_sqrt hm.le
  have hc := sum_cenR x
  simp only [rowK, rowR, rowC, pull, hat_real, cen_real, rstd_real, var_real]
  simp only [word_1024, word_neg_half, ← EReal.coe_mul, sum_real, div_real _ _ h1024, div_real _ _ hm.ne', ← EReal.coe_sub, ← EReal.coe_add, ← EReal.coe_neg]
  congr 1
  generalize √(varR x) = q at *
  rw [← hs]
  have hsum : ∑ j, d j * (cenR x j * q⁻¹) = (∑ j, cenR x j * d j) * q⁻¹ := by
    rw [Finset.sum_mul]; exact Finset.sum_congr rfl fun k _ => by ring
  rw [hsum]
  generalize ∑ j, cenR x j * d j = A at *
  have h2 : ∀ p : ℝ, ∑ j, -(d j * q⁻¹ + cenR x j * p + p * cenR x j) = -(∑ j, d j) * q⁻¹ := fun p => by
    rw [Finset.sum_neg_distrib, Finset.sum_add_distrib, Finset.sum_add_distrib, ← Finset.sum_mul, ← Finset.sum_mul, ← Finset.mul_sum, hc]
    ring
  rw [h2]
  field_simp
  ring

/-! ### The logistic gate -/

/-- The logistic function as the kernel computes it. -/
def sgm (z : EReal) : EReal :=
  Ideal.ofBits .f32 1056964608#32 * Ideal.tanh (Ideal.ofBits .f32 1056964608#32 * z) + Ideal.ofBits .f32 1056964608#32

/-- The logistic function as the reference computes it. -/
def sgr (z : EReal) : EReal := Ideal.div (Ideal.ofBits .f32 1065353216#32) (Ideal.ofBits .f32 1065353216#32 + Ideal.exp (-z))

theorem sgr_real (r : ℝ) : sgr (r : EReal) = (((1 + Real.exp (-r))⁻¹ : ℝ) : EReal) := by
  have h : (1 + Real.exp (-r)) ≠ 0 := by positivity
  rw [sgr, word_one, ← EReal.coe_neg, Ideal.exp_coe, ← EReal.coe_add, div_real _ _ h, one_div]

theorem sgm_real (r : ℝ) : sgm (r : EReal) = (((1 + Real.exp (-r))⁻¹ : ℝ) : EReal) := by
  have h : (1 + Real.exp (-r)) ≠ 0 := by positivity
  rw [sgm, word_half, ← EReal.coe_mul, Ideal.tanh_coe, ← EReal.coe_mul, ← EReal.coe_add]
  congr 1
  rw [Real.tanh_eq_sinh_div_cosh, Real.sinh_eq, Real.cosh_eq]
  have e : Real.exp (-r) = Real.exp (-(1 / 2 * r)) * Real.exp (-(1 / 2 * r)) := by rw [← Real.exp_add]; ring_nf
  have e1 : Real.exp (1 / 2 * r) = (Real.exp (-(1 / 2 * r)))⁻¹ := by rw [← Real.exp_neg, neg_neg]
  rw [e, e1]
  have hp := Real.exp_pos (-(1 / 2 * r))
  generalize Real.exp (-(1 / 2 * r)) = a at *
  have : 1 + a * a ≠ 0 := by positivity
  field_simp
  ring

/-! ### Positions and heads -/

/-- A position's place in its chunk, the chunk's position at a place, and a feature's head. -/
def place (s : Fin 8192) : Fin 128 := ⟨s.val % 128, Nat.mod_lt _ (by norm_num)⟩
def mate (s : Fin 8192) (q : Fin 128) : Fin 8192 := ⟨s.val / 128 * 128 + q.val, by omega⟩
def headOf (e : Fin 1024) : Fin 8 := ⟨e.val / 128, by omega⟩
/-- Place `p` of chunk `c`; feature `d` of head `h`. -/
def pos (c : Fin 64) (p : Fin 128) : Fin 8192 := ⟨c.val * 128 + p.val, by omega⟩
def col (h : Fin 8) (d : Fin 128) : Fin 1024 := ⟨h.val * 128 + d.val, by omega⟩

abbrev Arr := Fin 8192 → Fin 1024 → EReal
abbrev Mat := Fin 8 → Fin 128 → Fin 128 → EReal

/-- The columns of the projection and of the output's gradient that the unit reads, and the small arguments. -/
def uA (P : FVec Ideal ⟨2, ![8192, 6144]⟩ .f32) : Sgu.Arr := fun s e => P (ix2 s (⟨3072 + e.val, by omega⟩ : Fin 6144))
def vA (P : FVec Ideal ⟨2, ![8192, 6144]⟩ .f32) : Sgu.Arr := fun s e => P (ix2 s (⟨4096 + e.val, by omega⟩ : Fin 6144))
def gA (P : FVec Ideal ⟨2, ![8192, 6144]⟩ .f32) : Sgu.Arr := fun s e => P (ix2 s (⟨5120 + e.val, by omega⟩ : Fin 6144))
def yA (Y : FVec Ideal ⟨2, ![8192, 2048]⟩ .f32) : Sgu.Arr := fun s e => Y (ix2 s (⟨1024 + e.val, by omega⟩ : Fin 2048))
def wA (W : FVec Ideal ⟨4, ![1, 8, 128, 128]⟩ .f32) : Sgu.Mat := fun h p q => W (ix4 0 h p q)
def bA (B : FVec Ideal ⟨3, ![1, 8, 128]⟩ .f32) : Fin 8 → Fin 128 → EReal := fun h p => B (ix3 0 h p)
def lA (L : FVec Ideal ⟨2, ![1, 1024]⟩ .f32) : Fin 1024 → EReal := fun e => L (ix2 0 e)

/-- The scaled and shifted normalised rows. -/
def norm (v : Arr) (lg lb : Fin 1024 → EReal) : Arr := fun s e => hat (v s) e * lg e + lb e

/-- What the positions of each chunk mix to. -/
def mixed (N : Arr) (W : Mat) (B : Fin 8 → Fin 128 → EReal) : Arr := fun s e =>
  (∑ q : Fin 128, W (headOf e) (place s) q * N (mate s q) e) + B (headOf e) (place s)

/-- The gradient that reaches the mixed positions. -/
def dm (g u y : Arr) : Arr := fun s e => y s e * (g s e * sgm (g s e)) * u s e

/-- The gradient that reaches the normalised rows. -/
def dn (W : Mat) (D : Arr) : Arr := fun s e => ∑ q : Fin 128, W (headOf e) q (place s) * D (mate s q) e

/-- The gradients of the three branches as the kernel computes them. -/
def duK (g y M : Arr) : Arr := fun s e => y s e * (g s e * sgm (g s e)) * M s e
def dgK (g u y M : Arr) : Arr := fun s e =>
  y s e * u s e * M s e * (sgm (g s e) * (Ideal.ofBits .f32 1065353216#32 + g s e * (Ideal.ofBits .f32 1065353216#32 - sgm (g s e))))
def dvK (v E : Arr) (lg : Fin 1024 → EReal) : Arr := fun s e => rowK (v s) (fun k => E s k * lg k) e

/-- The mixing matrices' and the biases' gradients. -/
def dw (D N : Arr) : Mat := fun h p q => ∑ c : Fin 64, ∑ d : Fin 128, D (pos c p) (col h d) * N (pos c q) (col h d)
def db (D : Arr) : Fin 8 → Fin 128 → EReal := fun h p => ∑ c : Fin 64, ∑ d : Fin 128, D (pos c p) (col h d)
/-- The normalisation's gains' and biases' gradients. -/
def dlg (E v : Arr) : Fin 1024 → EReal := fun e => ∑ s : Fin 8192, E s e * hat (v s) e
def dlb (E : Arr) : Fin 1024 → EReal := fun e => ∑ s : Fin 8192, E s e

/-- Real arguments. -/
def IsRealArr (a : Arr) : Prop := ∃ r : Fin 8192 → Fin 1024 → ℝ, a = fun s e => (r s e : EReal)

theorem norm_real {v : Arr} {lg lb : Fin 1024 → EReal} (hv : IsRealArr v) (hg : ∃ r : Fin 1024 → ℝ, lg = fun e => (r e : EReal))
    (hb : ∃ r : Fin 1024 → ℝ, lb = fun e => (r e : EReal)) : IsRealArr (norm v lg lb) := by
  obtain ⟨v, rfl⟩ := hv; obtain ⟨lg, rfl⟩ := hg; obtain ⟨lb, rfl⟩ := hb
  refine ⟨fun s e => cenR (v s) e * (√(varR (v s)))⁻¹ * lg e + lb e, ?_⟩
  funext s e
  simp only [norm, hat_real, ← EReal.coe_mul, ← EReal.coe_add]

theorem mixed_real {N : Arr} {W : Mat} {B : Fin 8 → Fin 128 → EReal} (hN : IsRealArr N) (hW : ∃ r : Fin 8 → Fin 128 → Fin 128 → ℝ, W = fun h p q => (r h p q : EReal))
    (hB : ∃ r : Fin 8 → Fin 128 → ℝ, B = fun h p => (r h p : EReal)) : IsRealArr (mixed N W B) := by
  obtain ⟨N, rfl⟩ := hN; obtain ⟨W, rfl⟩ := hW; obtain ⟨B, rfl⟩ := hB
  refine ⟨fun s e => (∑ q : Fin 128, W (headOf e) (place s) q * N (mate s q) e) + B (headOf e) (place s), ?_⟩
  funext s e
  simp only [mixed, ← EReal.coe_mul, sum_real, ← EReal.coe_add]

theorem dm_real {g u y : Arr} (hg : IsRealArr g) (hu : IsRealArr u) (hy : IsRealArr y) : IsRealArr (dm g u y) := by
  obtain ⟨g, rfl⟩ := hg; obtain ⟨u, rfl⟩ := hu; obtain ⟨y, rfl⟩ := hy
  refine ⟨fun s e => y s e * (g s e * (1 + Real.exp (-g s e))⁻¹) * u s e, ?_⟩
  funext s e
  simp only [dm, sgm_real, ← EReal.coe_mul]

theorem dn_real {W : Mat} {D : Arr} (hW : ∃ r : Fin 8 → Fin 128 → Fin 128 → ℝ, W = fun h p q => (r h p q : EReal)) (hD : IsRealArr D) : IsRealArr (dn W D) := by
  obtain ⟨D, rfl⟩ := hD; obtain ⟨W, rfl⟩ := hW
  refine ⟨fun s e => ∑ q : Fin 128, W (headOf e) q (place s) * D (mate s q) e, ?_⟩
  funext s e
  simp only [dn, ← EReal.coe_mul, sum_real]

theorem dv_eq {v E : Arr} {lg : Fin 1024 → EReal} (hv : IsRealArr v) (hE : IsRealArr E) (hg : ∃ r : Fin 1024 → ℝ, lg = fun e => (r e : EReal)) :
    dvK v E lg = fun s => rowR (v s) fun k => E s k * lg k := by
  obtain ⟨v, rfl⟩ := hv; obtain ⟨E, rfl⟩ := hE; obtain ⟨lg, rfl⟩ := hg
  funext s e
  simp only [dvK, ← EReal.coe_mul]
  exact row_eq (v s) (fun k => E s k * lg k) e

theorem dg_eq {g u y M : Arr} (hg : IsRealArr g) (hu : IsRealArr u) (hy : IsRealArr y) (hM : IsRealArr M) :
    dgK g u y M = fun s e => u s e * M s e * y s e * sgr (g s e)
      + g s e * (u s e * M s e * y s e) * (sgr (g s e) * (Ideal.ofBits .f32 1065353216#32 - sgr (g s e))) := by
  obtain ⟨g, rfl⟩ := hg; obtain ⟨u, rfl⟩ := hu; obtain ⟨y, rfl⟩ := hy; obtain ⟨M, rfl⟩ := hM
  funext s e
  simp only [dgK, sgm_real, sgr_real, word_one, ← EReal.coe_mul, ← EReal.coe_add, ← EReal.coe_sub]
  congr 1
  ring

theorem sgm_eq {g : Arr} (hg : IsRealArr g) (s : Fin 8192) (e : Fin 1024) : sgm (g s e) = sgr (g s e) := by
  obtain ⟨g, rfl⟩ := hg
  rw [sgm_real, sgr_real]

end Cert.Sgu

end
-- ==== Proof.SguBlock.lean ====
module

public import proofs.«01_k».proof.Proof.SguOut
public import proofs.«01_k».proof.Proof.SguMath

/-! What a grid point of the sgu call computes, in terms of the call's arguments. -/

@[expose] public section

set_option maxRecDepth 16384

noncomputable section

open Idealize.ShloMosaic Idealize.ShloMosaic.TcCoe Idealize.SL.Sem
open Idealize.ShloMosaic.Pipeline (Dat)

namespace Cert.SguBwdIdeal.Value

open Cert.SguBwdIdeal Cert.SguBwdIdeal.Gen

variable (m : (ℓ : Loc nD τ sig) → Buf (Elt Ideal) ℓ)

theorem idx : ∀ t : Fin cfg0.N, win0_0.index t = ![t.val, 3] ∧ win0_1.index t = ![t.val, 4] ∧ win0_2.index t = ![t.val, 5]
    ∧ win0_3.index t = ![t.val, 1] ∧ win0_4.index t = ![0, 0] ∧ win0_5.index t = ![0, 0] ∧ win0_6.index t = ![0, 0, 0]
    ∧ win0_7.index t = ![0, 0, 0] ∧ win0_8.index t = ![0, 0] ∧ win0_9.index t = ![t.val, 1] ∧ win0_10.index t = ![0, 0, 0]
    ∧ win0_11.index t = ![0, 0] ∧ win0_12.index t = ![0, 0] ∧ win0_13.index t = ![0, 0] :=
  (by decide +kernel : ∀ t : Fin grid0.N, _)

/-- A block's row in the whole array. -/
def at' (t : Fin cfg0.N) (r : Fin 512) : Fin 8192 := ⟨t.val * 512 + r.val, by have := t.isLt; have : cfg0.N = 16 := N_0; omega⟩

theorem v9_apply (c : Dev nD) (s : Fin 8192) (k : Fin 6144) : V m c main_v9 (ix2 s k) = m ((c : Thread nD τ).loc main_arg0) (ix2 s k) := by
  simp only [V, V0, hostOps0, List.flatten_cons, List.flatten_nil, List.append_nil]
  after_results
  pointwise

theorem v10_apply (c : Dev nD) (s : Fin 8192) (k : Fin 2048) : V m c main_v10 (ix2 s k) = m ((c : Thread nD τ).loc main_arg1) (ix2 s k) := by
  simp only [V, V0, hostOps0, List.flatten_cons, List.flatten_nil, List.append_nil]
  after_results
  pointwise

theorem v1_apply (c : Dev nD) (h : Fin 8) (p q : Fin 128) : V m c main_v1 (ix3 h p q) = m ((c : Thread nD τ).loc main_arg5) (ix4 0 h p q) := by
  simp only [V, V0, hostOps0, List.flatten_cons, List.flatten_nil, List.append_nil]
  after_results
  pointwise

theorem v4_apply (c : Dev nD) (h : Fin 8) (p q : Fin 128) : V m c main_v4 (ix3 h p q) = m ((c : Thread nD τ).loc main_arg5) (ix4 0 h q p) := by
  simp only [V, V0, hostOps0, List.flatten_cons, List.flatten_nil, List.append_nil]
  after_results
  pointwise

theorem v8_apply (c : Dev nD) (p : Fin 128) (e : Fin 1024) :
    V m c main_v8 (ix2 p e) = m ((c : Thread nD τ).loc main_arg6) (ix3 0 (headOf e) p) := by
  simp only [V, V0, hostOps0, List.flatten_cons, List.flatten_nil, List.append_nil]
  after_results
  pointwise [headOf]

theorem u_block (c : Dev nD) (t : Fin cfg0.N) (r : Fin 512) (e : Fin 1024) :
    iblk m c 0 t (ix2 r e) = Sgu.uA (m ((c : Thread nD τ).loc main_arg0)) (at' t r) e := by
  rw [Sgu.uA, ← v9_apply m c]
  blk_ext [iblk, idx t, at']

theorem v_block (c : Dev nD) (t : Fin cfg0.N) (r : Fin 512) (e : Fin 1024) :
    iblk m c 1 t (ix2 r e) = Sgu.vA (m ((c : Thread nD τ).loc main_arg0)) (at' t r) e := by
  rw [Sgu.vA, ← v9_apply m c]
  blk_ext [iblk, idx t, at']

theorem g_block (c : Dev nD) (t : Fin cfg0.N) (r : Fin 512) (e : Fin 1024) :
    iblk m c 2 t (ix2 r e) = Sgu.gA (m ((c : Thread nD τ).loc main_arg0)) (at' t r) e := by
  rw [Sgu.gA, ← v9_apply m c]
  blk_ext [iblk, idx t, at']

theorem y_block (c : Dev nD) (t : Fin cfg0.N) (r : Fin 512) (e : Fin 1024) :
    iblk m c 3 t (ix2 r e) = Sgu.yA (m ((c : Thread nD τ).loc main_arg1)) (at' t r) e := by
  rw [Sgu.yA, ← v10_apply m c]
  blk_ext [iblk, idx t, at']

theorem lg_block (c : Dev nD) (t : Fin cfg0.N) (e : Fin 1024) : iblk m c 4 t (ix2 0 e) = Sgu.lA (m ((c : Thread nD τ).loc main_arg3)) e := by
  rw [Sgu.lA]
  blk_ext [iblk, V, idx t]

theorem lb_block (c : Dev nD) (t : Fin cfg0.N) (e : Fin 1024) : iblk m c 5 t (ix2 0 e) = Sgu.lA (m ((c : Thread nD τ).loc main_arg4)) e := by
  rw [Sgu.lA]
  blk_ext [iblk, V, idx t]

theorem w_block (c : Dev nD) (t : Fin cfg0.N) (h : Fin 8) (p q : Fin 128) :
    iblk m c 6 t (ix3 h p q) = Sgu.wA (m ((c : Thread nD τ).loc main_arg5)) h p q := by
  rw [Sgu.wA, ← v1_apply m c]
  blk_ext [iblk, idx t]

theorem wt_block (c : Dev nD) (t : Fin cfg0.N) (h : Fin 8) (p q : Fin 128) :
    iblk m c 7 t (ix3 h p q) = Sgu.wA (m ((c : Thread nD τ).loc main_arg5)) h q p := by
  rw [Sgu.wA, ← v4_apply m c]
  blk_ext [iblk, idx t]

theorem b_block (c : Dev nD) (t : Fin cfg0.N) (p : Fin 128) (e : Fin 1024) :
    iblk m c 8 t (ix2 p e) = Sgu.bA (m ((c : Thread nD τ).loc main_arg6)) (headOf e) p := by
  rw [Sgu.bA, ← v8_apply m c]
  blk_ext [iblk, idx t]

/-! ### The row normalisation of a block -/

theorem hat_block (X : FVec Ideal S512x1024 .bf16) (r : Fin 512) (e : Fin 1024) :
    k0_pay8 (F := Ideal) X (ix2 r e) = Sgu.hat (fun k => X (ix2 r k)) e := by
  pointwise [k0_pay8, k0_pay7, k0_pay6, Sgu.hat, Sgu.rstd, Sgu.var, Sgu.cen]

theorem norm_block (X : FVec Ideal S512x1024 .bf16) (L B : FVec Ideal S1x1024 .f32) (r : Fin 512) (e : Fin 1024) :
    k0_pay9 (F := Ideal) X L B (ix2 r e) = Sgu.hat (fun k => X (ix2 r k)) e * L (ix2 0 e) + B (ix2 0 e) := by
  rw [← hat_block]
  pointwise [k0_pay9]

theorem dv_block (X : FVec Ideal S512x1024 .bf16) (E : FVec Ideal S512x1024 .f32) (L : FVec Ideal S1x1024 .f32) (r : Fin 512) (e : Fin 1024) :
    k0_pay1 (F := Ideal) (k0_pay7 X) (k0_pay8 X) E (k0_pay493 L) (ix2 r e)
      = Sgu.rowK (fun k => X (ix2 r k)) (fun k => E (ix2 r k) * L (ix2 0 k)) e := by
  simp only [Sgu.rowK, ← hat_block]
  pointwise [k0_pay1, k0_pay493, k0_pay7, k0_pay6, Sgu.rstd, Sgu.var, Sgu.cen]

end Cert.SguBwdIdeal.Value

end
-- ==== Proof.SguPoint.lean ====
module

public import proofs.«01_k».proof.Proof.SguBlock
public import proofs.«01_k».proof.Proof.SguSum

/-! What a grid point of the sgu call leaves in each of its outputs, in terms of the call's arguments. -/

@[expose] public section

set_option maxRecDepth 16384

noncomputable section

open Idealize.ShloMosaic Idealize.ShloMosaic.TcCoe Idealize.SL.Sem
open Idealize.ShloMosaic.Pipeline (Dat)

namespace Cert.SguBwdIdeal.Value

open Cert.SguBwdIdeal Cert.SguBwdIdeal.Gen

variable (m : (ℓ : Loc nD τ sig) → Buf (Elt Ideal) ℓ)

/-- The call's arguments as functions of a position and a feature. -/
def aU (c : Dev nD) : Sgu.Arr := Sgu.uA (m ((c : Thread nD τ).loc main_arg0))
def aV (c : Dev nD) : Sgu.Arr := Sgu.vA (m ((c : Thread nD τ).loc main_arg0))
def aG (c : Dev nD) : Sgu.Arr := Sgu.gA (m ((c : Thread nD τ).loc main_arg0))
def aY (c : Dev nD) : Sgu.Arr := Sgu.yA (m ((c : Thread nD τ).loc main_arg1))
def aL (c : Dev nD) : Fin 1024 → EReal := Sgu.lA (m ((c : Thread nD τ).loc main_arg3))
def aW (c : Dev nD) : Sgu.Mat := Sgu.wA (m ((c : Thread nD τ).loc main_arg5))
def aN (c : Dev nD) : Sgu.Arr := Sgu.norm (aV m c) (aL m c) (Sgu.lA (m ((c : Thread nD τ).loc main_arg4)))
/-- The mixed positions, the gradient that reaches them, and the one that reaches the normalised rows. -/
def aM (c : Dev nD) : Sgu.Arr := Sgu.mixed (aN m c) (aW m c) (Sgu.bA (m ((c : Thread nD τ).loc main_arg6)))
def aD (c : Dev nD) : Sgu.Arr := Sgu.dm (aG m c) (aU m c) (aY m c)
def aE (c : Dev nD) : Sgu.Arr := Sgu.dn (aW m c) (aD m c)

theorem mate_at (t : Fin cfg0.N) (r : Fin 512) (q : Fin 128) : at' t (mate r q) = Sgu.mate (at' t r) q := by
  apply Fin.ext
  simp only [at', mate, Sgu.mate]
  omega

theorem place_at (t : Fin cfg0.N) (r : Fin 512) : Sgu.place (at' t r) = place r := by
  apply Fin.ext
  simp only [at', place, Sgu.place]
  omega

theorem N_point (c : Dev nD) (t : Fin cfg0.N) (r : Fin 512) (e : Fin 1024) : normB m c t (ix2 r e) = aN m c (at' t r) e := by
  rw [normB, norm_block, lg_block, lb_block]
  simp only [v_block]
  rfl

theorem D_point (c : Dev nD) (t : Fin cfg0.N) (r : Fin 512) (e : Fin 1024) :
    dmE (iblk m c 2 t) (iblk m c 0 t) (iblk m c 3 t) r e = aD m c (at' t r) e := by
  rw [dmE, y_block, g_block, u_block]
  rfl

theorem E_point (c : Dev nD) (t : Fin cfg0.N) (r : Fin 512) (e : Fin 1024) : dnT m c t (ix2 r e) = aE m c (at' t r) e := by
  change ∑ q : Fin 128, (show EReal from iblk m c 7 t (ix3 (headOf e) (place r) q)) * dmE (iblk m c 2 t) (iblk m c 0 t) (iblk m c 3 t) (mate r q) e = _
  simp only [D_point, wt_block, mate_at, ← place_at t]
  rfl

theorem M_point (c : Dev nD) (t : Fin cfg0.N) (r : Fin 512) (e : Fin 1024) :
    mixB (normB m c t) (iblk m c 6 t) (iblk m c 8 t) r e = aM m c (at' t r) e := by
  rw [mixB]
  simp only [N_point, w_block, b_block, mate_at, ← place_at t]
  rfl

/-- The mixing matrices' gradient: a grid point adds its four chunks. -/
theorem dw_point (c : Dev nD) (t : Fin cfg0.N) (h : Fin 8) (p q : Fin 128) :
    dwT m c t (ix3 h p q) = ∑ k : Fin 4, ∑ d : Fin 128, aD m c (at' t (rowOf k p)) (colOf h d) * aN m c (at' t (rowOf k q)) (colOf h d) := by
  change ∑ k : Fin 4, ∑ d : Fin 128, dmE _ _ _ (rowOf k p) (colOf h d) * normB m c t (ix2 (rowOf k q) (colOf h d)) = _
  simp only [D_point, N_point]

theorem db_point (c : Dev nD) (t : Fin cfg0.N) (p : Fin 128) (e : Fin 1024) :
    dbT m c t (ix2 p e) = ∑ k : Fin 4, aD m c (at' t (rowOf k p)) e := by
  change ∑ k : Fin 4, dmE _ _ _ (rowOf k p) e = _
  simp only [D_point]

theorem gain_point (c : Dev nD) (t : Fin cfg0.N) (a : Fin 8) (e : Fin 1024) :
    gainT m c t (ix2 a e) = ∑ b : Fin 64, aE m c (at' t (row a b)) e * Sgu.hat (aV m c (at' t (row a b))) e := by
  change ∑ b : Fin 64, dnT m c t (ix2 (row a b) e) * k0_pay8 (F := Ideal) (iblk m c 1 t) (ix2 (row a b) e) = _
  simp only [E_point, hat_block, v_block]
  rfl

theorem bias_point (c : Dev nD) (t : Fin cfg0.N) (a : Fin 8) (e : Fin 1024) :
    biasT m c t (ix2 a e) = ∑ b : Fin 64, aE m c (at' t (row a b)) e := by
  change ∑ b : Fin 64, dnT m c t (ix2 (row a b) e) = _
  simp only [E_point]

/-- The three branches' gradients at the columns they are stored at. -/
def wide (c : Dev nD) (s : Fin 8192) (k : Fin 3072) : EReal :=
  if h1 : k.val < 1024 then Sgu.duK (aG m c) (aY m c) (aM m c) s ⟨k.val, h1⟩
  else if h2 : k.val < 2048 then Sgu.dvK (aV m c) (aE m c) (aL m c) s ⟨k.val - 1024, by omega⟩
  else Sgu.dgK (aG m c) (aU m c) (aY m c) (aM m c) s ⟨k.val - 2048, by have := k.isLt; omega⟩

theorem out_point (c : Dev nD) (t : Fin cfg0.N) (r : Fin 512) (k : Fin 3072) : outT m c t (ix2 r k) = wide m c (at' t r) k := by
  have e : outT m c t (ix2 r k) = if h1 : k.val < 1024 then duB (normB m c t) (iblk m c 6 t) (iblk m c 8 t) (iblk m c 2 t) (iblk m c 3 t) r ⟨k.val, h1⟩
      else if h2 : k.val < 2048 then k0_pay1 (F := Ideal) (k0_pay7 (iblk m c 1 t)) (k0_pay8 (iblk m c 1 t)) (dnT m c t) (k0_pay493 (iblk m c 4 t))
        (ix2 r (⟨k.val - 1024, by omega⟩ : Fin 1024))
      else dgB (normB m c t) (iblk m c 6 t) (iblk m c 8 t) (iblk m c 2 t) (iblk m c 0 t) (iblk m c 3 t) r
        ⟨k.val - 2048, by have := k.isLt; omega⟩ := rfl
  rw [e, wide]
  refine dite_congr rfl (fun h1 => ?_) (fun h1 => dite_congr rfl (fun h2 => ?_) (fun h2 => ?_))
  · rw [duB, M_point, g_block, y_block]; rfl
  · rw [dv_block]
    simp only [E_point, v_block, lg_block]
    rfl
  · rw [dgB, M_point, g_block, y_block, u_block]; rfl

end Cert.SguBwdIdeal.Value

end
-- ==== Proof.SguValue.lean ====
module

public import proofs.«01_k».proof.Proof.SguPoint
public import Idealize.ShloMosaic.Lib.Claim

/-! The five arrays that the sgu call leaves, in terms of its arguments. -/

@[expose] public section

set_option maxRecDepth 16384

noncomputable section

open Idealize.ShloMosaic Idealize.ShloMosaic.TcCoe Idealize.SL.Sem
open Idealize.ShloMosaic.Pipeline (Dat)

namespace Cert.SguBwdIdeal.Value

open Cert.SguBwdIdeal Cert.SguBwdIdeal.Gen

variable (m : (ℓ : Loc nD τ sig) → Buf (Elt Ideal) ℓ)

/-- The projection's gradient: the columns the unit leaves alone, then its three branches'. -/
def full (c : Dev nD) : FVec Ideal S8192x6144 .bf16 := fun i =>
  if h : 3072 ≤ (i 1).val then wide m c (i 0) ⟨(i 1).val - 3072, by have := (i 1).isLt; change (i 1).val < 6144 at this; omega⟩
  else m ((c : Thread nD τ).loc main_arg2) i

theorem v11_init (c : Dev nD) : V m c main_v11_0 = m ((c : Thread nD τ).loc main_arg2) := by
  simp only [V, V0, hostOps0, List.flatten_cons, List.flatten_nil, List.append_nil]
  after_results
  rfl

theorem final9 (c : Dev nD) : (dats m 0 c).arrAt 9 (cfgs 0).N = full m c := by
  refine (dats m 0 c).arrAt_eq_of_coversWhere_of_agree 9 (full m c) (fun β => β 1 = 1) (by decide +kernel) (fun t hf y => ?_) (fun j hj => ?_)
  · blk_simp
    rw [after0_9]
    obtain ⟨r, k, rfl⟩ : ∃ (r : Fin 512) (k : Fin 3072), y = ix2 r k := ⟨y 0, y 1, by blk_ext⟩
    have h0 : ((cfg0.win 9).blk t).view.emb (ix2 r k) = ix2 (at' t r) (⟨3072 + k.val, by omega⟩ : Fin 6144) := by blk_ext [idx t, at']
    rw [h0]
    have hk : outT m c t (ix2 r k) = full m c (ix2 (at' t r) (⟨3072 + k.val, by omega⟩ : Fin 6144)) := by
      rw [out_point, full, dif_pos (by change 3072 ≤ 3072 + k.val; omega)]
      refine congrArg (wide m c (at' t r)) (Fin.ext ?_)
      change k.val = 3072 + k.val - 3072
      omega
    rw [← hk]
    by_cases h : t.val % 16 = 0
    · exact out_A m c t h _
    · exact out_B m c t h _
  · have hj' : ¬ 3072 ≤ (j 1).val := by
      revert hj
      blk_simp [Pipeline.Window.cell_apply]
      have := (j 1).isLt
      change (j 1).val < 6144 at this
      omega
    have e : full m c j = m ((c : Thread nD τ).loc main_arg2) j := dif_neg hj'
    exact (congrFun (v11_init m c) j).trans e.symm

/-- The accumulators after the run: what the sixteen grid points add. -/
def dwAcc (c : Dev nD) : FVec Ideal S8x128x128 .f32 := fun j => ∑ t : Fin 16, dwT m c (t.cast N_0.symm) j
def dbAcc (c : Dev nD) : FVec Ideal S128x1024 .f32 := fun j => ∑ t : Fin 16, dbT m c (t.cast N_0.symm) j
def gainAcc (c : Dev nD) : FVec Ideal S8x1024 .f32 := fun j => ∑ t : Fin 16, gainT m c (t.cast N_0.symm) j
def biasAcc (c : Dev nD) : FVec Ideal S8x1024 .f32 := fun j => ∑ t : Fin 16, biasT m c (t.cast N_0.symm) j

theorem final10 (c : Dev nD) : (dats m 0 c).arrAt 10 (cfgs 0).N = dwAcc m c := by
  refine (dats m 0 c).arrAt_eq_of_after_last 10 t0_15 (by decide +kernel) _ fun j => ?_
  blk_simp
  rw [after0_10, Pipeline.eq_sum_fin_of_reset_step_apply_last (fun n h => (outsAt0 m c n h).2.1) 16 (fun _ => 0) _
    (fun t h j => dw_A m c t h j) (fun t h j => dw_B m c t h j) (le_of_eq N_0) t0_15 rfl j, zero_add]
  rfl

theorem final11 (c : Dev nD) : (dats m 0 c).arrAt 11 (cfgs 0).N = dbAcc m c := by
  refine (dats m 0 c).arrAt_eq_of_after_last 11 t0_15 (by decide +kernel) _ fun j => ?_
  blk_simp
  rw [after0_11, Pipeline.eq_sum_fin_of_reset_step_apply_last (fun n h => (outsAt0 m c n h).2.2.1) 16 (fun _ => 0) _
    (fun t h j => db_A m c t h j) (fun t h j => db_B m c t h j) (le_of_eq N_0) t0_15 rfl j, zero_add]
  rfl

theorem final12 (c : Dev nD) : (dats m 0 c).arrAt 12 (cfgs 0).N = gainAcc m c := by
  refine (dats m 0 c).arrAt_eq_of_after_last 12 t0_15 (by decide +kernel) _ fun j => ?_
  blk_simp
  rw [after0_12, Pipeline.eq_sum_fin_of_reset_step_apply_last (fun n h => (outsAt0 m c n h).2.2.2.1) 16 (fun _ => 0) _
    (fun t h j => gain_A m c t h j) (fun t h j => gain_B m c t h j) (le_of_eq N_0) t0_15 rfl j, zero_add]
  rfl

theorem final13 (c : Dev nD) : (dats m 0 c).arrAt 13 (cfgs 0).N = biasAcc m c := by
  refine (dats m 0 c).arrAt_eq_of_after_last 13 t0_15 (by decide +kernel) _ fun j => ?_
  blk_simp
  rw [after0_13, Pipeline.eq_sum_fin_of_reset_step_apply_last (fun n h => (outsAt0 m c n h).2.2.2.2) 16 (fun _ => 0) _
    (fun t h j => bias_A m c t h j) (fun t h j => bias_B m c t h j) (le_of_eq N_0) t0_15 rfl j, zero_add]
  rfl

theorem dw_sum (c : Dev nD) (h : Fin 8) (p q : Fin 128) : dwAcc m c (ix3 h p q) = Sgu.dw (aD m c) (aN m c) h p q := by
  simp only [dwAcc, dw_point, Sgu.dw]
  rw [← Fin.sum_mul_add_fin 16 4 (fun k : Fin 64 => _)]
  refine Finset.sum_congr rfl fun t _ => Finset.sum_congr rfl fun k _ => ?_
  have er : ∀ p, at' (t.cast N_0.symm) (rowOf k p) = Sgu.pos ⟨t.val * 4 + k.val, by omega⟩ p := fun p => by
    apply Fin.ext
    simp only [at', rowOf, Sgu.pos, Fin.val_cast]
    omega
  simp only [er]
  rfl

theorem db_sum (c : Dev nD) (h : Fin 8) (p : Fin 128) : ∑ d : Fin 128, dbAcc m c (ix2 p (Sgu.col h d)) = Sgu.db (aD m c) h p := by
  simp only [dbAcc, db_point, Sgu.db]
  rw [Finset.sum_comm, ← Fin.sum_mul_add_fin 16 4 (fun k : Fin 64 => _)]
  refine Finset.sum_congr rfl fun t _ => ?_
  rw [Finset.sum_comm]
  refine Finset.sum_congr rfl fun k _ => ?_
  have er : ∀ p, at' (t.cast N_0.symm) (rowOf k p) = Sgu.pos ⟨t.val * 4 + k.val, by omega⟩ p := fun p => by
    apply Fin.ext
    simp only [at', rowOf, Sgu.pos, Fin.val_cast]
    omega
  simp only [er]

/-- Summing over the eight rows of what the grid points sum by rows sums over all positions. -/
theorem rows_sum (f : Fin 8192 → EReal) :
    ∑ a : Fin 8, ∑ t : Fin 16, ∑ b : Fin 64, f (at' (t.cast N_0.symm) (row a b)) = ∑ s : Fin 8192, f s := by
  rw [Finset.sum_comm, ← Fin.sum_mul_add_fin 16 512 f]
  refine Finset.sum_congr rfl fun t _ => ?_
  rw [Finset.sum_comm, ← Fin.sum_mul_add_fin 64 8 (fun k : Fin 512 => _)]
  rfl

theorem gain_sum (c : Dev nD) (e : Fin 1024) : ∑ a : Fin 8, gainAcc m c (ix2 a e) = Sgu.dlg (aE m c) (aV m c) e := by
  simp only [gainAcc, gain_point]
  exact rows_sum fun s => aE m c s e * Sgu.hat (aV m c s) e

theorem bias_sum (c : Dev nD) (e : Fin 1024) : ∑ a : Fin 8, biasAcc m c (ix2 a e) = Sgu.dlb (aE m c) e := by
  simp only [biasAcc, bias_point]
  exact rows_sum fun s => aE m c s e

/-- The host's results after the region. -/
theorem tail12 (c : Dev nD) : Pipeline.afterTail₀ cfgs (dats m) 0 (V0 m) [hostOps1] c main_v12
    = (fun i : S1x8x128x128.Idx => Sgu.dw (aD m c) (aN m c) (i 1) (i 2) (i 3)) := by
  simp only [Pipeline.afterTail₀, hostOps1, List.flatten_cons, List.flatten_nil, List.append_nil]
  after_results
  have hw := (dats m 0 c).withArrays_arrAt sharedIn0 (V0 m c) (fun _ => rfl) 10
  rw [show Pipeline.withArrays (cfgs 0).spec c (V0 m c) (fun w => (dats m 0 c).arrAt w (cfgs 0).N) (Proc.devRef .tc main_v11_1) = _ from hw]
  simp only [final10]
  funext i
  pointwise
  exact dw_sum m c _ _ _

theorem tail16 (c : Dev nD) : Pipeline.afterTail₀ cfgs (dats m) 0 (V0 m) [hostOps1] c main_v16
    = (fun i : S1x8x128.Idx => Sgu.db (aD m c) (i 1) (i 2)) := by
  simp only [Pipeline.afterTail₀, hostOps1, List.flatten_cons, List.flatten_nil, List.append_nil]
  after_results
  have hw := (dats m 0 c).withArrays_arrAt sharedIn0 (V0 m c) (fun _ => rfl) 11
  rw [show Pipeline.withArrays (cfgs 0).spec c (V0 m c) (fun w => (dats m 0 c).arrAt w (cfgs 0).N) (Proc.devRef .tc main_v11_2) = _ from hw]
  simp only [final11]
  funext i
  pointwise
  exact db_sum m c _ _

theorem tail18 (c : Dev nD) : Pipeline.afterTail₀ cfgs (dats m) 0 (V0 m) [hostOps1] c main_v18
    = (fun i : S1x1024.Idx => Sgu.dlg (aE m c) (aV m c) (i 1)) := by
  simp only [Pipeline.afterTail₀, hostOps1, List.flatten_cons, List.flatten_nil, List.append_nil]
  after_results
  have hw := (dats m 0 c).withArrays_arrAt sharedIn0 (V0 m c) (fun _ => rfl) 12
  rw [show Pipeline.withArrays (cfgs 0).spec c (V0 m c) (fun w => (dats m 0 c).arrAt w (cfgs 0).N) (Proc.devRef .tc main_v11_3) = _ from hw]
  simp only [final12]
  funext i
  pointwise
  exact gain_sum m c _

theorem tail20 (c : Dev nD) : Pipeline.afterTail₀ cfgs (dats m) 0 (V0 m) [hostOps1] c main_v20
    = (fun i : S1x1024.Idx => Sgu.dlb (aE m c) (i 1)) := by
  simp only [Pipeline.afterTail₀, hostOps1, List.flatten_cons, List.flatten_nil, List.append_nil]
  after_results
  have hw := (dats m 0 c).withArrays_arrAt sharedIn0 (V0 m c) (fun _ => rfl) 13
  rw [show Pipeline.withArrays (cfgs 0).spec c (V0 m c) (fun w => (dats m 0 c).arrAt w (cfgs 0).N) (Proc.devRef .tc main_v11_4) = _ from hw]
  simp only [final13]
  funext i
  pointwise
  exact bias_sum m c _

/-- The sgu call's run: its five results and its arguments. -/
theorem run (ρ : Dev nD → PrngReg) : θ_run defs (onTc (τ := τ) (main (F := Ideal))) ⟨m, fun _ => 0, ρ⟩ fun r => ∀ c : Dev nD,
    r.2.mem ((c.tc : Thread nD τ).loc main_v11_0) = full m c
      ∧ r.2.mem ((c.tc : Thread nD τ).loc main_v12) = (fun i : S1x8x128x128.Idx => Sgu.dw (aD m c) (aN m c) (i 1) (i 2) (i 3))
      ∧ r.2.mem ((c.tc : Thread nD τ).loc main_v16) = (fun i : S1x8x128.Idx => Sgu.db (aD m c) (i 1) (i 2))
      ∧ r.2.mem ((c.tc : Thread nD τ).loc main_v18) = (fun i : S1x1024.Idx => Sgu.dlg (aE m c) (aV m c) (i 1))
      ∧ r.2.mem ((c.tc : Thread nD τ).loc main_v20) = (fun i : S1x1024.Idx => Sgu.dlb (aE m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.1 c).1 9).trans (final9 m c), ((h.1 c).2 main_v12 (by decide)).trans (tail12 m c),
      ((h.1 c).2 main_v16 (by decide)).trans (tail16 m c), ((h.1 c).2 main_v18 (by decide)).trans (tail18 m c),
      ((h.1 c).2 main_v20 (by decide)).trans (tail20 m c), h.2 c⟩)
    (θ_run_and (run_main m ρ) (unchanged m ρ))

end Cert.SguBwdIdeal.Value

end
-- ==== Proof.SguRef.lean ====
module

public import proofs.«01_k».proof.Proof.SguMath
public import proofs.«01_k».proof.Proof.Gen.SguRefIdeal.Read

/-! The sgu reference's five results, read at one entry. -/

@[expose] public section

set_option maxRecDepth 16384

noncomputable section

open Idealize.ShloMosaic Idealize.ShloMosaic.TcCoe Idealize.SL.Sem

namespace Cert.SguRefIdeal.Entry

open Cert.SguRefIdeal Cert.SguRefIdeal.Read

variable (P : FVec Ideal S8192x6144 .f32) (Y : FVec Ideal S8192x2048 .f32) (Z : FVec Ideal S8192x6144 .bf16) (G L : FVec Ideal S1x1024 .f32)
  (W : FVec Ideal S1x8x128x128 .f32) (B : FVec Ideal S1x8x128 .f32)

/-- A sum over the first and the last of four axes. -/
theorem reduce_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (p : Fin n1) (q : Fin n2) :
    Ideal.hostReduceAdd h v init (ix2 p q) = init + ∑ a : Fin n0, ∑ d : Fin n3, v (ix4 a p q d) := by
  refine congrArg (init + ·) ?_
  rw [← Finset.sum_product' Finset.univ Finset.univ fun a d => v (ix4 a p q d)]
  refine Finset.sum_nbij' (fun i => (i 0, i 3)) (fun x => ix4 x.1 p q x.2) (fun i _ => by simp) (fun x _ => ?_) (fun i hi => ?_) (fun x _ => rfl) (fun i hi => ?_)
  · simp only [Finset.mem_filter, Finset.mem_univ, true_and]
    funext b
    fin_cases b <;> rfl
  · obtain ⟨-, hi⟩ := Finset.mem_filter.1 hi
    have h1 : i 1 = p := Fin.ext (congrArg (fun j : (⟨2, ![n1, n2]⟩ : Shape).Idx => (j 0).val) hi)
    have h2 : i 2 = q := Fin.ext (congrArg (fun j : (⟨2, ![n1, n2]⟩ : Shape).Idx => (j 1).val) hi)
    subst h1 h2
    funext a
    fin_cases a <;> rfl
  · obtain ⟨-, hi⟩ := Finset.mem_filter.1 hi
    have h1 : i 1 = p := Fin.ext (congrArg (fun j : (⟨2, ![n1, n2]⟩ : Shape).Idx => (j 0).val) hi)
    have h2 : i 2 = q := Fin.ext (congrArg (fun j : (⟨2, ![n1, n2]⟩ : Shape).Idx => (j 1).val) hi)
    subst h1 h2
    refine congrArg v ?_
    funext a
    fin_cases a <;> rfl

/-- The gradient that reaches the mixed positions, its factors in the reference's order. -/
def dmR (g u y : Sgu.Arr) : Sgu.Arr := fun s e => u s e * (y s e * (g s e * Sgu.sgr (g s e)))

theorem cen_apply (s : Fin 8192) (e : Fin 1024) : val_main_v11 (F := Ideal) P (ix2 s e) = Sgu.cen (Sgu.vA P s) e := by
  pointwise [val_main_v11, val_main_v10, val_main_v9, val_main_v8, val_main_v7, val_main_v6, val_main_v4, val_main_cst, val_main_cst_0, Sgu.cen, Sgu.vA]

theorem var_apply (s : Fin 8192) (z : Fin 1) : val_main_v18 (F := Ideal) P (ix2 s z) = Sgu.var (Sgu.vA P s) := by
  simp only [Sgu.var, ← cen_apply]
  pointwise [val_main_v18, val_main_v17, val_main_v16, val_main_v15, val_main_v14, val_main_v13, val_main_v12, val_main_cst_1, val_main_cst_2, val_main_cst_3]

theorem rstd_apply (s : Fin 8192) (z : Fin 1) : val_main_v19 (F := Ideal) P (ix2 s z) = Sgu.rstd (Sgu.vA P s) := by
  rw [Sgu.rstd, ← var_apply P s z]
  pointwise [val_main_v19]

theorem hat_apply (s : Fin 8192) (e : Fin 1024) : val_main_v24 (F := Ideal) P (ix2 s e) = Sgu.hat (Sgu.vA P s) e := by
  rw [Sgu.hat, ← cen_apply, ← rstd_apply P s 0]
  pointwise [val_main_v24, val_main_v23]

theorem norm_apply (s : Fin 8192) (e : Fin 1024) :
    val_main_v28 (F := Ideal) P G L (ix2 s e) = Sgu.norm (Sgu.vA P) (Sgu.lA G) (Sgu.lA L) s e := by
  rw [Sgu.norm, ← hat_apply]
  pointwise [val_main_v28, val_main_v27, val_main_v26, val_main_v25, Sgu.lA]

theorem mixed_apply (s : Fin 8192) (e : Fin 1024) : val_main_v38 (F := Ideal) P G L W B (ix2 s e)
    = Sgu.mixed (Sgu.norm (Sgu.vA P) (Sgu.lA G) (Sgu.lA L)) (Sgu.wA W) (Sgu.bA B) s e := by
  simp only [Sgu.mixed, ← norm_apply]
  pointwise [val_main_v38, val_main_v37, val_main_v36, val_main_v35, val_main_v34, val_main_v33, val_main_v32, val_main_v31, val_main_v30, val_main_v29, Sgu.wA, Sgu.bA,
    Sgu.headOf, Sgu.place, Sgu.mate]
  exact congrArg (· + _) (Finset.sum_congr rfl fun q _ => mul_comm _ _)

theorem sg_apply (s : Fin 8192) (e : Fin 1024) : val_main_v40_2 (F := Ideal) P (ix2 s e) = Sgu.sgr (Sgu.gA P s e) := by
  pointwise [val_main_v40_2, val_main_call0_v4, val_main_call0_v3, val_main_call0_v2, val_main_call0_v1, val_main_call0_v0, val_main_call0_cst, val_main_call0_cst_0,
    val_main_v5, Sgu.sgr, Sgu.gA]

theorem dm_apply (s : Fin 8192) (e : Fin 1024) : val_main_v46 (F := Ideal) P Y (ix2 s e) = dmR (Sgu.gA P) (Sgu.uA P) (Sgu.yA Y) s e := by
  rw [dmR, ← sg_apply]
  pointwise [val_main_v46, val_main_v44, val_main_v42, val_main_v40_0, val_main_v3, val_main_v5, Sgu.gA, Sgu.uA, Sgu.yA]

theorem du_apply (s : Fin 8192) (e : Fin 1024) : val_main_v47 (F := Ideal) P Y G L W B (ix2 s e)
    = Sgu.yA Y s e * (Sgu.gA P s e * Sgu.sgr (Sgu.gA P s e)) * Sgu.mixed (Sgu.norm (Sgu.vA P) (Sgu.lA G) (Sgu.lA L)) (Sgu.wA W) (Sgu.bA B) s e := by
  rw [← sg_apply, ← mixed_apply]
  pointwise [val_main_v47, val_main_v44, val_main_v42, val_main_v40_0, val_main_v5, Sgu.gA, Sgu.yA]

theorem dg_apply (s : Fin 8192) (e : Fin 1024) : val_main_v45 (F := Ideal) P Y G L W B (ix2 s e)
    = Sgu.uA P s e * Sgu.mixed (Sgu.norm (Sgu.vA P) (Sgu.lA G) (Sgu.lA L)) (Sgu.wA W) (Sgu.bA B) s e * Sgu.yA Y s e * Sgu.sgr (Sgu.gA P s e)
      + Sgu.gA P s e * (Sgu.uA P s e * Sgu.mixed (Sgu.norm (Sgu.vA P) (Sgu.lA G) (Sgu.lA L)) (Sgu.wA W) (Sgu.bA B) s e * Sgu.yA Y s e)
        * (Sgu.sgr (Sgu.gA P s e) * (Ideal.ofBits .f32 1065353216#32 - Sgu.sgr (Sgu.gA P s e))) := by
  rw [← sg_apply, ← mixed_apply]
  pointwise [val_main_v45, val_main_call1_v2, val_main_call1_v1, val_main_call1_v0, val_main_v43, val_main_v42, val_main_v39, val_main_v40_1, val_main_call0_v7,
    val_main_call0_v6, val_main_call0_cst_1, val_main_v5, val_main_v3, Sgu.gA, Sgu.yA, Sgu.uA]

/-- The gradient that reaches the normalised rows. -/
theorem dn_apply (s : Fin 8192) (e : Fin 1024) : val_main_v59 (F := Ideal) P Y W (ix2 s e)
    = ∑ q : Fin 128, dmR (Sgu.gA P) (Sgu.uA P) (Sgu.yA Y) (Sgu.mate s q) e * Sgu.wA W (Sgu.headOf e) q (Sgu.place s) := by
  simp only [← dm_apply]
  pointwise [val_main_v59, val_main_v57, val_main_v56, val_main_v54, val_main_v48, val_main_v30, Sgu.wA, Sgu.headOf, Sgu.place, Sgu.mate]

/-- The projected gradient through the scale, and the factor of the centred row. -/
theorem scaled_apply (s : Fin 8192) (e : Fin 1024) :
    val_main_v66 (F := Ideal) P Y G W (ix2 s e) = val_main_v59 (F := Ideal) P Y W (ix2 s e) * Sgu.lA G e := by
  pointwise [val_main_v66, val_main_v65, Sgu.lA]

theorem pull_apply (s : Fin 8192) (e : Fin 1024) : val_main_v76 (F := Ideal) P Y G W (ix2 s e)
    = Sgu.pull (Sgu.vA P s) fun k => val_main_v66 (F := Ideal) P Y G W (ix2 s k) := by
  simp only [Sgu.pull, ← cen_apply, ← rstd_apply P s 0, ← var_apply P s 0]
  pointwise [val_main_v76, val_main_v75, val_main_v74, val_main_v73, val_main_v72, val_main_v69, val_main_v68, val_main_v67, val_main_v22, val_main_v21, val_main_v20,
    val_main_cst_4, val_main_cst_9, val_main_cst_10, val_main_cst_11]
  exact Fin.sum_univ_one _

theorem rowC_apply (s : Fin 8192) (e : Fin 1024) : val_main_v80 (F := Ideal) P Y G W (ix2 s e)
    = Sgu.rowC (Sgu.vA P s) (fun k => val_main_v66 (F := Ideal) P Y G W (ix2 s k)) e := by
  rw [Sgu.rowC, ← pull_apply P Y G W s e, ← cen_apply, ← rstd_apply P s 0]
  pointwise [val_main_v80, val_main_v79, val_main_v78, val_main_v77, val_main_v71, val_main_v70]

theorem dv_apply (s : Fin 8192) (e : Fin 1024) : val_main_v88 (F := Ideal) P Y G W (ix2 s e)
    = Sgu.rowR (Sgu.vA P s) (fun k => val_main_v59 (F := Ideal) P Y W (ix2 s k) * Sgu.lA G k) e := by
  refine Eq.trans ?_ (congrArg (fun d => Sgu.rowR (Sgu.vA P s) d e) (funext fun k => scaled_apply P Y G W s k))
  simp only [Sgu.rowR, ← rowC_apply]
  pointwise [val_main_v88, val_main_v87, val_main_v86, val_main_v85, val_main_v84, val_main_v83, val_main_v82, val_main_v81, val_main_cst_12, val_main_cst_13, val_main_cst_14]
  simp only [Fin.sum_univ_one]

/-- The projection's gradient by its columns. -/
theorem full_apply (s : Fin 8192) (k : Fin 6144) : val_main_v93 (F := Ideal) P Y Z G L W B (ix2 s k)
    = if h0 : k.val < 3072 then Z (ix2 s k)
      else if h1 : k.val - 3072 < 1024 then val_main_v47 (F := Ideal) P Y G L W B (ix2 s (⟨k.val - 3072, by omega⟩ : Fin 1024))
      else if h2 : k.val - 3072 - 1024 < 1024 then val_main_v88 (F := Ideal) P Y G W (ix2 s (⟨k.val - 3072 - 1024, by omega⟩ : Fin 1024))
      else val_main_v45 (F := Ideal) P Y G L W B (ix2 s (⟨k.val - 3072 - 1024 - 1024, by have := k.isLt; omega⟩ : Fin 1024)) := by
  pointwise [val_main_v93, val_main_v92, val_main_v91, val_main_v90, val_main_v89]

theorem dlb_apply (z : Fin 1) (e : Fin 1024) : val_main_v61 (F := Ideal) P Y W (ix2 z e) = ∑ s : Fin 8192, val_main_v59 (F := Ideal) P Y W (ix2 s e) := by
  pointwise [val_main_v61, val_main_v60, val_main_cst_7]

theorem dlg_apply (z : Fin 1) (e : Fin 1024) : val_main_v64 (F := Ideal) P Y W (ix2 z e)
    = ∑ s : Fin 8192, Sgu.hat (Sgu.vA P s) e * val_main_v59 (F := Ideal) P Y W (ix2 s e) := by
  simp only [← hat_apply]
  pointwise [val_main_v64, val_main_v63, val_main_v62, val_main_cst_8]

theorem chunks_apply (p : Fin 128) (h : Fin 8) : val_main_v49 (F := Ideal) P Y (ix2 p h)
    = ∑ c : Fin 64, ∑ d : Fin 128, val_main_v46 (F := Ideal) P Y (ix2 (Sgu.pos c p) (Sgu.col h d)) := by
  refine (reduce_outer _ _ _ p h).trans ?_
  pointwise [val_main_v48, val_main_cst_5, Sgu.pos, Sgu.col]

theorem ones_apply (p : Fin 128) (h : Fin 8) : val_main_v51 (F := Ideal) P Y (ix2 p h) = val_main_v49 (F := Ideal) P Y (ix2 p h) := by
  refine (reduce_outer _ _ _ p h).trans ?_
  pointwise [val_main_v50, val_main_cst_6]
  simp only [Fin.sum_univ_one]

theorem db_apply (z : Fin 1) (h : Fin 8) (p : Fin 128) : val_main_v53 (F := Ideal) P Y (ix3 z h p)
    = Sgu.db (dmR (Sgu.gA P) (Sgu.uA P) (Sgu.yA Y)) h p := by
  simp only [Sgu.db, ← dm_apply]
  rw [← chunks_apply, ← ones_apply]
  pointwise [val_main_v53, val_main_v52]

theorem dw_apply (z : Fin 1) (h : Fin 8) (p q : Fin 128) : val_main_v58 (F := Ideal) P Y G L (ix4 z h p q)
    = Sgu.dw (dmR (Sgu.gA P) (Sgu.uA P) (Sgu.yA Y)) (Sgu.norm (Sgu.vA P) (Sgu.lA G) (Sgu.lA L)) h p q := by
  simp only [Sgu.dw, ← dm_apply, ← norm_apply]
  pointwise [val_main_v58, val_main_v55, val_main_v54, val_main_v48, val_main_v29, Sgu.pos, Sgu.col]

end Cert.SguRefIdeal.Entry

end
-- ==== Proof.SguPair.lean ====
module

public import proofs.«01_k».proof.Defs
public import proofs.«01_k».proof.Proof.SguValue
public import proofs.«01_k».proof.Proof.SguRef
public import Idealize.ShloMosaic.Lib.Claim

/-! The sgu call against the derivative of the spatial gating unit. -/

@[expose] public section

set_option maxRecDepth 16384

noncomputable section

open Idealize.ShloMosaic Idealize.ShloMosaic.TcCoe Idealize.SL.Sem

namespace Cert.Proof.SguPair

open Cert.SguBwdIdeal (S8192x6144 S8192x2048 S1x1024 S1x8x128x128 S1x8x128 nD τ sig main_arg0 main_arg1 main_arg2 main_arg3 main_arg4 main_arg5 main_arg6)
open Cert.SguBwdIdeal.Value

/-- The finiteness precondition's side conditions. -/
instance preFacts : Cert.Pre_finite_sgu.Facts where
  bcast_S_S8192x6144 := by decide
  reducesTo_S8192x6144_S_d0_1 := by decide
  h_S_ := by decide
  bcast_S_S8192x2048 := by decide
  reducesTo_S8192x2048_S_d0_1 := by decide
  bcast_S_S1x1024 := by decide
  reducesTo_S1x1024_S_d0_1 := by decide
  bcast_S_S1x8x128x128 := by decide
  reducesTo_S1x8x128x128_S_d0_1_2_3 := by decide
  bcast_S_S1x8x128 := by decide
  reducesTo_S1x8x128_S_d0_1_2 := by decide

/-- The precondition makes the six arguments it names real. -/
theorem real_of_pre (P : FVec Ideal Cert.Pre_finite_sgu.S8192x6144 .f32) (Y : FVec Ideal Cert.Pre_finite_sgu.S8192x2048 .f32)
    (Z : FVec Ideal Cert.Pre_finite_sgu.S8192x6144 .bf16) (G L : FVec Ideal Cert.Pre_finite_sgu.S1x1024 .f32)
    (W : FVec Ideal Cert.Pre_finite_sgu.S1x8x128x128 .f32) (B : FVec Ideal Cert.Pre_finite_sgu.S1x8x128 .f32)
    (h : Cert.Pre_finite_sgu.fn (F := Ideal) P Y Z G L W B = fun _ => 1#1) :
    Reals.IsReal P ∧ Reals.IsReal Y ∧ Reals.IsReal G ∧ Reals.IsReal L ∧ Reals.IsReal W ∧ Reals.IsReal B := by
  have h0 := congrFun h ((fun a => nomatch a) : Cert.Pre_finite_sgu.S_.Idx)
  have : Subsingleton Cert.Pre_finite_sgu.S_.Idx := ⟨fun a b => funext fun i => nomatch i⟩
  obtain ⟨h1, hB⟩ := IntOp.andi_eq_one.1 h0
  obtain ⟨h2, hW⟩ := IntOp.andi_eq_one.1 h1
  obtain ⟨h3, hL⟩ := IntOp.andi_eq_one.1 h2
  obtain ⟨h4, hG⟩ := IntOp.andi_eq_one.1 h3
  obtain ⟨h5, hY⟩ := IntOp.andi_eq_one.1 h4
  obtain ⟨h6, hP⟩ := IntOp.andi_eq_one.1 h5
  exact ⟨Reals.isReal_of_all _ _ _ _ _ _ hP, Reals.isReal_of_all _ _ _ _ _ _ hY, Reals.isReal_of_all _ _ _ _ _ _ hG,
    Reals.isReal_of_all _ _ _ _ _ _ hL, Reals.isReal_of_all _ _ _ _ _ _ hW, Reals.isReal_of_all _ _ _ _ _ _ hB⟩

section Real
variable {P : FVec Ideal S8192x6144 .f32} {Y : FVec Ideal S8192x2048 .f32} {G : FVec Ideal S1x1024 .f32}
  {W : FVec Ideal S1x8x128x128 .f32} {B : FVec Ideal S1x8x128 .f32}

theorem u_real (h : Reals.IsReal P) : Sgu.IsRealArr (Sgu.uA P) := by obtain ⟨p, rfl⟩ := h; exact ⟨_, rfl⟩
theorem v_real (h : Reals.IsReal P) : Sgu.IsRealArr (Sgu.vA P) := by obtain ⟨p, rfl⟩ := h; exact ⟨_, rfl⟩
theorem g_real (h : Reals.IsReal P) : Sgu.IsRealArr (Sgu.gA P) := by obtain ⟨p, rfl⟩ := h; exact ⟨_, rfl⟩
theorem y_real (h : Reals.IsReal Y) : Sgu.IsRealArr (Sgu.yA Y) := by obtain ⟨p, rfl⟩ := h; exact ⟨_, rfl⟩
theorem l_real (h : Reals.IsReal G) : ∃ r : Fin 1024 → ℝ, Sgu.lA G = fun e => (r e : EReal) := by obtain ⟨p, rfl⟩ := h; exact ⟨_, rfl⟩
theorem w_real (h : Reals.IsReal W) : ∃ r : Fin 8 → Fin 128 → Fin 128 → ℝ, Sgu.wA W = fun h p q => (r h p q : EReal) := by obtain ⟨p, rfl⟩ := h; exact ⟨_, rfl⟩
theorem b_real (h : Reals.IsReal B) : ∃ r : Fin 8 → Fin 128 → ℝ, Sgu.bA B = fun h p => (r h p : EReal) := by obtain ⟨p, rfl⟩ := h; exact ⟨_, rfl⟩

/-- The gradient that reaches the mixed positions is the reference's. -/
theorem dm_eq (h : Reals.IsReal P) : Sgu.dm (Sgu.gA P) (Sgu.uA P) (Sgu.yA Y) = Cert.SguRefIdeal.Entry.dmR (Sgu.gA P) (Sgu.uA P) (Sgu.yA Y) := by
  funext s e
  rw [Sgu.dm, Cert.SguRefIdeal.Entry.dmR, Sgu.sgm_eq (g_real h), mul_comm]

theorem dn_eq (h : Reals.IsReal P) (s : Fin 8192) (e : Fin 1024) : Sgu.dn (Sgu.wA W) (Sgu.dm (Sgu.gA P) (Sgu.uA P) (Sgu.yA Y)) s e
    = Cert.SguRefIdeal.Read.val_main_v59 (F := Ideal) P Y W (ix2 s e) := by
  rw [Cert.SguRefIdeal.Entry.dn_apply, dm_eq h]
  exact Finset.sum_congr rfl fun q _ => mul_comm _ _

end Real

variable (m : (ℓ : Loc Cert.SguBwdIdeal.nD Cert.SguBwdIdeal.τ Cert.SguBwdIdeal.sig) → Buf (Elt Ideal) ℓ) (c : Dev Cert.SguBwdIdeal.nD)

theorem full_hi (s : Fin 8192) (k : Fin 6144) (h : 3072 ≤ k.val) : full m c (ix2 s k) = wide m c s ⟨k.val - 3072, by have := k.isLt; omega⟩ := by
  have h' : 3072 ≤ (ix2 s k (1 : Fin 2)).val := h
  exact dif_pos h'

theorem full_lo (s : Fin 8192) (k : Fin 6144) (h : k.val < 3072) : full m c (ix2 s k) = m ((c.tc : Thread nD τ).loc main_arg2) (ix2 s k) := by
  have h' : ¬ 3072 ≤ (ix2 s k (1 : Fin 2)).val := fun h' => absurd h (not_lt.mpr h')
  exact dif_neg h'

/-- The kernel's gradient of the projection is the reference's, on real arguments. -/
theorem full_eq (P : FVec Ideal S8192x6144 .f32) (Y : FVec Ideal S8192x2048 .f32) (Z : FVec Ideal S8192x6144 .bf16) (G L : FVec Ideal S1x1024 .f32)
    (W : FVec Ideal S1x8x128x128 .f32) (B : FVec Ideal S1x8x128 .f32)
    (hP : Reals.IsReal P) (hY : Reals.IsReal Y) (hG : Reals.IsReal G) (hL : Reals.IsReal L) (hW : Reals.IsReal W) (hB : Reals.IsReal B)
    (h0 : m ((c.tc : Thread nD τ).loc main_arg0) = P) (h1 : m ((c.tc : Thread nD τ).loc main_arg1) = Y)
    (h2 : m ((c.tc : Thread nD τ).loc main_arg2) = Z) (h3 : m ((c.tc : Thread nD τ).loc main_arg3) = G)
    (h4 : m ((c.tc : Thread nD τ).loc main_arg4) = L) (h5 : m ((c.tc : Thread nD τ).loc main_arg5) = W)
    (h6 : m ((c.tc : Thread nD τ).loc main_arg6) = B) :
    full m c = Cert.SguRefIdeal.Read.val_main_v93 (F := Ideal) P Y Z G L W B := by
  have hM := Sgu.mixed_real (Sgu.norm_real (v_real hP) (l_real hG) (l_real hL)) (w_real hW) (b_real hB)
  have hE := Sgu.dn_real (w_real hW) (Sgu.dm_real (g_real hP) (u_real hP) (y_real hY))
  funext i
  obtain ⟨s, k, rfl⟩ : ∃ (s : Fin 8192) (k : Fin 6144), i = ix2 s k := ⟨i 0, i 1, by blk_ext⟩
  rw [Cert.SguRefIdeal.Entry.full_apply]
  by_cases k0 : k.val < 3072
  · rw [dif_pos k0, ← h2]
    exact full_lo m c s k k0
  · rw [dif_neg k0]
    refine (full_hi m c s k (by omega)).trans ?_
    subst h0 h1 h2 h3 h4 h5 h6
    refine dite_congr rfl (fun k1 => ?_) (fun k1 => dite_congr ?_ (fun k2 => ?_) (fun k2 => ?_))
    · rw [Cert.SguRefIdeal.Entry.du_apply, ← Sgu.sgm_eq (g_real hP)]
      rfl
    · change (k.val - 3072 < 2048) = (k.val - 3072 - 1024 < 1024)
      exact propext ⟨fun _ => by omega, fun _ => by omega⟩
    · rw [Cert.SguRefIdeal.Entry.dv_apply]
      refine (congrFun (congrFun (Sgu.dv_eq (v_real hP) hE (l_real hG)) s) _).trans ?_
      exact congrArg (fun d => Sgu.rowR _ d _) (funext fun e => congrArg (· * Sgu.lA _ e) (dn_eq hP s e))
    · rw [Cert.SguRefIdeal.Entry.dg_apply]
      refine (congrFun (congrFun (Sgu.dg_eq (g_real hP) (u_real hP) (y_real hY) hM) s) _).trans ?_
      have e : (⟨k.val - 3072 - 2048, by have := k.isLt; omega⟩ : Fin 1024) = ⟨k.val - 3072 - 1024 - 1024, by have := k.isLt; omega⟩ :=
        Fin.ext (show k.val - 3072 - 2048 = k.val - 3072 - 1024 - 1024 by omega)
      rw [e]

/-- The reference leaves its arguments as they were and has no semaphores. -/
theorem frame_ref : Cert.quiescent_SguRefIdeal := fun m g _ =>
  (θ_run Cert.SguRefIdeal.defs _ _).mono (fun r h => ⟨fun c => (h c).2.2.2.2.2, sem_eq_zero_of_no_sems (by decide) r.2⟩) (Cert.SguRefIdeal.Value.run m g)

/-- The results of the sgu call are those of its reference. -/
theorem algebraic : Cert.algebraic_SguBwdIdeal_SguRefIdeal_pre_finite_sgu := by
  intro m g m' g' hpre hagree
  refine ⟨_, _, _, _, _, run m g, (θ_run Cert.SguRefIdeal.defs _ _).mono (fun r h c => ?_) (Cert.SguRefIdeal.Value.run m' g')⟩
  obtain ⟨h0, h1, h2, h3, h4, hargs⟩ := h c
  obtain ⟨hP, hY, hG, hL, hW, hB⟩ := real_of_pre _ _ _ _ _ _ _ (hpre c)
  obtain ⟨a0, a1, a2, a3, a4, a5, a6⟩ := hagree c
  refine ⟨h0.trans ?_, h1.trans ?_, h2.trans ?_, h3.trans ?_, h4.trans ?_, hargs⟩
  · rw [Cert.SguRefIdeal.Read.val_main_v93_eq, a0, a1, a2, a3, a4, a5, a6]
    exact (full_eq m c _ _ _ _ _ _ _ hP hY hG hL hW hB rfl rfl rfl rfl rfl rfl rfl).symm
  · refine (Cert.SguRefIdeal.Read.val_main_v58_eq (F := Ideal) _ _ _ _).trans ?_
    rw [a0, a1, a3, a4]
    funext i
    obtain ⟨z, h, p, q, rfl⟩ : ∃ (z : Fin 1) (h : Fin 8) (p q : Fin 128), i = ix4 z h p q := ⟨i 0, i 1, i 2, i 3, by blk_ext⟩
    rw [Cert.SguRefIdeal.Entry.dw_apply, ← dm_eq hP]
    rfl
  · refine (Cert.SguRefIdeal.Read.val_main_v53_eq (F := Ideal) _ _).trans ?_
    rw [a0, a1]
    funext i
    obtain ⟨z, h, p, rfl⟩ : ∃ (z : Fin 1) (h : Fin 8) (p : Fin 128), i = ix3 z h p := ⟨i 0, i 1, i 2, by blk_ext⟩
    rw [Cert.SguRefIdeal.Entry.db_apply, ← dm_eq hP]
    rfl
  · refine (Cert.SguRefIdeal.Read.val_main_v64_eq (F := Ideal) _ _ _).trans ?_
    rw [a0, a1, a5]
    funext i
    obtain ⟨z, e, rfl⟩ : ∃ (z : Fin 1) (e : Fin 1024), i = ix2 z e := ⟨i 0, i 1, by blk_ext⟩
    rw [Cert.SguRefIdeal.Entry.dlg_apply]
    exact Finset.sum_congr rfl fun s _ => (mul_comm _ _).trans (congrArg (· * _) (dn_eq hP s e).symm)
  · refine (Cert.SguRefIdeal.Read.val_main_v61_eq (F := Ideal) _ _ _).trans ?_
    rw [a0, a1, a5]
    funext i
    obtain ⟨z, e, rfl⟩ : ∃ (z : Fin 1) (e : Fin 1024), i = ix2 z e := ⟨i 0, i 1, by blk_ext⟩
    rw [Cert.SguRefIdeal.Entry.dlb_apply]
    exact Finset.sum_congr rfl fun s _ => (dn_eq hP s e).symm

end Cert.Proof.SguPair

end
-- ==== Proof.DxPay.lean ====
module

public import proofs.«01_k».proof.Proof.Gen.DxBwdIdeal.Frame
public import Idealize.ShloMosaic.Lib.Pipeline.ValueKit
public import proofs.«01_k».proof.Proof.Reals

/-! The values that the dx kernel's body stores, read at one index. -/

@[expose] public section

set_option maxRecDepth 16384

noncomputable section

open Idealize.ShloMosaic Idealize.ShloMosaic.TcCoe Idealize.SL.Sem
open Idealize.ShloMosaic.Pipeline (Dat)

namespace Cert.DxBwdIdeal.Value

open Cert.DxBwdIdeal Cert.DxBwdIdeal.Gen

variable (m : (ℓ : Loc nD τ sig) → Buf (Elt Ideal) ℓ)

theorem zero_apply (j) : k0_pay3 (F := Ideal) j = 0 := by
  pointwise [k0_pay3]

/-- 768 columns of a block of the projection's gradient. -/
def cols (P : FVec Ideal S512x6144 .bf16) (off : ℕ) (h : ∀ a, (![0, off] : Fin 2 → ℕ) a + S512x768.size a ≤ S512x6144.size a) :
    Vec Ideal S512x768 .bf16 :=
  View.ld (S := S512x6144) P (Rect.unit (s := S512x6144) ![0, off] S512x768.size h)

/-- One of the eight column groups of the weights. -/
def tile (W : FVec Ideal S8x1024x768 .bf16) (j : ℕ) (h : ∀ a, (![j, 0, 0] : Fin 3 → ℕ) a + S1x1024x768.size a ≤ S8x1024x768.size a) :
    Vec Ideal S1x1024x768 .bf16 :=
  View.ld (S := S8x1024x768) W (Rect.unit (s := S8x1024x768) ![j, 0, 0] S1x1024x768.size h)

/-- The eight partial products that the body adds up: the gradient reaching the normalised rows of a block. -/
def dhB (P : FVec Ideal S512x6144 .bf16) (W : FVec Ideal S8x1024x768 .bf16) : FVec Ideal S512x1024 .f32 :=
  k0_pay6
    (k0_pay4 (cols P 0 inb_S512x6144_S512x768_0_0)
      (tile W 0 inb_S8x1024x768_S1x1024x768_0_0_0)
      (cols P 768 inb_S512x6144_S512x768_0_768)
      (tile W 1 inb_S8x1024x768_S1x1024x768_1_0_0)
      (cols P 1536 inb_S512x6144_S512x768_0_1536)
      (tile W 2 inb_S8x1024x768_S1x1024x768_2_0_0)
      (cols P 2304 inb_S512x6144_S512x768_0_2304)
      (tile W 3 inb_S8x1024x768_S1x1024x768_3_0_0))
    (k0_pay5 (cols P 3072 inb_S512x6144_S512x768_0_3072))
    (tile W 4 inb_S8x1024x768_S1x1024x768_4_0_0)
    (cols P 3840 inb_S512x6144_S512x768_0_3840)
    (tile W 5 inb_S8x1024x768_S1x1024x768_5_0_0)
    (cols P 4608 inb_S512x6144_S512x768_0_4608)
    (tile W 6 inb_S8x1024x768_S1x1024x768_6_0_0)
    (cols P 5376 inb_S512x6144_S512x768_0_5376)
    (tile W 7 inb_S8x1024x768_S1x1024x768_7_0_0)

/-- One entry of the product of the projection's gradient with the transposed weights. -/
def dh (P : FVec Ideal S8192x6144 .f32) (W : FVec Ideal S1x1024x6144 .f32) (s : Fin 8192) (d : Fin 1024) : EReal :=
  ∑ e : Fin 6144, P (ix2 s e) * W (ix3 0 d e)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The host's regrouped weights, read at one entry. -/
theorem weights_apply (c : Dev nD) (j : Fin 8) (d : Fin 1024) (k : Fin 768) :
    V m c main_v3 (ix3 j d k) = m ((c : Thread nD τ).loc main_arg1) (ix3 0 d ⟨j.val * 768 + k.val, by omega⟩) := by
  simp only [V, V0, hostOps0, List.flatten_cons, List.flatten_nil, List.append_nil]
  after_results
  pointwise
  blk_ext

theorem weights_block (c : Dev nD) (t : Fin cfg0.N) (j : Fin 8) (d : Fin 1024) (k : Fin 768) :
    iblk m c 1 t (ix3 j d k) = m ((c : Thread nD τ).loc main_arg1) (ix3 0 d ⟨j.val * 768 + k.val, by omega⟩) := by
  rw [← weights_apply m c]
  blk_ext [iblk, idx t]

/-- The partial products at a block's row are the whole product at the array's row. -/
theorem dh_block (c : Dev nD) (t : Fin cfg0.N) (r : Fin 512) (d : Fin 1024) (s : Fin 8192) (hs : s.val = t.val * 512 + r.val) :
    dhB (iblk m c 0 t) (iblk m c 1 t) (ix2 r d) = dh (m ((c : Thread nD τ).loc main_arg0)) (m ((c : Thread nD τ).loc main_arg1)) s d := by
  pointwise [dhB, cols, tile, k0_pay6, k0_pay5, k0_pay4, dh]
  rw [← Fin.sum_mul_add_fin 8 768 (fun e : Fin 6144 => _)]
  rw [Fin.sum_univ_eight]
  simp only [weights_block m c t]
  blk_point [iblk, V, idx t]

theorem grad_apply (dh : FVec Ideal S512x1024 .f32) (x : FVec Ideal S512x1024 .f32) (g : FVec Ideal S1x1024 .f32) (a : FVec Ideal S512x1024 .f32) (r d) :
    k0_pay2 dh (k0_pay7 x) (k0_pay8 x) g a (ix2 r d)
      = a (ix2 r d) + Reals.rowGrad (fun k => x (ix2 r k)) (fun k => dh (ix2 r k) * g (ix2 0 k)) d := by
  pointwise [k0_pay2, k0_pay7, k0_pay8, Reals.rowGrad, Reals.rms]

/-- The row of a block that the eight-row sums put into their row `a`, group `b`. -/
def row (a : Fin 8) (b : Fin 64) : Fin 512 := ⟨b.val * 8 + a.val, by omega⟩

theorem acc_apply (dh x : FVec Ideal S512x1024 .f32) (acc : FVec Ideal S8x1024 .f32) (a : Fin 8) (d : Fin 1024) :
    k0_pay1 dh (k0_pay8 x) acc (ix2 a d) = acc (ix2 a d) + ∑ b : Fin 64, dh (ix2 (row a b) d)
      * (x (ix2 (row a b) d) * Reals.rms fun k => x (ix2 (row a b) k)) := by
  pointwise [k0_pay1, k0_pay8, k0_pay7, Reals.rms, row]

end Cert.DxBwdIdeal.Value

end
-- ==== Proof.DxValue.lean ====
module

public import proofs.«01_k».proof.Proof.DxPay
public import Idealize.ShloMosaic.Lib.Claim

/-! The two arrays that the dx call leaves, in terms of its arguments. -/

@[expose] public section

set_option maxRecDepth 16384

noncomputable section

open Idealize.ShloMosaic Idealize.ShloMosaic.TcCoe Idealize.SL.Sem
open Idealize.ShloMosaic.Pipeline (Dat)

namespace Cert.DxBwdIdeal.Value

open Cert.DxBwdIdeal Cert.DxBwdIdeal.Gen

variable (m : (ℓ : Loc nD τ sig) → Buf (Elt Ideal) ℓ)

/-- The gradient of the residual input at row `s`, column `d`. -/
def gx (P : FVec Ideal S8192x6144 .f32) (W : FVec Ideal S1x1024x6144 .f32) (X : FVec Ideal S8192x1024 .f32) (G : FVec Ideal S1x1024 .f32)
    (A : FVec Ideal S8192x1024 .f32) : FVec Ideal S8192x1024 .f32 := fun i =>
  A (ix2 (i 0) (i 1)) + Reals.rowGrad (fun k => X (ix2 (i 0) k)) (fun k => dh P W (i 0) k * G (ix2 0 k)) (i 1)

/-- One row's part of the gradient of the gain. -/
def gg (P : FVec Ideal S8192x6144 .f32) (W : FVec Ideal S1x1024x6144 .f32) (X : FVec Ideal S8192x1024 .f32) (d : Fin 1024) (s : Fin 8192) : EReal :=
  dh P W s d * (X (ix2 s d) * Reals.rms fun k => X (ix2 s k))

/-- What a grid point stores into the gradient's block, at a symbolic point. -/
theorem point (c : Dev nD) (t : Fin cfg0.N) (y : S512x1024.Idx) :
    k0_pay2 (dhB (iblk m c 0 t) (iblk m c 1 t)) (k0_pay7 (iblk m c 2 t)) (k0_pay8 (iblk m c 2 t)) (iblk m c 3 t) (iblk m c 4 t) y
      = gx (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  obtain ⟨r, d, rfl⟩ : ∃ (r : Fin 512) (d : Fin 1024), y = ix2 r d := ⟨y 0, y 1, by blk_ext⟩
  rw [grad_apply, gx]
  have hs : t.val * 512 + r.val < 8192 := by have := t.isLt; have := r.isLt; have : cfg0.N = 16 := N_0; omega
  simp only [fun k => dh_block m c t r k ⟨t.val * 512 + r.val, hs⟩ rfl]
  have h0 : (((cfg0.win 5).blk t).view.emb (ix2 r d)) = ix2 (⟨t.val * 512 + r.val, hs⟩ : Fin 8192) d := by blk_ext [idx t]
  rw [h0]
  have hx : ∀ k, iblk m c 2 t (ix2 r k) = m ((c : Thread nD τ).loc main_arg2) (ix2 (⟨t.val * 512 + r.val, hs⟩ : Fin 8192) k) := fun k => by
    blk_ext [iblk, V, idx t]
  have hg : ∀ k, iblk m c 3 t (ix2 0 k) = m ((c : Thread nD τ).loc main_arg3) (ix2 0 k) := fun k => by blk_ext [iblk, V, idx t]
  have ha : iblk m c 4 t (ix2 r d) = m ((c : Thread nD τ).loc main_arg4) (ix2 (⟨t.val * 512 + r.val, hs⟩ : Fin 8192) d) := by
    blk_ext [iblk, V, idx t]
  simp only [hx, hg, ha]
  rfl

/-- The gradient's array after the run. -/
theorem final5 (c : Dev nD) : (dats m 0 c).arrAt 5 (cfgs 0).N
    = gx (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  by_cases h : t.val % 16 = 0
  · rw [outsAt0_A m c t h]; frame_out; exact point m c t y
  · rw [outsAt0_B m c t h]; frame_out; exact point m c t y

/-- One grid point's addition to the eight-row accumulator. -/
theorem part (c : Dev nD) (t : Fin cfg0.N) (acc : FVec Ideal S8x1024 .f32) (j : S8x1024.Idx) :
    k0_pay1 (dhB (iblk m c 0 t) (iblk m c 1 t)) (k0_pay8 (iblk m c 2 t)) acc j
      = acc j + ∑ b : Fin 64, gg (m ((c : Thread nD τ).loc main_arg0)) (m ((c : Thread nD τ).loc main_arg1)) (m ((c : Thread nD τ).loc main_arg2))
          (j 1) ⟨t.val * 512 + (row (j 0) b).val, by have := t.isLt; have := (row (j 0) b).isLt; have : cfg0.N = 16 := N_0; omega⟩ := by
  obtain ⟨a, d, rfl⟩ : ∃ (a : Fin 8) (d : Fin 1024), j = ix2 a d := ⟨j 0, j 1, by blk_ext⟩
  rw [acc_apply]
  refine congrArg _ (Finset.sum_congr rfl fun b _ => ?_)
  have hs : t.val * 512 + (row a b).val < 8192 := by have := t.isLt; have := (row a b).isLt; have : cfg0.N = 16 := N_0; omega
  have hx : ∀ k, iblk m c 2 t (ix2 (row a b) k) = m ((c : Thread nD τ).loc main_arg2) (ix2 (⟨t.val * 512 + (row a b).val, hs⟩ : Fin 8192) k) := fun k => by
    blk_ext [iblk, V, idx t]
  rw [dh_block m c t (row a b) d ⟨t.val * 512 + (row a b).val, hs⟩ rfl]
  simp only [hx]
  rfl

/-- Row `a` of the accumulator holds the rows congruent to `a` modulo eight. -/
def ggAcc (P : FVec Ideal S8192x6144 .f32) (W : FVec Ideal S1x1024x6144 .f32) (X : FVec Ideal S8192x1024 .f32) : FVec Ideal S8x1024 .f32 := fun j =>
  ∑ t : Fin 16, ∑ b : Fin 64, gg P W X (j 1) ⟨t.val * 512 + (row (j 0) b).val, by have := t.isLt; have := (row (j 0) b).isLt; omega⟩

/-- The accumulator after the run. -/
theorem final6 (c : Dev nD) : (dats m 0 c).arrAt 6 (cfgs 0).N
    = ggAcc (m ((c : Thread nD τ).loc main_arg0)) (m ((c : Thread nD τ).loc main_arg1)) (m ((c : Thread nD τ).loc main_arg2)) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0) _
    (fun t h j => by rw [outsAt0_A m c t h]; frame_out; exact (part m c t _ j).trans (by rw [zero_apply]))
    (fun t h j => by rw [outsAt0_B m c t h]; frame_out; exact part m c t _ j)
    (le_of_eq N_0) t0_15 rfl j, zero_add]
  rfl

/-- Summing the accumulator's eight rows sums over all rows of the array. -/
theorem ggAcc_sum (P : FVec Ideal S8192x6144 .f32) (W : FVec Ideal S1x1024x6144 .f32) (X : FVec Ideal S8192x1024 .f32) (d : Fin 1024) :
    ∑ a : Fin 8, ggAcc P W X (ix2 a d) = ∑ s : Fin 8192, gg P W X d s := by
  simp only [ggAcc]
  rw [Finset.sum_comm]
  rw [← Fin.sum_mul_add_fin 16 512 (gg P W X d)]
  refine Finset.sum_congr rfl fun t _ => ?_
  rw [Finset.sum_comm, ← Fin.sum_mul_add_fin 64 8 (fun k : Fin 512 => _)]
  rfl

/-- The host's sum over the accumulator's rows, from the arrays the region leaves. -/
theorem tail (c : Dev nD) : Pipeline.afterTail₀ cfgs (dats m) 0 (V0 m) [hostOps1] c main_v7
    = (fun i : S1x1024.Idx => ∑ a : Fin 8, ggAcc (m ((c : Thread nD τ).loc main_arg0)) (m ((c : Thread nD τ).loc main_arg1))
        (m ((c : Thread nD τ).loc main_arg2)) (ix2 a (i 1))) := by
  simp only [Pipeline.afterTail₀, hostOps1, List.flatten_cons, List.flatten_nil, List.append_nil]
  after_results
  have hw := Pipeline.withArrays_arr (cfgs 0).spec (by decide) c (V0 m c) (fun w => (dats m 0 c).arrAt w (cfgs 0).N) 6
  rw [show Pipeline.withArrays (cfgs 0).spec c (V0 m c) (fun w => (dats m 0 c).arrAt w (cfgs 0).N) (Proc.devRef .tc main_v5_1) = _ from hw]
  simp only [final6]
  funext i
  pointwise

/-- The dx call's run: its two results and its arguments. -/
theorem run (ρ : Dev nD → PrngReg) : θ_run defs (onTc (τ := τ) (main (F := Ideal))) ⟨m, fun _ => 0, ρ⟩ fun r => ∀ c : Dev nD,
    r.2.mem ((c.tc : Thread nD τ).loc main_v5_0)
        = gx (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_v7)
        = (fun i : S1x1024.Idx => ∑ a : Fin 8, ggAcc (m ((c : Thread nD τ).loc main_arg0)) (m ((c : Thread nD τ).loc main_arg1))
            (m ((c : Thread nD τ).loc main_arg2)) (ix2 a (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans (final5 m c), ((h.1 c).2 main_v7 (by decide)).trans (tail m c), h.2 c⟩)
    (θ_run_and (run_main m ρ) (unchanged m ρ))

end Cert.DxBwdIdeal.Value

end
-- ==== Proof.DxRef.lean ====
module

public import proofs.«01_k».proof.Proof.Reals
public import proofs.«01_k».proof.Proof.Gen.DxRefIdeal.Read

/-! The dx reference's two results, read at one entry. -/

@[expose] public section

set_option maxRecDepth 16384

noncomputable section

open Idealize.ShloMosaic Idealize.ShloMosaic.TcCoe Idealize.SL.Sem

namespace Cert.DxRefIdeal.Entry

open Cert.DxRefIdeal Cert.DxRefIdeal.Read

/-- One entry of the product of the projection's gradient with the transposed weights. -/
def dh (P : FVec Ideal S8192x6144 .f32) (W : FVec Ideal S1x1024x6144 .f32) (s : Fin 8192) (d : Fin 1024) : EReal :=
  ∑ e : Fin 6144, P (ix2 s e) * W (ix3 0 d e)

theorem dh_apply (P : FVec Ideal S8192x6144 .f32) (W : FVec Ideal S1x1024x6144 .f32) (s : Fin 8192) (d : Fin 1024) :
    val_main_v17 (F := Ideal) P W (ix2 s d) = dh P W s d := by
  pointwise [val_main_v17, val_main_v15, dh]

theorem gain_apply (P : FVec Ideal S8192x6144 .f32) (W : FVec Ideal S1x1024x6144 .f32) (X : FVec Ideal S8192x1024 .f32) (i : Fin 1) (d : Fin 1024) :
    val_main_v20 (F := Ideal) P W X (ix2 i d) = ∑ s : Fin 8192, X (ix2 s d) * Reals.rms (fun k => X (ix2 s k)) * dh P W s d := by
  simp only [← dh_apply]
  pointwise [val_main_v20, val_main_v19, val_main_v18, val_main_cst_3, val_main_v12, val_main_v11, val_main_v7, val_main_v6, val_main_v5, val_main_v4,
    val_main_v3, val_main_v2, val_main_v1, val_main_v0, val_main_cst, val_main_cst_0, val_main_cst_1, Reals.rms]

theorem dx_apply (P : FVec Ideal S8192x6144 .f32) (W : FVec Ideal S1x1024x6144 .f32) (X : FVec Ideal S8192x1024 .f32) (G : FVec Ideal S1x1024 .f32)
    (A : FVec Ideal S8192x1024 .f32) (s : Fin 8192) (d : Fin 1024) :
    val_main_v37 (F := Ideal) P W X G A (ix2 s d)
      = A (ix2 s d) + dh P W s d * G (ix2 0 d) * Reals.rms (fun k => X (ix2 s k))
        + X (ix2 s d) * Reals.rowPull (fun k => X (ix2 s k)) (fun k => dh P W s k * G (ix2 0 k))
        + Reals.rowPull (fun k => X (ix2 s k)) (fun k => dh P W s k * G (ix2 0 k)) * X (ix2 s d) := by
  simp only [← dh_apply]
  pointwise [val_main_v37, val_main_v36, val_main_v35, val_main_v34, val_main_v33, val_main_v32, val_main_cst_6, val_main_v31, val_main_v30, val_main_cst_5,
    val_main_v29, val_main_v28, val_main_v27, val_main_v26, val_main_v25, val_main_v24, val_main_cst_4, val_main_v23, val_main_v22, val_main_v21,
    val_main_v10, val_main_v9, val_main_cst_2, val_main_v8, val_main_v7, val_main_v6, val_main_v5, val_main_v4,
    val_main_v3, val_main_v2, val_main_v1, val_main_v0, val_main_cst, val_main_cst_0, val_main_cst_1, Reals.rowPull, Reals.rms]
  simp only [Fin.sum_univ_one]

end Cert.DxRefIdeal.Entry

end
-- ==== Proof.DxPair.lean ====
module

public import proofs.«01_k».proof.Defs
public import proofs.«01_k».proof.Proof.DxValue
public import proofs.«01_k».proof.Proof.DxRef
public import Idealize.ShloMosaic.Lib.Claim

/-! The dx call against the derivative of the normalised projection. -/

@[expose] public section

set_option maxRecDepth 16384

noncomputable section

open Idealize.ShloMosaic Idealize.ShloMosaic.TcCoe Idealize.SL.Sem

namespace Cert.Proof.Dx

/-- The finiteness precondition's side conditions. -/
instance preFacts : Cert.Pre_finite_dx.Facts where
  bcast_S_S8192x6144 := by decide
  reducesTo_S8192x6144_S_d0_1 := by decide
  h_S_ := by decide
  bcast_S_S1x1024x6144 := by decide
  reducesTo_S1x1024x6144_S_d0_1_2 := by decide
  bcast_S_S8192x1024 := by decide
  reducesTo_S8192x1024_S_d0_1 := by decide
  bcast_S_S1x1024 := by decide
  reducesTo_S1x1024_S_d0_1 := by decide

/-- The precondition makes the four arguments it names real. -/
theorem real_of_pre (P : FVec Ideal Cert.Pre_finite_dx.S8192x6144 .f32) (W : FVec Ideal Cert.Pre_finite_dx.S1x1024x6144 .f32)
    (X : FVec Ideal Cert.Pre_finite_dx.S8192x1024 .f32) (G : FVec Ideal Cert.Pre_finite_dx.S1x1024 .f32)
    (A : FVec Ideal Cert.Pre_finite_dx.S8192x1024 .f32)
    (h : Cert.Pre_finite_dx.fn (F := Ideal) P W X G A = fun _ => 1#1) :
    Reals.IsReal P ∧ Reals.IsReal W ∧ Reals.IsReal X ∧ Reals.IsReal G := by
  have h0 := congrFun h ((fun a => nomatch a) : Cert.Pre_finite_dx.S_.Idx)
  have : Subsingleton Cert.Pre_finite_dx.S_.Idx := ⟨fun a b => funext fun i => nomatch i⟩
  obtain ⟨h1, hG⟩ := IntOp.andi_eq_one.1 h0
  obtain ⟨h2, hX⟩ := IntOp.andi_eq_one.1 h1
  obtain ⟨h3, hW⟩ := IntOp.andi_eq_one.1 h2
  obtain ⟨h4, hP⟩ := IntOp.andi_eq_one.1 h3
  exact ⟨Reals.isReal_of_all _ _ _ _ _ _ hP, Reals.isReal_of_all _ _ _ _ _ _ hW, Reals.isReal_of_all _ _ _ _ _ _ hX,
    Reals.isReal_of_all _ _ _ _ _ _ hG⟩

/-- On real arguments the kernel's gradient of the residual input is the reference's. -/
theorem gx_eq (P : FVec Ideal Cert.DxBwdIdeal.S8192x6144 .f32) (W : FVec Ideal Cert.DxBwdIdeal.S1x1024x6144 .f32)
    (X : FVec Ideal Cert.DxBwdIdeal.S8192x1024 .f32) (G : FVec Ideal Cert.DxBwdIdeal.S1x1024 .f32)
    (A : FVec Ideal Cert.DxBwdIdeal.S8192x1024 .f32)
    (hP : Reals.IsReal P) (hW : Reals.IsReal W) (hX : Reals.IsReal X) (hG : Reals.IsReal G) :
    Cert.DxBwdIdeal.Value.gx P W X G A = Cert.DxRefIdeal.Read.val_main_v37 (F := Ideal) P W X G A := by
  funext i
  obtain ⟨s, d, rfl⟩ : ∃ (s : Fin 8192) (d : Fin 1024), i = ix2 s d := ⟨i 0, i 1, by blk_ext⟩
  rw [Cert.DxRefIdeal.Entry.dx_apply]
  obtain ⟨p, rfl⟩ := hP
  obtain ⟨w, rfl⟩ := hW
  obtain ⟨x, rfl⟩ := hX
  obtain ⟨g, rfl⟩ := hG
  have hd : ∀ k, Cert.DxRefIdeal.Entry.dh (fun i => (p i : EReal)) (fun i => (w i : EReal)) s k * (g (ix2 0 k) : EReal)
      = ((∑ e : Fin 6144, p (ix2 s e) * w (ix3 0 k e)) * g (ix2 0 k) : ℝ) := fun k => by
    rw [EReal.coe_mul, ← Reals.sum_real]
    simp only [EReal.coe_mul]
    rfl
  simp only [hd]
  refine Eq.trans ?_ (Reals.rowGrad_eq (fun k => x (ix2 s k)) (fun k => (∑ e : Fin 6144, p (ix2 s e) * w (ix3 0 k e)) * g (ix2 0 k)) _ d)
  simp only [← hd]
  rfl

/-- The gradient of the gain: the same sum over the rows, its factors in another order. -/
theorem gain_eq (P : FVec Ideal Cert.DxBwdIdeal.S8192x6144 .f32) (W : FVec Ideal Cert.DxBwdIdeal.S1x1024x6144 .f32)
    (X : FVec Ideal Cert.DxBwdIdeal.S8192x1024 .f32) (d : Fin 1024) :
    ∑ a : Fin 8, Cert.DxBwdIdeal.Value.ggAcc P W X (ix2 a d) = Cert.DxRefIdeal.Read.val_main_v20 (F := Ideal) P W X (ix2 0 d) := by
  rw [Cert.DxBwdIdeal.Value.ggAcc_sum, Cert.DxRefIdeal.Entry.gain_apply]
  exact Finset.sum_congr rfl fun s _ => mul_comm _ _

/-- The reference leaves its arguments as they were and has no semaphores. -/
theorem frame_ref : Cert.quiescent_DxRefIdeal := fun m g _ =>
  (θ_run Cert.DxRefIdeal.defs _ _).mono (fun r h => ⟨fun c => (h c).2.2, sem_eq_zero_of_no_sems (by decide) r.2⟩) (Cert.DxRefIdeal.Value.run m g)

/-- The results of the dx call are those of its reference. -/
theorem algebraic : Cert.algebraic_DxBwdIdeal_DxRefIdeal_pre_finite_dx := by
  intro m g m' g' hpre hagree
  refine ⟨_, _, Cert.DxBwdIdeal.Value.run m g, (θ_run Cert.DxRefIdeal.defs _ _).mono (fun r h c => ?_) (Cert.DxRefIdeal.Value.run m' g')⟩
  obtain ⟨h0, h1, h2⟩ := h c
  obtain ⟨hP, hW, hX, hG⟩ := real_of_pre _ _ _ _ _ (hpre c)
  obtain ⟨a0, a1, a2, a3, a4⟩ := hagree c
  refine ⟨h0.trans ?_, h1.trans ?_, h2⟩
  · rw [Cert.DxRefIdeal.Read.val_main_v37_eq, a0, a1, a2, a3, a4]
    exact (gx_eq _ _ _ _ _ hP hW hX hG).symm
  · refine (Cert.DxRefIdeal.Read.val_main_v20_eq (F := Ideal) _ _ _).trans ?_
    rw [a0, a1, a2]
    funext i
    obtain ⟨z, d, rfl⟩ : ∃ (z : Fin 1) (d : Fin 1024), i = ix2 z d := ⟨i 0, i 1, by blk_ext⟩
    obtain rfl : z = 0 := Subsingleton.elim _ _
    exact (gain_eq _ _ _ d).symm

end Cert.Proof.Dx

end
-- ==== Proof.OlPay.lean ====
module

public import proofs.«01_k».proof.Proof.Gen.OutLossIdeal.Frame
public import Idealize.ShloMosaic.Lib.Pipeline.ValueKit
public import proofs.«01_k».proof.Proof.Reals

/-! The values that the loss call's body stores, read at one index of a block and named in terms of the whole arrays. -/

@[expose] public section

set_option maxRecDepth 16384

noncomputable section

open Idealize.ShloMosaic Idealize.ShloMosaic.TcCoe Idealize.SL.Sem
open Idealize.ShloMosaic.Pipeline (Dat)

namespace Cert.OutLossIdeal.Value

open Cert.OutLossIdeal Cert.OutLossIdeal.Gen

variable (m : (ℓ : Loc nD τ sig) → Buf (Elt Ideal) ℓ)

/-- The five arguments of the call. -/
structure Args where
  /-- The residual stream. -/
  X : FVec Ideal S8192x1024 .f32
  /-- The gated values. -/
  Y : FVec Ideal S8192x2048 .f32
  /-- The output projection. -/
  W : FVec Ideal S1x2048x1024 .f32
  /-- The gain. -/
  G : FVec Ideal S1024 .f32
  /-- The target. -/
  T : FVec Ideal S8192x1024 .f32

namespace Args

variable (A : Args)

/-- Row `s` of the residual stream after the projection is added. -/
def x2 (s : Fin 8192) (d : Fin 1024) : EReal := A.X (ix2 s d) + ∑ k : Fin 2048, A.Y (ix2 s k) * A.W (ix3 0 k d)

/-- The normalised row. -/
def n (s : Fin 8192) (d : Fin 1024) : EReal := A.x2 s d * Reals.rms (A.x2 s)

/-- The error of the prediction. -/
def e (s : Fin 8192) (d : Fin 1024) : EReal := A.n s d * A.G (ix1 d) - A.T (ix2 s d)

/-- The loss's derivative at the prediction. -/
def dout (s : Fin 8192) (d : Fin 1024) : EReal := A.e s d * Ideal.ofBits .f32 0x3A800000#32

/-- The gradient of the residual stream. -/
def dx (s : Fin 8192) (d : Fin 1024) : EReal := Reals.rowGrad (A.x2 s) (fun k => A.dout s k * A.G (ix1 k)) d

end Args

/-- The arguments as the memory holds them. -/
def args (c : Dev nD) : Args where
  X := m ((c : Thread nD τ).loc main_arg0)
  Y := m ((c : Thread nD τ).loc main_arg1)
  W := m ((c : Thread nD τ).loc main_arg2)
  G := m ((c : Thread nD τ).loc main_arg3)
  T := m ((c : Thread nD τ).loc main_arg4)

theorem zero2_apply (j) : k0_pay2 (F := Ideal) j = 0 := by pointwise [k0_pay2]

theorem zero3_apply (j) : k0_pay3 (F := Ideal) j = 0 := by pointwise [k0_pay3]

theorem zero4_apply (j) : k0_pay4 (F := Ideal) j = 0 := by pointwise [k0_pay4]

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

/-- The array's row of a block's row. -/
def at' (t : Fin cfg0.N) (r : Fin 512) : Fin 8192 :=
  ⟨t.val * 512 + r.val, by have := t.isLt; have := r.isLt; have : cfg0.N = 16 := N_0; omega⟩

theorem weights_apply (c : Dev nD) (k : Fin 2048) (d : Fin 1024) : V m c main_v1 (ix2 k d) = (args m c).W (ix3 0 k d) := by
  simp only [V, V0, hostOps0, List.flatten_cons, List.flatten_nil, List.append_nil]
  after_results
  pointwise
  blk_ext [args]

theorem gated_apply (c : Dev nD) (s : Fin 8192) (k : Fin 2048) : V m c main_v2 (ix2 s k) = (args m c).Y (ix2 s k) := by
  simp only [V, V0, hostOps0, List.flatten_cons, List.flatten_nil, List.append_nil]
  after_results
  pointwise
  blk_ext [args]

theorem gain_apply (c : Dev nD) (d : Fin 1024) : V m c main_v3 (ix2 0 d) = (args m c).G (ix1 d) := by
  simp only [V, V0, hostOps0, List.flatten_cons, List.flatten_nil, List.append_nil]
  after_results
  pointwise
  blk_ext [args]

theorem X_block (c : Dev nD) (t : Fin cfg0.N) (r : Fin 512) (d : Fin 1024) : iblk m c 0 t (ix2 r d) = (args m c).X (ix2 (at' t r) d) := by
  blk_ext [iblk, V, idx t, args, at']

theorem Y_block (c : Dev nD) (t : Fin cfg0.N) (r : Fin 512) (k : Fin 2048) : iblk m c 1 t (ix2 r k) = (args m c).Y (ix2 (at' t r) k) := by
  rw [← gated_apply m c]
  blk_ext [iblk, idx t, at']

theorem W_block (c : Dev nD) (t : Fin cfg0.N) (k : Fin 2048) (d : Fin 1024) : iblk m c 2 t (ix2 k d) = (args m c).W (ix3 0 k d) := by
  rw [← weights_apply m c]
  blk_ext [iblk, idx t]

theorem G_block (c : Dev nD) (t : Fin cfg0.N) (d : Fin 1024) : iblk m c 3 t (ix2 0 d) = (args m c).G (ix1 d) := by
  rw [← gain_apply m c]
  blk_ext [iblk, idx t]

theorem T_block (c : Dev nD) (t : Fin cfg0.N) (r : Fin 512) (d : Fin 1024) : iblk m c 4 t (ix2 r d) = (args m c).T (ix2 (at' t r) d) := by
  blk_ext [iblk, V, idx t, args, at']

theorem x2_block (c : Dev nD) (t : Fin cfg0.N) (r : Fin 512) (d : Fin 1024) :
    k0_pay6 (iblk m c 1 t) (iblk m c 0 t) (iblk m c 2 t) (ix2 r d) = (args m c).x2 (at' t r) d := by
  pointwise [k0_pay6, k0_pay5, Args.x2]
  simp only [X_block m c t, Y_block m c t, W_block m c t]

theorem rms_block (c : Dev nD) (t : Fin cfg0.N) (r : Fin 512) :
    k0_pay7 (iblk m c 1 t) (iblk m c 0 t) (iblk m c 2 t) (ix2 r 0) = Reals.rms ((args m c).x2 (at' t r)) := by
  rw [show (args m c).x2 (at' t r) = _ from funext fun d => (x2_block m c t r d).symm]
  generalize iblk m c 1 t = y
  generalize iblk m c 0 t = x
  generalize iblk m c 2 t = w
  pointwise [k0_pay7, Reals.rms]

theorem n_block (c : Dev nD) (t : Fin cfg0.N) (r : Fin 512) (d : Fin 1024) :
    k0_pay8 (iblk m c 1 t) (iblk m c 0 t) (iblk m c 2 t) (ix2 r d) = (args m c).n (at' t r) d := by
  rw [Args.n, ← x2_block m c t, ← rms_block m c t]
  generalize iblk m c 1 t = y
  generalize iblk m c 0 t = x
  generalize iblk m c 2 t = w
  pointwise [k0_pay8]

theorem e_block (c : Dev nD) (t : Fin cfg0.N) (r : Fin 512) (d : Fin 1024) :
    k0_pay10 (iblk m c 1 t) (iblk m c 0 t) (iblk m c 2 t) (iblk m c 3 t) (iblk m c 4 t) (ix2 r d) = (args m c).e (at' t r) d := by
  rw [Args.e, ← n_block m c t, ← G_block m c t, ← T_block m c t]
  generalize iblk m c 1 t = y
  generalize iblk m c 0 t = x
  generalize iblk m c 2 t = w
  pointwise [k0_pay10, k0_pay9]

theorem dout_block (c : Dev nD) (t : Fin cfg0.N) (r : Fin 512) (d : Fin 1024) :
    k0_pay12 (iblk m c 1 t) (iblk m c 0 t) (iblk m c 2 t) (iblk m c 3 t) (iblk m c 4 t) (ix2 r d) = (args m c).dout (at' t r) d := by
  rw [Args.dout, ← e_block m c t]
  pointwise [k0_pay12]

/-- The gradient through the normalisation, from what the body computed before it. -/
theorem grad_apply (q : FVec Ideal S512x1 .f32) (n : FVec Ideal S512x1024 .f32) (g : FVec Ideal S1x1024 .f32) (o : FVec Ideal S512x1024 .f32) (r : Fin 512)
    (d : Fin 1024) :
    k0_pay14 q n (k0_pay9 g) o (ix2 r d) = q (ix2 r 0) * (o (ix2 r d) * g (ix2 0 d) - n (ix2 r d)
      * Ideal.div (∑ k, o (ix2 r k) * g (ix2 0 k) * n (ix2 r k)) (Ideal.ofBits .f32 1149239296#32)) := by
  pointwise [k0_pay14, k0_pay9]

theorem dx_block (c : Dev nD) (t : Fin cfg0.N) (r : Fin 512) (d : Fin 1024) :
    k0_pay14 (k0_pay7 (iblk m c 1 t) (iblk m c 0 t) (iblk m c 2 t)) (k0_pay8 (iblk m c 1 t) (iblk m c 0 t) (iblk m c 2 t)) (k0_pay9 (iblk m c 3 t))
      (k0_pay12 (iblk m c 1 t) (iblk m c 0 t) (iblk m c 2 t) (iblk m c 3 t) (iblk m c 4 t)) (ix2 r d) = (args m c).dx (at' t r) d := by
  rw [grad_apply]
  simp only [rms_block m c t, n_block m c t, dout_block m c t, G_block m c t]
  rfl

/-- The row of a block that the eight-row sums put into their row `a`, group `b`. -/
def row (a : Fin 8) (b : Fin 64) : Fin 512 := ⟨b.val * 8 + a.val, by omega⟩

theorem dfg_apply (n o : FVec Ideal S512x1024 .f32) (acc : FVec Ideal S8x1024 .f32) (a : Fin 8) (d : Fin 1024) :
    k0_pay13 n o acc (ix2 a d) = acc (ix2 a d) + ∑ b : Fin 64, o (ix2 (row a b) d) * n (ix2 (row a b) d) := by
  pointwise [k0_pay13, row]

theorem loss_apply (y : FVec Ideal S512x2048 .bf16) (x : FVec Ideal S512x1024 .f32) (w : FVec Ideal S2048x1024 .bf16) (g : FVec Ideal S1x1024 .f32)
    (u : FVec Ideal S512x1024 .f32) (acc : FVec Ideal S8x1024 .f32) (a : Fin 8) (d : Fin 1024) :
    k0_pay11 y x w g u acc (ix2 a d)
      = acc (ix2 a d) + ∑ b : Fin 64, k0_pay10 y x w g u (ix2 (row a b) d) * k0_pay10 y x w g u (ix2 (row a b) d) := by
  pointwise [k0_pay11, row]

theorem dy_apply (q : FVec Ideal S512x1 .f32) (n : FVec Ideal S512x1024 .f32) (g : FVec Ideal S1x1024 .f32) (o : FVec Ideal S512x1024 .f32)
    (w : FVec Ideal S2048x1024 .bf16) (r : Fin 512) (k : Fin 2048) :
    k0_pay16 q n g o w (ix2 r k) = ∑ d : Fin 1024, k0_pay14 q n g o (ix2 r d) * w (ix2 k d) := by
  pointwise [k0_pay16, k0_pay15]

theorem dw_apply (y : FVec Ideal S512x2048 .bf16) (q : FVec Ideal S512x1 .f32) (n : FVec Ideal S512x1024 .f32) (g : FVec Ideal S1x1024 .f32)
    (o : FVec Ideal S512x1024 .f32) (acc : FVec Ideal S2048x1024 .f32) (k : Fin 2048) (d : Fin 1024) :
    k0_pay17 (k0_pay5 y) q n g o acc (ix2 k d) = acc (ix2 k d) + ∑ r : Fin 512, y (ix2 r k) * k0_pay14 q n g o (ix2 r d) := by
  pointwise [k0_pay17, k0_pay15, k0_pay5]

end Cert.OutLossIdeal.Value

end
-- ==== Proof.OlValue.lean ====
module

public import proofs.«01_k».proof.Proof.OlPay
public import Idealize.ShloMosaic.Lib.Claim

/-! The arrays that the loss call leaves, in terms of its arguments. -/

@[expose] public section

set_option maxRecDepth 16384

noncomputable section

open Idealize.ShloMosaic Idealize.ShloMosaic.TcCoe Idealize.SL.Sem
open Idealize.ShloMosaic.Pipeline (Dat)

namespace Cert.OutLossIdeal.Value

open Cert.OutLossIdeal Cert.OutLossIdeal.Gen

variable (m : (ℓ : Loc nD τ sig) → Buf (Elt Ideal) ℓ)

namespace Args

variable (A : Args)

/-- The gradient of the residual stream, as an array. -/
def gx : FVec Ideal S8192x1024 .f32 := fun i => A.dx (i 0) (i 1)

/-- The gradient of the gated values. -/
def gy : FVec Ideal S8192x2048 .bf16 := fun i => ∑ d : Fin 1024, A.dx (i 0) d * A.W (ix3 0 (i 1) d)

/-- A sum over the rows of a grid point's block, over all points. -/
def overRows (f : Fin 8192 → EReal) : EReal := ∑ t : Fin 16, ∑ r : Fin 512, f ⟨t.val * 512 + r.val, by have := t.isLt; have := r.isLt; omega⟩

/-- The gradient of the output projection, accumulated over the points. -/
def gwAcc : FVec Ideal S2048x1024 .f32 := fun j => overRows fun s => A.Y (ix2 s (j 0)) * A.dx s (j 1)

/-- The rows congruent to `a` modulo eight, summed over all points. -/
def overEighth (f : Fin 8192 → EReal) (a : Fin 8) : EReal :=
  ∑ t : Fin 16, ∑ b : Fin 64, f ⟨t.val * 512 + (row a b).val, by have := t.isLt; have := (row a b).isLt; omega⟩

/-- The accumulated squares of the error. -/
def lossAcc : FVec Ideal S8x1024 .f32 := fun j => overEighth (fun s => A.e s (j 1) * A.e s (j 1)) (j 0)

/-- The accumulated gradient of the gain. -/
def gainAcc : FVec Ideal S8x1024 .f32 := fun j => overEighth (fun s => A.dout s (j 1) * A.n s (j 1)) (j 0)

theorem overRows_eq (f : Fin 8192 → EReal) : overRows f = ∑ s, f s := Fin.sum_mul_add_fin 16 512 f

theorem overEighth_sum (f : Fin 8192 → EReal) : ∑ a : Fin 8, overEighth f a = ∑ s, f s := by
  simp only [overEighth]
  rw [Finset.sum_comm, ← Fin.sum_mul_add_fin 16 512 f]
  refine Finset.sum_congr rfl fun t _ => ?_
  rw [Finset.sum_comm, ← Fin.sum_mul_add_fin 64 8 (fun k : Fin 512 => _)]
  rfl

end Args

theorem point5 (c : Dev nD) (t : Fin cfg0.N) (y : S512x1024.Idx) :
    k0_pay14 (k0_pay7 (iblk m c 1 t) (iblk m c 0 t) (iblk m c 2 t)) (k0_pay8 (iblk m c 1 t) (iblk m c 0 t) (iblk m c 2 t)) (k0_pay9 (iblk m c 3 t))
      (k0_pay12 (iblk m c 1 t) (iblk m c 0 t) (iblk m c 2 t) (iblk m c 3 t) (iblk m c 4 t)) y = (args m c).gx (((cfg0.win 5).blk t).view.emb y) := by
  obtain ⟨r, d, rfl⟩ : ∃ (r : Fin 512) (d : Fin 1024), y = ix2 r d := ⟨y 0, y 1, by blk_ext⟩
  have h0 : (((cfg0.win 5).blk t).view.emb (ix2 r d)) = ix2 (at' t r) d := by blk_ext [idx t, at']
  rw [dx_block, h0]
  rfl

theorem point6 (c : Dev nD) (t : Fin cfg0.N) (y : S512x2048.Idx) :
    k0_pay16 (k0_pay7 (iblk m c 1 t) (iblk m c 0 t) (iblk m c 2 t)) (k0_pay8 (iblk m c 1 t) (iblk m c 0 t) (iblk m c 2 t)) (k0_pay9 (iblk m c 3 t))
      (k0_pay12 (iblk m c 1 t) (iblk m c 0 t) (iblk m c 2 t) (iblk m c 3 t) (iblk m c 4 t)) (iblk m c 2 t) y
      = (args m c).gy (((cfg0.win 6).blk t).view.emb y) := by
  obtain ⟨r, k, rfl⟩ : ∃ (r : Fin 512) (k : Fin 2048), y = ix2 r k := ⟨y 0, y 1, by blk_ext⟩
  have h0 : (((cfg0.win 6).blk t).view.emb (ix2 r k)) = ix2 (at' t r) k := by blk_ext [idx t, at']
  rw [dy_apply, h0]
  simp only [dx_block, W_block m c t]
  rfl

theorem part7 (c : Dev nD) (t : Fin cfg0.N) (acc : FVec Ideal S2048x1024 .f32) (j : S2048x1024.Idx) :
    k0_pay17 (k0_pay5 (iblk m c 1 t)) (k0_pay7 (iblk m c 1 t) (iblk m c 0 t) (iblk m c 2 t)) (k0_pay8 (iblk m c 1 t) (iblk m c 0 t) (iblk m c 2 t))
      (k0_pay9 (iblk m c 3 t)) (k0_pay12 (iblk m c 1 t) (iblk m c 0 t) (iblk m c 2 t) (iblk m c 3 t) (iblk m c 4 t)) acc j
      = acc j + ∑ r : Fin 512, (args m c).Y (ix2 (at' t r) (j 0)) * (args m c).dx (at' t r) (j 1) := by
  obtain ⟨k, d, rfl⟩ : ∃ (k : Fin 2048) (d : Fin 1024), j = ix2 k d := ⟨j 0, j 1, by blk_ext⟩
  rw [dw_apply]
  simp only [dx_block, Y_block m c t]
  rfl

theorem part8 (c : Dev nD) (t : Fin cfg0.N) (acc : FVec Ideal S8x1024 .f32) (j : S8x1024.Idx) :
    k0_pay11 (iblk m c 1 t) (iblk m c 0 t) (iblk m c 2 t) (iblk m c 3 t) (iblk m c 4 t) acc j
      = acc j + ∑ b : Fin 64, (args m c).e (at' t (row (j 0) b)) (j 1) * (args m c).e (at' t (row (j 0) b)) (j 1) := by
  obtain ⟨a, d, rfl⟩ : ∃ (a : Fin 8) (d : Fin 1024), j = ix2 a d := ⟨j 0, j 1, by blk_ext⟩
  rw [loss_apply]
  simp only [e_block]
  rfl

theorem part9 (c : Dev nD) (t : Fin cfg0.N) (acc : FVec Ideal S8x1024 .f32) (j : S8x1024.Idx) :
    k0_pay13 (k0_pay8 (iblk m c 1 t) (iblk m c 0 t) (iblk m c 2 t))
      (k0_pay12 (iblk m c 1 t) (iblk m c 0 t) (iblk m c 2 t) (iblk m c 3 t) (iblk m c 4 t)) acc j
      = acc j + ∑ b : Fin 64, (args m c).dout (at' t (row (j 0) b)) (j 1) * (args m c).n (at' t (row (j 0) b)) (j 1) := by
  obtain ⟨a, d, rfl⟩ : ∃ (a : Fin 8) (d : Fin 1024), j = ix2 a d := ⟨j 0, j 1, by blk_ext⟩
  rw [dfg_apply]
  simp only [dout_block, n_block]
  rfl

theorem not_last (t : Fin cfg0.N) (h : t.val % 16 = 0) : ¬t.val % 16 = 15 := by omega

/-- The residual stream's gradient after the run. -/
theorem final5 (c : Dev nD) : (dats m 0 c).arrAt 5 (cfgs 0).N = (args m c).gx := by
  refine (dats m 0 c).arrAt_eq_of_covers 5 _ (by decide +kernel) fun t _ y => ?_
  blk_simp
  rw [after0_5]
  by_cases h : t.val % 16 = 0
  · rw [outsAt0_A m c t h (not_last t h)]; frame_out; exact point5 m c t y
  · by_cases h1 : t.val % 16 = 15
    · rw [outsAt0_C m c t h h1]; frame_out; exact point5 m c t y
    · rw [outsAt0_B m c t h h1]; frame_out; exact point5 m c t y

/-- The gated values' gradient after the run. -/
theorem final6 (c : Dev nD) : (dats m 0 c).arrAt 6 (cfgs 0).N = (args m c).gy := by
  refine (dats m 0 c).arrAt_eq_of_covers 6 _ (by decide +kernel) fun t _ y => ?_
  blk_simp
  rw [after0_6]
  by_cases h : t.val % 16 = 0
  · rw [outsAt0_A m c t h (not_last t h)]; frame_out; exact point6 m c t y
  · by_cases h1 : t.val % 16 = 15
    · rw [outsAt0_C m c t h h1]; frame_out; exact point6 m c t y
    · rw [outsAt0_B m c t h h1]; frame_out; exact point6 m c t y

/-- The scratch accumulator after the last point. -/
theorem scratch (c : Dev nD) (j : S2048x1024.Idx) : (outsAt0 m c t0_15.val t0_15.isLt).2.2.2.2.2 j = (args m c).gwAcc j := by
  rw [Pipeline.eq_sum_fin_of_reset_step_apply_last (fun n h => (outsAt0 m c n h).2.2.2.2.2) 16 (fun _ => 0) _
    (fun t h j => by rw [outsAt0_A m c t h (not_last t h)]; frame_out; exact (part7 m c t _ j).trans (by rw [zero2_apply]))
    (fun t h j => by
      by_cases h1 : t.val % 16 = 15
      · rw [outsAt0_C m c t h h1]; frame_out; exact (congrArg (fun a => k0_pay17 _ _ _ _ _ a j) (Memref.IsWhole.read_unread (Memref.isWhole_whole _) _)).trans (part7 m c t _ j)
      · rw [outsAt0_B m c t h h1]; frame_out; exact (congrArg (fun a => k0_pay17 _ _ _ _ _ a j) (Memref.IsWhole.read_unread (Memref.isWhole_whole _) _)).trans (part7 m c t _ j))
    (le_of_eq N_0) t0_15 rfl j, zero_add]
  rfl

/-- The accumulated squares after the run. -/
theorem final8 (c : Dev nD) : (dats m 0 c).arrAt 8 (cfgs 0).N = (args m c).lossAcc := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => 0) _
    (fun t h j => by rw [outsAt0_A m c t h (not_last t h)]; frame_out; exact (part8 m c t _ j).trans (by rw [zero3_apply]))
    (fun t h j => by
      by_cases h1 : t.val % 16 = 15
      · rw [outsAt0_C m c t h h1]; frame_out; exact part8 m c t _ j
      · rw [outsAt0_B m c t h h1]; frame_out; exact part8 m c t _ j)
    (le_of_eq N_0) t0_15 rfl j, zero_add]
  rfl

/-- The accumulated gradient of the gain after the run. -/
theorem final9 (c : Dev nD) : (dats m 0 c).arrAt 9 (cfgs 0).N = (args m c).gainAcc := by
  refine (dats m 0 c).arrAt_eq_of_after_last 9 t0_15 (by decide +kernel) _ fun j => ?_
  blk_simp
  rw [after0_9, Pipeline.eq_sum_fin_of_reset_step_apply_last (fun n h => (outsAt0 m c n h).2.2.2.2.1) 16 (fun _ => 0) _
    (fun t h j => by rw [outsAt0_A m c t h (not_last t h)]; frame_out; exact (part9 m c t _ j).trans (by rw [zero4_apply]))
    (fun t h j => by
      by_cases h1 : t.val % 16 = 15
      · rw [outsAt0_C m c t h h1]; frame_out; exact part9 m c t _ j
      · rw [outsAt0_B m c t h h1]; frame_out; exact part9 m c t _ j)
    (le_of_eq N_0) t0_15 rfl j, zero_add]
  rfl

/-- The output projection's gradient after the run: the last point writes the accumulator out. -/
theorem final7 (c : Dev nD) : (dats m 0 c).arrAt 7 (cfgs 0).N = (args m c).gwAcc := by
  refine (dats m 0 c).arrAt_eq_of_after_last 7 t0_15 (by decide +kernel) _ fun j => ?_
  blk_simp
  have hs := scratch m c j
  rw [after0_7]
  rw [outsAt0_C m c t0_15 (by decide) (by decide)] at hs ⊢
  frame_out at hs
  frame_out
  pointwise [k0_pay1]
  exact hs

/-- The host's loss, from the accumulated squares. -/
theorem tail8 (c : Dev nD) : Pipeline.afterTail₀ cfgs (dats m) 0 (V0 m) [hostOps1] c main_v8
    = (fun _ : S_.Idx => (∑ d : Fin 1024, ∑ a : Fin 8, (args m c).lossAcc (ix2 a d)) * Ideal.ofBits .f32 0x3A000000#32) := by
  simp only [Pipeline.afterTail₀, hostOps1, List.flatten_cons, List.flatten_nil, List.append_nil]
  after_results
  have hw := Pipeline.withArrays_arr (cfgs 0).spec (by decide) c (V0 m c) (fun w => (dats m 0 c).arrAt w (cfgs 0).N) 8
  rw [show Pipeline.withArrays (cfgs 0).spec c (V0 m c) (fun w => (dats m 0 c).arrAt w (cfgs 0).N) (Proc.devRef .tc main_v4_3) = _ from hw]
  simp only [final8]
  funext i
  pointwise
  exact congrArg (· * _) (Fin.sum_univ_one _)

/-- The host's sum over the rows of the accumulated gradient of the gain. -/
theorem tail9 (c : Dev nD) : Pipeline.afterTail₀ cfgs (dats m) 0 (V0 m) [hostOps1] c main_v9
    = (fun i : S1024.Idx => ∑ a : Fin 8, (args m c).gainAcc (ix2 a (i 0))) := by
  simp only [Pipeline.afterTail₀, hostOps1, List.flatten_cons, List.flatten_nil, List.append_nil]
  after_results
  have hw := Pipeline.withArrays_arr (cfgs 0).spec (by decide) c (V0 m c) (fun w => (dats m 0 c).arrAt w (cfgs 0).N) 9
  rw [show Pipeline.withArrays (cfgs 0).spec c (V0 m c) (fun w => (dats m 0 c).arrAt w (cfgs 0).N) (Proc.devRef .tc main_v4_4) = _ from hw]
  simp only [final9]
  funext i
  pointwise

/-- The loss call's run: its five results and its arguments. -/
theorem run (ρ : Dev nD → PrngReg) : θ_run defs (onTc (τ := τ) (main (F := Ideal))) ⟨m, fun _ => 0, ρ⟩ fun r => ∀ c : Dev nD,
    r.2.mem ((c.tc : Thread nD τ).loc main_v8)
        = (fun _ : S_.Idx => (∑ d : Fin 1024, ∑ a : Fin 8, (args m c).lossAcc (ix2 a d)) * Ideal.ofBits .f32 0x3A000000#32)
      ∧ r.2.mem ((c.tc : Thread nD τ).loc main_v4_0) = (args m c).gx
      ∧ r.2.mem ((c.tc : Thread nD τ).loc main_v4_1) = (args m c).gy
      ∧ r.2.mem ((c.tc : Thread nD τ).loc main_v4_2) = (args m c).gwAcc
      ∧ r.2.mem ((c.tc : Thread nD τ).loc main_v9) = (fun i : S1024.Idx => ∑ a : Fin 8, (args m c).gainAcc (ix2 a (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).2 main_v8 (by decide)).trans (tail8 m c), ((h.1 c).1 5).trans (final5 m c), ((h.1 c).1 6).trans (final6 m c),
      ((h.1 c).1 7).trans (final7 m c), ((h.1 c).2 main_v9 (by decide)).trans (tail9 m c), h.2 c⟩)
    (θ_run_and (run_main m ρ) (unchanged m ρ))

end Cert.OutLossIdeal.Value

end
-- ==== Proof.OlRef.lean ====
module

public import proofs.«01_k».proof.Proof.OlPay
public import proofs.«01_k».proof.Proof.Gen.OutLossRefIdeal.Read

/-! The loss reference's results, read at one entry. -/

@[expose] public section

set_option maxRecDepth 16384

noncomputable section

open Idealize.ShloMosaic Idealize.ShloMosaic.TcCoe Idealize.SL.Sem

namespace Cert.OutLossRefIdeal.Entry

open Cert.OutLossRefIdeal Cert.OutLossRefIdeal.Read
open Cert.OutLossIdeal.Value (Args)

variable (A : Args)

theorem x2_apply (s : Fin 8192) (d : Fin 1024) : val_main_v2 (F := Ideal) A.X A.Y A.W (ix2 s d) = A.x2 s d := by
  pointwise [val_main_v2, val_main_v1, val_main_v0, Args.x2]

theorem rms_apply (s : Fin 8192) (z : Fin 1) : val_main_v10 (F := Ideal) A.X A.Y A.W (ix2 s z) = Reals.rms (A.x2 s) := by
  rw [show A.x2 s = _ from funext fun d => (x2_apply A s d).symm]
  pointwise [val_main_v10, val_main_v9, val_main_v8, val_main_v7, val_main_v6, val_main_v5, val_main_v4, val_main_v3, val_main_cst, val_main_cst_0,
    val_main_cst_1, Reals.rms]

theorem n_apply (s : Fin 8192) (d : Fin 1024) : val_main_v15 (F := Ideal) A.X A.Y A.W (ix2 s d) = A.n s d := by
  rw [Args.n, ← x2_apply, ← rms_apply A s 0]
  pointwise [val_main_v15, val_main_v14]

theorem e_apply (s : Fin 8192) (d : Fin 1024) : val_main_v19 (F := Ideal) A.X A.Y A.W A.G A.T (ix2 s d) = A.e s d := by
  rw [Args.e, ← n_apply]
  pointwise [val_main_v19, val_main_v18, val_main_v17, val_main_v16]

/-- The loss's derivative at the prediction, its factors as the derivative of the mean square gives them. -/
def dout (s : Fin 8192) (d : Fin 1024) : EReal :=
  Ideal.div (Ideal.ofBits .f32 0x3F000000#32 * Ideal.ofBits .f32 0x3F800000#32) (Ideal.ofBits .f32 1149239296#32)
    * (Ideal.ofBits .f32 0x40000000#32 * A.e s d)

theorem dout_apply (s : Fin 8192) (d : Fin 1024) : val_main_v33 (F := Ideal) A.X A.Y A.W A.G A.T (ix2 s d) = dout A s d := by
  rw [dout, ← e_apply]
  pointwise [val_main_v33, val_main_v32, val_main_v31, val_main_v30, val_main_v29, val_main_v28, val_main_v22, val_main_v21, val_main_cst_8,
    val_main_cst_9, val_main_cst_10, val_main_cst_3]

theorem dn_apply (s : Fin 8192) (d : Fin 1024) : val_main_v38 (F := Ideal) A.X A.Y A.W A.G A.T (ix2 s d) = dout A s d * A.G (ix1 d) := by
  rw [← dout_apply]
  pointwise [val_main_v38, val_main_v37, val_main_v16]

theorem pull_apply (s : Fin 8192) (d : Fin 1024) :
    val_main_v49 (F := Ideal) A.X A.Y A.W A.G A.T (ix2 s d) = Reals.rowPull (A.x2 s) (fun k => dout A s k * A.G (ix1 k)) := by
  rw [Reals.rowPull, ← rms_apply A s 0]
  simp only [← dn_apply, ← x2_apply]
  pointwise [val_main_v49, val_main_v48, val_main_v47, val_main_v46, val_main_v45, val_main_v42, val_main_v41, val_main_v40, val_main_cst_13,
    val_main_cst_14, val_main_cst_15, val_main_v13, val_main_v12, val_main_v11, val_main_cst_2, val_main_v9, val_main_v8, val_main_v7, val_main_v6,
    val_main_v5, val_main_v4, val_main_v3, val_main_cst, val_main_cst_0, val_main_cst_1]
  exact Fin.sum_univ_one _

/-- The gradient of the residual stream, as differentiating the normalisation gives it. -/
def dx (s : Fin 8192) (d : Fin 1024) : EReal :=
  dout A s d * A.G (ix1 d) * Reals.rms (A.x2 s) + A.x2 s d * Reals.rowPull (A.x2 s) (fun k => dout A s k * A.G (ix1 k))
    + Reals.rowPull (A.x2 s) (fun k => dout A s k * A.G (ix1 k)) * A.x2 s d

theorem dx_apply (s : Fin 8192) (d : Fin 1024) : val_main_v53 (F := Ideal) A.X A.Y A.W A.G A.T (ix2 s d) = dx A s d := by
  rw [dx, ← dn_apply, ← pull_apply A s d, ← x2_apply, ← rms_apply A s 0]
  pointwise [val_main_v53, val_main_v52, val_main_v51, val_main_v50, val_main_v44, val_main_v43]

theorem dy_apply (s : Fin 8192) (k : Fin 2048) :
    val_main_v58 (F := Ideal) A.X A.Y A.W A.G A.T (ix2 s k) = ∑ d : Fin 1024, dx A s d * A.W (ix3 0 k d) := by
  simp only [← dx_apply]
  pointwise [val_main_v58, val_main_v56, val_main_v0]

theorem dw_apply (k : Fin 2048) (d : Fin 1024) :
    val_main_v60 (F := Ideal) A.X A.Y A.W A.G A.T (ix2 k d) = ∑ s : Fin 8192, dx A s d * A.Y (ix2 s k) := by
  simp only [← dx_apply]
  pointwise [val_main_v60, val_main_v59, val_main_v57, val_main_v55, val_main_v54]

theorem gain_apply (d : Fin 1024) :
    val_main_v39 (F := Ideal) A.X A.Y A.W A.G A.T (ix1 d) = ∑ s : Fin 8192, A.n s d * dout A s d := by
  simp only [← dout_apply, ← n_apply]
  pointwise [val_main_v39, val_main_v36, val_main_v35, val_main_v34, val_main_cst_11, val_main_cst_12]
  exact Fin.sum_univ_one _

theorem loss_apply (i : S_.Idx) :
    val_main_v27 (F := Ideal) A.X A.Y A.W A.G A.T i = Ideal.ofBits .f32 0x3F000000#32
      * ∑ s : Fin 8192, Ideal.div (∑ d : Fin 1024, A.e s d * A.e s d) (Ideal.ofBits .f32 1149239296#32) := by
  simp only [← e_apply]
  pointwise [val_main_v27, val_main_v26, val_main_v25, val_main_v24, val_main_v23, val_main_v20, val_main_cst_4, val_main_cst_5, val_main_cst_6,
    val_main_cst_7]

end Cert.OutLossRefIdeal.Entry

end
-- ==== Proof.OlPair.lean ====
module

public import proofs.«01_k».proof.Defs
public import proofs.«01_k».proof.Proof.OlValue
public import proofs.«01_k».proof.Proof.OlRef
public import Idealize.ShloMosaic.Lib.Claim

/-! The loss call against the loss and its derivative. -/

@[expose] public section

set_option maxRecDepth 16384

noncomputable section

open Idealize.ShloMosaic Idealize.ShloMosaic.TcCoe Idealize.SL.Sem

namespace Cert.Proof.Ol

open Cert.OutLossIdeal.Value (Args)
open Cert.OutLossRefIdeal.Entry

/-- The finiteness precondition's side conditions. -/
instance preFacts : Cert.Pre_finite_ol.Facts where
  bcast_S_S8192x1024 := by decide
  reducesTo_S8192x1024_S_d0_1 := by decide
  h_S_ := by decide
  bcast_S_S8192x2048 := by decide
  reducesTo_S8192x2048_S_d0_1 := by decide
  bcast_S_S1x2048x1024 := by decide
  reducesTo_S1x2048x1024_S_d0_1_2 := by decide
  bcast_S_S1024 := by decide
  reducesTo_S1024_S_d0 := by decide

/-- All five arguments are real. -/
structure RealArgs (A : Args) : Prop where
  X : Reals.IsReal A.X
  Y : Reals.IsReal A.Y
  W : Reals.IsReal A.W
  G : Reals.IsReal A.G
  T : Reals.IsReal A.T

/-- The precondition makes the arguments real. -/
theorem real_of_pre (A : Args) (h : Cert.Pre_finite_ol.fn (F := Ideal) A.X A.Y A.W A.G A.T = fun _ => 1#1) : RealArgs A := by
  have h0 := congrFun h ((fun a => nomatch a) : Cert.Pre_finite_ol.S_.Idx)
  have : Subsingleton Cert.Pre_finite_ol.S_.Idx := ⟨fun a b => funext fun i => nomatch i⟩
  obtain ⟨h1, hT⟩ := IntOp.andi_eq_one.1 h0
  obtain ⟨h2, hG⟩ := IntOp.andi_eq_one.1 h1
  obtain ⟨h3, hW⟩ := IntOp.andi_eq_one.1 h2
  obtain ⟨h4, hY⟩ := IntOp.andi_eq_one.1 h3
  obtain ⟨h5, hX⟩ := IntOp.andi_eq_one.1 h4
  exact ⟨Reals.isReal_of_all _ _ _ _ _ _ hX, Reals.isReal_of_all _ _ _ _ _ _ hY, Reals.isReal_of_all _ _ _ _ _ _ hW,
    Reals.isReal_of_all _ _ _ _ _ _ hG, Reals.isReal_of_all _ _ _ _ _ _ hT⟩

theorem word_half : Ideal.ofBits .f32 0x3F000000#32 = ((1 / 2 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_mean : Ideal.ofBits .f32 0x3A800000#32 = ((1 / 1024 : ℝ) : EReal) := by
  simp [Ideal.ofBits, Ideal.ieee, -EReal.coe_mul]; norm_num

theorem word_half_mean : Ideal.ofBits .f32 0x3A000000#32 = ((1 / 2048 : ℝ) : EReal) := by
  simp [Ideal.ofBits, Ideal.ieee, -EReal.coe_mul]; norm_num

/-- Halving, taking the mean and doubling is dividing by the row's length. -/
theorem dout_eq (A : Args) (s : Fin 8192) (d : Fin 1024) : dout A s d = A.dout s d := by
  rw [dout, Args.dout, word_half, word_one, word_two, word_mean, Reals.word_1024, ← EReal.coe_mul, Reals.div_real _ _ (by norm_num), ← mul_assoc,
    ← EReal.coe_mul, mul_comm]
  norm_num

/-- The rows that are normalised are real. -/
theorem x2_real (A : Args) (h : RealArgs A) (s : Fin 8192) : ∃ x : Fin 1024 → ℝ, A.x2 s = fun d => (x d : EReal) := by
  obtain ⟨x, hx⟩ := h.X
  obtain ⟨y, hy⟩ := h.Y
  obtain ⟨w, hw⟩ := h.W
  refine ⟨fun d => x (ix2 s d) + ∑ k : Fin 2048, y (ix2 s k) * w (ix3 0 k d), funext fun d => ?_⟩
  rw [Args.x2, hx, hy, hw, EReal.coe_add, ← Reals.sum_real]
  simp only [EReal.coe_mul]

/-- The error is real. -/
theorem e_real (A : Args) (h : RealArgs A) (s : Fin 8192) : ∃ e : Fin 1024 → ℝ, ∀ d, A.e s d = (e d : EReal) := by
  obtain ⟨x, hx⟩ := x2_real A h s
  obtain ⟨g, hg⟩ := h.G
  obtain ⟨t, ht⟩ := h.T
  refine ⟨fun d => x d * (√(Reals.msq x))⁻¹ * g (ix1 d) - t (ix2 s d), fun d => ?_⟩
  rw [Args.e, Args.n, hx, hg, ht, Reals.rms_real, EReal.coe_sub, EReal.coe_mul, EReal.coe_mul]

/-- The gradient of the residual stream in both forms. -/
theorem dx_eq (A : Args) (h : RealArgs A) (s : Fin 8192) (d : Fin 1024) : dx A s d = A.dx s d := by
  obtain ⟨x, hx⟩ := x2_real A h s
  obtain ⟨e, he⟩ := e_real A h s
  obtain ⟨g, hg⟩ := h.G
  have hn : ∀ k, A.dout s k * A.G (ix1 k) = ((e k * (1 / 1024) * g (ix1 k) : ℝ) : EReal) := fun k => by
    rw [Args.dout, he, hg, word_mean, EReal.coe_mul, EReal.coe_mul]
  have := Reals.rowGrad_eq x (fun k => e k * (1 / 1024) * g (ix1 k)) 0 d
  rw [zero_add, zero_add] at this
  rw [dx, Args.dx]
  simp only [dout_eq, hn, hx]
  exact this.symm

/-- The loss in both orders of summation. -/
theorem loss_eq (A : Args) (h : RealArgs A) :
    (∑ d : Fin 1024, ∑ a : Fin 8, A.lossAcc (ix2 a d)) * Ideal.ofBits .f32 0x3A000000#32
      = Ideal.ofBits .f32 0x3F000000#32 * ∑ s : Fin 8192, Ideal.div (∑ d : Fin 1024, A.e s d * A.e s d) (Ideal.ofBits .f32 1149239296#32) := by
  have hd : ∀ d : Fin 1024, ∑ a : Fin 8, A.lossAcc (ix2 a d) = ∑ s : Fin 8192, A.e s d * A.e s d := fun d =>
    Args.overEighth_sum fun s => A.e s d * A.e s d
  simp only [hd]
  choose e he using e_real A h
  simp only [he, ← EReal.coe_mul, Reals.sum_real, word_half, word_half_mean, Reals.word_1024, Reals.div_real _ _ (by norm_num : (1024 : ℝ) ≠ 0)]
  rw [Finset.sum_comm, ← Finset.sum_div]
  congr 1
  ring

/-- The reference leaves its arguments as they were and has no semaphores. -/
theorem frame_ref : Cert.quiescent_OutLossRefIdeal := fun m g _ =>
  (θ_run Cert.OutLossRefIdeal.defs _ _).mono (fun r h => ⟨fun c => (h c).2.2.2.2.2, sem_eq_zero_of_no_sems (by decide) r.2⟩)
    (Cert.OutLossRefIdeal.Value.run m g)

/-- The results of the loss call are those of its reference. -/
theorem algebraic : Cert.algebraic_OutLossIdeal_OutLossRefIdeal_pre_finite_ol := by
  intro m g m' g' hpre hagree
  refine ⟨_, _, _, _, _, Cert.OutLossIdeal.Value.run m g, (θ_run Cert.OutLossRefIdeal.defs _ _).mono (fun r h c => ?_) (Cert.OutLossRefIdeal.Value.run m' g')⟩
  obtain ⟨h0, h1, h2, h3, h4, h5⟩ := h c
  have hA := real_of_pre (Cert.OutLossIdeal.Value.args m c) (hpre c)
  obtain ⟨a0, a1, a2, a3, a4⟩ := hagree c
  refine ⟨h0.trans ?_, h1.trans ?_, h2.trans ?_, h3.trans ?_, h4.trans ?_, h5⟩
  · refine (Cert.OutLossRefIdeal.Read.val_main_v27_eq (F := Ideal) _ _ _ _ _).trans ?_
    rw [a0, a1, a2, a3, a4]
    funext i
    exact (loss_apply (Cert.OutLossIdeal.Value.args m c) i).trans (loss_eq _ hA).symm
  · rw [Cert.OutLossRefIdeal.Read.val_main_v53_eq, a0, a1, a2, a3, a4]
    funext i
    obtain ⟨s, d, rfl⟩ : ∃ (s : Fin 8192) (d : Fin 1024), i = ix2 s d := ⟨i 0, i 1, by blk_ext⟩
    exact (dx_apply (Cert.OutLossIdeal.Value.args m c) s d).trans (dx_eq _ hA s d)
  · rw [Cert.OutLossRefIdeal.Read.val_main_v58_eq, a0, a1, a2, a3, a4]
    funext i
    obtain ⟨s, k, rfl⟩ : ∃ (s : Fin 8192) (k : Fin 2048), i = ix2 s k := ⟨i 0, i 1, by blk_ext⟩
    refine (dy_apply (Cert.OutLossIdeal.Value.args m c) s k).trans ?_
    simp only [dx_eq _ hA]
    rfl
  · rw [Cert.OutLossRefIdeal.Read.val_main_v60_eq, a0, a1, a2, a3, a4]
    funext i
    obtain ⟨k, d, rfl⟩ : ∃ (k : Fin 2048) (d : Fin 1024), i = ix2 k d := ⟨i 0, i 1, by blk_ext⟩
    refine (dw_apply (Cert.OutLossIdeal.Value.args m c) k d).trans ?_
    simp only [dx_eq _ hA, fun s => mul_comm ((Cert.OutLossIdeal.Value.args m c).dx s d)]
    exact (Args.overRows_eq _).symm
  · refine (Cert.OutLossRefIdeal.Read.val_main_v39_eq (F := Ideal) _ _ _ _ _).trans ?_
    rw [a0, a1, a2, a3, a4]
    funext i
    obtain ⟨d, rfl⟩ : ∃ (d : Fin 1024), i = ix1 d := ⟨i 0, by blk_ext⟩
    refine (gain_apply (Cert.OutLossIdeal.Value.args m c) d).trans ?_
    simp only [dout_eq, fun s => mul_comm ((Cert.OutLossIdeal.Value.args m c).n s d)]
    exact (Args.overEighth_sum _).symm

end Cert.Proof.Ol

end
-- ==== Proof.ConvTrip.lean ====
module

public import proofs.«01_k».proof.Proof.Gen.ConvBwdIdeal.Loops
public import proofs.«01_k».proof.Proof.Gen.ConvBwdIdeal.Frame
public import Idealize.ShloMosaic.Lib.Pipeline.ValueKit

@[expose] public section

set_option maxRecDepth 8192
set_option maxHeartbeats 4000000

noncomputable section

namespace Cert.ConvBwdIdeal.Conv

open Idealize.ShloMosaic Idealize.ShloMosaic.TcCoe Idealize.ShloMosaic.Tactic
open Idealize.SL.Sem Cert.ConvBwdIdeal.Gen

variable {F : FTy → Type} [FloatOps F]

/-- Row `16 k + 31 + j - q` of the extended cotangent as it is loaded: what tap `q` of output row `16 k + j` reads. -/
def eTile (e : Vec F S544x8x128 .f32)
    (k : Fin k0_t1_loop.trips) (j : Fin 16) (q : Fin 31) : Vec F S1x8x128 .f32 :=
  View.ld e (Rect.unit (s := S544x8x128) (k0_off1 k (BitVec.ofNat 32 j.val) (BitVec.ofNat 32 q.val))
    ![1, 8, 128] (k0_off1_inb k j q))

/-- That row, as one tile. -/
def eRow (e : Vec F S544x8x128 .f32)
    (k : Fin k0_t1_loop.trips) (j : Fin 16) (q : Fin 31) : FVec F S8x128 .f32 :=
  shapeCast S8x128 (eTile e k j q) shapeCasts_S1x8x128_S8x128

/-- Row `16 k + j` of the gated input as it is loaded. -/
def gTile (g : Vec F S512x8x128 .f32)
    (k : Fin k0_t1_loop.trips) (j : Fin 16) : Vec F S1x8x128 .f32 :=
  View.ld g (Rect.unit (s := S512x8x128) (k0_off2 k (BitVec.ofNat 32 j.val)) ![1, 8, 128] (k0_off2_inb k j))

/-- That row, as one tile. -/
def gRow (g : Vec F S512x8x128 .f32)
    (k : Fin k0_t1_loop.trips) (j : Fin 16) : FVec F S8x128 .f32 :=
  shapeCast S8x128 (gTile g k j) shapeCasts_S1x8x128_S8x128

/-- A tap's row lies within the filter's tiles. -/
theorem tap_inb (q : Fin 31) : ∀ a, ![q.val, 0, 0] a + S1x8x128.size a ≤ S32x8x128.size a := by
  have := q.isLt
  intro a
  fin_cases a <;> simp [S1x8x128, S32x8x128] <;> omega

/-- Row `q` of a filter-shaped array as it is loaded. -/
def wTile (w : Vec F S32x8x128 .f32)
    (q : Fin 31) : Vec F S1x8x128 .f32 :=
  View.ld w (Rect.unit (s := S32x8x128) ![q.val, 0, 0] ![1, 8, 128] (tap_inb q))

/-- That row, as one tile. -/
def wRow (w : Vec F S32x8x128 .f32)
    (q : Fin 31) : FVec F S8x128 .f32 :=
  shapeCast S8x128 (wTile w q) shapeCasts_S1x8x128_S8x128

/-- The sum over the taps `0 … n` for output row `16 k + j`, in the order the loop adds them. -/
def taps (w : Vec F S32x8x128 .f32) (e : Vec F S544x8x128 .f32)
    (k : Fin k0_t1_loop.trips) (j : Fin 16) : (n : ℕ) → n < 31 → FVec F S8x128 .f32
  | 0, h => mulf (wRow w ⟨0, h⟩) (eRow e k j ⟨0, h⟩)
  | n + 1, h => addf (taps w e k j n (Nat.lt_of_succ_lt h)) (mulf (wRow w ⟨n + 1, h⟩) (eRow e k j ⟨n + 1, h⟩))

/-- Neighbours added in pairs. -/
def pairs {n : ℕ} (p : Fin (2 * n) → FVec F S8x128 .f32) (j : Fin n) : FVec F S8x128 .f32 :=
  addf (p ⟨2 * j.val, by omega⟩) (p ⟨2 * j.val + 1, by omega⟩)

/-- What one trip adds to row `q` of the filter's gradient: the sixteen products, summed as a balanced tree. -/
def gain (e : Vec F S544x8x128 .f32) (g : Vec F S512x8x128 .f32)
    (k : Fin k0_t1_loop.trips) (q : Fin 31) : FVec F S8x128 .f32 :=
  pairs (n := 1) (pairs (n := 2) (pairs (n := 4) (pairs (n := 8) fun j => mulf (gRow g k j) (eRow e k j q)))) 0

/-- The pieces one trip writes into the gradient of the gated input. -/
def outPieces (w : Vec F S32x8x128 .f32) (e : Vec F S544x8x128 .f32)
    (k : Fin k0_t1_loop.trips) : List (View.Piece (Elt F) S512x8x128 .f32) :=
  (List.finRange 16).reverse.map fun j => ⟨Rect.unit (s := S512x8x128) (k0_off2 k (BitVec.ofNat 32 j.val)) ![1, 8, 128] (k0_off2_inb k j),
    shapeCast S1x8x128 (taps w e k j 30 (by decide)) shapeCasts_S8x128_S1x8x128⟩

/-- The pieces one trip writes into the filter's gradient, `d` being what it held. -/
def wPieces (e : Vec F S544x8x128 .f32) (g : Vec F S512x8x128 .f32)
    (k : Fin k0_t1_loop.trips) (d : Vec F S32x8x128 .f32) : List (View.Piece (Elt F) S32x8x128 .f32) :=
  (List.finRange 31).reverse.map fun q => ⟨Rect.unit (s := S32x8x128) ![q.val, 0, 0] ![1, 8, 128] (tap_inb q),
    shapeCast S1x8x128 (addf (wRow d q) (gain e g k q)) shapeCasts_S8x128_S1x8x128⟩

/-- One trip of the loop over the row blocks, what it writes into the gradient of the gated input. -/
theorem trip_out (𝒱 : Variants) (c : Dev nD) (bd : Option 𝒱.V) (i : grid0.Coords) (arg1 : Memref sig .tc .vmem S512x1024 .bf16) (harg1 : arg1.IsWhole) (arg2 : Memref sig .tc .vmem S512x1024 .bf16) (harg2 : arg2.IsWhole) (arg3 : Memref sig .tc .vmem S16x1024 .bf16) (harg3 : arg3.IsWhole) (arg4 : Memref sig .tc .vmem S512x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S512x1024 .bf16) (harg7 : arg7.IsWhole) (arg8 : Memref sig .tc .vmem S16x1024 .bf16) (harg8 : arg8.IsWhole) (arg9 : Memref sig .tc .vmem S16x1024 .bf16) (harg9 : arg9.IsWhole) (arg10 : Memref sig .tc .vmem S512x1024 .bf16) (harg10 : arg10.IsWhole) (arg11 : Memref sig .tc .vmem S16x1024 .bf16) (harg11 : arg11.IsWhole) (arg12 : Memref sig .tc .vmem S32x8x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S512x3072 .bf16) (harg15 : arg15.IsWhole) (arg16 : Memref sig .tc .vmem S32x8x128 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S544x8x128 .f32) (harg20 : arg20.IsWhole) (arg21 : Memref sig .tc .vmem S512x8x128 .f32) (harg21 : arg21.IsWhole) (arg22 : Memref sig .tc .vmem S512x8x128 .f32) (harg22 : arg22.IsWhole) (X_arg12 : BufTy.Contents (Elt F) arg12.view.ty) (X_arg20 : BufTy.Contents (Elt F) arg20.view.ty) (X_arg21 : BufTy.Contents (Elt F) arg21.view.ty) (k : Fin k0_t1_loop.trips) (f_arg16 : BufTy.Contents (Elt F) arg16.view.ty) (f_arg22 : BufTy.Contents (Elt F) arg22.view.ty) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg20 X_arg21 k f_arg16 f_arg22).2 = outPieces (arg12.view.read (Elt F) X_arg12) (arg20.view.read (Elt F) X_arg20) k := by
  dsimp only [tripL_k0_t1]
  unfold trip_k0_t1
  sl_kernel_rfl

/-- One trip of the loop over the row blocks, what it writes into the gradient of the filter. -/
theorem trip_w (𝒱 : Variants) (c : Dev nD) (bd : Option 𝒱.V) (i : grid0.Coords) (arg1 : Memref sig .tc .vmem S512x1024 .bf16) (harg1 : arg1.IsWhole) (arg2 : Memref sig .tc .vmem S512x1024 .bf16) (harg2 : arg2.IsWhole) (arg3 : Memref sig .tc .vmem S16x1024 .bf16) (harg3 : arg3.IsWhole) (arg4 : Memref sig .tc .vmem S512x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S512x1024 .bf16) (harg7 : arg7.IsWhole) (arg8 : Memref sig .tc .vmem S16x1024 .bf16) (harg8 : arg8.IsWhole) (arg9 : Memref sig .tc .vmem S16x1024 .bf16) (harg9 : arg9.IsWhole) (arg10 : Memref sig .tc .vmem S512x1024 .bf16) (harg10 : arg10.IsWhole) (arg11 : Memref sig .tc .vmem S16x1024 .bf16) (harg11 : arg11.IsWhole) (arg12 : Memref sig .tc .vmem S32x8x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S512x3072 .bf16) (harg15 : arg15.IsWhole) (arg16 : Memref sig .tc .vmem S32x8x128 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S544x8x128 .f32) (harg20 : arg20.IsWhole) (arg21 : Memref sig .tc .vmem S512x8x128 .f32) (harg21 : arg21.IsWhole) (arg22 : Memref sig .tc .vmem S512x8x128 .f32) (harg22 : arg22.IsWhole) (X_arg12 : BufTy.Contents (Elt F) arg12.view.ty) (X_arg20 : BufTy.Contents (Elt F) arg20.view.ty) (X_arg21 : BufTy.Contents (Elt F) arg21.view.ty) (k : Fin k0_t1_loop.trips) (f_arg16 : BufTy.Contents (Elt F) arg16.view.ty) (f_arg22 : BufTy.Contents (Elt F) arg22.view.ty) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg20 X_arg21 k f_arg16 f_arg22).1 = wPieces (arg20.view.read (Elt F) X_arg20) (arg21.view.read (Elt F) X_arg21) k (arg16.view.read (Elt F) f_arg16) := by
  dsimp only [tripL_k0_t1]
  unfold trip_k0_t1
  sl_kernel_rfl

end Cert.ConvBwdIdeal.Conv
-- ==== Proof.ConvLoop.lean ====
module

public import proofs.«01_k».proof.Proof.ConvTrip

@[expose] public section

set_option maxRecDepth 8192
set_option maxHeartbeats 1000000

noncomputable section

namespace Cert.ConvBwdIdeal.Conv

open Idealize.ShloMosaic Idealize.ShloMosaic.TcCoe Idealize.ShloMosaic.Tactic
open Idealize.SL.Sem Cert.ConvBwdIdeal.Gen

variable {F : FTy → Type} [FloatOps F]

/-- The loop makes 32 trips. -/
theorem trips_eq : k0_t1_loop.trips = 32 := by decide

/-- A tile seen as a block of one row. -/
theorem lift_apply (v : FVec F S8x128 .f32) (x : S1x8x128.Idx) :
    shapeCast S1x8x128 v shapeCasts_S8x128_S1x8x128 x = v (ix2 (x 1 : Fin 8) (x 2 : Fin 128)) := by
  obtain ⟨z, a, b, rfl⟩ : ∃ (z : Fin 1) (a : Fin 8) (b : Fin 128), x = ix3 z a b := ⟨x 0, x 1, x 2, eq_ix3 x⟩
  pointwise

/-- The gradient of the gated input: every row's sum over the taps. -/
def conv (w : Vec F S32x8x128 .f32) (e : Vec F S544x8x128 .f32) : Vec F S512x8x128 .f32 := fun y =>
  taps w e ⟨(y 0).val / 16, by rw [trips_eq]; have : (y 0).val < 512 := (y 0).isLt; omega⟩
    ⟨(y 0).val % 16, Nat.mod_lt _ (by decide)⟩ 30 (by decide) (ix2 (y 1 : Fin 8) (y 2 : Fin 128))

/-- One trip's addition to the gradient of the filter: every row but the last, which is padding. -/
def wStep (e : Vec F S544x8x128 .f32) (g : Vec F S512x8x128 .f32) (k : Fin k0_t1_loop.trips)
    (d : Vec F S32x8x128 .f32) : Vec F S32x8x128 .f32 := fun y =>
  if h : (y 0).val < 31 then addf (wRow d ⟨(y 0).val, h⟩) (gain e g k ⟨(y 0).val, h⟩) (ix2 (y 1 : Fin 8) (y 2 : Fin 128))
  else d y

/-- The gradient of the filter after the first `n` trips. -/
def wSum (e : Vec F S544x8x128 .f32) (g : Vec F S512x8x128 .f32) (d : Vec F S32x8x128 .f32) : ℕ → Vec F S32x8x128 .f32
  | 0 => d
  | n + 1 => if h : n < k0_t1_loop.trips then wStep e g ⟨n, h⟩ (wSum e g d n) else wSum e g d n

/-- The gradient of the filter after one more trip. -/
theorem wSum_succ (e : Vec F S544x8x128 .f32) (g : Vec F S512x8x128 .f32) (d : Vec F S32x8x128 .f32) (n : ℕ) (h : n < k0_t1_loop.trips) :
    wSum e g d (n + 1) = wStep e g ⟨n, h⟩ (wSum e g d n) := by
  simp only [wSum, h, dite_true]

/-- One trip's writes into the gradient of the filter. -/
theorem read_wPieces (e : Vec F S544x8x128 .f32) (g : Vec F S512x8x128 .f32) (k : Fin k0_t1_loop.trips)
    (arg16 : Memref sig .tc .vmem S32x8x128 .f32) (f : BufTy.Contents (Elt F) arg16.view.ty) :
    arg16.view.read (Elt F) (arg16.view.writes (Elt F) f (wPieces e g k (arg16.view.read (Elt F) f)))
      = wStep e g k (arg16.view.read (Elt F) f) := by
  funext y
  have hmem : ∀ q : Fin 31, (y ∈ (Rect.unit (s := S32x8x128) ![q.val, 0, 0] ![1, 8, 128] (tap_inb q)).set) ↔ (y 0).val = q.val := by
    intro q
    rw [Rect.mem_set_unit]
    constructor
    · intro h; have := h 0; simp at this; omega
    · intro h a
      fin_cases a
      · simp; omega
      · have : (y 1).val < 8 := (y 1).isLt
        simpa using this
      · have : (y 2).val < 128 := (y 2).isLt
        simpa using this
  by_cases h : (y 0).val < 31
  · refine View.read_writes_apply_of_pieces _ _ (wStep e g k (arg16.view.read (Elt F) f)) _ ?_ y ?_
    · intro p hp x
      obtain ⟨q, -, rfl⟩ := List.mem_map.mp hp
      refine (lift_apply (F := F) (addf (wRow (arg16.view.read (Elt F) f) q) (gain e g k q)) x).trans ?_
      have hx : (x 0).val = 0 := by have : (x 0).val < 1 := (x 0).isLt; omega
      have e0 : (((Rect.unit (s := S32x8x128) ![q.val, 0, 0] ![1, 8, 128] (tap_inb q)).emb x) 0).val = q.val := by
        show q.val + 1 * (x 0).val = q.val
        omega
      have e1 : ((Rect.unit (s := S32x8x128) ![q.val, 0, 0] ![1, 8, 128] (tap_inb q)).emb x) 1 = x 1 :=
        Fin.ext (show 0 + 1 * (x 1).val = (x 1).val by omega)
      have e2 : ((Rect.unit (s := S32x8x128) ![q.val, 0, 0] ![1, 8, 128] (tap_inb q)).emb x) 2 = x 2 :=
        Fin.ext (show 0 + 1 * (x 2).val = (x 2).val by omega)
      unfold wStep
      rw [dif_pos (by rw [e0]; exact q.isLt)]
      simp only [e0, e1, e2]
    · exact ⟨_, List.mem_map.mpr ⟨⟨(y 0).val, h⟩, by simp, rfl⟩, (hmem _).mpr rfl⟩
  · rw [View.read_writes_apply_of_forall_not_mem]
    · unfold wStep; rw [dif_neg h]
    · intro p hp
      obtain ⟨q, -, rfl⟩ := List.mem_map.mp hp
      rw [hmem]
      have := q.isLt
      omega

/-- One trip's writes into the gradient of the gated input: its sixteen rows; -/
theorem read_outPieces (w : Vec F S32x8x128 .f32) (e : Vec F S544x8x128 .f32) (k : Fin k0_t1_loop.trips)
    (arg22 : Memref sig .tc .vmem S512x8x128 .f32) (f : BufTy.Contents (Elt F) arg22.view.ty) (y : S512x8x128.Idx) :
    arg22.view.read (Elt F) (arg22.view.writes (Elt F) f (outPieces w e k)) y
      = if (y 0).val / 16 = k.val then conv w e y else arg22.view.read (Elt F) f y := by
  have hmem : ∀ j : Fin 16, (y ∈ (Rect.unit (s := S512x8x128) (k0_off2 k (BitVec.ofNat 32 j.val)) ![1, 8, 128] (k0_off2_inb k j)).set)
      ↔ (y 0).val = 16 * k.val + j.val := by
    intro j
    rw [Rect.mem_set_unit]
    simp only [k0_off2_eq k j]
    constructor
    · intro h; have := h 0; simp at this; omega
    · intro h a
      fin_cases a
      · simp; omega
      · have : (y 1).val < 8 := (y 1).isLt
        simpa using this
      · have : (y 2).val < 128 := (y 2).isLt
        simpa using this
  by_cases h : (y 0).val / 16 = k.val
  · rw [if_pos h]
    refine View.read_writes_apply_of_pieces _ _ (conv w e) _ ?_ y ?_
    · intro p hp x
      obtain ⟨j, -, rfl⟩ := List.mem_map.mp hp
      refine (lift_apply (F := F) (taps w e k j 30 (by decide)) x).trans ?_
      have hx : (x 0).val = 0 := by have : (x 0).val < 1 := (x 0).isLt; omega
      have e0 : (((Rect.unit (s := S512x8x128) (k0_off2 k (BitVec.ofNat 32 j.val)) ![1, 8, 128] (k0_off2_inb k j)).emb x) 0).val
          = 16 * k.val + j.val := by
        have o : k0_off2 k (BitVec.ofNat 32 j.val) 0 = 16 * k.val + j.val := by rw [k0_off2_eq k j]; rfl
        show k0_off2 k (BitVec.ofNat 32 j.val) 0 + 1 * (x 0).val = _
        omega
      have e1 : ((Rect.unit (s := S512x8x128) (k0_off2 k (BitVec.ofNat 32 j.val)) ![1, 8, 128] (k0_off2_inb k j)).emb x) 1 = x 1 :=
        Fin.ext (by
          have o : k0_off2 k (BitVec.ofNat 32 j.val) 1 = 0 := by rw [k0_off2_eq k j]; rfl
          show k0_off2 k (BitVec.ofNat 32 j.val) 1 + 1 * (x 1).val = (x 1).val
          omega)
      have e2 : ((Rect.unit (s := S512x8x128) (k0_off2 k (BitVec.ofNat 32 j.val)) ![1, 8, 128] (k0_off2_inb k j)).emb x) 2 = x 2 :=
        Fin.ext (by
          have o : k0_off2 k (BitVec.ofNat 32 j.val) 2 = 0 := by rw [k0_off2_eq k j]; rfl
          show k0_off2 k (BitVec.ofNat 32 j.val) 2 + 1 * (x 2).val = (x 2).val
          omega)
      have hj := j.isLt
      have hk : (⟨(16 * k.val + j.val) / 16, by have := k.isLt; omega⟩ : Fin k0_t1_loop.trips) = k := Fin.ext (by show (16 * k.val + j.val) / 16 = k.val; omega)
      have hj' : (⟨(16 * k.val + j.val) % 16, Nat.mod_lt _ (by decide)⟩ : Fin 16) = j := Fin.ext (by show (16 * k.val + j.val) % 16 = j.val; omega)
      unfold conv
      simp only [e0, e1, e2, hk, hj']
    · exact ⟨_, List.mem_map.mpr ⟨⟨(y 0).val % 16, Nat.mod_lt _ (by decide)⟩, by simp, rfl⟩, (hmem _).mpr (by show _ = 16 * k.val + (y 0).val % 16; omega)⟩
  · rw [if_neg h, View.read_writes_apply_of_forall_not_mem]
    intro p hp
    obtain ⟨j, -, rfl⟩ := List.mem_map.mp hp
    rw [hmem]
    have := j.isLt
    omega

/-- All the trips' writes into the gradient of the filter. -/
theorem loop_w (𝒱 : Variants) (c : Dev nD) (bd : Option 𝒱.V) (i : grid0.Coords) (arg1 : Memref sig .tc .vmem S512x1024 .bf16) (harg1 : arg1.IsWhole) (arg2 : Memref sig .tc .vmem S512x1024 .bf16) (harg2 : arg2.IsWhole) (arg3 : Memref sig .tc .vmem S16x1024 .bf16) (harg3 : arg3.IsWhole) (arg4 : Memref sig .tc .vmem S512x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S512x1024 .bf16) (harg7 : arg7.IsWhole) (arg8 : Memref sig .tc .vmem S16x1024 .bf16) (harg8 : arg8.IsWhole) (arg9 : Memref sig .tc .vmem S16x1024 .bf16) (harg9 : arg9.IsWhole) (arg10 : Memref sig .tc .vmem S512x1024 .bf16) (harg10 : arg10.IsWhole) (arg11 : Memref sig .tc .vmem S16x1024 .bf16) (harg11 : arg11.IsWhole) (arg12 : Memref sig .tc .vmem S32x8x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S512x3072 .bf16) (harg15 : arg15.IsWhole) (arg16 : Memref sig .tc .vmem S32x8x128 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S544x8x128 .f32) (harg20 : arg20.IsWhole) (arg21 : Memref sig .tc .vmem S512x8x128 .f32) (harg21 : arg21.IsWhole) (arg22 : Memref sig .tc .vmem S512x8x128 .f32) (harg22 : arg22.IsWhole) (X_arg12 : BufTy.Contents (Elt F) arg12.view.ty) (X_arg20 : BufTy.Contents (Elt F) arg20.view.ty) (X_arg21 : BufTy.Contents (Elt F) arg21.view.ty) (G16 : BufTy.Contents (Elt F) arg16.view.ty) (G22 : BufTy.Contents (Elt F) arg22.view.ty) :
    ∀ n ≤ k0_t1_loop.trips, arg16.view.read (Elt F) (arg16.view.writes (Elt F) G16 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg20 X_arg21 G16 G22 n).1)
      = wSum (arg20.view.read (Elt F) X_arg20) (arg21.view.read (Elt F) X_arg21) (arg16.view.read (Elt F) G16) n
  | 0, _ => rfl
  | n + 1, h => by
    rw [show n + 1 = (⟨n, h⟩ : Fin k0_t1_loop.trips).val + 1 from rfl, pb_k0_t1_succ]
    change arg16.view.read (Elt F) (arg16.view.writes (Elt F) G16 (_ ++ _)) = _
    rw [trip_w, View.writes_append, read_wPieces, loop_w 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg20 X_arg21 G16 G22 n (by omega)]
    exact (wSum_succ _ _ _ n h).symm

/-- All the trips' writes into the gradient of the gated input. -/
theorem loop_out (𝒱 : Variants) (c : Dev nD) (bd : Option 𝒱.V) (i : grid0.Coords) (arg1 : Memref sig .tc .vmem S512x1024 .bf16) (harg1 : arg1.IsWhole) (arg2 : Memref sig .tc .vmem S512x1024 .bf16) (harg2 : arg2.IsWhole) (arg3 : Memref sig .tc .vmem S16x1024 .bf16) (harg3 : arg3.IsWhole) (arg4 : Memref sig .tc .vmem S512x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S512x1024 .bf16) (harg7 : arg7.IsWhole) (arg8 : Memref sig .tc .vmem S16x1024 .bf16) (harg8 : arg8.IsWhole) (arg9 : Memref sig .tc .vmem S16x1024 .bf16) (harg9 : arg9.IsWhole) (arg10 : Memref sig .tc .vmem S512x1024 .bf16) (harg10 : arg10.IsWhole) (arg11 : Memref sig .tc .vmem S16x1024 .bf16) (harg11 : arg11.IsWhole) (arg12 : Memref sig .tc .vmem S32x8x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S512x3072 .bf16) (harg15 : arg15.IsWhole) (arg16 : Memref sig .tc .vmem S32x8x128 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S544x8x128 .f32) (harg20 : arg20.IsWhole) (arg21 : Memref sig .tc .vmem S512x8x128 .f32) (harg21 : arg21.IsWhole) (arg22 : Memref sig .tc .vmem S512x8x128 .f32) (harg22 : arg22.IsWhole) (X_arg12 : BufTy.Contents (Elt F) arg12.view.ty) (X_arg20 : BufTy.Contents (Elt F) arg20.view.ty) (X_arg21 : BufTy.Contents (Elt F) arg21.view.ty) (G16 : BufTy.Contents (Elt F) arg16.view.ty) (G22 : BufTy.Contents (Elt F) arg22.view.ty) (y : S512x8x128.Idx) :
    ∀ n ≤ k0_t1_loop.trips, (y 0).val / 16 < n →
      arg22.view.read (Elt F) (arg22.view.writes (Elt F) G22 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg20 X_arg21 G16 G22 n).2) y
        = conv (arg12.view.read (Elt F) X_arg12) (arg20.view.read (Elt F) X_arg20) y
  | 0, _, hy => absurd hy (Nat.not_lt_zero _)
  | n + 1, h, hy => by
    rw [show n + 1 = (⟨n, h⟩ : Fin k0_t1_loop.trips).val + 1 from rfl, pb_k0_t1_succ]
    change arg22.view.read (Elt F) (arg22.view.writes (Elt F) G22 (_ ++ _)) y = _
    rw [trip_out, View.writes_append, read_outPieces]
    split
    · rfl
    · exact loop_out 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg12 X_arg20 X_arg21 G16 G22 y n (by omega) (by simp at *; omega)

end Cert.ConvBwdIdeal.Conv
-- ==== Proof.ConvBlock.lean ====
module

public import proofs.«01_k».proof.Proof.ConvLoop
public import Idealize.ShloMosaic.Lib.WritesUnit

@[expose] public section

set_option maxRecDepth 16384

noncomputable section

namespace Cert.ConvBwdIdeal.Conv

open Idealize.ShloMosaic Idealize.ShloMosaic.TcCoe Idealize.ShloMosaic.Tactic
open Idealize.SL.Sem
open Cert.ConvBwdIdeal.Gen

variable {F : FTy → Type} [FloatOps F]

/-- What a grid point reads: one block of every input. -/
structure Blocks (F : FTy → Type) where
  av : Vec F S512x1024 .bf16
  ag : Vec F S512x1024 .bf16
  gp : Vec F S16x1024 .bf16
  gm : Vec F S512x1024 .bf16
  gn : Vec F S16x1024 .bf16
  cp : Vec F S16x1024 .bf16
  cm : Vec F S512x1024 .bf16
  cn : Vec F S16x1024 .bf16
  yp : Vec F S16x1024 .bf16
  ym : Vec F S512x1024 .bf16
  yn : Vec F S16x1024 .bf16
  w : Vec F S32x8x128 .f32
  lg : Vec F S1x1024 .f32
  lb : Vec F S1x1024 .f32

/-- What the accumulated gradients hold: of the filter, of its bias, of the norm's gain and of the norm's bias. -/
structure Accs (F : FTy → Type) where
  w : Vec F S32x8x128 .f32
  b : Vec F S8x1024 .f32
  g : Vec F S8x1024 .f32
  l : Vec F S8x1024 .f32

/-- The grid's first point. -/
abbrev first (i : grid0.Coords) : Prop :=
  (Scalar.cmpi .ne (Scalar.extui (Scalar.cmpi .eq (BitVec.ofNat 32 (i 0).val) 0#32)) 0#32) = 1#1

/-- A block of a neighbouring part, as loaded whole. -/
def ldh (X : Vec F S16x1024 .bf16) : Vec F S16x1024 .bf16 :=
  View.ld X (Rect.unit (s := S16x1024) ![0, 0] S16x1024.size inb_S16x1024_S16x1024_0_0)

/-- A block of the point's own part, as loaded whole. -/
def ldm (X : Vec F S512x1024 .bf16) : Vec F S512x1024 .bf16 :=
  View.ld X (Rect.unit (s := S512x1024) ![0, 0] S512x1024.size inb_S512x1024_S512x1024_0_0)

/-- A row of the norm's parameters, as loaded whole. -/
def ldr (X : Vec F S1x1024 .f32) : Vec F S1x1024 .f32 :=
  View.ld X (Rect.unit (s := S1x1024) ![0, 0] S1x1024.size inb_S1x1024_S1x1024_0_0)

/-- Eight rows of partial sums, as loaded whole. -/
def lda (X : Vec F S8x1024 .f32) : Vec F S8x1024 .f32 :=
  View.ld X (Rect.unit (s := S8x1024) ![0, 0] S8x1024.size inb_S8x1024_S8x1024_0_0)

namespace Blocks

variable (x : Blocks F) (i : grid0.Coords)

/-- The gate's input on the extended rows. -/
def gc : FVec F S544x1024 .f32 := k0_pay1580 (ldh x.gp) (ldm x.gm) (ldh x.gn)

/-- The cotangent on the extended rows. -/
def dy : FVec F S544x1024 .f32 := k0_pay1581 (ldh x.yp) (ldm x.ym) (ldh x.yn)

/-- The convolved rows less their mean. -/
def cf : FVec F S544x1024 .f32 := k0_pay1582 (ldh x.cp) (ldm x.cm) (ldh x.cn)

/-- The sums of the centred rows' squares. -/
def sq : FVec F S544 .f32 := k0_pay1583 (ldh x.cp) (ldm x.cm) (ldh x.cn)

/-- The reciprocal standard deviations. -/
def rstd : FVec F S544x1 .f32 := k0_pay1584 x.sq

/-- The normalised rows. -/
def xh : FVec F S544x1024 .f32 := k0_pay1585 x.cf x.sq

/-- The cotangent of the norm's result. -/
def dln : FVec F S544x1024 .f32 := k0_pay1589 x.gc x.dy x.cf x.sq (ldr x.lg) (ldr x.lb)

/-- The cotangent times the activated norm on the point's own rows. -/
def dgate : FVec F S512x1024 .f32 := k0_pay1590 x.dy x.cf x.sq (ldr x.lg) (ldr x.lb)

/-- The gradient of the gate's input on the point's own rows. -/
def dgc : FVec F S512x1024 .bf16 :=
  k0_pay1594 x.dgate (k0_pay1591 x.gc) (k0_pay1592 x.gc) (k0_pay1593 x.gc) (FloatOps.ofBits .f32 0x3f800000#32)

/-- The cotangent of the normalised rows, less its mean. -/
def dxc : FVec F S544x1024 .f32 := k0_pay1598 (ldr x.lg) x.dln

/-- The normalised rows times the mean of their product with their cotangent. -/
def dxm : FVec F S544x1024 .f32 := k0_pay1599 x.xh (ldr x.lg) x.dln

/-- The gradient of the convolution's result on the rows before the point's own. -/
def extP : FVec F S16x8x128 .f32 := k0_pay1602 (BitVec.ofNat 32 (i 0).val) x.rstd x.dxc x.dxm

/-- The gradient of the convolution's result on the point's own rows. -/
def extM : FVec F S512x8x128 .f32 := k0_pay1603 x.rstd x.dxc x.dxm

/-- The gradient of the convolution's result on the rows after the point's own. -/
def extN : FVec F S16x8x128 .f32 := k0_pay1604 (BitVec.ofNat 32 (i 0).val) x.rstd x.dxc x.dxm

end Blocks

/-- Rows before, own rows and rows after, one above the other. -/
def stack (a : FVec F S16x8x128 .f32) (b : FVec F S512x8x128 .f32) (n : FVec F S16x8x128 .f32) : Vec F S544x8x128 .f32 := fun y =>
  if h : (y 0).val < 16 then a (ix3 (⟨(y 0).val, h⟩ : Fin 16) (y 1 : Fin 8) (y 2 : Fin 128))
  else if h' : (y 0).val < 528 then b (ix3 (⟨(y 0).val - 16, by omega⟩ : Fin 512) (y 1 : Fin 8) (y 2 : Fin 128))
  else n (ix3 (⟨(y 0).val - 528, by have : (y 0).val < 544 := (y 0).isLt; omega⟩ : Fin 16) (y 1 : Fin 8) (y 2 : Fin 128))

/-- Three blocks of columns, side by side. -/
def beside (a b n : FVec F S512x1024 .bf16) : Vec F S512x3072 .bf16 := fun y =>
  if h : (y 1).val < 1024 then a (ix2 (y 0 : Fin 512) (⟨(y 1).val, h⟩ : Fin 1024))
  else if h' : (y 1).val < 2048 then b (ix2 (y 0 : Fin 512) (⟨(y 1).val - 1024, by omega⟩ : Fin 1024))
  else n (ix2 (y 0 : Fin 512) (⟨(y 1).val - 2048, by have : (y 1).val < 3072 := (y 1).isLt; omega⟩ : Fin 1024))

namespace Blocks

variable (x : Blocks F) (i : grid0.Coords)

/-- The gradient of the convolution's result on the extended rows. -/
def ext : Vec F S544x8x128 .f32 := stack (x.extP i) x.extM (x.extN i)

/-- The gated input on the point's own rows. -/
def glu : FVec F S512x8x128 .f32 := k0_pay2 (k0_pay1605 (ldm x.av)) (ldm x.ag)

/-- The gradient of the gated input on the point's own rows, as loaded whole. -/
def dglu : Vec F S512x8x128 .f32 := conv x.w (x.ext i)

/-- The gradients of the point's rows of the projection's first three parts. -/
def dp : Vec F S512x3072 .bf16 :=
  beside (k0_pay7 (ldm x.ag) (x.dglu i)) (k0_pay8 (k0_pay1605 (ldm x.av)) (ldm x.ag) (x.dglu i)) x.dgc

end Blocks

/-- The accumulated gradients before any point. -/
def Accs.zero : Accs F := ⟨k0_pay1576, k0_pay1577, k0_pay1578, k0_pay1579⟩

/-- The accumulated gradients after one more point. -/
def Accs.next (d : Accs F) (x : Blocks F) (i : grid0.Coords) : Accs F where
  w := wSum (x.ext i) x.glu d.w k0_t1_loop.trips
  b := k0_pay1601 x.rstd x.dxc x.dxm (lda d.b)
  g := k0_pay1595 x.xh x.dln (lda d.g)
  l := k0_pay1596 x.dln (lda d.l)

/-- A buffer stored whole reads what was stored. -/
theorem read_whole {sig : RefSig} {κ : Kind} {sp : Space} {s : Shape} {e : EltTy} (v : View sig κ sp s e) (f : BufTy.Contents (Elt F) v.ty)
    (off : Fin s.rank → ℕ) (inb : ∀ a, off a + s.size a ≤ s.size a) (p : Vec F s e) (L : List (View.Piece (Elt F) s e)) :
    v.read (Elt F) (v.writes (Elt F) f (⟨Rect.unit off s.size inb, p⟩ :: L)) = p := by
  funext y
  exact View.read_writes_cons_unit_of_mem v f inb p L y y rfl (fun a => by have := inb a; omega)

/-- Three stores of rows read one above the other. -/
theorem read_stack {sig : RefSig} (v : View sig .tc .vmem S544x8x128 .f32) (f : BufTy.Contents (Elt F) v.ty)
    (a : FVec F S16x8x128 .f32) (b : FVec F S512x8x128 .f32) (n : FVec F S16x8x128 .f32) :
    v.read (Elt F) (v.writes (Elt F) f [⟨Rect.unit (s := S544x8x128) ![528, 0, 0] S16x8x128.size inb_S544x8x128_S16x8x128_528_0_0, n⟩,
      ⟨Rect.unit (s := S544x8x128) ![16, 0, 0] S512x8x128.size inb_S544x8x128_S512x8x128_16_0_0, b⟩,
      ⟨Rect.unit (s := S544x8x128) ![0, 0, 0] S16x8x128.size inb_S544x8x128_S16x8x128_0_0_0, a⟩]) = stack a b n := by
  funext y
  have hy : (y 0).val < 544 := (y 0).isLt
  unfold stack
  split
  · next h =>
    rw [View.read_writes_cons_unit_of_not_mem v f _ _ _ y rfl 0 (.inl (show (y 0).val < 528 by omega)),
      View.read_writes_cons_unit_of_not_mem v f _ _ _ y rfl 0 (.inl (show (y 0).val < 16 by omega))]
    exact View.read_writes_cons_unit_of_mem v f _ _ _ y (ix3 (⟨(y 0).val, h⟩ : Fin 16) (y 1 : Fin 8) (y 2 : Fin 128)) rfl (by
      intro a
      fin_cases a <;> exact (Nat.zero_add _).symm)
  · next h =>
    split
    · next h' =>
      rw [View.read_writes_cons_unit_of_not_mem v f _ _ _ y rfl 0 (.inl (show (y 0).val < 528 by omega))]
      exact View.read_writes_cons_unit_of_mem v f _ _ _ y (ix3 (⟨(y 0).val - 16, by omega⟩ : Fin 512) (y 1 : Fin 8) (y 2 : Fin 128)) rfl (by
        intro a
        fin_cases a
        · show (y 0).val = 16 + ((y 0).val - 16)
          omega
        all_goals exact (Nat.zero_add _).symm)
    · next h' =>
      exact View.read_writes_cons_unit_of_mem v f _ _ _ y (ix3 (⟨(y 0).val - 528, by omega⟩ : Fin 16) (y 1 : Fin 8) (y 2 : Fin 128)) rfl (by
        intro a
        fin_cases a
        · show (y 0).val = 528 + ((y 0).val - 528)
          omega
        all_goals exact (Nat.zero_add _).symm)

/-- Three stores of columns read side by side. -/
theorem read_beside (v : View sig .tc .vmem S512x3072 .bf16) (f : BufTy.Contents (Elt F) v.ty) (a b n : FVec F S512x1024 .bf16) :
    v.read (Elt F) (v.writes (Elt F) f [⟨Rect.unit (s := S512x3072) ![0, 1024] S512x1024.size inb_S512x3072_S512x1024_0_1024, b⟩,
      ⟨Rect.unit (s := S512x3072) ![0, 0] S512x1024.size inb_S512x3072_S512x1024_0_0, a⟩,
      ⟨Rect.unit (s := S512x3072) ![0, 2048] S512x1024.size inb_S512x3072_S512x1024_0_2048, n⟩]) = beside a b n := by
  funext y
  have hy : (y 1).val < 3072 := (y 1).isLt
  unfold beside
  split
  · next h =>
    rw [View.read_writes_cons_unit_of_not_mem v f _ _ _ y rfl 1 (.inl (show (y 1).val < 1024 by omega))]
    exact View.read_writes_cons_unit_of_mem v f _ _ _ y (ix2 (y 0 : Fin 512) (⟨(y 1).val, h⟩ : Fin 1024)) rfl (by
      intro a
      fin_cases a <;> exact (Nat.zero_add _).symm)
  · next h =>
    split
    · next h' =>
      exact View.read_writes_cons_unit_of_mem v f _ _ _ y (ix2 (y 0 : Fin 512) (⟨(y 1).val - 1024, by omega⟩ : Fin 1024)) rfl (by
        intro a
        fin_cases a
        · exact (Nat.zero_add _).symm
        · show (y 1).val = 1024 + ((y 1).val - 1024)
          omega)
    · next h' =>
      rw [View.read_writes_cons_unit_of_not_mem v f _ _ _ y rfl 1 (.inr (show 1024 + 1024 ≤ (y 1).val by omega)),
        View.read_writes_cons_unit_of_not_mem v f _ _ _ y rfl 1 (.inr (show 0 + 1024 ≤ (y 1).val by omega))]
      exact View.read_writes_cons_unit_of_mem v f _ _ _ y (ix2 (y 0 : Fin 512) (⟨(y 1).val - 2048, by omega⟩ : Fin 1024)) rfl (by
        intro a
        fin_cases a
        · exact (Nat.zero_add _).symm
        · show (y 1).val = 2048 + ((y 1).val - 2048)
          omega)

end Cert.ConvBwdIdeal.Conv
-- ==== Proof.ConvRun.lean ====
module

public import proofs.«01_k».proof.Proof.ConvBlock
public import Idealize.ShloMosaic.Lib.VecWindow
public import Idealize.ShloMosaic.Lib.Ring
public import Idealize.ShloMosaic.Lib.WordCmp

@[expose] public section

set_option maxRecDepth 16384

noncomputable section

namespace Cert.ConvBwdIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ConvBwdIdeal.Gen

variable {F : FTy → Type} [FloatOps F]

local notation "𝕄" => MT nD τ sig Unit (Elt F) ℕ (UR sig nD τ) ℕ

set_option maxHeartbeats 4000000 in
/-- Any later point: the accumulators go on from what they hold. -/
theorem run_next (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S16x1024 .bf16) (harg3 : arg3.IsWhole) (arg4 : Memref sig .tc .vmem S512x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S512x1024 .bf16) (harg7 : arg7.IsWhole) (arg8 : Memref sig .tc .vmem S16x1024 .bf16) (harg8 : arg8.IsWhole) (arg9 : Memref sig .tc .vmem S16x1024 .bf16) (harg9 : arg9.IsWhole) (arg10 : Memref sig .tc .vmem S512x1024 .bf16) (harg10 : arg10.IsWhole) (arg11 : Memref sig .tc .vmem S16x1024 .bf16) (harg11 : arg11.IsWhole) (arg12 : Memref sig .tc .vmem S32x8x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S512x3072 .bf16) (harg15 : arg15.IsWhole) (arg16 : Memref sig .tc .vmem S32x8x128 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S544x8x128 .f32) (harg20 : arg20.IsWhole) (arg21 : Memref sig .tc .vmem S512x8x128 .f32) (harg21 : arg21.IsWhole) (arg22 : Memref sig .tc .vmem S512x8x128 .f32) (harg22 : arg22.IsWhole)
    (x : Blocks F) (d : Accs F) (hc : ¬ first i) (E : Set ℕ) (K : PUnit → sProp 𝕄) :
    iprop(owns (c : Thread nD τ) arg1 fullShare x.av ∗ owns (c : Thread nD τ) arg2 fullShare x.ag ∗ owns (c : Thread nD τ) arg3 fullShare x.gp ∗ owns (c : Thread nD τ) arg4 fullShare x.gm ∗ owns (c : Thread nD τ) arg5 fullShare x.gn ∗ owns (c : Thread nD τ) arg6 fullShare x.cp ∗ owns (c : Thread nD τ) arg7 fullShare x.cm ∗ owns (c : Thread nD τ) arg8 fullShare x.cn ∗ owns (c : Thread nD τ) arg9 fullShare x.yp ∗ owns (c : Thread nD τ) arg10 fullShare x.ym ∗ owns (c : Thread nD τ) arg11 fullShare x.yn ∗ owns (c : Thread nD τ) arg12 fullShare x.w ∗ owns (c : Thread nD τ) arg13 fullShare x.lg ∗ owns (c : Thread nD τ) arg14 fullShare x.lb ∗ (∃ d, owns (c : Thread nD τ) arg15 fullShare d) ∗ owns (c : Thread nD τ) arg16 fullShare d.w ∗ owns (c : Thread nD τ) arg17 fullShare d.b ∗ owns (c : Thread nD τ) arg18 fullShare d.g ∗ owns (c : Thread nD τ) arg19 fullShare d.l ∗ (∃ d, owns (c : Thread nD τ) arg20 fullShare d) ∗ (∃ d, owns (c : Thread nD τ) arg21 fullShare d) ∗ (∃ d, owns (c : Thread nD τ) arg22 fullShare d) ∗ (owns (c : Thread nD τ) arg1 fullShare x.av ∗ owns (c : Thread nD τ) arg2 fullShare x.ag ∗ owns (c : Thread nD τ) arg3 fullShare x.gp ∗ owns (c : Thread nD τ) arg4 fullShare x.gm ∗ owns (c : Thread nD τ) arg5 fullShare x.gn ∗ owns (c : Thread nD τ) arg6 fullShare x.cp ∗ owns (c : Thread nD τ) arg7 fullShare x.cm ∗ owns (c : Thread nD τ) arg8 fullShare x.cn ∗ owns (c : Thread nD τ) arg9 fullShare x.yp ∗ owns (c : Thread nD τ) arg10 fullShare x.ym ∗ owns (c : Thread nD τ) arg11 fullShare x.yn ∗ owns (c : Thread nD τ) arg12 fullShare x.w ∗ owns (c : Thread nD τ) arg13 fullShare x.lg ∗ owns (c : Thread nD τ) arg14 fullShare x.lb ∗ owns (c : Thread nD τ) arg15 fullShare (x.dp i) ∗ owns (c : Thread nD τ) arg16 fullShare (Accs.next d x i).w ∗ owns (c : Thread nD τ) arg17 fullShare (Accs.next d x i).b ∗ owns (c : Thread nD τ) arg18 fullShare (Accs.next d x i).g ∗ owns (c : Thread nD τ) arg19 fullShare (Accs.next d x i).l ∗ (∃ d, owns (c : Thread nD τ) arg20 fullShare d) ∗ (∃ d, owns (c : Thread nD τ) arg21 fullShare d) ∗ (∃ d, owns (c : Thread nD τ) arg22 fullShare d) -∗ K ⟨⟩)) ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  obtain ⟨xav, xag, xgp, xgm, xgn, xcp, xcm, xcn, xyp, xym, xyn, xw, xlg, xlb⟩ := x; obtain ⟨dw, db, dg, dl⟩ := d
  simp only [cc0_conv_bwd_eq_skeleton]; unfold cc0_conv_bwd_skel
  simp only [k0_part213_eq_skeleton, k0_part214_eq_skeleton, k0_part215_eq_skeleton, k0_part216_eq_skeleton]
  unfold k0_part213_skel; unfold k0_part214_skel; unfold k0_part215_skel; unfold k0_part216_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%d15, %f15, -, H15⟩, ⟨%f16, %h16, H16⟩, ⟨%f17, %h17, H17⟩, ⟨%f18, %h18, H18⟩, ⟨%f19, %h19, H19⟩, ⟨%d20, %f20, -, H20⟩, ⟨%d21, %f21, -, H21⟩, ⟨%d22, %f22, -, H22⟩, Hk⟩
  subst h1; subst h2; subst h3; subst h4; subst h5; subst h6; subst h7; subst h8; subst h9; subst h10; subst h11; subst h12; subst h13; subst h14; subst h16; subst h17; subst h18; subst h19
  sl_exec (disch := first | sl_exact hc)
  sl_step
  iapply Hk
  isplitl [H1]
  · iexists _; isplitr
    swap
    · iexact H1
    ipureintro; rfl
  isplitl [H2]
  · iexists _; isplitr
    swap
    · iexact H2
    ipureintro; rfl
  isplitl [H3]
  · iexists _; isplitr
    swap
    · iexact H3
    ipureintro; rfl
  isplitl [H4]
  · iexists _; isplitr
    swap
    · iexact H4
    ipureintro; rfl
  isplitl [H5]
  · iexists _; isplitr
    swap
    · iexact H5
    ipureintro; rfl
  isplitl [H6]
  · iexists _; isplitr
    swap
    · iexact H6
    ipureintro; rfl
  isplitl [H7]
  · iexists _; isplitr
    swap
    · iexact H7
    ipureintro; rfl
  isplitl [H8]
  · iexists _; isplitr
    swap
    · iexact H8
    ipureintro; rfl
  isplitl [H9]
  · iexists _; isplitr
    swap
    · iexact H9
    ipureintro; rfl
  isplitl [H10]
  · iexists _; isplitr
    swap
    · iexact H10
    ipureintro; rfl
  isplitl [H11]
  · iexists _; isplitr
    swap
    · iexact H11
    ipureintro; rfl
  isplitl [H12]
  · iexists _; isplitr
    swap
    · iexact H12
    ipureintro; rfl
  isplitl [H13]
  · iexists _; isplitr
    swap
    · iexact H13
    ipureintro; rfl
  isplitl [H14]
  · iexists _; isplitr
    swap
    · iexact H14
    ipureintro; rfl
  isplitl [H15]
  · iexists _; isplitr
    swap
    · iexact H15
    ipureintro
    refine (read_beside _ _ _ _ _).trans ?_
    have hv : ∀ X12 X20 X21 G16 G22 y, X12 = f12 → arg20.view.read (Elt F) X20 = (⟨arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14⟩ : Blocks F).ext i →
        View.readAt (Elt F) arg22.view (Rect.unit (s := S512x8x128) ![0, 0, 0] S512x8x128.size inb_S512x8x128_S512x8x128_0_0_0).toLoadRect
          (arg22.view.writes (Elt F) G22 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X12 X20 X21 G16 G22 k0_t1_loop.trips).2) y
          = (⟨arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14⟩ : Blocks F).dglu i y := by
      intro X12 X20 X21 G16 G22 y h12 h20
      subst h12
      refine (congrFun (View.readAt_full arg22.view _ _) y).trans ((loop_out _ _ _ _ _ _ _ _ _ _ _ _ _ _ _ _ _ _ _ _ _ _ _ _ _ _ _ _ _ _ _ _ _ _ _ _ _ _ _ _ _ _ _ _ _ _ _ _ _ _ _ _ _ y _ le_rfl ?_).trans (by rw [h20]; rfl))
      have : (y 0).val < 512 := (y 0).isLt
      rw [trips_eq]; omega
    refine congr (congr (congrArg beside ?_) ?_) ?_
    · refine (congrArg (k0_pay7 (ldm (arg2.view.read (Elt F) f2))) (funext fun y => hv _ _ _ _ _ y rfl ?_))
      exact (read_stack _ _ _ _ _).trans (by sl_kernel_rfl)
    · refine (congrArg (k0_pay8 (k0_pay1605 (ldm (arg1.view.read (Elt F) f1))) (ldm (arg2.view.read (Elt F) f2))) (funext fun y => hv _ _ _ _ _ y rfl ?_))
      exact (read_stack _ _ _ _ _).trans (by sl_kernel_rfl)
    · sl_kernel_rfl
  isplitl [H16]
  · iexists _; isplitr
    swap
    · iexact H16
    ipureintro
    refine (loop_w _ _ _ _ _ _ _ _ _ _ _ _ _ _ _ _ _ _ _ _ _ _ _ _ _ _ _ _ _ _ _ _ _ _ _ _ _ _ _ _ _ _ _ _ _ _ _ _ _ _ _ _ _ _ le_rfl).trans ?_
    exact congrArg₂ (fun e g => wSum e g _ k0_t1_loop.trips) ((read_stack _ _ _ _ _).trans (by sl_kernel_rfl)) ((read_whole _ _ _ _ _ _).trans (by sl_kernel_rfl))
  isplitl [H17]
  · iexists _; isplitr
    swap
    · iexact H17
    ipureintro
    exact (read_whole _ _ _ _ _ _).trans (by sl_kernel_rfl)
  isplitl [H18]
  · iexists _; isplitr
    swap
    · iexact H18
    ipureintro
    exact (read_whole _ _ _ _ _ _).trans (by sl_kernel_rfl)
  isplitl [H19]
  · iexists _; isplitr
    swap
    · iexact H19
    ipureintro
    exact (read_whole _ _ _ _ _ _).trans (by sl_kernel_rfl)
  isplitl [H20]
  · iexists _; iexists _; isplitr
    swap
    · iexact H20
    ipureintro; rfl
  isplitl [H21]
  · iexists _; iexists _; isplitr
    swap
    · iexact H21
    ipureintro; rfl
  iexists _; iexists _; isplitr
  swap
  · iexact H22
  ipureintro; rfl

set_option maxHeartbeats 4000000 in
/-- The grid's first point: the accumulators start from zeros. -/
theorem run_first (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S16x1024 .bf16) (harg3 : arg3.IsWhole) (arg4 : Memref sig .tc .vmem S512x1024 .bf16) (harg4 : arg4.IsWhole) (arg5 : Memref sig .tc .vmem S16x1024 .bf16) (harg5 : arg5.IsWhole) (arg6 : Memref sig .tc .vmem S16x1024 .bf16) (harg6 : arg6.IsWhole) (arg7 : Memref sig .tc .vmem S512x1024 .bf16) (harg7 : arg7.IsWhole) (arg8 : Memref sig .tc .vmem S16x1024 .bf16) (harg8 : arg8.IsWhole) (arg9 : Memref sig .tc .vmem S16x1024 .bf16) (harg9 : arg9.IsWhole) (arg10 : Memref sig .tc .vmem S512x1024 .bf16) (harg10 : arg10.IsWhole) (arg11 : Memref sig .tc .vmem S16x1024 .bf16) (harg11 : arg11.IsWhole) (arg12 : Memref sig .tc .vmem S32x8x128 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S512x3072 .bf16) (harg15 : arg15.IsWhole) (arg16 : Memref sig .tc .vmem S32x8x128 .f32) (harg16 : arg16.IsWhole) (arg17 : Memref sig .tc .vmem S8x1024 .f32) (harg17 : arg17.IsWhole) (arg18 : Memref sig .tc .vmem S8x1024 .f32) (harg18 : arg18.IsWhole) (arg19 : Memref sig .tc .vmem S8x1024 .f32) (harg19 : arg19.IsWhole) (arg20 : Memref sig .tc .vmem S544x8x128 .f32) (harg20 : arg20.IsWhole) (arg21 : Memref sig .tc .vmem S512x8x128 .f32) (harg21 : arg21.IsWhole) (arg22 : Memref sig .tc .vmem S512x8x128 .f32) (harg22 : arg22.IsWhole)
    (x : Blocks F) (hc : first i) (E : Set ℕ) (K : PUnit → sProp 𝕄) :
    iprop(owns (c : Thread nD τ) arg1 fullShare x.av ∗ owns (c : Thread nD τ) arg2 fullShare x.ag ∗ owns (c : Thread nD τ) arg3 fullShare x.gp ∗ owns (c : Thread nD τ) arg4 fullShare x.gm ∗ owns (c : Thread nD τ) arg5 fullShare x.gn ∗ owns (c : Thread nD τ) arg6 fullShare x.cp ∗ owns (c : Thread nD τ) arg7 fullShare x.cm ∗ owns (c : Thread nD τ) arg8 fullShare x.cn ∗ owns (c : Thread nD τ) arg9 fullShare x.yp ∗ owns (c : Thread nD τ) arg10 fullShare x.ym ∗ owns (c : Thread nD τ) arg11 fullShare x.yn ∗ owns (c : Thread nD τ) arg12 fullShare x.w ∗ owns (c : Thread nD τ) arg13 fullShare x.lg ∗ owns (c : Thread nD τ) arg14 fullShare x.lb ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (owns (c : Thread nD τ) arg1 fullShare x.av ∗ owns (c : Thread nD τ) arg2 fullShare x.ag ∗ owns (c : Thread nD τ) arg3 fullShare x.gp ∗ owns (c : Thread nD τ) arg4 fullShare x.gm ∗ owns (c : Thread nD τ) arg5 fullShare x.gn ∗ owns (c : Thread nD τ) arg6 fullShare x.cp ∗ owns (c : Thread nD τ) arg7 fullShare x.cm ∗ owns (c : Thread nD τ) arg8 fullShare x.cn ∗ owns (c : Thread nD τ) arg9 fullShare x.yp ∗ owns (c : Thread nD τ) arg10 fullShare x.ym ∗ owns (c : Thread nD τ) arg11 fullShare x.yn ∗ owns (c : Thread nD τ) arg12 fullShare x.w ∗ owns (c : Thread nD τ) arg13 fullShare x.lg ∗ owns (c : Thread nD τ) arg14 fullShare x.lb ∗ owns (c : Thread nD τ) arg15 fullShare (x.dp i) ∗ owns (c : Thread nD τ) arg16 fullShare (Accs.next Accs.zero x i).w ∗ owns (c : Thread nD τ) arg17 fullShare (Accs.next Accs.zero x i).b ∗ owns (c : Thread nD τ) arg18 fullShare (Accs.next Accs.zero x i).g ∗ owns (c : Thread nD τ) arg19 fullShare (Accs.next Accs.zero x i).l ∗ (∃ d, owns (c : Thread nD τ) arg20 fullShare d) ∗ (∃ d, owns (c : Thread nD τ) arg21 fullShare d) ∗ (∃ d, owns (c : Thread nD τ) arg22 fullShare d) -∗ K ⟨⟩)) ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  obtain ⟨xav, xag, xgp, xgm, xgn, xcp, xcm, xcn, xyp, xym, xyn, xw, xlg, xlb⟩ := x
  simp only [cc0_conv_bwd_eq_skeleton]; unfold cc0_conv_bwd_skel
  simp only [k0_part213_eq_skeleton, k0_part214_eq_skeleton, k0_part215_eq_skeleton, k0_part216_eq_skeleton]
  unfold k0_part213_skel; unfold k0_part214_skel; unfold k0_part215_skel; unfold k0_part216_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst h1; subst h2; subst h3; subst h4; subst h5; subst h6; subst h7; subst h8; subst h9; subst h10; subst h11; subst h12; subst h13; subst h14
  sl_exec (disch := first | sl_exact hc)
  sl_step
  iapply Hk
  isplitl [H1]
  · iexists _; isplitr
    swap
    · iexact H1
    ipureintro; rfl
  isplitl [H2]
  · iexists _; isplitr
    swap
    · iexact H2
    ipureintro; rfl
  isplitl [H3]
  · iexists _; isplitr
    swap
    · iexact H3
    ipureintro; rfl
  isplitl [H4]
  · iexists _; isplitr
    swap
    · iexact H4
    ipureintro; rfl
  isplitl [H5]
  · iexists _; isplitr
    swap
    · iexact H5
    ipureintro; rfl
  isplitl [H6]
  · iexists _; isplitr
    swap
    · iexact H6
    ipureintro; rfl
  isplitl [H7]
  · iexists _; isplitr
    swap
    · iexact H7
    ipureintro; rfl
  isplitl [H8]
  · iexists _; isplitr
    swap
    · iexact H8
    ipureintro; rfl
  isplitl [H9]
  · iexists _; isplitr
    swap
    · iexact H9
    ipureintro; rfl
  isplitl [H10]
  · iexists _; isplitr
    swap
    · iexact H10
    ipureintro; rfl
  isplitl [H11]
  · iexists _; isplitr
    swap
    · iexact H11
    ipureintro; rfl
  isplitl [H12]
  · iexists _; isplitr
    swap
    · iexact H12
    ipureintro; rfl
  isplitl [H13]
  · iexists _; isplitr
    swap
    · iexact H13
    ipureintro; rfl
  isplitl [H14]
  · iexists _; isplitr
    swap
    · iexact H14
    ipureintro; rfl
  isplitl [H15]
  · iexists _; isplitr
    swap
    · iexact H15
    ipureintro
    refine (read_beside _ _ _ _ _).trans ?_
    have hv : ∀ X12 X20 X21 G16 G22 y, X12 = f12 → arg20.view.read (Elt F) X20 = (⟨arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14⟩ : Blocks F).ext i →
        View.readAt (Elt F) arg22.view (Rect.unit (s := S512x8x128) ![0, 0, 0] S512x8x128.size inb_S512x8x128_S512x8x128_0_0_0).toLoadRect
          (arg22.view.writes (Elt F) G22 (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X12 X20 X21 G16 G22 k0_t1_loop.trips).2) y
          = (⟨arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14⟩ : Blocks F).dglu i y := by
      intro X12 X20 X21 G16 G22 y h12 h20
      subst h12
      refine (congrFun (View.readAt_full arg22.view _ _) y).trans ((loop_out _ _ _ _ _ _ _ _ _ _ _ _ _ _ _ _ _ _ _ _ _ _ _ _ _ _ _ _ _ _ _ _ _ _ _ _ _ _ _ _ _ _ _ _ _ _ _ _ _ _ _ _ _ y _ le_rfl ?_).trans (by rw [h20]; rfl))
      have : (y 0).val < 512 := (y 0).isLt
      rw [trips_eq]; omega
    refine congr (congr (congrArg beside ?_) ?_) ?_
    · refine (congrArg (k0_pay7 (ldm (arg2.view.read (Elt F) f2))) (funext fun y => hv _ _ _ _ _ y rfl ?_))
      exact (read_stack _ _ _ _ _).trans (by sl_kernel_rfl)
    · refine (congrArg (k0_pay8 (k0_pay1605 (ldm (arg1.view.read (Elt F) f1))) (ldm (arg2.view.read (Elt F) f2))) (funext fun y => hv _ _ _ _ _ y rfl ?_))
      exact (read_stack _ _ _ _ _).trans (by sl_kernel_rfl)
    · sl_kernel_rfl
  isplitl [H16]
  · iexists _; isplitr
    swap
    · iexact H16
    ipureintro
    refine (congrArg (arg16.view.read (Elt F)) (View.writes_append _ _ _ _)).trans ((loop_w _ _ _ _ _ _ _ _ _ _ _ _ _ _ _ _ _ _ _ _ _ _ _ _ _ _ _ _ _ _ _ _ _ _ _ _ _ _ _ _ _ _ _ _ _ _ _ _ _ _ _ _ _ _ le_rfl).trans ?_)
    refine congr (congrArg₂ (fun e g d => wSum e g d k0_t1_loop.trips) ((read_stack _ _ _ _ _).trans (by sl_kernel_rfl))
      ((read_whole _ _ _ _ _ _).trans (by sl_kernel_rfl))) ?_
    exact read_whole _ _ _ _ _ _
  isplitl [H17]
  · iexists _; isplitr
    swap
    · iexact H17
    ipureintro
    refine (read_whole _ _ _ _ _ _).trans (congrArg (k0_pay1601 (⟨arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14⟩ : Blocks F).rstd (⟨arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14⟩ : Blocks F).dxc (⟨arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14⟩ : Blocks F).dxm) ?_)
    exact (View.readCov_full arg17.view _ _ _ _).trans (by sl_kernel_rfl)
  isplitl [H18]
  · iexists _; isplitr
    swap
    · iexact H18
    ipureintro
    refine (read_whole _ _ _ _ _ _).trans (congrArg (k0_pay1595 (⟨arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14⟩ : Blocks F).xh (⟨arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14⟩ : Blocks F).dln) ?_)
    exact (View.readCov_full arg18.view _ _ _ _).trans (by sl_kernel_rfl)
  isplitl [H19]
  · iexists _; isplitr
    swap
    · iexact H19
    ipureintro
    refine (read_whole _ _ _ _ _ _).trans (congrArg (k0_pay1596 (⟨arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14⟩ : Blocks F).dln) ?_)
    exact (View.readCov_full arg19.view _ _ _ _).trans (by sl_kernel_rfl)
  isplitl [H20]
  · iexists _; iexists _; isplitr
    swap
    · iexact H20
    ipureintro; rfl
  isplitl [H21]
  · iexists _; iexists _; isplitr
    swap
    · iexact H21
    ipureintro; rfl
  iexists _; iexists _; isplitr
  swap
  · iexact H22
  ipureintro; rfl

end Cert.ConvBwdIdeal.Conv
-- ==== Proof.ConvFrame.lean ====
module

public import proofs.«01_k».proof.Proof.ConvRun
public import Idealize.ShloMosaic.Lib.Claim

@[expose] public section

set_option maxRecDepth 16384

noncomputable section

namespace Cert.ConvBwdIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ConvBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first of the sixteen points only. -/
theorem first_iff (t : Fin cfg0.N) : first (grid0.coords t) ↔ t.val = 0 := by
  have ht : t.val < 16 := Nat.lt_of_lt_of_eq t.isLt N_0
  have e0 : (grid0.coords t 0).val = t.val / 1 % 16 := Pipeline.Grid.coords_val t 0 (by decide) rfl
  have h : first (grid0.coords t) ↔ t.val % 16 = 0 := by
    simp only [first, e0]
    word_cmp
  rw [h]
  omega

/-- The blocks of point `t`. -/
def blocks (c : Dev nD) (t : Fin cfg0.N) : Blocks F where
  av := iblk m c 0 t
  ag := iblk m c 1 t
  gp := iblk m c 2 t
  gm := iblk m c 3 t
  gn := iblk m c 4 t
  cp := iblk m c 5 t
  cm := iblk m c 6 t
  cn := iblk m c 7 t
  yp := iblk m c 8 t
  ym := iblk m c 9 t
  yn := iblk m c 10 t
  w := iblk m c 11 t
  lg := iblk m c 12 t
  lb := iblk m c 13 t

/-- The accumulated gradients after point `n`. -/
def accs (c : Dev nD) : (n : ℕ) → n < cfg0.N → Accs F
  | 0, h => Accs.next Accs.zero (blocks m c ⟨0, h⟩) (grid0.coords ⟨0, h⟩)
  | n + 1, h => Accs.next (accs c n (Nat.lt_of_succ_lt h)) (blocks m c ⟨n + 1, h⟩) (grid0.coords ⟨n + 1, h⟩)

theorem accs_first (c : Dev nD) (t : Fin cfg0.N) (h : t.val = 0) :
    accs m c t.val t.isLt = Accs.next Accs.zero (blocks m c t) (grid0.coords t) := by
  obtain ⟨_ | n, ht⟩ := t
  · rfl
  · exact absurd h (Nat.succ_ne_zero n)

theorem accs_next (c : Dev nD) (t : Fin cfg0.N) (h : ¬ t.val = 0) :
    accs m c t.val t.isLt
      = Accs.next (accs m c (t.val - 1) (Nat.lt_of_le_of_lt (Nat.sub_le _ _) t.isLt)) (blocks m c t) (grid0.coords t) := by
  obtain ⟨_ | n, ht⟩ := t
  · exact absurd rfl h
  · rfl

attribute [local irreducible] iblk Blocks.dp

/-- What every buffer holds after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (blocks m c t).dp (grid0.coords t)
    | ⟨15, _⟩ => (accs m c t.val t.isLt).w
    | ⟨16, _⟩ => (accs m c t.val t.isLt).b
    | ⟨17, _⟩ => (accs m c t.val t.isLt).g
    | ⟨18, _⟩ => (accs m c t.val t.isLt).l
    | ⟨n + 19, h⟩ => absurd h (Nat.not_lt.mpr (Nat.le_add_left 19 n))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = (blocks m c t).av := by dsimp only [dats, blocks]
theorem after_1 (c : Dev nD) (t : Fin cfg0.N) : (dats m 0 c).after 1 t = (blocks m c t).ag := by dsimp only [dats, blocks]
theorem after_2 (c : Dev nD) (t : Fin cfg0.N) : (dats m 0 c).after 2 t = (blocks m c t).gp := by dsimp only [dats, blocks]
theorem after_3 (c : Dev nD) (t : Fin cfg0.N) : (dats m 0 c).after 3 t = (blocks m c t).gm := by dsimp only [dats, blocks]
theorem after_4 (c : Dev nD) (t : Fin cfg0.N) : (dats m 0 c).after 4 t = (blocks m c t).gn := by dsimp only [dats, blocks]
theorem after_5 (c : Dev nD) (t : Fin cfg0.N) : (dats m 0 c).after 5 t = (blocks m c t).cp := by dsimp only [dats, blocks]
theorem after_6 (c : Dev nD) (t : Fin cfg0.N) : (dats m 0 c).after 6 t = (blocks m c t).cm := by dsimp only [dats, blocks]
theorem after_7 (c : Dev nD) (t : Fin cfg0.N) : (dats m 0 c).after 7 t = (blocks m c t).cn := by dsimp only [dats, blocks]
theorem after_8 (c : Dev nD) (t : Fin cfg0.N) : (dats m 0 c).after 8 t = (blocks m c t).yp := by dsimp only [dats, blocks]
theorem after_9 (c : Dev nD) (t : Fin cfg0.N) : (dats m 0 c).after 9 t = (blocks m c t).ym := by dsimp only [dats, blocks]
theorem after_10 (c : Dev nD) (t : Fin cfg0.N) : (dats m 0 c).after 10 t = (blocks m c t).yn := by dsimp only [dats, blocks]
theorem after_11 (c : Dev nD) (t : Fin cfg0.N) : (dats m 0 c).after 11 t = (blocks m c t).w := by dsimp only [dats, blocks]
theorem after_12 (c : Dev nD) (t : Fin cfg0.N) : (dats m 0 c).after 12 t = (blocks m c t).lg := by dsimp only [dats, blocks]
theorem after_13 (c : Dev nD) (t : Fin cfg0.N) : (dats m 0 c).after 13 t = (blocks m c t).lb := by dsimp only [dats, blocks]
theorem after_14 (c : Dev nD) (t : Fin cfg0.N) : (dats m 0 c).after 14 t = (blocks m c t).dp (grid0.coords t) := by dsimp only [dats]
theorem after_15 (c : Dev nD) (t : Fin cfg0.N) : (dats m 0 c).after 15 t = (accs m c t.val t.isLt).w := by dsimp only [dats]
theorem after_16 (c : Dev nD) (t : Fin cfg0.N) : (dats m 0 c).after 16 t = (accs m c t.val t.isLt).b := by dsimp only [dats]
theorem after_17 (c : Dev nD) (t : Fin cfg0.N) : (dats m 0 c).after 17 t = (accs m c t.val t.isLt).g := by dsimp only [dats]
theorem after_18 (c : Dev nD) (t : Fin cfg0.N) : (dats m 0 c).after 18 t = (accs m c t.val t.isLt).l := by dsimp only [dats]

theorem before_acc_w (c : Dev nD) (t : Fin cfg0.N) (h0 : ¬ t.val = 0) (d) :
    (dats m 0 c).before 15 t d = (accs m c (t.val - 1) (Nat.lt_of_le_of_lt (Nat.sub_le _ _) t.isLt)).w := by
  have hN : t.val < 16 := Nat.lt_of_lt_of_eq t.isLt N_0
  rw [Dat.before_out_kept _ 15 rfl t (by omega) (Bool.eq_false_iff.mpr fun h => by have := (flush0_15 _).mp h; dsimp only at this; omega)
    (fun _ => rfl) (fun _ _ => rfl)]
  dsimp only [dats]

theorem before_acc_b (c : Dev nD) (t : Fin cfg0.N) (h0 : ¬ t.val = 0) (d) :
    (dats m 0 c).before 16 t d = (accs m c (t.val - 1) (Nat.lt_of_le_of_lt (Nat.sub_le _ _) t.isLt)).b := by
  have hN : t.val < 16 := Nat.lt_of_lt_of_eq t.isLt N_0
  rw [Dat.before_out_kept _ 16 rfl t (by omega) (Bool.eq_false_iff.mpr fun h => by have := (flush0_16 _).mp h; dsimp only at this; omega)
    (fun _ => rfl) (fun _ _ => rfl)]
  dsimp only [dats]

theorem before_acc_g (c : Dev nD) (t : Fin cfg0.N) (h0 : ¬ t.val = 0) (d) :
    (dats m 0 c).before 17 t d = (accs m c (t.val - 1) (Nat.lt_of_le_of_lt (Nat.sub_le _ _) t.isLt)).g := by
  have hN : t.val < 16 := Nat.lt_of_lt_of_eq t.isLt N_0
  rw [Dat.before_out_kept _ 17 rfl t (by omega) (Bool.eq_false_iff.mpr fun h => by have := (flush0_17 _).mp h; dsimp only at this; omega)
    (fun _ => rfl) (fun _ _ => rfl)]
  dsimp only [dats]

theorem before_acc_l (c : Dev nD) (t : Fin cfg0.N) (h0 : ¬ t.val = 0) (d) :
    (dats m 0 c).before 18 t d = (accs m c (t.val - 1) (Nat.lt_of_le_of_lt (Nat.sub_le _ _) t.isLt)).l := by
  have hN : t.val < 16 := Nat.lt_of_lt_of_eq t.isLt N_0
  rw [Dat.before_out_kept _ 18 rfl t (by omega) (Bool.eq_false_iff.mpr fun h => by have := (flush0_18 _).mp h; dsimp only at this; omega)
    (fun _ => rfl) (fun _ _ => rfl)]
  dsimp only [dats]

theorem before_av (c : Dev nD) (t : Fin cfg0.N) (d) : (dats m 0 c).before 0 t d = (blocks m c t).av :=
  before0_0_of m (dats m 0 c) (A_eq m c 0) (fun t => after_0 m c t) t d

theorem before_ag (c : Dev nD) (t : Fin cfg0.N) (d) : (dats m 0 c).before 1 t d = (blocks m c t).ag :=
  before0_1_of m (dats m 0 c) (A_eq m c 1) (fun t => after_1 m c t) t d

theorem before_gp (c : Dev nD) (t : Fin cfg0.N) (d) : (dats m 0 c).before 2 t d = (blocks m c t).gp :=
  before0_2_of m (dats m 0 c) (A_eq m c 2) (fun t => after_2 m c t) t d

theorem before_gm (c : Dev nD) (t : Fin cfg0.N) (d) : (dats m 0 c).before 3 t d = (blocks m c t).gm :=
  before0_3_of m (dats m 0 c) (A_eq m c 3) (fun t => after_3 m c t) t d

theorem before_gn (c : Dev nD) (t : Fin cfg0.N) (d) : (dats m 0 c).before 4 t d = (blocks m c t).gn :=
  before0_4_of m (dats m 0 c) (A_eq m c 4) (fun t => after_4 m c t) t d

theorem before_cp (c : Dev nD) (t : Fin cfg0.N) (d) : (dats m 0 c).before 5 t d = (blocks m c t).cp :=
  before0_5_of m (dats m 0 c) (A_eq m c 5) (fun t => after_5 m c t) t d

theorem before_cm (c : Dev nD) (t : Fin cfg0.N) (d) : (dats m 0 c).before 6 t d = (blocks m c t).cm :=
  before0_6_of m (dats m 0 c) (A_eq m c 6) (fun t => after_6 m c t) t d

theorem before_cn (c : Dev nD) (t : Fin cfg0.N) (d) : (dats m 0 c).before 7 t d = (blocks m c t).cn :=
  before0_7_of m (dats m 0 c) (A_eq m c 7) (fun t => after_7 m c t) t d

theorem before_yp (c : Dev nD) (t : Fin cfg0.N) (d) : (dats m 0 c).before 8 t d = (blocks m c t).yp :=
  before0_8_of m (dats m 0 c) (A_eq m c 8) (fun t => after_8 m c t) t d

theorem before_ym (c : Dev nD) (t : Fin cfg0.N) (d) : (dats m 0 c).before 9 t d = (blocks m c t).ym :=
  before0_9_of m (dats m 0 c) (A_eq m c 9) (fun t => after_9 m c t) t d

theorem before_yn (c : Dev nD) (t : Fin cfg0.N) (d) : (dats m 0 c).before 10 t d = (blocks m c t).yn :=
  before0_10_of m (dats m 0 c) (A_eq m c 10) (fun t => after_10 m c t) t d

theorem before_w (c : Dev nD) (t : Fin cfg0.N) (d) : (dats m 0 c).before 11 t d = (blocks m c t).w :=
  before0_11_of m (dats m 0 c) (A_eq m c 11) (fun t => after_11 m c t) t d

theorem before_lg (c : Dev nD) (t : Fin cfg0.N) (d) : (dats m 0 c).before 12 t d = (blocks m c t).lg :=
  before0_12_of m (dats m 0 c) (A_eq m c 12) (fun t => after_12 m c t) t d

theorem before_lb (c : Dev nD) (t : Fin cfg0.N) (d) : (dats m 0 c).before 13 t d = (blocks m c t).lb :=
  before0_13_of m (dats m 0 c) (A_eq m c 13) (fun t => after_13 m c t) t d

/-- The invariant: the three scratch buffers at some contents, and the generator. -/
theorem inv_eq (c : Dev nD) :
    (Pipeline.ΦA spec0 c : sProp 𝕄)
      = iprop(iprop((∃ d, owns (c : Thread nD τ) (Memref.whole cc0_scratch0 : Memref sig .tc .vmem S544x8x128 .f32) fullShare d)
          ∗ (∃ d, owns (c : Thread nD τ) (Memref.whole cc0_scratch1 : Memref sig .tc .vmem S512x8x128 .f32) fullShare d)
          ∗ (∃ d, owns (c : Thread nD τ) (Memref.whole cc0_scratch2 : Memref sig .tc .vmem S512x8x128 .f32) fullShare d))
        ∗ (∃ r, prngReg c r)) := by
  unfold Pipeline.ΦA; rw [scopedRest0_eq]; simp only [owns_whole]; try rfl

/-- What the body is given at point `t`. -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0) : Memref sig .tc .vmem S512x1024 .bf16) fullShare ((dats m 0 c).before 0 t d)) ∗ (∃ d, owns (c : Thread nD τ) (win0_1.stage (cfg0.slots t 1) : Memref sig .tc .vmem S512x1024 .bf16) fullShare ((dats m 0 c).before 1 t d)) ∗ (∃ d, owns (c : Thread nD τ) (win0_2.stage (cfg0.slots t 2) : Memref sig .tc .vmem S16x1024 .bf16) fullShare ((dats m 0 c).before 2 t d)) ∗ (∃ d, owns (c : Thread nD τ) (win0_3.stage (cfg0.slots t 3) : Memref sig .tc .vmem S512x1024 .bf16) fullShare ((dats m 0 c).before 3 t d)) ∗ (∃ d, owns (c : Thread nD τ) (win0_4.stage (cfg0.slots t 4) : Memref sig .tc .vmem S16x1024 .bf16) fullShare ((dats m 0 c).before 4 t d)) ∗ (∃ d, owns (c : Thread nD τ) (win0_5.stage (cfg0.slots t 5) : Memref sig .tc .vmem S16x1024 .bf16) fullShare ((dats m 0 c).before 5 t d)) ∗ (∃ d, owns (c : Thread nD τ) (win0_6.stage (cfg0.slots t 6) : Memref sig .tc .vmem S512x1024 .bf16) fullShare ((dats m 0 c).before 6 t d)) ∗ (∃ d, owns (c : Thread nD τ) (win0_7.stage (cfg0.slots t 7) : Memref sig .tc .vmem S16x1024 .bf16) fullShare ((dats m 0 c).before 7 t d)) ∗ (∃ d, owns (c : Thread nD τ) (win0_8.stage (cfg0.slots t 8) : Memref sig .tc .vmem S16x1024 .bf16) fullShare ((dats m 0 c).before 8 t d)) ∗ (∃ d, owns (c : Thread nD τ) (win0_9.stage (cfg0.slots t 9) : Memref sig .tc .vmem S512x1024 .bf16) fullShare ((dats m 0 c).before 9 t d)) ∗ (∃ d, owns (c : Thread nD τ) (win0_10.stage (cfg0.slots t 10) : Memref sig .tc .vmem S16x1024 .bf16) fullShare ((dats m 0 c).before 10 t d)) ∗ (∃ d, owns (c : Thread nD τ) (win0_11.stage (cfg0.slots t 11) : Memref sig .tc .vmem S32x8x128 .f32) fullShare ((dats m 0 c).before 11 t d)) ∗ (∃ d, owns (c : Thread nD τ) (win0_12.stage (cfg0.slots t 12) : Memref sig .tc .vmem S1x1024 .f32) fullShare ((dats m 0 c).before 12 t d)) ∗ (∃ d, owns (c : Thread nD τ) (win0_13.stage (cfg0.slots t 13) : Memref sig .tc .vmem S1x1024 .f32) fullShare ((dats m 0 c).before 13 t d)) ∗ (∃ d, owns (c : Thread nD τ) (win0_14.stage (cfg0.slots t 14) : Memref sig .tc .vmem S512x3072 .bf16) fullShare ((dats m 0 c).before 14 t d)) ∗ (∃ d, owns (c : Thread nD τ) (win0_15.stage (cfg0.slots t 15) : Memref sig .tc .vmem S32x8x128 .f32) fullShare ((dats m 0 c).before 15 t d)) ∗ (∃ d, owns (c : Thread nD τ) (win0_16.stage (cfg0.slots t 16) : Memref sig .tc .vmem S8x1024 .f32) fullShare ((dats m 0 c).before 16 t d)) ∗ (∃ d, owns (c : Thread nD τ) (win0_17.stage (cfg0.slots t 17) : Memref sig .tc .vmem S8x1024 .f32) fullShare ((dats m 0 c).before 17 t d)) ∗ (∃ d, owns (c : Thread nD τ) (win0_18.stage (cfg0.slots t 18) : Memref sig .tc .vmem S8x1024 .f32) fullShare ((dats m 0 c).before 18 t d)))

/-- What the body returns. -/
def bodyPost (c : Dev nD) (t : Fin cfg0.N) : sProp 𝕄 :=
  iprop((dats m 0 c).Φ t.succ ∗ (dats m 0 c).owesAt () t.succ ∗ owns (c : Thread nD τ) (win0_0.stage (cfg0.slots t 0) : Memref sig .tc .vmem S512x1024 .bf16) fullShare ((dats m 0 c).after 0 t) ∗ owns (c : Thread nD τ) (win0_1.stage (cfg0.slots t 1) : Memref sig .tc .vmem S512x1024 .bf16) fullShare ((dats m 0 c).after 1 t) ∗ owns (c : Thread nD τ) (win0_2.stage (cfg0.slots t 2) : Memref sig .tc .vmem S16x1024 .bf16) fullShare ((dats m 0 c).after 2 t) ∗ owns (c : Thread nD τ) (win0_3.stage (cfg0.slots t 3) : Memref sig .tc .vmem S512x1024 .bf16) fullShare ((dats m 0 c).after 3 t) ∗ owns (c : Thread nD τ) (win0_4.stage (cfg0.slots t 4) : Memref sig .tc .vmem S16x1024 .bf16) fullShare ((dats m 0 c).after 4 t) ∗ owns (c : Thread nD τ) (win0_5.stage (cfg0.slots t 5) : Memref sig .tc .vmem S16x1024 .bf16) fullShare ((dats m 0 c).after 5 t) ∗ owns (c : Thread nD τ) (win0_6.stage (cfg0.slots t 6) : Memref sig .tc .vmem S512x1024 .bf16) fullShare ((dats m 0 c).after 6 t) ∗ owns (c : Thread nD τ) (win0_7.stage (cfg0.slots t 7) : Memref sig .tc .vmem S16x1024 .bf16) fullShare ((dats m 0 c).after 7 t) ∗ owns (c : Thread nD τ) (win0_8.stage (cfg0.slots t 8) : Memref sig .tc .vmem S16x1024 .bf16) fullShare ((dats m 0 c).after 8 t) ∗ owns (c : Thread nD τ) (win0_9.stage (cfg0.slots t 9) : Memref sig .tc .vmem S512x1024 .bf16) fullShare ((dats m 0 c).after 9 t) ∗ owns (c : Thread nD τ) (win0_10.stage (cfg0.slots t 10) : Memref sig .tc .vmem S16x1024 .bf16) fullShare ((dats m 0 c).after 10 t) ∗ owns (c : Thread nD τ) (win0_11.stage (cfg0.slots t 11) : Memref sig .tc .vmem S32x8x128 .f32) fullShare ((dats m 0 c).after 11 t) ∗ owns (c : Thread nD τ) (win0_12.stage (cfg0.slots t 12) : Memref sig .tc .vmem S1x1024 .f32) fullShare ((dats m 0 c).after 12 t) ∗ owns (c : Thread nD τ) (win0_13.stage (cfg0.slots t 13) : Memref sig .tc .vmem S1x1024 .f32) fullShare ((dats m 0 c).after 13 t) ∗ owns (c : Thread nD τ) (win0_14.stage (cfg0.slots t 14) : Memref sig .tc .vmem S512x3072 .bf16) fullShare ((dats m 0 c).after 14 t) ∗ owns (c : Thread nD τ) (win0_15.stage (cfg0.slots t 15) : Memref sig .tc .vmem S32x8x128 .f32) fullShare ((dats m 0 c).after 15 t) ∗ owns (c : Thread nD τ) (win0_16.stage (cfg0.slots t 16) : Memref sig .tc .vmem S8x1024 .f32) fullShare ((dats m 0 c).after 16 t) ∗ owns (c : Thread nD τ) (win0_17.stage (cfg0.slots t 17) : Memref sig .tc .vmem S8x1024 .f32) fullShare ((dats m 0 c).after 17 t) ∗ owns (c : Thread nD τ) (win0_18.stage (cfg0.slots t 18) : Memref sig .tc .vmem S8x1024 .f32) fullShare ((dats m 0 c).after 18 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_av, before_ag, before_gp, before_gm, before_gn, before_cp, before_cm, before_cn, before_yp, before_ym, before_yn, before_w, before_lg, before_lb]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18]
  rw [show (dats m 0 c).Φ t.castSucc = Pipeline.ΦA spec0 c from rfl, inv_eq]
  by_cases h0 : t.val = 0
  · rw [accs_first m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (run_first c (grid0.coords t) (win0_0.stage (cfg0.slots t 0) : Memref sig .tc .vmem S512x1024 .bf16) (hstage0_0 ((cfg0.slots t 0).cast nbuf0_0)) (win0_1.stage (cfg0.slots t 1) : Memref sig .tc .vmem S512x1024 .bf16) (hstage0_1 ((cfg0.slots t 1).cast nbuf0_1)) (win0_2.stage (cfg0.slots t 2) : Memref sig .tc .vmem S16x1024 .bf16) (hstage0_2 ((cfg0.slots t 2).cast nbuf0_2)) (win0_3.stage (cfg0.slots t 3) : Memref sig .tc .vmem S512x1024 .bf16) (hstage0_3 ((cfg0.slots t 3).cast nbuf0_3)) (win0_4.stage (cfg0.slots t 4) : Memref sig .tc .vmem S16x1024 .bf16) (hstage0_4 ((cfg0.slots t 4).cast nbuf0_4)) (win0_5.stage (cfg0.slots t 5) : Memref sig .tc .vmem S16x1024 .bf16) (hstage0_5 ((cfg0.slots t 5).cast nbuf0_5)) (win0_6.stage (cfg0.slots t 6) : Memref sig .tc .vmem S512x1024 .bf16) (hstage0_6 ((cfg0.slots t 6).cast nbuf0_6)) (win0_7.stage (cfg0.slots t 7) : Memref sig .tc .vmem S16x1024 .bf16) (hstage0_7 ((cfg0.slots t 7).cast nbuf0_7)) (win0_8.stage (cfg0.slots t 8) : Memref sig .tc .vmem S16x1024 .bf16) (hstage0_8 ((cfg0.slots t 8).cast nbuf0_8)) (win0_9.stage (cfg0.slots t 9) : Memref sig .tc .vmem S512x1024 .bf16) (hstage0_9 ((cfg0.slots t 9).cast nbuf0_9)) (win0_10.stage (cfg0.slots t 10) : Memref sig .tc .vmem S16x1024 .bf16) (hstage0_10 ((cfg0.slots t 10).cast nbuf0_10)) (win0_11.stage (cfg0.slots t 11) : Memref sig .tc .vmem S32x8x128 .f32) (hstage0_11 ((cfg0.slots t 11).cast nbuf0_11)) (win0_12.stage (cfg0.slots t 12) : Memref sig .tc .vmem S1x1024 .f32) (hstage0_12 ((cfg0.slots t 12).cast nbuf0_12)) (win0_13.stage (cfg0.slots t 13) : Memref sig .tc .vmem S1x1024 .f32) (hstage0_13 ((cfg0.slots t 13).cast nbuf0_13)) (win0_14.stage (cfg0.slots t 14) : Memref sig .tc .vmem S512x3072 .bf16) (hstage0_14 ((cfg0.slots t 14).cast nbuf0_14)) (win0_15.stage (cfg0.slots t 15) : Memref sig .tc .vmem S32x8x128 .f32) (hstage0_15 ((cfg0.slots t 15).cast nbuf0_15)) (win0_16.stage (cfg0.slots t 16) : Memref sig .tc .vmem S8x1024 .f32) (hstage0_16 ((cfg0.slots t 16).cast nbuf0_16)) (win0_17.stage (cfg0.slots t 17) : Memref sig .tc .vmem S8x1024 .f32) (hstage0_17 ((cfg0.slots t 17).cast nbuf0_17)) (win0_18.stage (cfg0.slots t 18) : Memref sig .tc .vmem S8x1024 .f32) (hstage0_18 ((cfg0.slots t 18).cast nbuf0_18)) (Memref.whole cc0_scratch0) (Memref.isWhole_whole _) (Memref.whole cc0_scratch1) (Memref.isWhole_whole _) (Memref.whole cc0_scratch2) (Memref.isWhole_whole _) (blocks m c t) ((first_iff t).mpr h0))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]; · iexact HS0
    isplitl [HS1]; · iexact HS1
    isplitl [HS2]; · iexact HS2
    iintro ⟨H0, H1, H2, H3, H4, H5, H6, H7, H8, H9, H10, H11, H12, H13, H14, H15, H16, H17, H18, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · simp only [before_acc_w m c t h0, before_acc_b m c t h0, before_acc_g m c t h0, before_acc_l m c t h0]
    rw [accs_next m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (run_next c (grid0.coords t) (win0_0.stage (cfg0.slots t 0) : Memref sig .tc .vmem S512x1024 .bf16) (hstage0_0 ((cfg0.slots t 0).cast nbuf0_0)) (win0_1.stage (cfg0.slots t 1) : Memref sig .tc .vmem S512x1024 .bf16) (hstage0_1 ((cfg0.slots t 1).cast nbuf0_1)) (win0_2.stage (cfg0.slots t 2) : Memref sig .tc .vmem S16x1024 .bf16) (hstage0_2 ((cfg0.slots t 2).cast nbuf0_2)) (win0_3.stage (cfg0.slots t 3) : Memref sig .tc .vmem S512x1024 .bf16) (hstage0_3 ((cfg0.slots t 3).cast nbuf0_3)) (win0_4.stage (cfg0.slots t 4) : Memref sig .tc .vmem S16x1024 .bf16) (hstage0_4 ((cfg0.slots t 4).cast nbuf0_4)) (win0_5.stage (cfg0.slots t 5) : Memref sig .tc .vmem S16x1024 .bf16) (hstage0_5 ((cfg0.slots t 5).cast nbuf0_5)) (win0_6.stage (cfg0.slots t 6) : Memref sig .tc .vmem S512x1024 .bf16) (hstage0_6 ((cfg0.slots t 6).cast nbuf0_6)) (win0_7.stage (cfg0.slots t 7) : Memref sig .tc .vmem S16x1024 .bf16) (hstage0_7 ((cfg0.slots t 7).cast nbuf0_7)) (win0_8.stage (cfg0.slots t 8) : Memref sig .tc .vmem S16x1024 .bf16) (hstage0_8 ((cfg0.slots t 8).cast nbuf0_8)) (win0_9.stage (cfg0.slots t 9) : Memref sig .tc .vmem S512x1024 .bf16) (hstage0_9 ((cfg0.slots t 9).cast nbuf0_9)) (win0_10.stage (cfg0.slots t 10) : Memref sig .tc .vmem S16x1024 .bf16) (hstage0_10 ((cfg0.slots t 10).cast nbuf0_10)) (win0_11.stage (cfg0.slots t 11) : Memref sig .tc .vmem S32x8x128 .f32) (hstage0_11 ((cfg0.slots t 11).cast nbuf0_11)) (win0_12.stage (cfg0.slots t 12) : Memref sig .tc .vmem S1x1024 .f32) (hstage0_12 ((cfg0.slots t 12).cast nbuf0_12)) (win0_13.stage (cfg0.slots t 13) : Memref sig .tc .vmem S1x1024 .f32) (hstage0_13 ((cfg0.slots t 13).cast nbuf0_13)) (win0_14.stage (cfg0.slots t 14) : Memref sig .tc .vmem S512x3072 .bf16) (hstage0_14 ((cfg0.slots t 14).cast nbuf0_14)) (win0_15.stage (cfg0.slots t 15) : Memref sig .tc .vmem S32x8x128 .f32) (hstage0_15 ((cfg0.slots t 15).cast nbuf0_15)) (win0_16.stage (cfg0.slots t 16) : Memref sig .tc .vmem S8x1024 .f32) (hstage0_16 ((cfg0.slots t 16).cast nbuf0_16)) (win0_17.stage (cfg0.slots t 17) : Memref sig .tc .vmem S8x1024 .f32) (hstage0_17 ((cfg0.slots t 17).cast nbuf0_17)) (win0_18.stage (cfg0.slots t 18) : Memref sig .tc .vmem S8x1024 .f32) (hstage0_18 ((cfg0.slots t 18).cast nbuf0_18)) (Memref.whole cc0_scratch0) (Memref.isWhole_whole _) (Memref.whole cc0_scratch1) (Memref.isWhole_whole _) (Memref.whole cc0_scratch2) (Memref.isWhole_whole _) (blocks m c t) (accs m c (t.val - 1) (Nat.lt_of_le_of_lt (Nat.sub_le _ _) t.isLt)) (fun h => h0 ((first_iff t).mp h)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    isplitl [H16]; · iexact H16
    isplitl [H17]; · iexact H17
    isplitl [H18]; · iexact H18
    isplitl [HS0]; · iexact HS0
    isplitl [HS1]; · iexact HS1
    isplitl [HS2]; · iexact HS2
    iintro ⟨H0, H1, H2, H3, H4, H5, H6, H7, H8, H9, H10, H11, H12, H13, H14, H15, H16, H17, H18, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

/-- The body the pipeline calls is the body at the point's memrefs. -/
theorem defs₀_row (t : Fin cfg0.N) :
    defs₀ (F := F) .tc cfg0.body (cfg0.bodyArgs t (cfg0.slots t)) = bodyAt0 t := by
  unfold defs₀; rw [Defs.onTc_tc]

/-- The body's obligation to the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, every counter at zero at its end. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run: every array of the call and every other buffer at what the points and the host lines leave. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  frame_of m ρ (dats m) (A_eq m) (run_main m ρ)

/-- The run ends, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.ConvBwdIdeal.Conv
-- ==== Proof.ConvFrameBits.lean ====
module

public import proofs.«01_k».proof.Proof.ConvFrame
public import proofs.«01_k».proof.Proof.Gen.ConvBwd

@[expose] public section

set_option maxRecDepth 16384

noncomputable section

namespace Cert.ConvBwd.Conv

open Idealize.ShloMosaic Idealize.ShloMosaic.TcCoe Idealize.ShloMosaic.Tactic
open Idealize.SL.Sem Cert.ConvBwd.Gen

/-- The two programs are one text: what is said of one is said of the other. -/
theorem same (m : (ℓ : Loc Cert.ConvBwd.nD Cert.ConvBwd.τ Cert.ConvBwd.sig) → Buf (Elt Bits) ℓ) (g : Dev Cert.ConvBwd.nD → PrngReg) :
    (θ_run (Cert.ConvBwdIdeal.defs (F := Bits)) (onTc (τ := Cert.ConvBwdIdeal.τ) (Cert.ConvBwdIdeal.main (F := Bits))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0))
      = (θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)) := by
  sl_kernel_rfl

/-- The frame of the program in bits, from the frame at any arithmetic. -/
theorem frame (m : (ℓ : Loc Cert.ConvBwd.nD Cert.ConvBwd.τ Cert.ConvBwd.sig) → Buf (Elt Bits) ℓ) (g : Dev Cert.ConvBwd.nD → PrngReg) :
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0) :=
  (same m g).mp (Cert.ConvBwdIdeal.Conv.frame (F := Bits) m g)

end Cert.ConvBwd.Conv
-- ==== Proof.ConvMath.lean ====
module

public import proofs.«01_k».proof.Proof.SguMath

/-!
The convolution branch's gradients as functions of a position and a feature, in the form the kernel uses and in the form that
differentiating the forward pass gives. On real arguments the two agree.
-/

@[expose] public section

set_option maxRecDepth 16384

noncomputable section

open Idealize.ShloMosaic

namespace Cert.Conv

open Cert.Reals Cert.Sgu

/-- The six arguments. -/
structure Args where
  /-- The projection. -/
  P : FVec Ideal ⟨2, ![8192, 6144]⟩ .f32
  /-- The output's gradient. -/
  Y : FVec Ideal ⟨2, ![8192, 2048]⟩ .f32
  /-- The filter. -/
  W : FVec Ideal ⟨3, ![1, 31, 1024]⟩ .f32
  /-- The filter's bias. -/
  B : FVec Ideal ⟨2, ![1, 1024]⟩ .f32
  /-- The norm's gain. -/
  G : FVec Ideal ⟨2, ![1, 1024]⟩ .f32
  /-- The norm's bias. -/
  L : FVec Ideal ⟨2, ![1, 1024]⟩ .f32

/-- The rows with sixteen rows of zeros before them and after them. -/
def pad (f : Arr) (n : ℕ) (e : Fin 1024) : EReal := if h : 16 ≤ n ∧ n < 8208 then f ⟨n - 16, by omega⟩ e else 0

/-- The derivative of `z · σ(z)` as the kernel computes it. -/
def dsiluK (z : EReal) : EReal := sgm z * (Ideal.ofBits .f32 1065353216#32 + z * (Ideal.ofBits .f32 1065353216#32 - sgm z))

/-- The gradient of `z · σ(z)` as differentiating it gives, `d` being the result's gradient. -/
def dsiluR (z d : EReal) : EReal := d * sgr z + z * d * (sgr z * (Ideal.ofBits .f32 1065353216#32 - sgr z))

namespace Args

variable (A : Args)

/-- The columns of the projection that are gated, that gate them, and that gate the result. -/
def a : Arr := fun s e => A.P (ix2 s (⟨e.val, by omega⟩ : Fin 6144))
def ag : Arr := fun s e => A.P (ix2 s (⟨1024 + e.val, by omega⟩ : Fin 6144))
def gc : Arr := fun s e => A.P (ix2 s (⟨2048 + e.val, by omega⟩ : Fin 6144))
/-- The branch's columns of the output's gradient. -/
def y : Arr := fun s e => A.Y (ix2 s (⟨e.val, by omega⟩ : Fin 2048))
def w (k : Fin 31) (e : Fin 1024) : EReal := A.W (ix3 0 k e)
def b (e : Fin 1024) : EReal := A.B (ix2 0 e)
def g (e : Fin 1024) : EReal := A.G (ix2 0 e)
def l (e : Fin 1024) : EReal := A.L (ix2 0 e)

/-- The gated rows. -/
def h : Arr := fun s e => A.a s e * sgr (A.ag s e)
/-- The gated rows as the kernel computes them again. -/
def hK : Arr := fun s e => A.a s e * sgm (A.ag s e)

/-- The convolved rows. -/
def cv : Arr := fun s e => (∑ k : Fin 31, pad A.h (s.val + k.val + 1) e * A.w k e) + A.b e

/-- The scaled and shifted normalised rows. -/
def ln : Arr := fun s e => hat (A.cv s) e * A.g e + A.l e

/-- The gradient of the norm's result. -/
def dlnK : Arr := fun s e => A.y s e * (A.gc s e * sgm (A.gc s e)) * dsiluK (A.ln s e)
def dlnR : Arr := fun s e => dsiluR (A.ln s e) (A.y s e * (A.gc s e * sgr (A.gc s e)))

/-- The gradient of the gate's input. -/
def dgcK : Arr := fun s e => A.y s e * (A.ln s e * sgm (A.ln s e)) * dsiluK (A.gc s e)
def dgcR : Arr := fun s e => dsiluR (A.gc s e) (A.ln s e * sgr (A.ln s e) * A.y s e)

/-- The gradient of the convolution's result. -/
def dxK : Arr := fun s e => rowK (A.cv s) (fun k => A.dlnK s k * A.g k) e
def dxR : Arr := fun s e => rowR (A.cv s) (fun k => A.dlnR s k * A.g k) e

/-- The gradient of the gated rows, `d` being that of the convolution's result. -/
def dh (d : Arr) : Arr := fun s e => ∑ k : Fin 31, A.w k e * pad d (s.val + 31 - k.val) e

/-- The gradient of the filter. -/
def dwK (k : Fin 31) (e : Fin 1024) : EReal := ∑ s : Fin 8192, A.hK s e * pad A.dxK (s.val + 31 - k.val) e
def dwR (k : Fin 31) (e : Fin 1024) : EReal := ∑ s : Fin 8192, pad A.h (s.val + k.val + 1) e * A.dxR s e

/-- The gradients of the gated columns and of the columns that gate them. -/
def daK : Arr := fun s e => A.dh A.dxK s e * sgm (A.ag s e)
def dagK : Arr := fun s e =>
  A.dh A.dxK s e * A.a s e * sgm (A.ag s e) * (Ideal.ofBits .f32 1065353216#32 - sgm (A.ag s e))
def daR : Arr := fun s e => A.dh A.dxR s e * sgr (A.ag s e)
def dagR : Arr := fun s e =>
  A.a s e * A.dh A.dxR s e * (sgr (A.ag s e) * (Ideal.ofBits .f32 1065353216#32 - sgr (A.ag s e)))

/-- All six arguments are real. -/
structure Real : Prop where
  P : IsReal A.P
  Y : IsReal A.Y
  W : IsReal A.W
  B : IsReal A.B
  G : IsReal A.G
  L : IsReal A.L

end Args

theorem isRealArr_of {a : Arr} (h : ∀ s e, ∃ r : ℝ, a s e = r) : IsRealArr a := by
  choose r hr using h
  exact ⟨r, funext fun s => funext fun e => hr s e⟩

theorem real_at {ι : Type} {a : ι → EReal} (h : IsReal a) (i : ι) : ∃ r : ℝ, a i = r := by
  obtain ⟨r, rfl⟩ := h
  exact ⟨r i, rfl⟩

theorem pad_real {f : Arr} (hf : IsRealArr f) (n : ℕ) (e : Fin 1024) : ∃ r : ℝ, pad f n e = r := by
  obtain ⟨r, rfl⟩ := hf
  unfold pad
  split
  · exact ⟨_, rfl⟩
  · exact ⟨0, rfl⟩

theorem dsilu_eq (z d : ℝ) : (d : EReal) * dsiluK z = dsiluR z d := by
  simp only [dsiluK, dsiluR, sgm_real, sgr_real, word_one, ← EReal.coe_mul, ← EReal.coe_add, ← EReal.coe_sub]
  congr 1
  ring

/-- A padded row is the sum over the rows of the row at its place. -/
theorem mul_pad (f : Arr) (n : ℕ) (e : Fin 1024) (x : EReal) :
    x * pad f n e = ∑ s : Fin 8192, if s.val + 16 = n then x * f s e else 0 := by
  unfold pad
  split
  · rename_i h
    rw [Finset.sum_eq_single (⟨n - 16, by omega⟩ : Fin 8192)]
    · rw [if_pos (show n - 16 + 16 = n by omega)]
    · intro s _ hs
      exact if_neg fun h' => hs (Fin.ext (by simp only; omega))
    · exact fun h' => absurd (Finset.mem_univ _) h'
  · rename_i h
    rw [mul_zero]
    refine (Finset.sum_eq_zero fun s _ => if_neg fun h' => h ?_).symm
    have := s.isLt
    omega

/-- Summing over the rows that a shifted row meets, or over the shifted rows that a row meets, is the same. -/
theorem corr (f d : Arr) (k : Fin 31) (e : Fin 1024) :
    ∑ s : Fin 8192, f s e * pad d (s.val + 31 - k.val) e = ∑ s : Fin 8192, pad f (s.val + k.val + 1) e * d s e := by
  simp only [mul_comm (pad f _ e), mul_pad]
  rw [Finset.sum_comm]
  refine Finset.sum_congr rfl fun s _ => Finset.sum_congr rfl fun s' _ => ?_
  have := k.isLt
  by_cases h : s.val + 16 = s'.val + 31 - k.val
  · rw [if_pos h, if_pos (show s'.val + 16 = s.val + k.val + 1 by omega), mul_comm]
  · rw [if_neg h, if_neg (show ¬s'.val + 16 = s.val + k.val + 1 by omega)]

namespace Args

variable {A : Args} (hA : A.Real)

include hA

theorem a_real : IsRealArr A.a := isRealArr_of fun s e => real_at hA.P _
theorem ag_real : IsRealArr A.ag := isRealArr_of fun s e => real_at hA.P _
theorem gc_real : IsRealArr A.gc := isRealArr_of fun s e => real_at hA.P _
theorem y_real : IsRealArr A.y := isRealArr_of fun s e => real_at hA.Y _

theorem h_real : IsRealArr A.h := by
  obtain ⟨a, ha⟩ := a_real hA
  obtain ⟨q, hq⟩ := ag_real hA
  refine isRealArr_of fun s e => ⟨a s e * (1 + Real.exp (-q s e))⁻¹, ?_⟩
  simp only [h, ha, hq, sgr_real, ← EReal.coe_mul]

theorem hK_eq : A.hK = A.h := by
  funext s e
  rw [hK, h, sgm_eq (ag_real hA)]

theorem cv_real : IsRealArr A.cv := by
  choose p hp using pad_real (h_real hA)
  choose w hw using fun (k : Fin 31) (e : Fin 1024) => real_at hA.W (ix3 0 k e)
  choose b hb using fun (e : Fin 1024) => real_at hA.B (ix2 0 e)
  refine isRealArr_of fun s e => ⟨(∑ k : Fin 31, p (s.val + k.val + 1) e * w k e) + b e, ?_⟩
  simp only [cv, Args.w, Args.b, hp, hw, hb, ← EReal.coe_mul, sum_real, ← EReal.coe_add]

theorem ln_real : IsRealArr A.ln := by
  obtain ⟨c, hc⟩ := cv_real hA
  choose g hg using fun (e : Fin 1024) => real_at hA.G (ix2 0 e)
  choose l hl using fun (e : Fin 1024) => real_at hA.L (ix2 0 e)
  refine isRealArr_of fun s e => ⟨cenR (c s) e * (√(varR (c s)))⁻¹ * g e + l e, ?_⟩
  simp only [ln, Args.g, Args.l, hc, hg, hl, hat_real, ← EReal.coe_mul, ← EReal.coe_add]

theorem dln_eq : A.dlnK = A.dlnR := by
  obtain ⟨z, hz⟩ := ln_real hA
  obtain ⟨q, hq⟩ := gc_real hA
  obtain ⟨y, hy⟩ := y_real hA
  funext s e
  simp only [dlnK, dlnR, hz, hq, hy, sgm_real, sgr_real, ← EReal.coe_mul]
  exact dsilu_eq _ _

theorem dgc_eq : A.dgcK = A.dgcR := by
  obtain ⟨z, hz⟩ := ln_real hA
  obtain ⟨q, hq⟩ := gc_real hA
  obtain ⟨y, hy⟩ := y_real hA
  funext s e
  rw [dgcK, dgcR, mul_comm (A.y s e)]
  simp only [hz, hq, hy, sgm_real, sgr_real, ← EReal.coe_mul]
  exact dsilu_eq _ _

theorem dlnK_real : IsRealArr A.dlnK := by
  obtain ⟨z, hz⟩ := ln_real hA
  obtain ⟨q, hq⟩ := gc_real hA
  obtain ⟨y, hy⟩ := y_real hA
  refine isRealArr_of fun s e => ?_
  simp only [dlnK, dsiluK, hz, hq, hy, sgm_real, word_one, ← EReal.coe_mul, ← EReal.coe_add, ← EReal.coe_sub]
  exact ⟨_, rfl⟩

theorem dx_eq : A.dxK = A.dxR := by
  obtain ⟨c, hc⟩ := cv_real hA
  obtain ⟨d, hd⟩ := dlnK_real hA
  choose g hg using fun (e : Fin 1024) => real_at hA.G (ix2 0 e)
  funext s e
  simp only [dxK, dxR, ← dln_eq hA]
  simp only [Args.g, hc, hd, hg, ← EReal.coe_mul]
  exact row_eq (c s) (fun k => d s k * g k) e

theorem dw_eq (k : Fin 31) (e : Fin 1024) : A.dwK k e = A.dwR k e := by
  rw [dwK, dwR, hK_eq hA, dx_eq hA, corr]

theorem da_eq : A.daK = A.daR := by
  funext s e
  rw [daK, daR, dx_eq hA, sgm_eq (ag_real hA)]

theorem dag_eq : A.dagK = A.dagR := by
  funext s e
  rw [dagK, dagR, dx_eq hA, sgm_eq (ag_real hA), mul_assoc, mul_comm (A.dh _ s e)]

end Args

end Cert.Conv

end
-- ==== Proof.ConvHost.lean ====
module

public import proofs.«01_k».proof.Proof.ConvMath
public import proofs.«01_k».proof.Proof.ConvFrame
public import proofs.«01_k».proof.Proof.Gen.ConvRefIdeal.Read
public import Idealize.ShloMosaic.Lib.Pipeline.ValueKit

/-! What the host hands the convolution's backward call, in terms of its arguments. -/

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen

variable (m : (ℓ : Loc nD τ sig) → Buf (Elt Ideal) ℓ)

/-- The arguments as the memory holds them. -/
def args (c : Dev nD) : Cert.Conv.Args where
  P := m ((c : Thread nD τ).loc main_arg0)
  Y := m ((c : Thread nD τ).loc main_arg1)
  W := m ((c : Thread nD τ).loc main_arg2)
  B := m ((c : Thread nD τ).loc main_arg3)
  G := m ((c : Thread nD τ).loc main_arg4)
  L := m ((c : Thread nD τ).loc main_arg5)

theorem proj_apply (c : Dev nD) (s : Fin 8192) (k : Fin 6144) : V m c main_v0 (ix2 s k) = (args m c).P (ix2 s k) := by
  simp only [V, V0, hostOps0, hostOps0_1, hostOps0_2, List.flatten_cons, List.flatten_nil, List.append_nil, List.cons_append, List.nil_append]
  after_results
  rfl

theorem dy_apply (c : Dev nD) (s : Fin 8192) (k : Fin 2048) : V m c main_v95 (ix2 s k) = (args m c).Y (ix2 s k) := by
  simp only [V, V0, hostOps0, hostOps0_1, hostOps0_2, List.flatten_cons, List.flatten_nil, List.append_nil, List.cons_append, List.nil_append]
  after_results
  rfl

theorem gain_apply (c : Dev nD) (e : Fin 1024) : V m c main_arg4 (ix2 0 e) = (args m c).G (ix2 0 e) := by
  simp only [V, V0, hostOps0, hostOps0_1, hostOps0_2, List.flatten_cons, List.flatten_nil, List.append_nil, List.cons_append, List.nil_append]
  after_results
  rfl

theorem shift_apply (c : Dev nD) (e : Fin 1024) : V m c main_arg5 (ix2 0 e) = (args m c).L (ix2 0 e) := by
  simp only [V, V0, hostOps0, hostOps0_1, hostOps0_2, List.flatten_cons, List.flatten_nil, List.append_nil, List.cons_append, List.nil_append]
  after_results
  rfl

set_option maxHeartbeats 4000000 in
/-- The convolved rows are the ones the reference computes. -/
theorem conv_ref (c : Dev nD) : V m c main_v94
    = Cert.ConvRefIdeal.Read.val_main_v93 (F := Ideal) (args m c).P (args m c).W (args m c).B := by
  simp only [V, V0, hostOps0, hostOps0_1, hostOps0_2, List.flatten_cons, List.flatten_nil, List.append_nil, List.cons_append, List.nil_append]
  after_results
  sl_kernel_rfl

/-- The filter with a row of zeros after it, in tiles. -/
theorem tiles_eq (c : Dev nD) : V m c main_v3
    = shapeCast S32x8x128 (pad S32x1024 ![0, 0] ![1, 0] ![0, 0] (shapeCast S31x1024 (args m c).W shapeCasts_S1x31x1024_S31x1024)
        (sitofp (F := Ideal) .f32 (constantI S_ 32 0#32)) pads_S31x1024_S32x1024_010_000 h_S_) shapeCasts_S32x1024_S32x8x128 := by
  simp only [V, V0, hostOps0, hostOps0_1, hostOps0_2, List.flatten_cons, List.flatten_nil, List.append_nil, List.cons_append, List.nil_append]
  after_results
  sl_kernel_rfl

theorem tiles_apply (c : Dev nD) (k : Fin 31) (a : Fin 8) (b : Fin 128) :
    V m c main_v3 (ix3 (⟨k.val, by omega⟩ : Fin 32) a b) = (args m c).w k (Sgu.col a b) := by
  rw [tiles_eq]
  pointwise [Cert.Conv.Args.w, Sgu.col]
  exact dif_pos (by omega)

theorem idx : ∀ t : Fin cfg0.N, win0_0.index t = ![t.val, 0] ∧ win0_1.index t = ![t.val, 1]
    ∧ win0_2.index t = ![t.val * 32 - 1, 2] ∧ win0_3.index t = ![t.val, 2] ∧ win0_4.index t = ![min (t.val * 32 + 32) 511, 2]
    ∧ win0_5.index t = ![t.val * 32 - 1, 0] ∧ win0_6.index t = ![t.val, 0] ∧ win0_7.index t = ![min (t.val * 32 + 32) 511, 0]
    ∧ win0_8.index t = ![t.val * 32 - 1, 0] ∧ win0_9.index t = ![t.val, 0] ∧ win0_10.index t = ![min (t.val * 32 + 32) 511, 0]
    ∧ win0_11.index t = ![0, 0, 0] ∧ win0_12.index t = ![0, 0] ∧ win0_13.index t = ![0, 0] ∧ win0_14.index t = ![t.val, 0]
    ∧ win0_15.index t = ![0, 0, 0] ∧ win0_16.index t = ![0, 0] ∧ win0_17.index t = ![0, 0] ∧ win0_18.index t = ![0, 0] :=
  (by decide +kernel : ∀ t : Fin grid0.N, _)

end Cert.ConvBwdIdeal.Value

end
-- ==== Proof.ConvRows.lean ====
module

public import proofs.«01_k».proof.Proof.ConvHost

/-! What a grid point of the convolution's backward call computes on its rows and their neighbours, in terms of the arguments. -/

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.ConvBwdIdeal.Conv

variable (m : (ℓ : Loc nD τ sig) → Buf (Elt Ideal) ℓ)

/-- The array's row of a block's row. -/
def at' (t : Fin cfg0.N) (r : Fin 512) : Fin 8192 :=
  ⟨t.val * 512 + r.val, by have := t.isLt; have := r.isLt; have : cfg0.N = 16 := N_0; omega⟩

/-- The array's row of a row of the block before. -/
def atP (t : Fin cfg0.N) (r : Fin 16) : Fin 8192 :=
  ⟨(t.val * 32 - 1) * 16 + r.val, by have := t.isLt; have := r.isLt; have : cfg0.N = 16 := N_0; omega⟩

/-- The array's row of a row of the block after. -/
def atN (t : Fin cfg0.N) (r : Fin 16) : Fin 8192 :=
  ⟨min (t.val * 32 + 32) 511 * 16 + r.val, by have := t.isLt; have := r.isLt; have : cfg0.N = 16 := N_0; omega⟩

/-- The array's row of an extended row. -/
def src (t : Fin cfg0.N) (r : Fin 544) : Fin 8192 :=
  if h : r.val < 16 then atP t ⟨r.val, h⟩
  else if h' : r.val - 16 < 512 then at' t ⟨r.val - 16, h'⟩
  else atN t ⟨r.val - 16 - 512, by have := r.isLt; omega⟩

theorem ldh_eq (X : FVec Ideal S16x1024 .bf16) : ldh (F := Ideal) X = X := by
  unfold ldh
  frame_out

theorem ldm_eq (X : FVec Ideal S512x1024 .bf16) : ldm (F := Ideal) X = X := by
  unfold ldm
  frame_out

theorem ldr_eq (X : FVec Ideal S1x1024 .f32) : ldr (F := Ideal) X = X := by
  unfold ldr
  frame_out

theorem lda_eq (X : FVec Ideal S8x1024 .f32) : lda (F := Ideal) X = X := by
  unfold lda
  frame_out

theorem av_read (X : FVec Ideal S8192x6144 .bf16) (t : Fin cfg0.N) (r : Fin 512) (e : Fin 1024) :
    ((cfg0.win 0).blk t).view.read (Elt Ideal) X (ix2 r e) = X (ix2 (at' t r) (⟨e.val, by omega⟩ : Fin 6144)) := by
  blk_ext [idx t, at']

theorem ag_read (X : FVec Ideal S8192x6144 .bf16) (t : Fin cfg0.N) (r : Fin 512) (e : Fin 1024) :
    ((cfg0.win 1).blk t).view.read (Elt Ideal) X (ix2 r e) = X (ix2 (at' t r) (⟨1024 + e.val, by omega⟩ : Fin 6144)) := by
  blk_ext [idx t, at']

theorem gp_read (X : FVec Ideal S8192x6144 .bf16) (t : Fin cfg0.N) (r : Fin 16) (e : Fin 1024) :
    ((cfg0.win 2).blk t).view.read (Elt Ideal) X (ix2 r e) = X (ix2 (atP t r) (⟨2048 + e.val, by omega⟩ : Fin 6144)) := by
  blk_ext [idx t, atP]

theorem gm_read (X : FVec Ideal S8192x6144 .bf16) (t : Fin cfg0.N) (r : Fin 512) (e : Fin 1024) :
    ((cfg0.win 3).blk t).view.read (Elt Ideal) X (ix2 r e) = X (ix2 (at' t r) (⟨2048 + e.val, by omega⟩ : Fin 6144)) := by
  blk_ext [idx t, at']

theorem gn_read (X : FVec Ideal S8192x6144 .bf16) (t : Fin cfg0.N) (r : Fin 16) (e : Fin 1024) :
    ((cfg0.win 4).blk t).view.read (Elt Ideal) X (ix2 r e) = X (ix2 (atN t r) (⟨2048 + e.val, by omega⟩ : Fin 6144)) := by
  blk_ext [idx t, atN]

theorem cp_read (X : FVec Ideal S8192x1024 .bf16) (t : Fin cfg0.N) (r : Fin 16) (e : Fin 1024) :
    ((cfg0.win 5).blk t).view.read (Elt Ideal) X (ix2 r e) = X (ix2 (atP t r) e) := by
  blk_ext [idx t, atP]

theorem cm_read (X : FVec Ideal S8192x1024 .bf16) (t : Fin cfg0.N) (r : Fin 512) (e : Fin 1024) :
    ((cfg0.win 6).blk t).view.read (Elt Ideal) X (ix2 r e) = X (ix2 (at' t r) e) := by
  blk_ext [idx t, at']

theorem cn_read (X : FVec Ideal S8192x1024 .bf16) (t : Fin cfg0.N) (r : Fin 16) (e : Fin 1024) :
    ((cfg0.win 7).blk t).view.read (Elt Ideal) X (ix2 r e) = X (ix2 (atN t r) e) := by
  blk_ext [idx t, atN]

theorem yp_read (X : FVec Ideal S8192x2048 .bf16) (t : Fin cfg0.N) (r : Fin 16) (e : Fin 1024) :
    ((cfg0.win 8).blk t).view.read (Elt Ideal) X (ix2 r e) = X (ix2 (atP t r) (⟨e.val, by omega⟩ : Fin 2048)) := by
  blk_ext [idx t, atP]

theorem ym_read (X : FVec Ideal S8192x2048 .bf16) (t : Fin cfg0.N) (r : Fin 512) (e : Fin 1024) :
    ((cfg0.win 9).blk t).view.read (Elt Ideal) X (ix2 r e) = X (ix2 (at' t r) (⟨e.val, by omega⟩ : Fin 2048)) := by
  blk_ext [idx t, at']

theorem yn_read (X : FVec Ideal S8192x2048 .bf16) (t : Fin cfg0.N) (r : Fin 16) (e : Fin 1024) :
    ((cfg0.win 10).blk t).view.read (Elt Ideal) X (ix2 r e) = X (ix2 (atN t r) (⟨e.val, by omega⟩ : Fin 2048)) := by
  blk_ext [idx t, atN]

theorem w_read (X : FVec Ideal S32x8x128 .f32) (t : Fin cfg0.N) (k : Fin 32) (a : Fin 8) (b : Fin 128) :
    ((cfg0.win 11).blk t).view.read (Elt Ideal) X (ix3 k a b) = X (ix3 k a b) := by
  blk_ext [idx t]

theorem lg_read (X : FVec Ideal S1x1024 .f32) (t : Fin cfg0.N) (e : Fin 1024) :
    ((cfg0.win 12).blk t).view.read (Elt Ideal) X (ix2 0 e) = X (ix2 0 e) := by
  blk_ext [idx t]

theorem lb_read (X : FVec Ideal S1x1024 .f32) (t : Fin cfg0.N) (e : Fin 1024) :
    ((cfg0.win 13).blk t).view.read (Elt Ideal) X (ix2 0 e) = X (ix2 0 e) := by
  blk_ext [idx t]

theorem av_block (c : Dev nD) (t : Fin cfg0.N) (r : Fin 512) (e : Fin 1024) : (blocks m c t).av (ix2 r e) = (args m c).a (at' t r) e :=
  (av_read (V m c main_v0) t r e).trans (proj_apply m c _ _)

theorem ag_block (c : Dev nD) (t : Fin cfg0.N) (r : Fin 512) (e : Fin 1024) : (blocks m c t).ag (ix2 r e) = (args m c).ag (at' t r) e :=
  (ag_read (V m c main_v0) t r e).trans (proj_apply m c _ _)

theorem gp_block (c : Dev nD) (t : Fin cfg0.N) (r : Fin 16) (e : Fin 1024) : (blocks m c t).gp (ix2 r e) = (args m c).gc (atP t r) e :=
  (gp_read (V m c main_v0) t r e).trans (proj_apply m c _ _)

theorem gm_block (c : Dev nD) (t : Fin cfg0.N) (r : Fin 512) (e : Fin 1024) : (blocks m c t).gm (ix2 r e) = (args m c).gc (at' t r) e :=
  (gm_read (V m c main_v0) t r e).trans (proj_apply m c _ _)

theorem gn_block (c : Dev nD) (t : Fin cfg0.N) (r : Fin 16) (e : Fin 1024) : (blocks m c t).gn (ix2 r e) = (args m c).gc (atN t r) e :=
  (gn_read (V m c main_v0) t r e).trans (proj_apply m c _ _)

theorem yp_block (c : Dev nD) (t : Fin cfg0.N) (r : Fin 16) (e : Fin 1024) : (blocks m c t).yp (ix2 r e) = (args m c).y (atP t r) e :=
  (yp_read (V m c main_v95) t r e).trans (dy_apply m c _ _)

theorem ym_block (c : Dev nD) (t : Fin cfg0.N) (r : Fin 512) (e : Fin 1024) : (blocks m c t).ym (ix2 r e) = (args m c).y (at' t r) e :=
  (ym_read (V m c main_v95) t r e).trans (dy_apply m c _ _)

theorem yn_block (c : Dev nD) (t : Fin cfg0.N) (r : Fin 16) (e : Fin 1024) : (blocks m c t).yn (ix2 r e) = (args m c).y (atN t r) e :=
  (yn_read (V m c main_v95) t r e).trans (dy_apply m c _ _)

theorem w_block (c : Dev nD) (t : Fin cfg0.N) (k : Fin 31) (a : Fin 8) (b : Fin 128) :
    (blocks m c t).w (ix3 (⟨k.val, by omega⟩ : Fin 32) a b) = (args m c).w k (Sgu.col a b) :=
  (w_read (V m c main_v3) t _ a b).trans (tiles_apply m c k a b)

theorem lg_block (c : Dev nD) (t : Fin cfg0.N) (e : Fin 1024) : (blocks m c t).lg (ix2 0 e) = (args m c).g e :=
  (lg_read (V m c main_arg4) t e).trans (gain_apply m c e)

theorem lb_block (c : Dev nD) (t : Fin cfg0.N) (e : Fin 1024) : (blocks m c t).lb (ix2 0 e) = (args m c).l e :=
  (lb_read (V m c main_arg5) t e).trans (shift_apply m c e)

/-- The gate's input on the extended rows. -/
theorem gc_rows (c : Dev nD) (t : Fin cfg0.N) (r : Fin 544) (e : Fin 1024) :
    (blocks m c t).gc (ix2 r e) = (args m c).gc (src t r) e := by
  rw [Blocks.gc, ldh_eq, ldm_eq, ldh_eq]
  pointwise [k0_pay1580, src]
  simp only [gp_block, gm_block, gn_block]
  split_ifs <;> rfl

/-- The output's gradient on the extended rows. -/
theorem dy_rows (c : Dev nD) (t : Fin cfg0.N) (r : Fin 544) (e : Fin 1024) :
    (blocks m c t).dy (ix2 r e) = (args m c).y (src t r) e := by
  rw [Blocks.dy, ldh_eq, ldm_eq, ldh_eq]
  pointwise [k0_pay1581, src]
  simp only [yp_block, ym_block, yn_block]
  split_ifs <;> rfl

end Cert.ConvBwdIdeal.Value

end
-- ==== Proof.ConvRefFwd.lean ====
module

public import proofs.«01_k».proof.Proof.ConvMath
public import proofs.«01_k».proof.Proof.Gen.ConvRefIdeal.Read

/-! The convolution reference's forward values, read at one entry. -/

@[expose] public section

set_option maxRecDepth 16384

noncomputable section

open Idealize.ShloMosaic Idealize.ShloMosaic.TcCoe Idealize.SL.Sem

namespace Cert.ConvRefIdeal.Entry

open Cert.ConvRefIdeal Cert.ConvRefIdeal.Read Cert.ConvRefIdeal.Gen

variable (A : Cert.Conv.Args)

theorem sg_apply (s : Fin 8192) (e : Fin 1024) : val_main_v11 (F := Ideal) A.P (ix2 s e) = Sgu.sgr (A.ag s e) := by
  pointwise [val_main_v11, val_main_v10, val_main_v9, val_main_v8, val_main_v7, val_main_v6, val_main_v1, val_main_cst, val_main_cst_0, Sgu.sgr, Cert.Conv.Args.ag]

theorem h_apply (s : Fin 8192) (e : Fin 1024) : val_main_v15 (F := Ideal) A.P (ix2 s e) = A.h s e := by
  rw [Cert.Conv.Args.h, ← sg_apply]
  pointwise [val_main_v15, val_main_v0, Cert.Conv.Args.a]

/-- The padded rows. -/
theorem pad_apply (n : Fin 8222) (e : Fin 1024) : val_main_v19 (F := Ideal) A.P (ix2 n e) = Cert.Conv.pad A.h (n.val + 1) e := by
  simp only [Cert.Conv.pad, ← h_apply]
  pointwise [val_main_v19, val_main_v18, val_main_cst_2]
  by_cases h : 15 ≤ n.val ∧ n.val + 1 < 8208
  · rw [dif_neg (by omega), dif_pos (by omega), dif_pos h]
    exact congrArg _ (congrArg (ix2 · e) (Fin.ext (by simp only; omega)))
  · rw [dif_neg h]
    by_cases h' : n.val < 15
    · rw [dif_pos h']
    · rw [dif_neg h', dif_neg (by omega)]

/-- Rows shifted by `k` lie within the padded rows. -/
theorem shift_slices (k : ℕ) (h : k < 31) : S8222x1024.Slices ![k, 0] S8192x1024 := by
  refine ⟨rfl, fun a => ?_⟩
  fin_cases a <;> simp [S8222x1024, S8192x1024] <;> omega

/-- The padded rows from row `k` on, as a block of one. -/
def window (X : FVec Ideal S8222x1024 .f32) (k : ℕ) (h : k < 31) : FVec Ideal S1x8192x1024 .f32 :=
  broadcastInDim S1x8192x1024 ![1, 2] bcast_S8192x1024_S1x8192x1024_1_2 (extractStridedSlice S8192x1024 ![k, 0] X (shift_slices k h))

theorem window_apply (X : FVec Ideal S8222x1024 .f32) (k : ℕ) (h : k < 31) (z : Fin 1) (s : Fin 8192) (e : Fin 1024) :
    window X k h (ix3 z s e) = X (ix2 (⟨k + s.val, by omega⟩ : Fin 8222) e) := by
  pointwise [window]

/-- The first sixteen shifted rows. -/
theorem low_windows (q : Fin 16) (s : Fin 8192) (e : Fin 1024) :
    val_main_v84 (F := Ideal) A.P (ix3 q s e) = Cert.Conv.pad A.h (q.val + s.val + 1) e := by
  let f : Fin 16 → FVec Ideal S1x8192x1024 .f32 := fun q => window (val_main_v19 (F := Ideal) A.P) (q.val) (by omega)
  have h : Shape.Concatenates ((List.ofFn fun q : Fin 16 => (⟨S1x8192x1024, f q⟩ : (s : Shape) × (s.Idx → EReal))).map (·.1)) S16x8192x1024 0 :=
    concatenates_S1x8192x1024_S1x8192x1024_S1x8192x1024_S1x8192x1024_S1x8192x1024_S1x8192x1024_S1x8192x1024_S1x8192x1024_S1x8192x1024_S1x8192x1024_S1x8192x1024_S1x8192x1024_S1x8192x1024_S1x8192x1024_S1x8192x1024_S1x8192x1024_S16x8192x1024_d0
  have hv : val_main_v84 (F := Ideal) A.P = concatenate S16x8192x1024 0 (List.ofFn fun q : Fin 16 => (⟨S1x8192x1024, f q⟩ : (s : Shape) × (s.Idx → EReal))) h := by
    sl_kernel_rfl
  rw [hv]
  refine (concatenate_ofFn_unit_apply (s₁ := S1x8192x1024) (t := S16x8192x1024) 0 f h rfl rfl (ix3 q s e) q rfl (ix3 0 s e) fun b hb => ?_).trans ?_
  · fin_cases b
    · exact absurd rfl hb
    · rfl
    · rfl
  · exact (window_apply _ _ _ _ s e).trans (pad_apply A _ e)

/-- The last fifteen. -/
theorem high_windows (q : Fin 15) (s : Fin 8192) (e : Fin 1024) :
    val_main_v85 (F := Ideal) A.P (ix3 q s e) = Cert.Conv.pad A.h (16 + q.val + s.val + 1) e := by
  let f : Fin 15 → FVec Ideal S1x8192x1024 .f32 := fun q => window (val_main_v19 (F := Ideal) A.P) (16 + q.val) (by omega)
  have h : Shape.Concatenates ((List.ofFn fun q : Fin 15 => (⟨S1x8192x1024, f q⟩ : (s : Shape) × (s.Idx → EReal))).map (·.1)) S15x8192x1024 0 :=
    concatenates_S1x8192x1024_S1x8192x1024_S1x8192x1024_S1x8192x1024_S1x8192x1024_S1x8192x1024_S1x8192x1024_S1x8192x1024_S1x8192x1024_S1x8192x1024_S1x8192x1024_S1x8192x1024_S1x8192x1024_S1x8192x1024_S1x8192x1024_S15x8192x1024_d0
  have hv : val_main_v85 (F := Ideal) A.P = concatenate S15x8192x1024 0 (List.ofFn fun q : Fin 15 => (⟨S1x8192x1024, f q⟩ : (s : Shape) × (s.Idx → EReal))) h := by
    sl_kernel_rfl
  rw [hv]
  refine (concatenate_ofFn_unit_apply (s₁ := S1x8192x1024) (t := S15x8192x1024) 0 f h rfl rfl (ix3 q s e) q rfl (ix3 0 s e) fun b hb => ?_).trans ?_
  · fin_cases b
    · exact absurd rfl hb
    · rfl
    · rfl
  · exact (window_apply _ _ _ _ s e).trans (pad_apply A _ e)

/-- The shifted rows, one above the other. -/
theorem windows_apply (k : Fin 31) (s : Fin 8192) (e : Fin 1024) :
    val_main_v86 (F := Ideal) A.P (ix3 k s e) = Cert.Conv.pad A.h (s.val + k.val + 1) e := by
  pointwise [val_main_v86]
  simp only [low_windows, high_windows]
  split
  · exact congrArg (Cert.Conv.pad A.h · e) (by omega)
  · exact congrArg (Cert.Conv.pad A.h · e) (by omega)

theorem cv_apply (s : Fin 8192) (e : Fin 1024) : val_main_v93 (F := Ideal) A.P A.W A.B (ix2 s e) = A.cv s e := by
  simp only [Cert.Conv.Args.cv, ← windows_apply]
  pointwise [val_main_v93, val_main_v92, val_main_v91, val_main_v90, val_main_v89, val_main_v88, val_main_v87, val_main_v17, val_main_v16, val_main_cst_5,
    Cert.Conv.Args.w, Cert.Conv.Args.b]

theorem cen_apply (s : Fin 8192) (e : Fin 1024) : val_main_v99 (F := Ideal) A.P A.W A.B (ix2 s e) = Sgu.cen (A.cv s) e := by
  simp only [Sgu.cen, ← cv_apply]
  pointwise [val_main_v99, val_main_v98, val_main_v97, val_main_v96, val_main_v95, val_main_v94, val_main_cst_6, val_main_cst_7]

theorem var_apply (s : Fin 8192) (z : Fin 1) : val_main_v106 (F := Ideal) A.P A.W A.B (ix2 s z) = Sgu.var (A.cv s) := by
  simp only [Sgu.var, ← cen_apply]
  pointwise [val_main_v106, val_main_v105, val_main_v104, val_main_v103, val_main_v102, val_main_v101, val_main_v100, val_main_cst_8, val_main_cst_9, val_main_cst_10]

theorem rstd_apply (s : Fin 8192) (z : Fin 1) : val_main_v107 (F := Ideal) A.P A.W A.B (ix2 s z) = Sgu.rstd (A.cv s) := by
  rw [Sgu.rstd, ← var_apply A s z]
  pointwise [val_main_v107]

theorem hat_apply (s : Fin 8192) (e : Fin 1024) : val_main_v112 (F := Ideal) A.P A.W A.B (ix2 s e) = Sgu.hat (A.cv s) e := by
  rw [Sgu.hat, ← cen_apply, ← rstd_apply A s 0]
  pointwise [val_main_v112, val_main_v111]

theorem ln_apply (s : Fin 8192) (e : Fin 1024) : val_main_v116 (F := Ideal) A.P A.W A.B A.G A.L (ix2 s e) = A.ln s e := by
  rw [Cert.Conv.Args.ln, ← hat_apply]
  pointwise [val_main_v116, val_main_v115, val_main_v114, val_main_v113, Cert.Conv.Args.g, Cert.Conv.Args.l]

end Cert.ConvRefIdeal.Entry

end
-- ==== Proof.ConvRef.lean ====
module

public import proofs.«01_k».proof.Proof.ConvRefFwd

/-! The convolution reference's five results, read at one entry. -/

@[expose] public section

set_option maxRecDepth 16384

noncomputable section

open Idealize.ShloMosaic Idealize.ShloMosaic.TcCoe Idealize.SL.Sem

namespace Cert.ConvRefIdeal.Entry

open Cert.ConvRefIdeal Cert.ConvRefIdeal.Read Cert.ConvRefIdeal.Gen

variable (A : Cert.Conv.Args)

theorem sl_apply (s : Fin 8192) (e : Fin 1024) : val_main_v117_2 (F := Ideal) A.P A.W A.B A.G A.L (ix2 s e) = Sgu.sgr (A.ln s e) := by
  rw [Sgu.sgr, ← ln_apply]
  pointwise [val_main_v117_2, val_main_call0_v4, val_main_call0_v3, val_main_call0_v2, val_main_call0_v1, val_main_call0_v0, val_main_call0_cst, val_main_call0_cst_0]

theorem sc_apply (s : Fin 8192) (e : Fin 1024) : val_main_v118_2 (F := Ideal) A.P (ix2 s e) = Sgu.sgr (A.gc s e) := by
  pointwise [val_main_v118_2, val_main_call1_v4, val_main_call1_v3, val_main_call1_v2, val_main_call1_v1, val_main_call1_v0, val_main_call1_cst, val_main_call1_cst_0,
    val_main_v2, Sgu.sgr, Cert.Conv.Args.gc]

theorem dgc_apply (s : Fin 8192) (e : Fin 1024) : val_main_v123 (F := Ideal) A.P A.Y A.W A.B A.G A.L (ix2 s e) = A.dgcR s e := by
  rw [Cert.Conv.Args.dgcR, Cert.Conv.dsiluR, ← sl_apply, ← sc_apply, ← ln_apply]
  pointwise [val_main_v123, val_main_call2_v2, val_main_call2_v1, val_main_call2_v0, val_main_v121, val_main_v120, val_main_v117_0, val_main_v118_1, val_main_call1_v7,
    val_main_call1_v6, val_main_call1_cst_1, val_main_v2, Cert.Conv.Args.gc, Cert.Conv.Args.y]

theorem dln_apply (s : Fin 8192) (e : Fin 1024) : val_main_v124 (F := Ideal) A.P A.Y A.W A.B A.G A.L (ix2 s e) = A.dlnR s e := by
  rw [Cert.Conv.Args.dlnR, Cert.Conv.dsiluR, ← sl_apply, ← sc_apply, ← ln_apply]
  pointwise [val_main_v124, val_main_call3_v2, val_main_call3_v1, val_main_call3_v0, val_main_v122, val_main_v120, val_main_v118_0, val_main_v117_1, val_main_call0_v7,
    val_main_call0_v6, val_main_call0_cst_1, val_main_v2, Cert.Conv.Args.gc, Cert.Conv.Args.y]

theorem dlb_apply (z : Fin 1) (e : Fin 1024) : val_main_v126 (F := Ideal) A.P A.Y A.W A.B A.G A.L (ix2 z e) = ∑ s : Fin 8192, A.dlnR s e := by
  simp only [← dln_apply]
  pointwise [val_main_v126, val_main_v125, val_main_cst_12]

theorem dlg_apply (z : Fin 1) (e : Fin 1024) : val_main_v129 (F := Ideal) A.P A.Y A.W A.B A.G A.L (ix2 z e)
    = ∑ s : Fin 8192, Sgu.hat (A.cv s) e * A.dlnR s e := by
  simp only [← dln_apply, ← hat_apply]
  pointwise [val_main_v129, val_main_v128, val_main_v127, val_main_cst_13]

/-- The gradient of the norm's result through the gain. -/
theorem scaled_apply (s : Fin 8192) (e : Fin 1024) : val_main_v131 (F := Ideal) A.P A.Y A.W A.B A.G A.L (ix2 s e) = A.dlnR s e * A.g e := by
  rw [← dln_apply]
  pointwise [val_main_v131, val_main_v130, Cert.Conv.Args.g]

/-- The factor of the centred row. -/
theorem pull_apply (s : Fin 8192) (e : Fin 1024) : val_main_v141 (F := Ideal) A.P A.Y A.W A.B A.G A.L (ix2 s e)
    = Sgu.pull (A.cv s) fun k => A.dlnR s k * A.g k := by
  simp only [Sgu.pull, ← cen_apply, ← rstd_apply A s 0, ← var_apply A s 0, ← scaled_apply]
  pointwise [val_main_v141, val_main_v140, val_main_v139, val_main_v138, val_main_v137, val_main_v134, val_main_v133, val_main_v132, val_main_v110, val_main_v109,
    val_main_v108, val_main_cst_11, val_main_cst_14, val_main_cst_15, val_main_cst_16]
  exact Fin.sum_univ_one _

theorem rowC_apply (s : Fin 8192) (e : Fin 1024) : val_main_v145 (F := Ideal) A.P A.Y A.W A.B A.G A.L (ix2 s e)
    = Sgu.rowC (A.cv s) (fun k => A.dlnR s k * A.g k) e := by
  rw [Sgu.rowC, ← pull_apply A s e, ← cen_apply, ← rstd_apply A s 0, ← scaled_apply]
  pointwise [val_main_v145, val_main_v144, val_main_v143, val_main_v142, val_main_v136, val_main_v135]

theorem dx_apply (s : Fin 8192) (e : Fin 1024) : val_main_v153 (F := Ideal) A.P A.Y A.W A.B A.G A.L (ix2 s e) = A.dxR s e := by
  simp only [Cert.Conv.Args.dxR, Sgu.rowR, ← rowC_apply]
  pointwise [val_main_v153, val_main_v152, val_main_v151, val_main_v150, val_main_v149, val_main_v148, val_main_v147, val_main_v146, val_main_cst_17, val_main_cst_18,
    val_main_cst_19]
  simp only [Fin.sum_univ_one]

theorem dcb_apply (z : Fin 1) (e : Fin 1024) : val_main_v290 (F := Ideal) A.P A.Y A.W A.B A.G A.L (ix2 z e) = ∑ s : Fin 8192, A.dxR s e := by
  simp only [← dx_apply]
  pointwise [val_main_v290, val_main_v156, val_main_v155, val_main_v154, val_main_cst_20, val_main_cst_21]
  simp only [Fin.sum_univ_one]

theorem dw_apply (z : Fin 1) (k : Fin 31) (e : Fin 1024) : val_main_v291 (F := Ideal) A.P A.Y A.W A.B A.G A.L (ix3 z k e) = A.dwR k e := by
  simp only [Cert.Conv.Args.dwR, ← windows_apply, ← dx_apply]
  pointwise [val_main_v291, val_main_v163, val_main_v160, val_main_v159, val_main_v158, val_main_v157, val_main_cst_22, val_main_cst_23]
  simp only [Fin.sum_univ_one]

/-! ### The gradient of the gated rows -/

/-- The rows times each tap's weight. -/
theorem taps_apply (k : Fin 31) (s : Fin 8192) (e : Fin 1024) :
    val_main_v162 (F := Ideal) A.P A.Y A.W A.B A.G A.L (ix3 k s e) = A.dxR s e * A.w k e := by
  rw [← dx_apply]
  pointwise [val_main_v162, val_main_v161, val_main_v157, val_main_v87, val_main_v16, Cert.Conv.Args.w]

theorem tap_slices (k : ℕ) (h : k < 31) : S31x8192x1024.Slices ![k, 0, 0] S1x8192x1024 := by
  refine ⟨rfl, fun a => ?_⟩
  fin_cases a <;> simp [S31x8192x1024, S1x8192x1024] <;> omega

theorem tap_pads (k : ℕ) (h : k < 31) : S8192x1024.Pads ![k, 0] ![30 - k, 0] ![0, 0] S8222x1024 := by
  refine ⟨rfl, fun a => ?_⟩
  fin_cases a <;> simp [S8222x1024, S8192x1024] <;> omega

/-- One tap's rows among the padded rows. -/
def tap (X : FVec Ideal S31x8192x1024 .f32) (k : ℕ) (h : k < 31) : FVec Ideal S8222x1024 .f32 :=
  pad S8222x1024 ![k, 0] ![30 - k, 0] ![0, 0]
    (shapeCast S8192x1024 (extractStridedSlice S1x8192x1024 ![k, 0, 0] X (tap_slices k h)) shapeCasts_S1x8192x1024_S8192x1024)
    (constant (F := Ideal) S_ .f32 0x00000000#32) (tap_pads k h) h_S_

/-- The sum of the taps from the last down. -/
def tapSum (X : FVec Ideal S31x8192x1024 .f32) : (n : ℕ) → n < 31 → FVec Ideal S8222x1024 .f32
  | 0, _ => tap X 30 (by decide)
  | n + 1, h => addf (tapSum X n (Nat.lt_of_succ_lt h)) (tap X (30 - (n + 1)) (by omega))

theorem tapSum_eq : val_main_v286 (F := Ideal) A.P A.Y A.W A.B A.G A.L
    = tapSum (val_main_v162 (F := Ideal) A.P A.Y A.W A.B A.G A.L) 30 (by decide) := by
  sl_kernel_rfl

theorem tap_apply (k : ℕ) (h : k < 31) (s : Fin 8192) (e : Fin 1024) :
    tap (val_main_v162 (F := Ideal) A.P A.Y A.W A.B A.G A.L) k h (ix2 (⟨15 + s.val, by omega⟩ : Fin 8222) e)
      = A.w ⟨k, h⟩ e * Cert.Conv.pad A.dxR (s.val + 31 - k) e := by
  have hx := taps_apply A
  generalize val_main_v162 (F := Ideal) A.P A.Y A.W A.B A.G A.L = X at hx ⊢
  rw [Cert.Conv.pad]
  pointwise [tap]
  simp only [hx]
  by_cases hs : k ≤ 15 + s.val ∧ 15 + s.val - k < 8192
  · rw [dif_pos hs, dif_pos (by omega), mul_comm]
    exact congrArg _ (congrArg (A.dxR · e) (Fin.ext (by simp only; omega)))
  · rw [dif_neg hs, dif_neg (by omega), mul_zero]

/-- A tap's term at any count. -/
def term (s : Fin 8192) (e : Fin 1024) (k : ℕ) : EReal :=
  if h : k < 31 then A.w ⟨k, h⟩ e * Cert.Conv.pad A.dxR (s.val + 31 - k) e else 0

theorem tapSum_apply (n : ℕ) (h : n < 31) (s : Fin 8192) (e : Fin 1024) :
    tapSum (val_main_v162 (F := Ideal) A.P A.Y A.W A.B A.G A.L) n h (ix2 (⟨15 + s.val, by omega⟩ : Fin 8222) e)
      = ∑ i ∈ Finset.range (n + 1), term A s e (30 - i) := by
  induction n with
  | zero =>
    rw [zero_add, Finset.sum_range_one, tapSum, tap_apply, term, dif_pos (by decide)]
  | succ n ih =>
    rw [Finset.sum_range_succ, ← ih (by omega), tapSum, addf_apply, tap_apply, term, dif_pos (by omega)]
    rfl

theorem dh_apply (s : Fin 8192) (e : Fin 1024) :
    val_main_v286 (F := Ideal) A.P A.Y A.W A.B A.G A.L (ix2 (⟨15 + s.val, by omega⟩ : Fin 8222) e) = A.dh A.dxR s e := by
  rw [tapSum_eq, tapSum_apply, Finset.sum_range_reflect (term A s e) 31, ← Fin.sum_univ_eq_sum_range]
  exact Finset.sum_congr rfl fun k _ => dif_pos k.isLt

/-- The gradient of the projected rows, third by third. -/
theorem da_apply (s : Fin 8192) (e : Fin 1024) :
    val_main_v296 (F := Ideal) A.P A.Y A.W A.B A.G A.L (ix2 s (⟨e.val, by omega⟩ : Fin 3072)) = A.daR s e := by
  rw [Cert.Conv.Args.daR, ← dh_apply, ← sg_apply]
  pointwise [val_main_v296, val_main_v295, val_main_v293, val_main_v288]

theorem dag_apply (s : Fin 8192) (e : Fin 1024) :
    val_main_v296 (F := Ideal) A.P A.Y A.W A.B A.G A.L (ix2 s (⟨1024 + e.val, by omega⟩ : Fin 3072)) = A.dagR s e := by
  rw [Cert.Conv.Args.dagR, ← dh_apply, ← sg_apply]
  pointwise [val_main_v296, val_main_v295, val_main_v294, val_main_v292, val_main_v288, val_main_v14, val_main_v13, val_main_v12, val_main_cst_1, val_main_v0, Cert.Conv.Args.a]

theorem dgate_apply (s : Fin 8192) (e : Fin 1024) :
    val_main_v296 (F := Ideal) A.P A.Y A.W A.B A.G A.L (ix2 s (⟨2048 + e.val, by omega⟩ : Fin 3072)) = A.dgcR s e := by
  rw [← dgc_apply]
  pointwise [val_main_v296, val_main_v295]
  rw [dif_neg (by omega), dif_neg (by omega)]
  exact congrArg _ (congrArg (ix2 s) (Fin.ext (by simp only; omega)))

end Cert.ConvRefIdeal.Entry

end
-- ==== Proof.ConvCells.lean ====
module

public import proofs.«01_k».proof.Proof.ConvRows
public import proofs.«01_k».proof.Proof.ConvRef

/-! The gradient of the convolution's result as a grid point computes it: row by row, on its own rows and their neighbours. -/

@[expose] public section

set_option maxRecDepth 16384

noncomputable section

open Idealize.ShloMosaic Idealize.ShloMosaic.TcCoe Idealize.SL.Sem

namespace Cert.ConvBwdIdeal.Value

open Cert.ConvBwdIdeal Cert.ConvBwdIdeal.Gen Cert.ConvBwdIdeal.Conv

variable (m : (ℓ : Loc nD τ sig) → Buf (Elt Ideal) ℓ)

theorem cv_apply (c : Dev nD) (s : Fin 8192) (e : Fin 1024) : V m c main_v94 (ix2 s e) = (args m c).cv s e := by
  rw [conv_ref]
  exact Cert.ConvRefIdeal.Entry.cv_apply (args m c) s e

theorem cp_block (c : Dev nD) (t : Fin cfg0.N) (r : Fin 16) (e : Fin 1024) : (blocks m c t).cp (ix2 r e) = (args m c).cv (atP t r) e :=
  (cp_read (V m c main_v94) t r e).trans (cv_apply m c _ _)

theorem cm_block (c : Dev nD) (t : Fin cfg0.N) (r : Fin 512) (e : Fin 1024) : (blocks m c t).cm (ix2 r e) = (args m c).cv (at' t r) e :=
  (cm_read (V m c main_v94) t r e).trans (cv_apply m c _ _)

theorem cn_block (c : Dev nD) (t : Fin cfg0.N) (r : Fin 16) (e : Fin 1024) : (blocks m c t).cn (ix2 r e) = (args m c).cv (atN t r) e :=
  (cn_read (V m c main_v94) t r e).trans (cv_apply m c _ _)

/-- The convolved rows less their mean. -/
theorem cf_rows (c : Dev nD) (t : Fin cfg0.N) (r : Fin 544) (e : Fin 1024) :
    (blocks m c t).cf (ix2 r e) = Sgu.cen ((args m c).cv (src t r)) e := by
  rw [Blocks.cf, ldh_eq, ldm_eq, ldh_eq, Sgu.cen]
  pointwise [k0_pay1582, src]
  simp only [cp_block, cm_block, cn_block]
  split_ifs <;> rfl

theorem sq_rows (c : Dev nD) (t : Fin cfg0.N) (r : Fin 544) :
    (blocks m c t).sq (ix1 r) = ∑ e, Sgu.cen ((args m c).cv (src t r)) e * Sgu.cen ((args m c).cv (src t r)) e := by
  simp only [← cf_rows]
  rw [Blocks.sq, Blocks.cf]
  pointwise [k0_pay1583]

theorem rstd_rows (c : Dev nD) (t : Fin cfg0.N) (r : Fin 544) (z : Fin 1) :
    (blocks m c t).rstd (ix2 r z) = Sgu.rstd ((args m c).cv (src t r)) := by
  rw [Sgu.rstd, Sgu.var, ← sq_rows, Blocks.rstd]
  pointwise [k0_pay1584]

theorem xh_rows (c : Dev nD) (t : Fin cfg0.N) (r : Fin 544) (e : Fin 1024) :
    (blocks m c t).xh (ix2 r e) = Sgu.hat ((args m c).cv (src t r)) e := by
  rw [Sgu.hat, ← cf_rows, ← rstd_rows m c t r 0, Blocks.xh, Blocks.rstd]
  pointwise [k0_pay1585]

/-- The norm's result on the extended rows. -/
theorem ln_rows (c : Dev nD) (t : Fin cfg0.N) (r : Fin 544) (e : Fin 1024) :
    k0_pay1586 (F := Ideal) (blocks m c t).cf (blocks m c t).sq (ldr (blocks m c t).lg) (ldr (blocks m c t).lb) (ix2 r e) = (args m c).ln (src t r) e := by
  rw [ldr_eq, ldr_eq, Cert.Conv.Args.ln, ← xh_rows, ← lg_block m c t, ← lb_block m c t, Blocks.xh]
  pointwise [k0_pay1586]

theorem sl_rows (c : Dev nD) (t : Fin cfg0.N) (r : Fin 544) (e : Fin 1024) :
    k0_pay1587 (F := Ideal) (blocks m c t).cf (blocks m c t).sq (ldr (blocks m c t).lg) (ldr (blocks m c t).lb) (ix2 r e) = Sgu.sgm ((args m c).ln (src t r) e) := by
  rw [Sgu.sgm, ← ln_rows]
  pointwise [k0_pay1587]

theorem sc_rows (c : Dev nD) (t : Fin cfg0.N) (r : Fin 544) (e : Fin 1024) :
    k0_pay1588 (F := Ideal) (blocks m c t).gc (ix2 r e) = Sgu.sgm ((args m c).gc (src t r) e) := by
  rw [Sgu.sgm, ← gc_rows]
  pointwise [k0_pay1588]

theorem dln_rows (c : Dev nD) (t : Fin cfg0.N) (r : Fin 544) (e : Fin 1024) :
    (blocks m c t).dln (ix2 r e) = (args m c).dlnK (src t r) e := by
  rw [Cert.Conv.Args.dlnK, Cert.Conv.dsiluK, ← sl_rows, ← sc_rows, ← ln_rows, ← gc_rows, ← dy_rows, Blocks.dln]
  pointwise [k0_pay1589]

/-- An own row among the extended rows. -/
def own (r : Fin 512) : Fin 544 := ⟨16 + r.val, by omega⟩

theorem src_own (t : Fin cfg0.N) (r : Fin 512) : src t (own r) = at' t r := by
  rw [src, dif_neg (by simp only [own]; omega), dif_pos (by simp only [own]; omega)]
  exact congrArg (at' t) (Fin.ext (by simp only [own]; omega))

/-- The gradient of the gate's input. -/
theorem dgc_rows (c : Dev nD) (t : Fin cfg0.N) (r : Fin 512) (e : Fin 1024) :
    (blocks m c t).dgc (ix2 r e) = (args m c).dgcK (at' t r) e := by
  rw [← src_own, Cert.Conv.Args.dgcK, Cert.Conv.dsiluK, ← sl_rows, ← sc_rows, ← ln_rows, ← gc_rows, ← dy_rows, Blocks.dgc, Blocks.dgate]
  pointwise [k0_pay1594, k0_pay1590, k0_pay1591, k0_pay1592, k0_pay1593, own]

theorem scaled_rows (c : Dev nD) (t : Fin cfg0.N) (r : Fin 544) (e : Fin 1024) :
    k0_pay1597 (F := Ideal) (ldr (blocks m c t).lg) (blocks m c t).dln (ix2 r e) = (args m c).dlnK (src t r) e * (args m c).g e := by
  rw [ldr_eq, ← dln_rows, ← lg_block m c t]
  pointwise [k0_pay1597]

/-- The gradient of the convolution's result. -/
theorem dx_rows (c : Dev nD) (t : Fin cfg0.N) (r : Fin 544) (e : Fin 1024) :
    k0_pay1600 (F := Ideal) (blocks m c t).rstd (blocks m c t).dxc (blocks m c t).dxm (ix2 r e) = (args m c).dxK (src t r) e := by
  simp only [Cert.Conv.Args.dxK, Sgu.rowK, ← scaled_rows, ← xh_rows, ← rstd_rows m c t r 0]
  rw [Blocks.dxc, Blocks.dxm]
  pointwise [k0_pay1600, k0_pay1598, k0_pay1599]

end Cert.ConvBwdIdeal.Value

end
-- ==== Proof.ConvTaps.lean ====
module

public import proofs.«01_k».proof.Proof.ConvCells

/-! The convolution's taps at a grid point: the gradient of the gated rows and the point's part of the filter's gradient. -/

@[expose] public section

set_option maxRecDepth 16384

noncomputable section

open Idealize.ShloMosaic Idealize.ShloMosaic.TcCoe Idealize.SL.Sem

namespace Cert.ConvBwdIdeal.Value

open Cert.ConvBwdIdeal Cert.ConvBwdIdeal.Gen Cert.ConvBwdIdeal.Conv

variable (m : (ℓ : Loc nD τ sig) → Buf (Elt Ideal) ℓ)

/-! ### The extended rows -/

theorem coord (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

theorem taken {α : Type} (x y : α) : Scalar.select 1#1 x y = x := rfl

theorem passed {α : Type} (x y : α) : Scalar.select 0#1 x y = y := rfl

theorem after_start : ∀ n : Fin 16, Scalar.cmpi .sgt (BitVec.ofNat 32 n.val) 0#32 = if 0 < n.val then 1#1 else 0#1 := by decide +kernel

theorem before_end : ∀ n : Fin 16, Scalar.cmpi .slt (BitVec.ofNat 32 n.val) 15#32 = if n.val < 15 then 1#1 else 0#1 := by decide +kernel

theorem extP_apply (c : Dev nD) (t : Fin cfg0.N) (p : Fin 16) (a : Fin 8) (b : Fin 128) :
    (blocks m c t).extP (grid0.coords t) (ix3 p a b) = Cert.Conv.pad (args m c).dxK (t.val * 512 + p.val) (Sgu.col a b) := by
  have ht : t.val < 16 := Nat.lt_of_lt_of_eq t.isLt N_0
  have hx := dx_rows m c t ⟨p.val, by omega⟩ (Sgu.col a b)
  rw [Blocks.extP, coord]
  generalize (blocks m c t).rstd = A at *
  generalize (blocks m c t).dxc = B at *
  generalize (blocks m c t).dxm = C at *
  unfold k0_pay1602
  rw [after_start ⟨t.val, ht⟩, Cert.Conv.pad]
  by_cases h : 0 < t.val
  · rw [if_pos h, dif_pos (by omega)]
    have hs : src t ⟨p.val, by omega⟩ = (⟨t.val * 512 + p.val - 16, by omega⟩ : Fin 8192) := by
      rw [src, dif_pos (by simp only; omega)]
      exact Fin.ext (by simp only [atP]; omega)
    rw [← hs, ← hx]
    simp only [taken]
    pointwise [Sgu.col]
  · rw [if_neg h, dif_neg (by omega)]
    simp only [passed]
    pointwise

theorem extM_apply (c : Dev nD) (t : Fin cfg0.N) (p : Fin 512) (a : Fin 8) (b : Fin 128) :
    (blocks m c t).extM (ix3 p a b) = Cert.Conv.pad (args m c).dxK (t.val * 512 + 16 + p.val) (Sgu.col a b) := by
  have ht : t.val < 16 := Nat.lt_of_lt_of_eq t.isLt N_0
  have hx := dx_rows m c t (own p) (Sgu.col a b)
  rw [Blocks.extM]
  generalize (blocks m c t).rstd = A at *
  generalize (blocks m c t).dxc = B at *
  generalize (blocks m c t).dxm = C at *
  rw [Cert.Conv.pad, dif_pos (by omega)]
  have hs : src t (own p) = (⟨t.val * 512 + 16 + p.val - 16, by omega⟩ : Fin 8192) := by
    rw [src_own]
    exact Fin.ext (by simp only [at']; omega)
  rw [← hs, ← hx]
  pointwise [k0_pay1603, Sgu.col, own]

theorem extN_apply (c : Dev nD) (t : Fin cfg0.N) (p : Fin 16) (a : Fin 8) (b : Fin 128) :
    (blocks m c t).extN (grid0.coords t) (ix3 p a b) = Cert.Conv.pad (args m c).dxK (t.val * 512 + 528 + p.val) (Sgu.col a b) := by
  have ht : t.val < 16 := Nat.lt_of_lt_of_eq t.isLt N_0
  have hx := dx_rows m c t ⟨528 + p.val, by omega⟩ (Sgu.col a b)
  rw [Blocks.extN, coord]
  generalize (blocks m c t).rstd = A at *
  generalize (blocks m c t).dxc = B at *
  generalize (blocks m c t).dxm = C at *
  unfold k0_pay1604
  rw [before_end ⟨t.val, ht⟩, Cert.Conv.pad]
  by_cases h : t.val < 15
  · rw [if_pos h, dif_pos (by omega)]
    have hs : src t ⟨528 + p.val, by omega⟩ = (⟨t.val * 512 + 528 + p.val - 16, by omega⟩ : Fin 8192) := by
      rw [src, dif_neg (by simp only; omega), dif_neg (by simp only; omega)]
      exact Fin.ext (by simp only [atN]; omega)
    rw [← hs, ← hx]
    simp only [taken]
    pointwise [Sgu.col]
  · rw [if_neg h, dif_neg (by omega)]
    simp only [passed]
    pointwise

/-- The gradient of the convolution's result on the extended rows, with zeros past the ends. -/
theorem ext_apply (c : Dev nD) (t : Fin cfg0.N) (r : Fin 544) (a : Fin 8) (b : Fin 128) :
    (blocks m c t).ext (grid0.coords t) (ix3 r a b) = Cert.Conv.pad (args m c).dxK (t.val * 512 + r.val) (Sgu.col a b) := by
  have hr := r.isLt
  refine (show (blocks m c t).ext (grid0.coords t) (ix3 r a b) = if h : r.val < 16 then _ else if h' : r.val < 528 then _ else _ from rfl).trans ?_
  split
  · exact extP_apply m c t ⟨r.val, _⟩ a b
  · split
    · refine (extM_apply m c t ⟨r.val - 16, _⟩ a b).trans (congrArg (Cert.Conv.pad _ · _) (by simp only; omega))
    · refine (extN_apply m c t ⟨r.val - 528, _⟩ a b).trans (congrArg (Cert.Conv.pad _ · _) (by simp only; omega))

/-! ### The gated rows -/

/-- The gate's logistic function. -/
theorem sg_block (c : Dev nD) (t : Fin cfg0.N) (r : Fin 512) (e : Fin 1024) :
    k0_pay1 (F := Ideal) (ldm (blocks m c t).ag) (ix2 r e) = Sgu.sgm ((args m c).ag (at' t r) e) := by
  rw [ldm_eq, Sgu.sgm, ← ag_block]
  pointwise [k0_pay1]

theorem a_block (c : Dev nD) (t : Fin cfg0.N) (r : Fin 512) (e : Fin 1024) :
    k0_pay1605 (F := Ideal) (ldm (blocks m c t).av) (ix2 r e) = (args m c).a (at' t r) e := by
  rw [ldm_eq, ← av_block]
  pointwise [k0_pay1605]

/-- The gated input of the point's own rows, in tiles. -/
theorem glu_apply (c : Dev nD) (t : Fin cfg0.N) (r : Fin 512) (a : Fin 8) (b : Fin 128) :
    (blocks m c t).glu (ix3 r a b) = (args m c).hK (at' t r) (Sgu.col a b) := by
  rw [Cert.Conv.Args.hK, ← sg_block, ← a_block, Blocks.glu]
  pointwise [k0_pay2, Sgu.col]

end Cert.ConvBwdIdeal.Value

end
-- ==== Proof.ConvDw.lean ====
module

public import proofs.«01_k».proof.Proof.ConvTaps

/-! A grid point's sums over the taps and over its rows, as sums. -/

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.ConvBwdIdeal.Conv

/-- The extended row that tap `q` of own row `16 k + j` reads. -/
def tapRow (k : Fin k0_t1_loop.trips) (j : Fin 16) (q : Fin 31) : Fin 544 :=
  ⟨16 * k.val + j.val + 31 - q.val, by have := k.isLt; have := trips_eq; omega⟩

/-- An own row by its sixteen. -/
def ownRow (k : Fin k0_t1_loop.trips) (j : Fin 16) : Fin 512 :=
  ⟨16 * k.val + j.val, by have := k.isLt; have := trips_eq; omega⟩

theorem wRow_apply (w : Vec Ideal S32x8x128 .f32) (q : Fin 31) (a : Fin 8) (b : Fin 128) :
    wRow (F := Ideal) w q (ix2 a b) = w (ix3 (⟨q.val, by omega⟩ : Fin 32) a b) := by
  unfold wRow
  pointwise
  refine View.ld_unit_apply_of _ _ _ _ _ _ fun d => ?_
  fin_cases d <;> simp

theorem eRow_apply (e : Vec Ideal S544x8x128 .f32) (k : Fin k0_t1_loop.trips) (j : Fin 16) (q : Fin 31) (a : Fin 8) (b : Fin 128) :
    eRow (F := Ideal) e k j q (ix2 a b) = e (ix3 (tapRow k j q) a b) := by
  unfold eRow
  pointwise
  refine View.ld_unit_apply_of _ _ _ _ _ _ fun d => ?_
  refine Eq.trans ?_ (congrArg (· + _) (congrFun (k0_off1_eq k j q) d).symm)
  fin_cases d <;> simp [tapRow]

theorem gRow_apply (g : Vec Ideal S512x8x128 .f32) (k : Fin k0_t1_loop.trips) (j : Fin 16) (a : Fin 8) (b : Fin 128) :
    gRow (F := Ideal) g k j (ix2 a b) = g (ix3 (ownRow k j) a b) := by
  unfold gRow
  pointwise
  refine View.ld_unit_apply_of _ _ _ _ _ _ fun d => ?_
  refine Eq.trans ?_ (congrArg (· + _) (congrFun (k0_off2_eq k j) d).symm)
  fin_cases d <;> simp [ownRow]

theorem taps_apply (w : Vec Ideal S32x8x128 .f32) (e : Vec Ideal S544x8x128 .f32) (k : Fin k0_t1_loop.trips) (j : Fin 16)
    (a : Fin 8) (b : Fin 128) : ∀ (n : ℕ) (h : n < 31), taps (F := Ideal) w e k j n h (ix2 a b)
      = ∑ i : Fin (n + 1), w (ix3 (⟨i.val, by omega⟩ : Fin 32) a b) * e (ix3 (tapRow k j ⟨i.val, by omega⟩) a b)
  | 0, h => by
    rw [Fin.sum_univ_one, taps, mulf_apply, wRow_apply, eRow_apply]
    rfl
  | n + 1, h => by
    rw [Fin.sum_univ_castSucc, taps, addf_apply, taps_apply w e k j a b n, mulf_apply, wRow_apply, eRow_apply]
    rfl

/-- Sixteen terms added in pairs. -/
theorem sum_pairs (p : Fin 16 → EReal) : (((p 0 + p 1) + (p 2 + p 3)) + ((p 4 + p 5) + (p 6 + p 7)))
    + (((p 8 + p 9) + (p 10 + p 11)) + ((p 12 + p 13) + (p 14 + p 15))) = ∑ j, p j := by
  simp only [Fin.sum_univ_castSucc, Finset.univ_eq_empty, Finset.sum_empty, zero_add, add_assoc]
  rfl

theorem trip_apply (e : Vec Ideal S544x8x128 .f32) (g : Vec Ideal S512x8x128 .f32) (k : Fin k0_t1_loop.trips) (q : Fin 31)
    (a : Fin 8) (b : Fin 128) : Conv.gain (F := Ideal) e g k q (ix2 a b)
      = ∑ j : Fin 16, g (ix3 (ownRow k j) a b) * e (ix3 (tapRow k j q) a b) := by
  simp only [← gRow_apply, ← eRow_apply]
  exact sum_pairs fun j => gRow (F := Ideal) g k j (ix2 a b) * eRow (F := Ideal) e k j q (ix2 a b)

theorem wSum_apply (e : Vec Ideal S544x8x128 .f32) (g : Vec Ideal S512x8x128 .f32) (d : Vec Ideal S32x8x128 .f32) (q : Fin 31)
    (a : Fin 8) (b : Fin 128) : ∀ n : ℕ, (hn : n ≤ k0_t1_loop.trips) →
      wSum (F := Ideal) e g d n (ix3 (⟨q.val, by omega⟩ : Fin 32) a b) = d (ix3 (⟨q.val, by omega⟩ : Fin 32) a b)
        + ∑ k : Fin n, ∑ j : Fin 16, g (ix3 (ownRow ⟨k.val, by omega⟩ j) a b) * e (ix3 (tapRow ⟨k.val, by omega⟩ j q) a b)
  | 0, _ => by
    rw [Fin.sum_univ_zero, add_zero, wSum]
  | n + 1, hn => by
    rw [wSum_succ _ _ _ n hn, Fin.sum_univ_castSucc, ← add_assoc]
    refine (show wStep (F := Ideal) e g ⟨n, hn⟩ (wSum e g d n) (ix3 (⟨q.val, by omega⟩ : Fin 32) a b) = if h : q.val < 31 then _ else _ from rfl).trans ?_
    rw [dif_pos q.isLt]
    refine congrArg₂ (· + ·) ((wRow_apply _ _ a b).trans (wSum_apply e g d q a b n (by omega))) ?_
    exact trip_apply e g _ _ a b

/-- The padding row stays as it was. -/
theorem wSum_last (e : Vec Ideal S544x8x128 .f32) (g : Vec Ideal S512x8x128 .f32) (d : Vec Ideal S32x8x128 .f32) (q : Fin 32)
    (hq : ¬q.val < 31) (a : Fin 8) (b : Fin 128) : ∀ n : ℕ, wSum (F := Ideal) e g d n (ix3 q a b) = d (ix3 q a b)
  | 0 => rfl
  | n + 1 => by
    rw [wSum]
    split
    · refine (show wStep (F := Ideal) e g _ (wSum e g d n) (ix3 q a b) = if h : q.val < 31 then _ else _ from rfl).trans ?_
      rw [dif_neg hq]
      exact wSum_last e g d q hq a b n
    · exact wSum_last e g d q hq a b n

variable (m : (ℓ : Loc nD τ sig) → Buf (Elt Ideal) ℓ)

/-- The gradient of the gated rows at a point. -/
theorem dglu_apply (c : Dev nD) (t : Fin cfg0.N) (r : Fin 512) (a : Fin 8) (b : Fin 128) :
    (blocks m c t).dglu (grid0.coords t) (ix3 r a b) = (args m c).dh (args m c).dxK (at' t r) (Sgu.col a b) := by
  refine (taps_apply _ _ _ _ a b 30 (by decide)).trans (Finset.sum_congr rfl fun k _ => ?_)
  refine congrArg₂ (· * ·) (w_block m c t ⟨k.val, by omega⟩ a b) ((ext_apply m c t _ a b).trans (congrArg (Cert.Conv.pad _ · _) ?_))
  have hr := r.isLt
  have hk := k.isLt
  simp only [tapRow, at', ix3]
  show t.val * 512 + (16 * (r.val / 16) + r.val % 16 + 31 - k.val) = t.val * 512 + r.val + 31 - k.val
  omega

/-- A point's part of the filter's gradient. -/
def partW (c : Dev nD) (t : Fin cfg0.N) (k : Fin 32) (e : Fin 1024) : EReal :=
  if k.val < 31 then ∑ r : Fin 512, (args m c).hK (at' t r) e * Cert.Conv.pad (args m c).dxK ((at' t r).val + 31 - k.val) e else 0

theorem next_w (c : Dev nD) (t : Fin cfg0.N) (d : Accs Ideal) (k : Fin 32) (a : Fin 8) (b : Fin 128) :
    (d.next (blocks m c t) (grid0.coords t)).w (ix3 k a b) = d.w (ix3 k a b) + partW m c t k (Sgu.col a b) := by
  refine (show (d.next (blocks m c t) (grid0.coords t)).w (ix3 k a b)
    = wSum ((blocks m c t).ext (grid0.coords t)) (blocks m c t).glu d.w k0_t1_loop.trips (ix3 k a b) from rfl).trans ?_
  rw [partW]
  split
  · next h =>
    refine (wSum_apply _ _ _ ⟨k.val, h⟩ a b _ (le_refl _)).trans (congrArg _ ?_)
    refine Eq.trans ?_ (Fin.sum_mul_add_fin 32 16 fun r : Fin 512 => (args m c).hK (at' t r) (Sgu.col a b)
      * Cert.Conv.pad (args m c).dxK ((at' t r).val + 31 - k.val) (Sgu.col a b))
    refine (Fin.sum_congr' _ trips_eq.symm).symm.trans (Finset.sum_congr rfl fun i _ => Finset.sum_congr rfl fun j _ => ?_)
    have e1 : ownRow (⟨i.val, by have := trips_eq; omega⟩ : Fin k0_t1_loop.trips) j = (⟨i.val * 16 + j.val, by omega⟩ : Fin 512) := Fin.ext (by simp only [ownRow]; omega)
    refine congrArg₂ (· * ·) ((glu_apply m c t _ a b).trans (congrArg (fun r => (args m c).hK (at' t r) _) e1))
      ((ext_apply m c t _ a b).trans (congrArg (Cert.Conv.pad _ · _) ?_))
    have hj := j.isLt
    simp only [tapRow, at', Fin.cast]
    omega
  · next h =>
    rw [add_zero]
    exact wSum_last _ _ _ k h a b _

end Cert.ConvBwdIdeal.Value

end
-- ==== Proof.ConvAcc.lean ====
module

public import proofs.«01_k».proof.Proof.ConvDw

/-! What a grid point writes of the projection's gradient, and what it adds to the three summed rows. -/

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.ConvBwdIdeal.Conv

variable (m : (ℓ : Loc nD τ sig) → Buf (Elt Ideal) ℓ)

/-- The gradient of the gated rows, back in columns. -/
theorem dh_rows (c : Dev nD) (t : Fin cfg0.N) (r : Fin 512) (e : Fin 1024) :
    k0_pay6 (F := Ideal) ((blocks m c t).dglu (grid0.coords t)) (ix2 r e) = (args m c).dh (args m c).dxK (at' t r) e := by
  have h := dglu_apply m c t r ⟨e.val / 128, by omega⟩ ⟨e.val % 128, Nat.mod_lt _ (by decide)⟩
  have hc : Sgu.col ⟨e.val / 128, by omega⟩ ⟨e.val % 128, Nat.mod_lt _ (by decide)⟩ = e := Fin.ext (by simp only [Sgu.col]; omega)
  rw [hc] at h
  rw [← h]
  generalize (blocks m c t).dglu (grid0.coords t) = X
  pointwise [k0_pay6]

theorem da_rows (c : Dev nD) (t : Fin cfg0.N) (r : Fin 512) (e : Fin 1024) :
    k0_pay7 (F := Ideal) (ldm (blocks m c t).ag) ((blocks m c t).dglu (grid0.coords t)) (ix2 r e) = (args m c).daK (at' t r) e := by
  rw [Cert.Conv.Args.daK, ← dh_rows, ← sg_block]
  generalize (blocks m c t).dglu (grid0.coords t) = X
  pointwise [k0_pay7]

theorem dag_rows (c : Dev nD) (t : Fin cfg0.N) (r : Fin 512) (e : Fin 1024) :
    k0_pay8 (F := Ideal) (k0_pay1605 (ldm (blocks m c t).av)) (ldm (blocks m c t).ag) ((blocks m c t).dglu (grid0.coords t)) (ix2 r e)
      = (args m c).dagK (at' t r) e := by
  rw [Cert.Conv.Args.dagK, ← dh_rows, ← sg_block, ← a_block]
  generalize (blocks m c t).dglu (grid0.coords t) = X
  pointwise [k0_pay8]

/-- The gradient of the projection's first three parts, side by side. -/
def thirds (c : Dev nD) (s : Fin 8192) (k : ℕ) : EReal :=
  if h : k < 1024 then (args m c).daK s ⟨k, h⟩
  else if h' : k < 2048 then (args m c).dagK s ⟨k - 1024, by omega⟩
  else if h'' : k < 3072 then (args m c).dgcK s ⟨k - 2048, by omega⟩ else 0

theorem dp_apply (c : Dev nD) (t : Fin cfg0.N) (r : Fin 512) (k : Fin 3072) :
    (blocks m c t).dp (grid0.coords t) (ix2 r k) = thirds m c (at' t r) k.val := by
  have hk := k.isLt
  refine (show (blocks m c t).dp (grid0.coords t) (ix2 r k) = if h : k.val < 1024 then _ else if h' : k.val < 2048 then _ else _ from rfl).trans ?_
  rw [thirds]
  split
  · exact da_rows m c t r _
  · split
    · exact dag_rows m c t r _
    · exact dgc_rows m c t r _

/-- The block's row of a summed row. -/
def row (a : Fin 8) (b : Fin 64) : Fin 512 := ⟨b.val * 8 + a.val, by omega⟩

theorem next_b (c : Dev nD) (t : Fin cfg0.N) (d : Accs Ideal) (a : Fin 8) (e : Fin 1024) :
    (d.next (blocks m c t) (grid0.coords t)).b (ix2 a e) = d.b (ix2 a e) + ∑ b : Fin 64, (args m c).dxK (at' t (row a b)) e := by
  simp only [← src_own, ← dx_rows]
  refine (show (d.next (blocks m c t) (grid0.coords t)).b (ix2 a e)
    = k0_pay1601 (blocks m c t).rstd (blocks m c t).dxc (blocks m c t).dxm (lda d.b) (ix2 a e) from rfl).trans ?_
  rw [lda_eq]
  pointwise [k0_pay1601, row, own]

theorem next_g (c : Dev nD) (t : Fin cfg0.N) (d : Accs Ideal) (a : Fin 8) (e : Fin 1024) :
    (d.next (blocks m c t) (grid0.coords t)).g (ix2 a e) = d.g (ix2 a e)
      + ∑ b : Fin 64, (args m c).dlnK (at' t (row a b)) e * Sgu.hat ((args m c).cv (at' t (row a b))) e := by
  simp only [← src_own, ← dln_rows, ← xh_rows]
  refine (show (d.next (blocks m c t) (grid0.coords t)).g (ix2 a e)
    = k0_pay1595 (blocks m c t).xh (blocks m c t).dln (lda d.g) (ix2 a e) from rfl).trans ?_
  rw [lda_eq]
  pointwise [k0_pay1595, row, own]

theorem next_l (c : Dev nD) (t : Fin cfg0.N) (d : Accs Ideal) (a : Fin 8) (e : Fin 1024) :
    (d.next (blocks m c t) (grid0.coords t)).l (ix2 a e) = d.l (ix2 a e) + ∑ b : Fin 64, (args m c).dlnK (at' t (row a b)) e := by
  simp only [← src_own, ← dln_rows]
  refine (show (d.next (blocks m c t) (grid0.coords t)).l (ix2 a e)
    = k0_pay1596 (blocks m c t).dln (lda d.l) (ix2 a e) from rfl).trans ?_
  rw [lda_eq]
  pointwise [k0_pay1596, row, own]

theorem zero_w (j : S32x8x128.Idx) : (Accs.zero (F := Ideal)).w j = 0 := by
  show k0_pay1576 (F := Ideal) j = 0
  pointwise [k0_pay1576]

theorem zero_b (j : S8x1024.Idx) : (Accs.zero (F := Ideal)).b j = 0 := by
  show k0_pay1577 (F := Ideal) j = 0
  pointwise [k0_pay1577]

theorem zero_g (j : S8x1024.Idx) : (Accs.zero (F := Ideal)).g j = 0 := by
  show k0_pay1578 (F := Ideal) j = 0
  pointwise [k0_pay1578]

theorem zero_l (j : S8x1024.Idx) : (Accs.zero (F := Ideal)).l j = 0 := by
  show k0_pay1579 (F := Ideal) j = 0
  pointwise [k0_pay1579]

end Cert.ConvBwdIdeal.Value

end
-- ==== Proof.ConvValue.lean ====
module

public import proofs.«01_k».proof.Proof.ConvAcc
public import Idealize.ShloMosaic.Lib.Claim

/-! The convolution's backward call: what its five results are after the run. -/

@[expose] public section

set_option maxRecDepth 16384

noncomputable section

open Idealize.ShloMosaic Idealize.ShloMosaic.TcCoe Idealize.SL.Sem
open Idealize.ShloMosaic.Pipeline (Dat)

namespace Cert.ConvBwdIdeal.Value

open Cert.ConvBwdIdeal Cert.ConvBwdIdeal.Gen Cert.ConvBwdIdeal.Conv

variable (m : (ℓ : Loc nD τ sig) → Buf (Elt Ideal) ℓ)

/-- What a point adds to the four sums. -/
def wT (c : Dev nD) (t : Fin cfg0.N) (j : S32x8x128.Idx) : EReal := partW m c t (j 0) (Sgu.col (j 1) (j 2))
def bT (c : Dev nD) (t : Fin cfg0.N) (j : S8x1024.Idx) : EReal := ∑ b : Fin 64, (args m c).dxK (at' t (row (j 0) b)) (j 1)
def gT (c : Dev nD) (t : Fin cfg0.N) (j : S8x1024.Idx) : EReal :=
  ∑ b : Fin 64, (args m c).dlnK (at' t (row (j 0) b)) (j 1) * Sgu.hat ((args m c).cv (at' t (row (j 0) b))) (j 1)
def lT (c : Dev nD) (t : Fin cfg0.N) (j : S8x1024.Idx) : EReal := ∑ b : Fin 64, (args m c).dlnK (at' t (row (j 0) b)) (j 1)

theorem add_w (c : Dev nD) (t : Fin cfg0.N) (d : Accs Ideal) (j : S32x8x128.Idx) :
    (d.next (blocks m c t) (grid0.coords t)).w j = d.w j + wT m c t j := by
  obtain ⟨k, a, b, rfl⟩ : ∃ (k : Fin 32) (a : Fin 8) (b : Fin 128), j = ix3 k a b := ⟨j 0, j 1, j 2, by blk_ext⟩
  exact next_w m c t d k a b

theorem add_b (c : Dev nD) (t : Fin cfg0.N) (d : Accs Ideal) (j : S8x1024.Idx) :
    (d.next (blocks m c t) (grid0.coords t)).b j = d.b j + bT m c t j := by
  obtain ⟨a, e, rfl⟩ : ∃ (a : Fin 8) (e : Fin 1024), j = ix2 a e := ⟨j 0, j 1, by blk_ext⟩
  exact next_b m c t d a e

theorem add_g (c : Dev nD) (t : Fin cfg0.N) (d : Accs Ideal) (j : S8x1024.Idx) :
    (d.next (blocks m c t) (grid0.coords t)).g j = d.g j + gT m c t j := by
  obtain ⟨a, e, rfl⟩ : ∃ (a : Fin 8) (e : Fin 1024), j = ix2 a e := ⟨j 0, j 1, by blk_ext⟩
  exact next_g m c t d a e

theorem add_l (c : Dev nD) (t : Fin cfg0.N) (d : Accs Ideal) (j : S8x1024.Idx) :
    (d.next (blocks m c t) (grid0.coords t)).l j = d.l j + lT m c t j := by
  obtain ⟨a, e, rfl⟩ : ∃ (a : Fin 8) (e : Fin 1024), j = ix2 a e := ⟨j 0, j 1, by blk_ext⟩
  exact next_l m c t d a e

/-- The sums after the run. -/
def wAcc (c : Dev nD) : FVec Ideal S32x8x128 .f32 := fun j => ∑ t : Fin 16, wT m c (t.cast N_0.symm) j
def bAcc (c : Dev nD) : FVec Ideal S8x1024 .f32 := fun j => ∑ t : Fin 16, bT m c (t.cast N_0.symm) j
def gAcc (c : Dev nD) : FVec Ideal S8x1024 .f32 := fun j => ∑ t : Fin 16, gT m c (t.cast N_0.symm) j
def lAcc (c : Dev nD) : FVec Ideal S8x1024 .f32 := fun j => ∑ t : Fin 16, lT m c (t.cast N_0.symm) j

theorem start (t : Fin cfg0.N) (h : t.val % 16 = 0) : t.val = 0 := by
  have ht : t.val < 16 := Nat.lt_of_lt_of_eq t.isLt N_0
  omega

/-- The projection's gradient where the region writes it. -/
theorem final14 (c : Dev nD) : (dats m 0 c).arrAt 14 (cfgs 0).N
    = fun i : S8192x6144.Idx => if (i 1 : ℕ) / 3072 = 0 then thirds m c (i 0) (i 1).val else (dats m 0 c).A 14 i := by
  refine (dats m 0 c).arrAt_eq_of_coversWhere 14 (fun i : S8192x6144.Idx => thirds m c (i 0) (i 1).val)
    (fun β => β (1 : Fin _) = 0) (by decide +kernel) (fun t _ y => ?_) (fun j => Iff.rfl)
  blk_simp
  rw [after_14]
  obtain ⟨r, k, rfl⟩ : ∃ (r : Fin 512) (k : Fin 3072), y = ix2 r k := ⟨y 0, y 1, by blk_ext⟩
  have h0 : (((cfg0.win 14).blk t).view.emb (ix2 r k)) = ix2 (at' t r) (⟨k.val, by omega⟩ : Fin 6144) := by blk_ext [idx t, at']
  have h1 : win0_14.index t = ![t.val, 0] := (idx t).2.2.2.2.2.2.2.2.2.2.2.2.2.2.1
  refine (dp_apply m c t r k).trans (congrArg₂ (thirds m c) (congrFun h0 0).symm ?_)
  rw [h1]
  exact (Nat.zero_add _).symm

theorem final15 (c : Dev nD) : (dats m 0 c).arrAt 15 (cfgs 0).N = wAcc m c := by
  refine (dats m 0 c).arrAt_eq_of_after_last 15 t0_15 (by decide +kernel) _ fun j => ?_
  blk_simp
  rw [after_15, Pipeline.eq_sum_fin_of_reset_step_apply_last (fun n h => (accs m c n h).w) 16 (fun _ => 0) (wT m c)
    (fun t h j => (congrArg (Accs.w · j) (accs_first m c t (start t h))).trans ((add_w m c t _ j).trans (congrArg (· + wT m c t j) (zero_w j))))
    (fun t h j => (congrArg (Accs.w · j) (accs_next m c t (by omega))).trans (add_w m c t _ j))
    (le_of_eq N_0) t0_15 rfl j, zero_add]
  rfl

theorem final16 (c : Dev nD) : (dats m 0 c).arrAt 16 (cfgs 0).N = bAcc m c := by
  refine (dats m 0 c).arrAt_eq_of_after_last 16 t0_15 (by decide +kernel) _ fun j => ?_
  blk_simp
  rw [after_16, Pipeline.eq_sum_fin_of_reset_step_apply_last (fun n h => (accs m c n h).b) 16 (fun _ => 0) (bT m c)
    (fun t h j => (congrArg (Accs.b · j) (accs_first m c t (start t h))).trans ((add_b m c t _ j).trans (congrArg (· + bT m c t j) (zero_b j))))
    (fun t h j => (congrArg (Accs.b · j) (accs_next m c t (by omega))).trans (add_b m c t _ j))
    (le_of_eq N_0) t0_15 rfl j, zero_add]
  rfl

theorem final17 (c : Dev nD) : (dats m 0 c).arrAt 17 (cfgs 0).N = gAcc m c := by
  refine (dats m 0 c).arrAt_eq_of_after_last 17 t0_15 (by decide +kernel) _ fun j => ?_
  blk_simp
  rw [after_17, Pipeline.eq_sum_fin_of_reset_step_apply_last (fun n h => (accs m c n h).g) 16 (fun _ => 0) (gT m c)
    (fun t h j => (congrArg (Accs.g · j) (accs_first m c t (start t h))).trans ((add_g m c t _ j).trans (congrArg (· + gT m c t j) (zero_g j))))
    (fun t h j => (congrArg (Accs.g · j) (accs_next m c t (by omega))).trans (add_g m c t _ j))
    (le_of_eq N_0) t0_15 rfl j, zero_add]
  rfl

theorem final18 (c : Dev nD) : (dats m 0 c).arrAt 18 (cfgs 0).N = lAcc m c := by
  refine (dats m 0 c).arrAt_eq_of_after_last 18 t0_15 (by decide +kernel) _ fun j => ?_
  blk_simp
  rw [after_18, Pipeline.eq_sum_fin_of_reset_step_apply_last (fun n h => (accs m c n h).l) 16 (fun _ => 0) (lT m c)
    (fun t h j => (congrArg (Accs.l · j) (accs_first m c t (start t h))).trans ((add_l m c t _ j).trans (congrArg (· + lT m c t j) (zero_l j))))
    (fun t h j => (congrArg (Accs.l · j) (accs_next m c t (by omega))).trans (add_l m c t _ j))
    (le_of_eq N_0) t0_15 rfl j, zero_add]
  rfl

theorem rows_sum (f : Fin 8192 → EReal) :
    ∑ a : Fin 8, ∑ t : Fin 16, ∑ b : Fin 64, f (at' (t.cast N_0.symm) (row a b)) = ∑ s : Fin 8192, f s := by
  rw [Finset.sum_comm, ← Fin.sum_mul_add_fin 16 512 f]
  refine Finset.sum_congr rfl fun t _ => ?_
  rw [Finset.sum_comm, ← Fin.sum_mul_add_fin 64 8 (fun k : Fin 512 => _)]
  rfl

theorem w_sum (c : Dev nD) (k : Fin 31) (e : Fin 1024) :
    wAcc m c (ix3 (⟨k.val, by omega⟩ : Fin 32) (⟨e.val / 128, by omega⟩ : Fin 8) (⟨e.val % 128, Nat.mod_lt _ (by decide)⟩ : Fin 128)) = (args m c).dwK k e := by
  have hc : Sgu.col ⟨e.val / 128, by omega⟩ ⟨e.val % 128, Nat.mod_lt _ (by decide)⟩ = e := Fin.ext (by simp only [Sgu.col]; omega)
  refine Eq.trans (Finset.sum_congr rfl fun t _ => ?_) (Fin.sum_mul_add_fin 16 512 fun s : Fin 8192 =>
    (args m c).hK s e * Cert.Conv.pad (args m c).dxK (s.val + 31 - k.val) e)
  refine (if_pos k.isLt).trans ?_
  exact Finset.sum_congr rfl fun r _ => congrArg₂ (· * ·) (congrArg ((args m c).hK _) hc) (congrArg (Cert.Conv.pad _ _) hc)

/-- The host's results after the region. -/
theorem tail97 (c : Dev nD) : Pipeline.afterTail₀ cfgs (dats m) 0 (V0 m) [hostOps1] c main_v97
    = (fun i : S8192x3072.Idx => thirds m c (i 0) (i 1).val) := by
  have hw := ((dats m 0 c).withArrays_arrAt sharedIn0 (V0 m c) (A_eq m c) 14).trans (final14 m c)
  generalize V0 m = X at hw ⊢
  generalize dats m = D at hw ⊢
  simp only [Pipeline.afterTail₀, hostOps1, List.flatten_cons, List.flatten_nil, List.append_nil]
  after_results
  rw [show Pipeline.withArrays (cfgs 0).spec c (X c) (fun w => (D 0 c).arrAt w (cfgs 0).N) (Proc.devRef .tc main_v96_0) = _ from hw]
  funext i
  pointwise
  exact if_pos (Nat.div_eq_of_lt (i 1).isLt)

theorem tail100 (c : Dev nD) : Pipeline.afterTail₀ cfgs (dats m) 0 (V0 m) [hostOps1] c main_v100
    = (fun i : S1x31x1024.Idx => (args m c).dwK (i 1) (i 2)) := by
  have hw := ((dats m 0 c).withArrays_arrAt sharedIn0 (V0 m c) (A_eq m c) 15).trans (final15 m c)
  generalize V0 m = X at hw ⊢
  generalize dats m = D at hw ⊢
  simp only [Pipeline.afterTail₀, hostOps1, List.flatten_cons, List.flatten_nil, List.append_nil]
  after_results
  rw [show Pipeline.withArrays (cfgs 0).spec c (X c) (fun w => (D 0 c).arrAt w (cfgs 0).N) (Proc.devRef .tc main_v96_1) = _ from hw]
  funext i
  pointwise
  exact w_sum m c _ _

theorem tail102 (c : Dev nD) : Pipeline.afterTail₀ cfgs (dats m) 0 (V0 m) [hostOps1] c main_v102
    = (fun i : S1x1024.Idx => ∑ s : Fin 8192, (args m c).dxK s (i 1)) := by
  have hw := ((dats m 0 c).withArrays_arrAt sharedIn0 (V0 m c) (A_eq m c) 16).trans (final16 m c)
  generalize V0 m = X at hw ⊢
  generalize dats m = D at hw ⊢
  simp only [Pipeline.afterTail₀, hostOps1, List.flatten_cons, List.flatten_nil, List.append_nil]
  after_results
  rw [show Pipeline.withArrays (cfgs 0).spec c (X c) (fun w => (D 0 c).arrAt w (cfgs 0).N) (Proc.devRef .tc main_v96_2) = _ from hw]
  funext i
  pointwise
  exact rows_sum fun s => (args m c).dxK s (i 1)

theorem tail104 (c : Dev nD) : Pipeline.afterTail₀ cfgs (dats m) 0 (V0 m) [hostOps1] c main_v104
    = (fun i : S1x1024.Idx => ∑ s : Fin 8192, (args m c).dlnK s (i 1) * Sgu.hat ((args m c).cv s) (i 1)) := by
  have hw := ((dats m 0 c).withArrays_arrAt sharedIn0 (V0 m c) (A_eq m c) 17).trans (final17 m c)
  generalize V0 m = X at hw ⊢
  generalize dats m = D at hw ⊢
  simp only [Pipeline.afterTail₀, hostOps1, List.flatten_cons, List.flatten_nil, List.append_nil]
  after_results
  rw [show Pipeline.withArrays (cfgs 0).spec c (X c) (fun w => (D 0 c).arrAt w (cfgs 0).N) (Proc.devRef .tc main_v96_3) = _ from hw]
  funext i
  pointwise
  exact rows_sum fun s => (args m c).dlnK s (i 1) * Sgu.hat ((args m c).cv s) (i 1)

theorem tail106 (c : Dev nD) : Pipeline.afterTail₀ cfgs (dats m) 0 (V0 m) [hostOps1] c main_v106
    = (fun i : S1x1024.Idx => ∑ s : Fin 8192, (args m c).dlnK s (i 1)) := by
  have hw := ((dats m 0 c).withArrays_arrAt sharedIn0 (V0 m c) (A_eq m c) 18).trans (final18 m c)
  generalize V0 m = X at hw ⊢
  generalize dats m = D at hw ⊢
  simp only [Pipeline.afterTail₀, hostOps1, List.flatten_cons, List.flatten_nil, List.append_nil]
  after_results
  rw [show Pipeline.withArrays (cfgs 0).spec c (X c) (fun w => (D 0 c).arrAt w (cfgs 0).N) (Proc.devRef .tc main_v96_4) = _ from hw]
  funext i
  pointwise
  exact rows_sum fun s => (args m c).dlnK s (i 1)

/-- The convolution's backward call's run: its five results and its arguments. -/
theorem run (ρ : Dev nD → PrngReg) : θ_run defs (onTc (τ := τ) (main (F := Ideal))) ⟨m, fun _ => 0, ρ⟩ fun r => ∀ c : Dev nD,
    r.2.mem ((c.tc : Thread nD τ).loc main_v97) = (fun i : S8192x3072.Idx => thirds m c (i 0) (i 1).val)
      ∧ r.2.mem ((c.tc : Thread nD τ).loc main_v100) = (fun i : S1x31x1024.Idx => (args m c).dwK (i 1) (i 2))
      ∧ r.2.mem ((c.tc : Thread nD τ).loc main_v102) = (fun i : S1x1024.Idx => ∑ s : Fin 8192, (args m c).dxK s (i 1))
      ∧ r.2.mem ((c.tc : Thread nD τ).loc main_v104)
        = (fun i : S1x1024.Idx => ∑ s : Fin 8192, (args m c).dlnK s (i 1) * Sgu.hat ((args m c).cv s) (i 1))
      ∧ r.2.mem ((c.tc : Thread nD τ).loc main_v106) = (fun i : S1x1024.Idx => ∑ s : Fin 8192, (args m c).dlnK s (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).2 main_v97 (by decide)).trans (tail97 m c), ((h.1 c).2 main_v100 (by decide)).trans (tail100 m c),
      ((h.1 c).2 main_v102 (by decide)).trans (tail102 m c), ((h.1 c).2 main_v104 (by decide)).trans (tail104 m c),
      ((h.1 c).2 main_v106 (by decide)).trans (tail106 m c), h.2 c⟩)
    (θ_run_and (run_main m ρ) (unchanged m ρ))

end Cert.ConvBwdIdeal.Value

end
-- ==== Proof.ConvRefFrame.lean ====
module

public import proofs.«01_k».proof.Defs
public import proofs.«01_k».proof.Proof.Gen.ConvRefIdeal.Run
public import Idealize.ShloMosaic.Lib.Claim

@[expose] public section

noncomputable section

namespace Conv

open Idealize.ShloMosaic Idealize.SL.Sem

/-- The reference's frame. -/
theorem frame_ref : Cert.quiescent_ConvRefIdeal (hConvRefIdeal := Cert.ConvRefIdeal.Gen.facts) := fun m g _ =>
  (θ_run Cert.ConvRefIdeal.defs _ _).mono (fun _ h => ⟨fun c => (h c).2.2.2.2.2, sem_eq_zero_of_no_sems (by decide) _⟩)
    (Cert.ConvRefIdeal.Value.run m g)

end Conv
-- ==== Proof.ConvPair.lean ====
module

public import proofs.«01_k».proof.Defs
public import proofs.«01_k».proof.Proof.ConvValue
public import proofs.«01_k».proof.Proof.ConvRefFrame

/-! The convolution's backward call against the derivative of the gated convolution. -/

@[expose] public section

set_option maxRecDepth 16384

noncomputable section

open Idealize.ShloMosaic Idealize.ShloMosaic.TcCoe Idealize.SL.Sem

namespace Cert.Proof.Conv

open Cert.ConvBwdIdeal (nD τ sig S8192x3072 S1x31x1024 S1x1024)
open Cert.ConvBwdIdeal.Value

/-- The finiteness precondition's side conditions. -/
instance preFacts : Cert.Pre_finite_conv.Facts where
  bcast_S_S8192x6144 := by decide
  reducesTo_S8192x6144_S_d0_1 := by decide
  h_S_ := by decide
  bcast_S_S8192x2048 := by decide
  reducesTo_S8192x2048_S_d0_1 := by decide
  bcast_S_S1x31x1024 := by decide
  reducesTo_S1x31x1024_S_d0_1_2 := by decide
  bcast_S_S1x1024 := by decide
  reducesTo_S1x1024_S_d0_1 := by decide

/-- The precondition makes the arguments real. -/
theorem real_of_pre (A : Cert.Conv.Args) (h : Cert.Pre_finite_conv.fn (F := Ideal) A.P A.Y A.W A.B A.G A.L = fun _ => 1#1) : A.Real := by
  have h0 := congrFun h ((fun a => nomatch a) : Cert.Pre_finite_conv.S_.Idx)
  have : Subsingleton Cert.Pre_finite_conv.S_.Idx := ⟨fun a b => funext fun i => nomatch i⟩
  obtain ⟨h1, hL⟩ := IntOp.andi_eq_one.1 h0
  obtain ⟨h2, hG⟩ := IntOp.andi_eq_one.1 h1
  obtain ⟨h3, hB⟩ := IntOp.andi_eq_one.1 h2
  obtain ⟨h4, hW⟩ := IntOp.andi_eq_one.1 h3
  obtain ⟨h5, hY⟩ := IntOp.andi_eq_one.1 h4
  obtain ⟨h6, hP⟩ := IntOp.andi_eq_one.1 h5
  exact ⟨Reals.isReal_of_all _ _ _ _ _ _ hP, Reals.isReal_of_all _ _ _ _ _ _ hY, Reals.isReal_of_all _ _ _ _ _ _ hW,
    Reals.isReal_of_all _ _ _ _ _ _ hB, Reals.isReal_of_all _ _ _ _ _ _ hG, Reals.isReal_of_all _ _ _ _ _ _ hL⟩

variable (m : (ℓ : Loc nD τ sig) → Buf (Elt Ideal) ℓ) (c : Dev nD)

/-- The kernel's gradient of the projection is the reference's, on real arguments. -/
theorem thirds_eq (hA : (args m c).Real) (s : Fin 8192) (k : Fin 3072) : Cert.ConvRefIdeal.Read.val_main_v296 (F := Ideal) (args m c).P (args m c).Y
    (args m c).W (args m c).B (args m c).G (args m c).L (ix2 s k) = thirds m c s k.val := by
  have hk := k.isLt
  rw [thirds]
  by_cases h : k.val < 1024
  · rw [dif_pos h, Cert.Conv.Args.da_eq hA]
    exact Cert.ConvRefIdeal.Entry.da_apply (args m c) s ⟨k.val, h⟩
  · rw [dif_neg h]
    by_cases h' : k.val < 2048
    · rw [dif_pos h', Cert.Conv.Args.dag_eq hA]
      refine (congrArg _ (congrArg (ix2 s) (Fin.ext ?_))).trans (Cert.ConvRefIdeal.Entry.dag_apply (args m c) s ⟨k.val - 1024, by omega⟩)
      simp only
      omega
    · rw [dif_neg h', dif_pos hk, Cert.Conv.Args.dgc_eq hA]
      refine (congrArg _ (congrArg (ix2 s) (Fin.ext ?_))).trans (Cert.ConvRefIdeal.Entry.dgate_apply (args m c) s ⟨k.val - 2048, by omega⟩)
      simp only
      omega

/-- A function of six arguments on equal arguments. -/
theorem congr6 {T₀ T₁ T₂ T₃ T₄ T₅ R : Type} (f : T₀ → T₁ → T₂ → T₃ → T₄ → T₅ → R) {x₀ y₀ : T₀} {x₁ y₁ : T₁} {x₂ y₂ : T₂} {x₃ y₃ : T₃} {x₄ y₄ : T₄}
    {x₅ y₅ : T₅} (h₀ : x₀ = y₀) (h₁ : x₁ = y₁) (h₂ : x₂ = y₂) (h₃ : x₃ = y₃) (h₄ : x₄ = y₄) (h₅ : x₅ = y₅) :
    f x₀ x₁ x₂ x₃ x₄ x₅ = f y₀ y₁ y₂ y₃ y₄ y₅ := by
  rw [h₀, h₁, h₂, h₃, h₄, h₅]

/-- The results of the convolution's backward call are those of its reference. -/
theorem algebraic : Cert.algebraic_ConvBwdIdeal_ConvRefIdeal_pre_finite_conv := by
  intro m g m' g' hpre hagree
  refine ⟨_, _, _, _, _, run m g, (θ_run Cert.ConvRefIdeal.defs _ _).mono (fun r h c => ?_) (Cert.ConvRefIdeal.Value.run m' g')⟩
  obtain ⟨h0, h1, h2, h3, h4, hargs⟩ := h c
  have hA : (args m c).Real := real_of_pre _ (hpre c)
  obtain ⟨a0, a1, a2, a3, a4, a5⟩ := hagree c
  refine ⟨h0.trans ?_, h1.trans ?_, h2.trans ?_, h3.trans ?_, h4.trans ?_, hargs⟩
  · refine (Cert.ConvRefIdeal.Read.val_main_v296_eq (F := Ideal) _).trans ((congr6 (Cert.ConvRefIdeal.Read.val_main_v296 (F := Ideal)) a0 a1 a2 a3 a4 a5).trans ?_)
    funext i
    obtain ⟨s, k, rfl⟩ : ∃ (s : Fin 8192) (k : Fin 3072), i = ix2 s k := ⟨i 0, i 1, by blk_ext⟩
    exact thirds_eq m c hA s k
  · refine (Cert.ConvRefIdeal.Read.val_main_v291_eq (F := Ideal) _).trans ((congr6 (Cert.ConvRefIdeal.Read.val_main_v291 (F := Ideal)) a0 a1 a2 a3 a4 a5).trans ?_)
    funext i
    obtain ⟨z, k, e, rfl⟩ : ∃ (z : Fin 1) (k : Fin 31) (e : Fin 1024), i = ix3 z k e := ⟨i 0, i 1, i 2, by blk_ext⟩
    exact (Cert.ConvRefIdeal.Entry.dw_apply (args m c) z k e).trans (Cert.Conv.Args.dw_eq hA k e).symm
  · refine (Cert.ConvRefIdeal.Read.val_main_v290_eq (F := Ideal) _).trans ((congr6 (Cert.ConvRefIdeal.Read.val_main_v290 (F := Ideal)) a0 a1 a2 a3 a4 a5).trans ?_)
    funext i
    obtain ⟨z, e, rfl⟩ : ∃ (z : Fin 1) (e : Fin 1024), i = ix2 z e := ⟨i 0, i 1, by blk_ext⟩
    refine (Cert.ConvRefIdeal.Entry.dcb_apply (args m c) z e).trans ?_
    exact (Finset.sum_congr rfl fun s _ => congrFun (congrFun (Cert.Conv.Args.dx_eq hA) s) e).symm
  · refine (Cert.ConvRefIdeal.Read.val_main_v129_eq (F := Ideal) _).trans ((congr6 (Cert.ConvRefIdeal.Read.val_main_v129 (F := Ideal)) a0 a1 a2 a3 a4 a5).trans ?_)
    funext i
    obtain ⟨z, e, rfl⟩ : ∃ (z : Fin 1) (e : Fin 1024), i = ix2 z e := ⟨i 0, i 1, by blk_ext⟩
    refine (Cert.ConvRefIdeal.Entry.dlg_apply (args m c) z e).trans ?_
    rw [← Cert.Conv.Args.dln_eq hA]
    exact Finset.sum_congr rfl fun s _ => mul_comm (Sgu.hat ((args m c).cv s) e) ((args m c).dlnK s e)
  · refine (Cert.ConvRefIdeal.Read.val_main_v126_eq (F := Ideal) _).trans ((congr6 (Cert.ConvRefIdeal.Read.val_main_v126 (F := Ideal)) a0 a1 a2 a3 a4 a5).trans ?_)
    funext i
    obtain ⟨z, e, rfl⟩ : ∃ (z : Fin 1) (e : Fin 1024), i = ix2 z e := ⟨i 0, i 1, by blk_ext⟩
    refine (Cert.ConvRefIdeal.Entry.dlb_apply (args m c) z e).trans ?_
    exact (Finset.sum_congr rfl fun s _ => congrFun (congrFun (Cert.Conv.Args.dln_eq hA) s) e).symm

end Cert.Proof.Conv

end
-- ==== Proof.FwdMath.lean ====
module

public import proofs.«01_k».proof.Proof.ConvMath

/-! The convolution branch's forward pass as the kernel computes it: the same function at every argument, finite or not. -/

@[expose] public section

noncomputable section

open Idealize.ShloMosaic

namespace Cert.Sgu

open Cert.Reals

/-- The two forms of the logistic function agree at the infinities too. -/
theorem sgm_eq_sgr (z : EReal) : sgm z = sgr z := by
  induction z using EReal.rec with
  | coe r => rw [sgm_real, sgr_real]
  | top =>
    have h : ((1 / 2 : ℝ) : EReal) * ⊤ = ⊤ := EReal.coe_mul_top_of_pos (by norm_num)
    rw [sgm, sgr, word_half, word_one, h, Ideal.tanh_top, EReal.neg_top, Ideal.exp_bot, add_zero, mul_one, ← EReal.coe_add, div_real _ _ one_ne_zero]
    norm_num
  | bot =>
    have h : ((1 / 2 : ℝ) : EReal) * ⊥ = ⊥ := EReal.coe_mul_bot_of_pos (by norm_num)
    rw [sgm, sgr, word_half, word_one, h, Ideal.tanh_bot, EReal.neg_bot, Ideal.exp_top, EReal.coe_add_top, Ideal.div, if_neg EReal.top_ne_zero,
      EReal.inv_top, mul_zero, ← EReal.coe_one, ← EReal.coe_neg, ← EReal.coe_mul, ← EReal.coe_add]
    norm_num

end Cert.Sgu

namespace Cert.Conv.Args

open Cert.Sgu

variable (A : Args)

/-- The convolved rows as the kernel computes them. -/
def cvK : Arr := fun s e => (∑ k : Fin 31, A.w k e * pad A.hK (s.val + k.val + 1) e) + A.b e

/-- The normalised rows as the kernel scales and shifts them. -/
def lnK : Arr := fun s e => hat (A.cvK s) e * A.g e + A.l e

/-- The branch's output as the kernel computes it, and in the reference's form. -/
def outK : Arr := fun s e => A.lnK s e * sgm (A.lnK s e) * (A.gc s e * sgm (A.gc s e))
def outR : Arr := fun s e => A.ln s e * sgr (A.ln s e) * (A.gc s e * sgr (A.gc s e))

theorem hK_eq_h : A.hK = A.h := by
  funext s e
  rw [hK, h, sgm_eq_sgr]

theorem cvK_eq : A.cvK = A.cv := by
  funext s e
  simp only [cvK, cv, hK_eq_h, mul_comm (A.w _ e)]

theorem outK_eq : A.outK = A.outR := by
  funext s e
  simp only [outK, outR, lnK, ln, cvK_eq, sgm_eq_sgr]

end Cert.Conv.Args

end
-- ==== Proof.FwdTrip.lean ====
module

public import proofs.«01_k».proof.Proof.Gen.ConvFwdIdeal.Frame
public import Idealize.ShloMosaic.Lib.Pipeline.ValueKit

/-! The forward convolution's loop: thirty-two rows a trip, each the sum over the taps. -/

@[expose] public section

set_option maxRecDepth 8192
set_option maxHeartbeats 4000000

noncomputable section

namespace Cert.ConvFwdIdeal.Conv

open Idealize.ShloMosaic Idealize.ShloMosaic.TcCoe Idealize.ShloMosaic.Tactic
open Idealize.SL.Sem Cert.ConvFwdIdeal.Gen

variable {F : FTy → Type} [FloatOps F]

/-- Where tap `q` of output row `32 k + j` reads the extended input. -/
abbrev srcAt (k : Fin k0_t1_loop.trips) (j : Fin 32) (q : Fin 31) : Rect S544x8x128 :=
  Rect.unit (s := S544x8x128) (k0_off1 k (BitVec.ofNat 32 j.val) (BitVec.ofNat 32 q.val)) ![1, 8, 128] (k0_off1_inb k j q)

/-- Where output row `32 k + j` is written. -/
abbrev dstAt (k : Fin k0_t1_loop.trips) (j : Fin 32) : Rect S512x8x128 :=
  Rect.unit (s := S512x8x128) (k0_off2 k (BitVec.ofNat 32 j.val)) ![1, 8, 128] (k0_off2_inb k j)

/-- A tap lies within the filter's tiles. -/
theorem tap_inb (q : Fin 31) : ∀ a, ![q.val, 0, 0] a + S1x8x128.size a ≤ S32x8x128.size a := by
  have := q.isLt
  intro a
  fin_cases a <;> simp [S1x8x128, S32x8x128] <;> omega

/-- The product of tap `q` with the row that it reads for output row `32 k + j`. -/
def prod (w : Vec F S32x8x128 .f32) (e : Vec F S544x8x128 .f32) (k : Fin k0_t1_loop.trips) (j : Fin 32) (q : Fin 31) : FVec F S8x128 .f32 :=
  mulf (shapeCast S8x128 (View.ld w (Rect.unit (s := S32x8x128) ![q.val, 0, 0] ![1, 8, 128] (tap_inb q))) shapeCasts_S1x8x128_S8x128)
    (shapeCast S8x128 (View.ld e (srcAt k j q)) shapeCasts_S1x8x128_S8x128)

/-- The sum over the taps `0 … n` for output row `32 k + j`, in the order in which the loop adds them. -/
def taps (w : Vec F S32x8x128 .f32) (e : Vec F S544x8x128 .f32) (k : Fin k0_t1_loop.trips) (j : Fin 32) : (n : ℕ) → n < 31 → FVec F S8x128 .f32
  | 0, h => prod w e k j ⟨0, h⟩
  | n + 1, h => addf (taps w e k j n (Nat.lt_of_succ_lt h)) (prod w e k j ⟨n + 1, h⟩)

/-- The rows that one trip writes. -/
def outPieces (w : Vec F S32x8x128 .f32) (e : Vec F S544x8x128 .f32) (k : Fin k0_t1_loop.trips) : List (View.Piece (Elt F) S512x8x128 .f32) :=
  (List.finRange 32).reverse.map fun j => ⟨dstAt k j, shapeCast S1x8x128 (taps w e k j 30 (by decide)) shapeCasts_S8x128_S1x8x128⟩

/-- One trip writes these rows. -/
theorem trip_out (𝒱 : Variants) (c : Dev nD) (bd : Option 𝒱.V) (i : grid0.Coords) (arg1 : Memref sig .tc .vmem S16x1024 .bf16) (harg1 : arg1.IsWhole) (arg2 : Memref sig .tc .vmem S512x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S512x1024 .bf16) (harg7 : arg7.IsWhole) (arg8 : Memref sig .tc .vmem S32x8x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S544x8x128 .f32) (harg14 : arg14.IsWhole) (arg15 : Memref sig .tc .vmem S512x8x128 .f32) (harg15 : arg15.IsWhole) (arg0 : BitVec 32) (v35 : FVec F S512x8x128 .f32) (X_arg8 : BufTy.Contents (Elt F) arg8.view.ty) (X_arg14 : BufTy.Contents (Elt F) arg14.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v35 X_arg8 X_arg14 k = outPieces (arg8.view.read (Elt F) X_arg8) (arg14.view.read (Elt F) X_arg14) k := by
  dsimp only [tripL_k0_t1]
  unfold trip_k0_t1
  sl_kernel_rfl

end Cert.ConvFwdIdeal.Conv

end
-- ==== Proof.FwdLoop.lean ====
module

public import proofs.«01_k».proof.Proof.FwdTrip
public import Idealize.ShloMosaic.Lib.WritesUnit

/-! The forward convolution's loop, all trips: every output row is the sum over the taps. -/

@[expose] public section

set_option maxRecDepth 8192
set_option maxHeartbeats 1000000

noncomputable section

namespace Cert.ConvFwdIdeal.Conv

open Idealize.ShloMosaic Idealize.ShloMosaic.TcCoe Idealize.ShloMosaic.Tactic
open Idealize.SL.Sem Cert.ConvFwdIdeal.Gen

variable {F : FTy → Type} [FloatOps F]

/-- The loop makes 16 trips. -/
theorem trips_eq : k0_t1_loop.trips = 16 := by decide

/-- A tile seen as a block of one row. -/
theorem lift_apply (v : FVec F S8x128 .f32) (x : S1x8x128.Idx) :
    shapeCast S1x8x128 v shapeCasts_S8x128_S1x8x128 x = v (ix2 (x 1 : Fin 8) (x 2 : Fin 128)) := by
  obtain ⟨z, a, b, rfl⟩ : ∃ (z : Fin 1) (a : Fin 8) (b : Fin 128), x = ix3 z a b := ⟨x 0, x 1, x 2, eq_ix3 x⟩
  pointwise

/-- Every row's sum over the taps. -/
def conv (w : Vec F S32x8x128 .f32) (e : Vec F S544x8x128 .f32) : Vec F S512x8x128 .f32 := fun y =>
  taps w e ⟨(y 0).val / 32, by rw [trips_eq]; have : (y 0).val < 512 := (y 0).isLt; omega⟩
    ⟨(y 0).val % 32, Nat.mod_lt _ (by decide)⟩ 30 (by decide) (ix2 (y 1 : Fin 8) (y 2 : Fin 128))

/-- One trip writes its own rows and no others. -/
theorem read_outPieces (w : Vec F S32x8x128 .f32) (e : Vec F S544x8x128 .f32) (k : Fin k0_t1_loop.trips)
    (v : View sig .tc .vmem S512x8x128 .f32) (f : BufTy.Contents (Elt F) v.ty) (y : S512x8x128.Idx) :
    v.read (Elt F) (v.writes (Elt F) f (outPieces w e k)) y = if (y 0).val / 32 = k.val then conv w e y else v.read (Elt F) f y := by
  have hmem : ∀ j : Fin 32, (y ∈ (dstAt k j).set) ↔ (y 0).val = 32 * k.val + j.val := by
    intro j
    rw [Rect.mem_set_unit]
    simp only [k0_off2_eq k j]
    constructor
    · intro h; have := h 0; simp at this; omega
    · intro h a
      fin_cases a
      · simp; omega
      · have : (y 1).val < 8 := (y 1).isLt
        simpa using this
      · have : (y 2).val < 128 := (y 2).isLt
        simpa using this
  by_cases h : (y 0).val / 32 = k.val
  · rw [if_pos h]
    refine View.read_writes_apply_of_pieces _ _ (conv w e) _ ?_ y ?_
    · intro p hp x
      obtain ⟨j, -, rfl⟩ := List.mem_map.mp hp
      refine (lift_apply (F := F) (taps w e k j 30 (by decide)) x).trans ?_
      have hx : (x 0).val = 0 := by have : (x 0).val < 1 := (x 0).isLt; omega
      have o := k0_off2_eq k j
      have e0 : (((dstAt k j).emb x) 0).val = 32 * k.val + j.val := by
        have o : k0_off2 k (BitVec.ofNat 32 j.val) 0 = 32 * k.val + j.val := by rw [o]; rfl
        show k0_off2 k (BitVec.ofNat 32 j.val) 0 + 1 * (x 0).val = _
        omega
      have e1 : ((dstAt k j).emb x) 1 = x 1 :=
        Fin.ext (by
          have o : k0_off2 k (BitVec.ofNat 32 j.val) 1 = 0 := by rw [o]; rfl
          show k0_off2 k (BitVec.ofNat 32 j.val) 1 + 1 * (x 1).val = (x 1).val
          omega)
      have e2 : ((dstAt k j).emb x) 2 = x 2 :=
        Fin.ext (by
          have o : k0_off2 k (BitVec.ofNat 32 j.val) 2 = 0 := by rw [o]; rfl
          show k0_off2 k (BitVec.ofNat 32 j.val) 2 + 1 * (x 2).val = (x 2).val
          omega)
      have hj := j.isLt
      have hk : (⟨(32 * k.val + j.val) / 32, by have := k.isLt; omega⟩ : Fin k0_t1_loop.trips) = k := Fin.ext (by show (32 * k.val + j.val) / 32 = k.val; omega)
      have hj' : (⟨(32 * k.val + j.val) % 32, Nat.mod_lt _ (by decide)⟩ : Fin 32) = j := Fin.ext (by show (32 * k.val + j.val) % 32 = j.val; omega)
      unfold conv
      simp only [e0, e1, e2, hk, hj']
    · exact ⟨_, List.mem_map.mpr ⟨⟨(y 0).val % 32, Nat.mod_lt _ (by decide)⟩, by simp, rfl⟩, (hmem _).mpr (by show _ = 32 * k.val + (y 0).val % 32; omega)⟩
  · rw [if_neg h, View.read_writes_apply_of_forall_not_mem]
    intro p hp
    obtain ⟨j, -, rfl⟩ := List.mem_map.mp hp
    rw [hmem]
    have := j.isLt
    omega

/-- What the first `n` trips leave in a row that one of them writes. -/
theorem loop_out (𝒱 : Variants) (c : Dev nD) (bd : Option 𝒱.V) (i : grid0.Coords) (arg1 : Memref sig .tc .vmem S16x1024 .bf16) (harg1 : arg1.IsWhole) (arg2 : Memref sig .tc .vmem S512x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S512x1024 .bf16) (harg7 : arg7.IsWhole) (arg8 : Memref sig .tc .vmem S32x8x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S544x8x128 .f32) (harg14 : arg14.IsWhole) (arg15 : Memref sig .tc .vmem S512x8x128 .f32) (harg15 : arg15.IsWhole) (arg0 : BitVec 32) (v35 : FVec F S512x8x128 .f32) (X_arg8 : BufTy.Contents (Elt F) arg8.view.ty) (X_arg14 : BufTy.Contents (Elt F) arg14.view.ty)
    (v : View sig .tc .vmem S512x8x128 .f32) (G : BufTy.Contents (Elt F) v.ty) (y : S512x8x128.Idx) :
    ∀ n ≤ k0_t1_loop.trips, (y 0).val / 32 < n →
      v.read (Elt F) (v.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v35 X_arg8 X_arg14 n)) y
        = conv (arg8.view.read (Elt F) X_arg8) (arg14.view.read (Elt F) X_arg14) y
  | 0, _, hy => absurd hy (Nat.not_lt_zero _)
  | n + 1, h, hy => by
    rw [show n + 1 = (⟨n, h⟩ : Fin k0_t1_loop.trips).val + 1 from rfl, pb_k0_t1_succ, trip_out, View.writes_append, read_outPieces]
    split
    · rfl
    · exact loop_out 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v35 X_arg8 X_arg14 v G y n (by omega) (by simp at *; omega)

end Cert.ConvFwdIdeal.Conv

end
-- ==== Proof.FwdBlock.lean ====
module

public import proofs.«01_k».proof.Proof.FwdLoop
public import proofs.«01_k».proof.Proof.ConvBlock

/-! What a grid point of the forward convolution writes, in terms of the blocks that it reads. -/

@[expose] public section

set_option maxRecDepth 16384

noncomputable section

namespace Cert.ConvFwdIdeal.Conv

open Idealize.ShloMosaic Idealize.ShloMosaic.TcCoe Idealize.ShloMosaic.Tactic
open Idealize.SL.Sem Cert.ConvFwdIdeal.Gen
open Cert.ConvBwdIdeal.Conv (stack read_stack read_whole ldh ldm ldr)

variable {F : FTy → Type} [FloatOps F]

/-- The gated rows of a point and of its neighbours: `a…` the rows gated, `g…` the rows that gate them. -/
def ext (i : grid0.Coords) (ap : Vec F S16x1024 .bf16) (am : Vec F S512x1024 .bf16) (an : Vec F S16x1024 .bf16)
    (gp : Vec F S16x1024 .bf16) (gm : Vec F S512x1024 .bf16) (gn : Vec F S16x1024 .bf16) : Vec F S544x8x128 .f32 :=
  stack (k0_pay1135 i (ldh ap) (ldh gp)) (k0_pay1137 (k0_pay1136 (ldm am) (ldm gm))) (k0_pay1138 (BitVec.ofNat 32 (i 0).val) (ldh an) (ldh gn))

/-- A load of the whole tiles reads each at its own place. -/
theorem tile_idx (y : S512x8x128.Idx) :
    (Rect.unit (s := S512x8x128) ![0, 0, 0] S512x8x128.size inb_S512x8x128_S512x8x128_0_0_0).toLoadRect.idx y = y := by
  funext a
  fin_cases a <;> exact Fin.ext ((Nat.zero_add _).trans (Nat.one_mul _))

/-- All the trips leave the whole convolution. -/
theorem read_loop (𝒱 : Variants) (c : Dev nD) (bd : Option 𝒱.V) (i : grid0.Coords) (arg1 : Memref sig .tc .vmem S16x1024 .bf16) (harg1 : arg1.IsWhole) (arg2 : Memref sig .tc .vmem S512x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S512x1024 .bf16) (harg7 : arg7.IsWhole) (arg8 : Memref sig .tc .vmem S32x8x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S544x8x128 .f32) (harg14 : arg14.IsWhole) (arg15 : Memref sig .tc .vmem S512x8x128 .f32) (harg15 : arg15.IsWhole) (arg0 : BitVec 32) (v35 : FVec F S512x8x128 .f32) (X_arg8 : BufTy.Contents (Elt F) arg8.view.ty) (X_arg14 : BufTy.Contents (Elt F) arg14.view.ty)
    (v : View sig .tc .vmem S512x8x128 .f32) (G : BufTy.Contents (Elt F) v.ty) :
    v.read (Elt F) (v.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v35 X_arg8 X_arg14 k0_t1_loop.trips))
      = conv (arg8.view.read (Elt F) X_arg8) (arg14.view.read (Elt F) X_arg14) := by
  funext y
  refine loop_out 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v35 X_arg8 X_arg14 v G y _ le_rfl ?_
  have : (y 0).val < 512 := (y 0).isLt
  rw [trips_eq]
  omega

section

variable (c : Dev nD) (i : grid0.Coords) (arg1 : Memref sig .tc .vmem S16x1024 .bf16) (harg1 : arg1.IsWhole) (arg2 : Memref sig .tc .vmem S512x1024 .bf16) (harg2 : arg2.IsWhole) (arg3 : Memref sig .tc .vmem S16x1024 .bf16) (harg3 : arg3.IsWhole) (arg4 : Memref sig .tc .vmem S16x1024 .bf16) (harg4 : arg4.IsWhole) (arg5 : Memref sig .tc .vmem S512x1024 .bf16) (harg5 : arg5.IsWhole) (arg6 : Memref sig .tc .vmem S16x1024 .bf16) (harg6 : arg6.IsWhole) (arg7 : Memref sig .tc .vmem S512x1024 .bf16) (harg7 : arg7.IsWhole) (arg8 : Memref sig .tc .vmem S32x8x128 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S544x8x128 .f32) (harg14 : arg14.IsWhole) (arg15 : Memref sig .tc .vmem S512x8x128 .f32) (harg15 : arg15.IsWhole)
    (x0 : Vec F S16x1024 .bf16) (x1 : Vec F S512x1024 .bf16) (x2 : Vec F S16x1024 .bf16) (x3 : Vec F S16x1024 .bf16) (x4 : Vec F S512x1024 .bf16) (x5 : Vec F S16x1024 .bf16) (x6 : Vec F S512x1024 .bf16) (x7 : Vec F S32x8x128 .f32) (x8 : Vec F S1x1024 .f32) (x9 : Vec F S1x1024 .f32) (x10 : Vec F S1x1024 .f32)

set_option maxHeartbeats 4000000 in
/-- The convolved rows that a point writes. -/
theorem out_cv : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10
    = k0_pay1141 (conv x7 (ext i x0 x1 x2 x3 x4 x5)) (ldr x8) := by
  unfold out0_A_12 kernelRun0_A
  dsimp only
  refine (read_whole _ _ _ _ _ _).trans (congrArg₂ k0_pay1141 ?_ ?_)
  · funext y
    refine (congrFun (read_loop _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _) _).trans ?_
    exact congr (congrArg₂ conv (harg8.read_unread x7) ((read_stack _ _ _ _ _).trans
      (congr (congrArg₂ stack
      (congrArg₂ (k0_pay1135 i) (funext fun _ => congrFun (harg1.read_unread x0) _) (funext fun _ => congrFun (harg4.read_unread x3) _))
      (congrArg k0_pay1137 (congrArg₂ k0_pay1136 (funext fun _ => congrFun (harg2.read_unread x1) _) (funext fun _ => congrFun (harg5.read_unread x4) _))))
      (congrArg₂ (k0_pay1138 _) (funext fun _ => congrFun (harg3.read_unread x2) _) (funext fun _ => congrFun (harg6.read_unread x5) _))))) (tile_idx y)
  · exact funext fun _ => congrFun (harg9.read_unread x8) _

set_option maxHeartbeats 4000000 in
/-- The branch's output rows that a point writes. -/
theorem out_y : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10
    = k0_pay1142 (k0_pay1140 (conv x7 (ext i x0 x1 x2 x3 x4 x5)) (ldr x8)) (ldr x9) (ldr x10) (ldm x6) := by
  unfold out0_A_11 kernelRun0_A
  dsimp only
  refine (read_whole _ _ _ _ _ _).trans ?_
  refine congr (congr (congr (congrArg k0_pay1142 (congrArg₂ k0_pay1140 ?_ ?_)) ?_) ?_) ?_
  · funext y
    refine (congrFun (read_loop _ _ _ _ arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _) _).trans ?_
    exact congr (congrArg₂ conv (harg8.read_unread x7) ((read_stack _ _ _ _ _).trans
      (congr (congrArg₂ stack
      (congrArg₂ (k0_pay1135 i) (funext fun _ => congrFun (harg1.read_unread x0) _) (funext fun _ => congrFun (harg4.read_unread x3) _))
      (congrArg k0_pay1137 (congrArg₂ k0_pay1136 (funext fun _ => congrFun (harg2.read_unread x1) _) (funext fun _ => congrFun (harg5.read_unread x4) _))))
      (congrArg₂ (k0_pay1138 _) (funext fun _ => congrFun (harg3.read_unread x2) _) (funext fun _ => congrFun (harg6.read_unread x5) _))))) (tile_idx y)
  · exact funext fun _ => congrFun (harg9.read_unread x8) _
  · exact funext fun _ => congrFun (harg10.read_unread x9) _
  · exact funext fun _ => congrFun (harg11.read_unread x10) _
  · exact funext fun _ => congrFun (harg7.read_unread x6) _

end

end Cert.ConvFwdIdeal.Conv

end
-- ==== Proof.FwdRows.lean ====
module

public import proofs.«01_k».proof.Proof.FwdMath
public import proofs.«01_k».proof.Proof.FwdBlock
public import proofs.«01_k».proof.Proof.ConvTaps

/-! What a grid point of the forward convolution reads, in terms of the call's arguments. -/

@[expose] public section

set_option maxRecDepth 16384

noncomputable section

open Idealize.ShloMosaic Idealize.ShloMosaic.TcCoe Idealize.SL.Sem
open Idealize.ShloMosaic.Pipeline (Dat)

namespace Cert.ConvFwdIdeal.Value

open Cert.ConvFwdIdeal Cert.ConvFwdIdeal.Gen Cert.ConvFwdIdeal.Conv
open Cert.ConvBwdIdeal.Value (taken passed after_start before_end)

variable (m : (ℓ : Loc nD τ sig) → Buf (Elt Ideal) ℓ)

/-- The arguments as the memory holds them; the forward call has no output's gradient. -/
def args (c : Dev nD) : Cert.Conv.Args where
  P := m ((c : Thread nD τ).loc main_arg0)
  Y := fun _ => 0
  W := m ((c : Thread nD τ).loc main_arg1)
  B := m ((c : Thread nD τ).loc main_arg2)
  G := m ((c : Thread nD τ).loc main_arg3)
  L := m ((c : Thread nD τ).loc main_arg4)

theorem proj_eq (c : Dev nD) : (V m c main_v3 : FVec Ideal S8192x6144 .bf16) = (args m c).P := by
  simp only [V, V0, hostOps0, hostOps0_1, hostOps0_2, List.flatten_cons, List.flatten_nil, List.append_nil, List.cons_append, List.nil_append]
  after_results
  rfl

/-- The filter with a row of zeros after it, in tiles. -/
theorem tiles_eq (c : Dev nD) : V m c main_v2
    = shapeCast S32x8x128 (pad S32x1024 ![0, 0] ![1, 0] ![0, 0] (shapeCast S31x1024 (args m c).W shapeCasts_S1x31x1024_S31x1024)
        (sitofp (F := Ideal) .f32 (constantI S_ 32 0#32)) pads_S31x1024_S32x1024_010_000 h_S_) shapeCasts_S32x1024_S32x8x128 := by
  simp only [V, V0, hostOps0, hostOps0_1, hostOps0_2, List.flatten_cons, List.flatten_nil, List.append_nil, List.cons_append, List.nil_append]
  after_results
  sl_kernel_rfl

theorem tiles_apply (c : Dev nD) (k : Fin 31) (a : Fin 8) (b : Fin 128) :
    V m c main_v2 (ix3 (⟨k.val, by omega⟩ : Fin 32) a b) = (args m c).w k (Sgu.col a b) := by
  rw [tiles_eq]
  pointwise [Cert.Conv.Args.w, Sgu.col]
  exact dif_pos (by omega)

theorem idx : ∀ t : Fin cfg0.N, win0_0.index t = ![t.val * 32 - 1, 0] ∧ win0_1.index t = ![t.val, 0] ∧ win0_2.index t = ![min (t.val * 32 + 32) 511, 0]
    ∧ win0_3.index t = ![t.val * 32 - 1, 1] ∧ win0_4.index t = ![t.val, 1] ∧ win0_5.index t = ![min (t.val * 32 + 32) 511, 1]
    ∧ win0_6.index t = ![t.val, 2] ∧ win0_7.index t = ![0, 0, 0] ∧ win0_8.index t = ![0, 0] ∧ win0_9.index t = ![0, 0] ∧ win0_10.index t = ![0, 0]
    ∧ win0_11.index t = ![t.val, 0] ∧ win0_12.index t = ![t.val, 0] :=
  (by decide +kernel : ∀ t : Fin grid0.N, _)

/-- The array's row of a block's row. -/
def at' (t : Fin cfg0.N) (r : Fin 512) : Fin 8192 :=
  ⟨t.val * 512 + r.val, by have := t.isLt; have := r.isLt; have : cfg0.N = 16 := N_0; omega⟩

/-- The array's row of a row of the block before. -/
def atP (t : Fin cfg0.N) (r : Fin 16) : Fin 8192 :=
  ⟨(t.val * 32 - 1) * 16 + r.val, by have := t.isLt; have := r.isLt; have : cfg0.N = 16 := N_0; omega⟩

/-- The array's row of a row of the block after. -/
def atN (t : Fin cfg0.N) (r : Fin 16) : Fin 8192 :=
  ⟨min (t.val * 32 + 32) 511 * 16 + r.val, by have := t.isLt; have := r.isLt; have : cfg0.N = 16 := N_0; omega⟩

section

variable (X : FVec Ideal S8192x6144 .bf16) (t : Fin cfg0.N) (e : Fin 1024)

theorem ap_read (r : Fin 16) : ((cfg0.win 0).blk t).view.read (Elt Ideal) X (ix2 r e) = X (ix2 (atP t r) (⟨e.val, by omega⟩ : Fin 6144)) := by
  blk_ext [idx t, atP]

theorem am_read (r : Fin 512) : ((cfg0.win 1).blk t).view.read (Elt Ideal) X (ix2 r e) = X (ix2 (at' t r) (⟨e.val, by omega⟩ : Fin 6144)) := by
  blk_ext [idx t, at']

theorem an_read (r : Fin 16) : ((cfg0.win 2).blk t).view.read (Elt Ideal) X (ix2 r e) = X (ix2 (atN t r) (⟨e.val, by omega⟩ : Fin 6144)) := by
  blk_ext [idx t, atN]

theorem gp_read (r : Fin 16) : ((cfg0.win 3).blk t).view.read (Elt Ideal) X (ix2 r e) = X (ix2 (atP t r) (⟨1024 + e.val, by omega⟩ : Fin 6144)) := by
  blk_ext [idx t, atP]

theorem gm_read (r : Fin 512) : ((cfg0.win 4).blk t).view.read (Elt Ideal) X (ix2 r e) = X (ix2 (at' t r) (⟨1024 + e.val, by omega⟩ : Fin 6144)) := by
  blk_ext [idx t, at']

theorem gn_read (r : Fin 16) : ((cfg0.win 5).blk t).view.read (Elt Ideal) X (ix2 r e) = X (ix2 (atN t r) (⟨1024 + e.val, by omega⟩ : Fin 6144)) := by
  blk_ext [idx t, atN]

theorem gc_read (r : Fin 512) : ((cfg0.win 6).blk t).view.read (Elt Ideal) X (ix2 r e) = X (ix2 (at' t r) (⟨2048 + e.val, by omega⟩ : Fin 6144)) := by
  blk_ext [idx t, at']

end

theorem w_read (X : FVec Ideal S32x8x128 .f32) (t : Fin cfg0.N) (k : Fin 32) (a : Fin 8) (b : Fin 128) :
    ((cfg0.win 7).blk t).view.read (Elt Ideal) X (ix3 k a b) = X (ix3 k a b) := by
  blk_ext [idx t]

section

variable (X : FVec Ideal S1x1024 .f32) (t : Fin cfg0.N) (e : Fin 1024)

theorem cb_read : ((cfg0.win 8).blk t).view.read (Elt Ideal) X (ix2 0 e) = X (ix2 0 e) := by
  blk_ext [idx t]

theorem lg_read : ((cfg0.win 9).blk t).view.read (Elt Ideal) X (ix2 0 e) = X (ix2 0 e) := by
  blk_ext [idx t]

theorem lb_read : ((cfg0.win 10).blk t).view.read (Elt Ideal) X (ix2 0 e) = X (ix2 0 e) := by
  blk_ext [idx t]

end

variable (c : Dev nD) (t : Fin cfg0.N)

theorem ap_block (r : Fin 16) (e : Fin 1024) : iblk m c 0 t (ix2 r e) = (args m c).a (atP t r) e :=
  (ap_read (V m c main_v3) t e r).trans (congrFun (proj_eq m c) _)

theorem am_block (r : Fin 512) (e : Fin 1024) : iblk m c 1 t (ix2 r e) = (args m c).a (at' t r) e :=
  (am_read (V m c main_v3) t e r).trans (congrFun (proj_eq m c) _)

theorem an_block (r : Fin 16) (e : Fin 1024) : iblk m c 2 t (ix2 r e) = (args m c).a (atN t r) e :=
  (an_read (V m c main_v3) t e r).trans (congrFun (proj_eq m c) _)

theorem gp_block (r : Fin 16) (e : Fin 1024) : iblk m c 3 t (ix2 r e) = (args m c).ag (atP t r) e :=
  (gp_read (V m c main_v3) t e r).trans (congrFun (proj_eq m c) _)

theorem gm_block (r : Fin 512) (e : Fin 1024) : iblk m c 4 t (ix2 r e) = (args m c).ag (at' t r) e :=
  (gm_read (V m c main_v3) t e r).trans (congrFun (proj_eq m c) _)

theorem gn_block (r : Fin 16) (e : Fin 1024) : iblk m c 5 t (ix2 r e) = (args m c).ag (atN t r) e :=
  (gn_read (V m c main_v3) t e r).trans (congrFun (proj_eq m c) _)

theorem gc_block (r : Fin 512) (e : Fin 1024) : iblk m c 6 t (ix2 r e) = (args m c).gc (at' t r) e :=
  (gc_read (V m c main_v3) t e r).trans (congrFun (proj_eq m c) _)

theorem w_block (k : Fin 31) (a : Fin 8) (b : Fin 128) : iblk m c 7 t (ix3 (⟨k.val, by omega⟩ : Fin 32) a b) = (args m c).w k (Sgu.col a b) :=
  (w_read (V m c main_v2) t _ a b).trans (tiles_apply m c k a b)

theorem cb_block (e : Fin 1024) : iblk m c 8 t (ix2 0 e) = (args m c).b e :=
  (cb_read (V m c main_arg2) t e).trans (by
    simp only [V, V0, hostOps0, hostOps0_1, hostOps0_2, List.flatten_cons, List.flatten_nil, List.append_nil, List.cons_append, List.nil_append]
    after_results
    rfl)

theorem lg_block (e : Fin 1024) : iblk m c 9 t (ix2 0 e) = (args m c).g e :=
  (lg_read (V m c main_arg3) t e).trans (by
    simp only [V, V0, hostOps0, hostOps0_1, hostOps0_2, List.flatten_cons, List.flatten_nil, List.append_nil, List.cons_append, List.nil_append]
    after_results
    rfl)

theorem lb_block (e : Fin 1024) : iblk m c 10 t (ix2 0 e) = (args m c).l e :=
  (lb_read (V m c main_arg4) t e).trans (by
    simp only [V, V0, hostOps0, hostOps0_1, hostOps0_2, List.flatten_cons, List.flatten_nil, List.append_nil, List.cons_append, List.nil_append]
    after_results
    rfl)

end Cert.ConvFwdIdeal.Value

end
-- ==== Proof.FwdCells.lean ====
module

public import proofs.«01_k».proof.Proof.FwdRows

/-! What a grid point of the forward convolution computes, entry by entry. -/

@[expose] public section

set_option maxRecDepth 16384

noncomputable section

open Idealize.ShloMosaic Idealize.ShloMosaic.TcCoe Idealize.SL.Sem

namespace Cert.ConvFwdIdeal.Value

open Cert.ConvFwdIdeal Cert.ConvFwdIdeal.Gen Cert.ConvFwdIdeal.Conv
open Cert.ConvBwdIdeal.Conv (ldh ldm ldr stack)
open Cert.ConvBwdIdeal.Value (taken passed after_start before_end ldh_eq ldm_eq ldr_eq)

variable (m : (ℓ : Loc nD τ sig) → Buf (Elt Ideal) ℓ)

theorem coord (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

/-- The gated rows of the block before, or zeros at the start. -/
theorem extP_apply (c : Dev nD) (t : Fin cfg0.N) (p : Fin 16) (a : Fin 8) (b : Fin 128) :
    k0_pay1135 (F := Ideal) (grid0.coords t) (iblk m c 0 t) (iblk m c 3 t) (ix3 p a b)
      = Cert.Conv.pad (args m c).hK (t.val * 512 + p.val) (Sgu.col a b) := by
  have ht : t.val < 16 := Nat.lt_of_lt_of_eq t.isLt N_0
  unfold k0_pay1135
  rw [coord, after_start ⟨t.val, ht⟩, Cert.Conv.pad]
  by_cases h : 0 < t.val
  · rw [if_pos h, dif_pos (by omega)]
    have hs : atP t p = (⟨t.val * 512 + p.val - 16, by omega⟩ : Fin 8192) := Fin.ext (by simp only [atP]; omega)
    rw [← hs, Cert.Conv.Args.hK, Sgu.sgm, ← ap_block m c t, ← gp_block m c t]
    simp only [taken]
    pointwise [Sgu.col]
  · rw [if_neg h, dif_neg (by omega)]
    simp only [passed]
    pointwise

/-- The gated rows of the point's own block. -/
theorem extM_apply (c : Dev nD) (t : Fin cfg0.N) (p : Fin 512) (a : Fin 8) (b : Fin 128) :
    k0_pay1137 (k0_pay1136 (F := Ideal) (iblk m c 1 t) (iblk m c 4 t)) (ix3 p a b)
      = Cert.Conv.pad (args m c).hK (t.val * 512 + 16 + p.val) (Sgu.col a b) := by
  have ht : t.val < 16 := Nat.lt_of_lt_of_eq t.isLt N_0
  rw [Cert.Conv.pad, dif_pos (by omega)]
  have hs : at' t p = (⟨t.val * 512 + 16 + p.val - 16, by omega⟩ : Fin 8192) := Fin.ext (by simp only [at']; omega)
  rw [← hs, Cert.Conv.Args.hK, Sgu.sgm, ← am_block m c t, ← gm_block m c t]
  pointwise [k0_pay1137, k0_pay1136, Sgu.col]

/-- The gated rows of the block after, or zeros at the end. -/
theorem extN_apply (c : Dev nD) (t : Fin cfg0.N) (p : Fin 16) (a : Fin 8) (b : Fin 128) :
    k0_pay1138 (F := Ideal) (BitVec.ofNat 32 (grid0.coords t 0).val) (iblk m c 2 t) (iblk m c 5 t) (ix3 p a b)
      = Cert.Conv.pad (args m c).hK (t.val * 512 + 528 + p.val) (Sgu.col a b) := by
  have ht : t.val < 16 := Nat.lt_of_lt_of_eq t.isLt N_0
  unfold k0_pay1138
  rw [coord, before_end ⟨t.val, ht⟩, Cert.Conv.pad]
  by_cases h : t.val < 15
  · rw [if_pos h, dif_pos (by omega)]
    have hs : atN t p = (⟨t.val * 512 + 528 + p.val - 16, by omega⟩ : Fin 8192) := Fin.ext (by simp only [atN]; omega)
    rw [← hs, Cert.Conv.Args.hK, Sgu.sgm, ← an_block m c t, ← gn_block m c t]
    simp only [taken]
    pointwise [Sgu.col]
  · rw [if_neg h, dif_neg (by omega)]
    simp only [passed]
    pointwise

/-- The gated rows of a point and its neighbours. -/
def gated (c : Dev nD) (t : Fin cfg0.N) : Vec Ideal S544x8x128 .f32 :=
  ext (grid0.coords t) (iblk m c 0 t) (iblk m c 1 t) (iblk m c 2 t) (iblk m c 3 t) (iblk m c 4 t) (iblk m c 5 t)

theorem gated_apply (c : Dev nD) (t : Fin cfg0.N) (r : Fin 544) (a : Fin 8) (b : Fin 128) :
    gated m c t (ix3 r a b) = Cert.Conv.pad (args m c).hK (t.val * 512 + r.val) (Sgu.col a b) := by
  have hr := r.isLt
  rw [gated, ext, ldh_eq, ldh_eq, ldm_eq, ldm_eq, ldh_eq, ldh_eq]
  refine (show stack (F := Ideal) _ _ _ (ix3 r a b) = if h : r.val < 16 then _ else if h' : r.val < 528 then _ else _ from rfl).trans ?_
  split
  · exact extP_apply m c t ⟨r.val, _⟩ a b
  · split
    · exact (extM_apply m c t ⟨r.val - 16, _⟩ a b).trans (congrArg (Cert.Conv.pad _ · _) (by simp only; omega))
    · exact (extN_apply m c t ⟨r.val - 528, _⟩ a b).trans (congrArg (Cert.Conv.pad _ · _) (by simp only; omega))

/-- The extended row that tap `q` of row `32 k + j` reads. -/
def tapRow (k : Fin k0_t1_loop.trips) (j : Fin 32) (q : Fin 31) : Fin 544 :=
  ⟨32 * k.val + j.val + q.val + 1, by have := k.isLt; have := Conv.trips_eq; omega⟩

theorem flat_apply (v : FVec Ideal S1x8x128 .f32) (a : Fin 8) (b : Fin 128) : shapeCast S8x128 v shapeCasts_S1x8x128_S8x128 (ix2 a b) = v (ix3 0 a b) := by
  pointwise

theorem prod_apply (w : Vec Ideal S32x8x128 .f32) (e : Vec Ideal S544x8x128 .f32) (k : Fin k0_t1_loop.trips) (j : Fin 32) (q : Fin 31)
    (a : Fin 8) (b : Fin 128) : prod (F := Ideal) w e k j q (ix2 a b) = w (ix3 (⟨q.val, by omega⟩ : Fin 32) a b) * e (ix3 (tapRow k j q) a b) := by
  have hw : View.ld w (Rect.unit (s := S32x8x128) ![q.val, 0, 0] ![1, 8, 128] (tap_inb q)) (ix3 0 a b) = w (ix3 (⟨q.val, by omega⟩ : Fin 32) a b) := by
    refine View.ld_unit_apply_of _ _ _ _ _ _ fun d => ?_
    fin_cases d <;> simp
  have he : View.ld e (srcAt k j q) (ix3 0 a b) = e (ix3 (tapRow k j q) a b) := by
    refine View.ld_unit_apply_of _ _ _ _ _ _ fun d => ?_
    refine Eq.trans ?_ (congrArg (· + _) (congrFun (k0_off1_eq k j q) d).symm)
    fin_cases d <;> simp [tapRow]
  rw [prod, mulf_apply, flat_apply, flat_apply, hw, he]
  rfl

theorem taps_apply (w : Vec Ideal S32x8x128 .f32) (e : Vec Ideal S544x8x128 .f32) (k : Fin k0_t1_loop.trips) (j : Fin 32)
    (a : Fin 8) (b : Fin 128) : ∀ (n : ℕ) (h : n < 31), taps (F := Ideal) w e k j n h (ix2 a b)
      = ∑ i : Fin (n + 1), w (ix3 (⟨i.val, by omega⟩ : Fin 32) a b) * e (ix3 (tapRow k j ⟨i.val, by omega⟩) a b)
  | 0, h => by
    rw [Fin.sum_univ_one, taps, prod_apply]
    rfl
  | n + 1, h => by
    rw [Fin.sum_univ_castSucc, taps, addf_apply, taps_apply w e k j a b n, prod_apply]
    rfl

/-- The sums over the taps. -/
def sums (c : Dev nD) (t : Fin cfg0.N) : Vec Ideal S512x8x128 .f32 := conv (iblk m c 7 t) (gated m c t)

theorem sums_apply (c : Dev nD) (t : Fin cfg0.N) (r : Fin 512) (a : Fin 8) (b : Fin 128) :
    sums m c t (ix3 r a b) = ∑ k : Fin 31, (args m c).w k (Sgu.col a b) * Cert.Conv.pad (args m c).hK ((at' t r).val + k.val + 1) (Sgu.col a b) := by
  refine (taps_apply _ _ _ _ a b 30 (by decide)).trans (Finset.sum_congr rfl fun k _ => ?_)
  refine congrArg₂ (· * ·) (w_block m c t ⟨k.val, by omega⟩ a b) ((gated_apply m c t _ a b).trans (congrArg (Cert.Conv.pad _ · _) ?_))
  have hr := r.isLt
  have hk := k.isLt
  simp only [tapRow, at', ix3]
  show t.val * 512 + (32 * (r.val / 32) + r.val % 32 + k.val + 1) = t.val * 512 + r.val + k.val + 1
  omega

/-- The convolved rows. -/
theorem cv_apply (c : Dev nD) (t : Fin cfg0.N) (r : Fin 512) (e : Fin 1024) :
    k0_pay1140 (F := Ideal) (sums m c t) (iblk m c 8 t) (ix2 r e) = (args m c).cvK (at' t r) e := by
  have hc : Sgu.col ⟨e.val / 128, by omega⟩ ⟨e.val % 128, Nat.mod_lt _ (by decide)⟩ = e := Fin.ext (by simp only [Sgu.col]; omega)
  have hs := sums_apply m c t r ⟨e.val / 128, by omega⟩ ⟨e.val % 128, Nat.mod_lt _ (by decide)⟩
  rw [hc] at hs
  rw [Cert.Conv.Args.cvK, ← hs, ← cb_block m c t]
  pointwise [k0_pay1140]

/-- The norm of the rows `X`, scaled by `g` and shifted by `l`, times its logistic and times the gate `q` times its own. -/
theorem gate_apply (X : FVec Ideal S512x1024 .f32) (g l : FVec Ideal S1x1024 .f32) (q : FVec Ideal S512x1024 .bf16) (r : Fin 512) (e : Fin 1024) :
    k0_pay1142 (F := Ideal) X g l q (ix2 r e)
      = (Sgu.hat (fun e => X (ix2 r e)) e * g (ix2 0 e) + l (ix2 0 e)) * Sgu.sgm (Sgu.hat (fun e => X (ix2 r e)) e * g (ix2 0 e) + l (ix2 0 e))
        * (q (ix2 r e) * Sgu.sgm (q (ix2 r e))) := by
  simp only [Sgu.sgm, Sgu.hat, Sgu.rstd, Sgu.var, Sgu.cen]
  pointwise [k0_pay1142]

/-- What a point writes of the convolved rows, -/
theorem out12_apply (c : Dev nD) (t : Fin cfg0.N) (r : Fin 512) (e : Fin 1024) :
    (outsAt0 m c t).2 (ix2 r e) = (args m c).cvK (at' t r) e := by
  have h : (outsAt0 m c t).2 = k0_pay1141 (sums m c t) (ldr (iblk m c 8 t)) := by
    dsimp only [outsAt0]
    rw [out_cv, sums, gated]
  rw [h, ldr_eq, ← cv_apply]
  rfl

/-- and of the branch's output. -/
theorem out11_apply (c : Dev nD) (t : Fin cfg0.N) (r : Fin 512) (e : Fin 1024) :
    (outsAt0 m c t).1 (ix2 r e) = (args m c).outK (at' t r) e := by
  have h : (outsAt0 m c t).1 = k0_pay1142 (k0_pay1140 (sums m c t) (ldr (iblk m c 8 t))) (ldr (iblk m c 9 t)) (ldr (iblk m c 10 t)) (ldm (iblk m c 6 t)) := by
    dsimp only [outsAt0]
    rw [out_y, sums, gated]
  rw [h, ldr_eq, ldr_eq, ldr_eq, ldm_eq]
  refine (gate_apply _ _ _ _ r e).trans ?_
  have hX : (fun e => k0_pay1140 (F := Ideal) (sums m c t) (iblk m c 8 t) (ix2 r e)) = (args m c).cvK (at' t r) :=
    funext fun e => cv_apply m c t r e
  rw [Cert.Conv.Args.outK, Cert.Conv.Args.lnK, ← hX, ← lg_block m c t, ← lb_block m c t, ← gc_block m c t]

end Cert.ConvFwdIdeal.Value

end
-- ==== Proof.FwdValue.lean ====
module

public import proofs.«01_k».proof.Proof.FwdCells
public import Idealize.ShloMosaic.Lib.Claim

/-! The forward convolution: what its two results are after the run. -/

@[expose] public section

set_option maxRecDepth 16384

noncomputable section

open Idealize.ShloMosaic Idealize.ShloMosaic.TcCoe Idealize.SL.Sem
open Idealize.ShloMosaic.Pipeline (Dat)

namespace Cert.ConvFwdIdeal.Value

open Cert.ConvFwdIdeal Cert.ConvFwdIdeal.Gen Cert.ConvFwdIdeal.Conv

variable (m : (ℓ : Loc nD τ sig) → Buf (Elt Ideal) ℓ)

/-- The output's row by a column's number. -/
def colOut (c : Dev nD) (s : Fin 8192) (k : ℕ) : EReal := (args m c).outK s ⟨k % 1024, Nat.mod_lt _ (by decide)⟩

theorem colOut_eq (c : Dev nD) (s : Fin 8192) (e : Fin 1024) : colOut m c s e.val = (args m c).outK s e :=
  congrArg ((args m c).outK s) (Fin.ext (Nat.mod_eq_of_lt e.isLt))

/-- The output where the region writes it: its first 1024 columns. -/
theorem final11 (c : Dev nD) : (dats m 0 c).arrAt 11 (cfgs 0).N
    = fun i : S8192x2048.Idx => if (i 1 : ℕ) / 1024 = 0 then colOut m c (i 0) (i 1).val else (dats m 0 c).A 11 i := by
  refine (dats m 0 c).arrAt_eq_of_coversWhere 11 (fun i : S8192x2048.Idx => colOut m c (i 0) (i 1).val)
    (fun β => β (1 : Fin _) = 0) (by decide +kernel) (fun t _ y => ?_) (fun j => Iff.rfl)
  blk_simp
  rw [after0_11]
  obtain ⟨r, e, rfl⟩ : ∃ (r : Fin 512) (e : Fin 1024), y = ix2 r e := ⟨y 0, y 1, by blk_ext⟩
  have h0 : (((cfg0.win 11).blk t).view.emb (ix2 r e)) = ix2 (at' t r) (⟨e.val, by omega⟩ : Fin 2048) := by blk_ext [idx t, at']
  have h1 : win0_11.index t = ![t.val, 0] := (idx t).2.2.2.2.2.2.2.2.2.2.2.1
  refine ((out11_apply m c t r e).trans (colOut_eq m c (at' t r) e).symm).trans (congrArg₂ (colOut m c) (congrFun h0 0).symm ?_)
  rw [h1]
  exact (Nat.zero_add _).symm

/-- The convolved rows. -/
theorem final12 (c : Dev nD) : (dats m 0 c).arrAt 12 (cfgs 0).N = fun i : S8192x1024.Idx => (args m c).cvK (i 0) (i 1) := by
  refine (dats m 0 c).arrAt_eq_of_covers 12 (fun i : S8192x1024.Idx => (args m c).cvK (i 0) (i 1)) (by decide +kernel) (fun t _ y => ?_)
  blk_simp
  rw [after0_12]
  obtain ⟨r, e, rfl⟩ : ∃ (r : Fin 512) (e : Fin 1024), y = ix2 r e := ⟨y 0, y 1, by blk_ext⟩
  have h0 : (((cfg0.win 12).blk t).view.emb (ix2 r e)) = ix2 (at' t r) e := by blk_ext [idx t, at']
  exact (out12_apply m c t r e).trans (congrArg₂ (args m c).cvK (congrFun h0 0).symm (congrFun h0 1).symm)

/-- The output's first 1024 columns, which the host cuts out. -/
theorem tail5 (c : Dev nD) : Pipeline.afterTail₀ cfgs (dats m) 0 (V0 m) [hostOps1] c main_v5
    = (fun i : S8192x1024.Idx => (args m c).outK (i 0) (i 1)) := by
  have hw := ((dats m 0 c).withArrays_arrAt sharedIn0 (V0 m c) (A_eq m c) 11).trans (final11 m c)
  generalize V0 m = X at hw ⊢
  generalize dats m = D at hw ⊢
  simp only [Pipeline.afterTail₀, hostOps1, List.flatten_cons, List.flatten_nil, List.append_nil]
  after_results
  rw [show Pipeline.withArrays (cfgs 0).spec c (X c) (fun w => (D 0 c).arrAt w (cfgs 0).N) (Proc.devRef .tc main_v4_0) = _ from hw]
  funext i
  obtain ⟨s, e, rfl⟩ : ∃ (s : Fin 8192) (e : Fin 1024), i = ix2 s e := ⟨i 0, i 1, by blk_ext⟩
  pointwise
  exact (if_pos (Nat.div_eq_of_lt e.isLt)).trans (colOut_eq m c s e)

/-- The forward convolution's run: its two results and its arguments. -/
theorem run (ρ : Dev nD → PrngReg) : θ_run defs (onTc (τ := τ) (main (F := Ideal))) ⟨m, fun _ => 0, ρ⟩ fun r => ∀ c : Dev nD,
    r.2.mem ((c.tc : Thread nD τ).loc main_v5) = (fun i : S8192x1024.Idx => (args m c).outK (i 0) (i 1))
      ∧ r.2.mem ((c.tc : Thread nD τ).loc main_v4_1) = (fun i : S8192x1024.Idx => (args m c).cvK (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).2 main_v5 (by decide)).trans (tail5 m c), ((h.1 c).1 12).trans (final12 m c), h.2 c⟩)
    (θ_run_and (run_main m ρ) (unchanged m ρ))

end Cert.ConvFwdIdeal.Value

end
-- ==== Proof.FwdPair.lean ====
module

public import proofs.«01_k».proof.Defs
public import proofs.«01_k».proof.Proof.FwdValue
public import proofs.«01_k».proof.Proof.Gen.ConvFwdRefIdeal.Read

/-! The forward convolution against the gated convolution with its norm. -/

@[expose] public section

set_option maxRecDepth 16384

noncomputable section

open Idealize.ShloMosaic Idealize.ShloMosaic.TcCoe Idealize.SL.Sem

namespace Cert.ConvFwdRefIdeal.Entry

open Cert.ConvFwdRefIdeal.Read

variable (A : Cert.Conv.Args)

set_option maxHeartbeats 4000000 in
/-- The convolved rows are computed by the same operations as in the backward call's reference. -/
theorem cv_eq : val_main_v194 (F := Ideal) A.P A.W A.B = Cert.ConvRefIdeal.Read.val_main_v93 (F := Ideal) A.P A.W A.B := by
  sl_kernel_rfl

set_option maxHeartbeats 4000000 in
/-- So are the scaled and shifted normalised rows. -/
theorem ln_eq : val_main_v108 (F := Ideal) A.P A.W A.B A.G A.L = Cert.ConvRefIdeal.Read.val_main_v116 (F := Ideal) A.P A.W A.B A.G A.L := by
  sl_kernel_rfl

theorem cv_apply (s : Fin 8192) (e : Fin 1024) : val_main_v196 (F := Ideal) A.P A.W A.B (ix2 s e) = A.cv s e := by
  rw [← Cert.ConvRefIdeal.Entry.cv_apply, ← cv_eq]
  pointwise [val_main_v196]

theorem ln_apply (s : Fin 8192) (e : Fin 1024) : val_main_v108 (F := Ideal) A.P A.W A.B A.G A.L (ix2 s e) = A.ln s e :=
  (congrFun (ln_eq A) _).trans (Cert.ConvRefIdeal.Entry.ln_apply A s e)

theorem out_apply (s : Fin 8192) (e : Fin 1024) : val_main_v195 (F := Ideal) A.P A.W A.B A.G A.L (ix2 s e) = A.outR s e := by
  simp only [Cert.Conv.Args.outR, ← ln_apply, Sgu.sgr, Cert.Conv.Args.gc]
  pointwise [val_main_v195, val_main_v111, val_main_v110, val_main_v109, val_main_v2,
    val_main_call0_v5, val_main_call0_v4, val_main_call0_v3, val_main_call0_v2, val_main_call0_v1, val_main_call0_v0, val_main_call0_cst, val_main_call0_cst_0,
    val_main_call1_v5, val_main_call1_v4, val_main_call1_v3, val_main_call1_v2, val_main_call1_v1, val_main_call1_v0, val_main_call1_cst, val_main_call1_cst_0]

end Cert.ConvFwdRefIdeal.Entry

namespace Cert.Proof.Fwd

open Cert.ConvFwdIdeal (nD τ sig S8192x1024)
open Cert.ConvFwdIdeal.Value

/-- The reference's frame. -/
theorem frame_ref : Cert.quiescent_ConvFwdRefIdeal (hConvFwdRefIdeal := Cert.ConvFwdRefIdeal.Gen.facts) := fun m g _ =>
  (θ_run Cert.ConvFwdRefIdeal.defs _ _).mono (fun _ h => ⟨fun c => (h c).2.2, sem_eq_zero_of_no_sems (by decide) _⟩)
    (Cert.ConvFwdRefIdeal.Value.run m g)

/-- A function of five arguments on equal arguments. -/
theorem congr5 {T₀ T₁ T₂ T₃ T₄ R : Type} (f : T₀ → T₁ → T₂ → T₃ → T₄ → R) {x₀ y₀ : T₀} {x₁ y₁ : T₁} {x₂ y₂ : T₂} {x₃ y₃ : T₃} {x₄ y₄ : T₄}
    (h₀ : x₀ = y₀) (h₁ : x₁ = y₁) (h₂ : x₂ = y₂) (h₃ : x₃ = y₃) (h₄ : x₄ = y₄) : f x₀ x₁ x₂ x₃ x₄ = f y₀ y₁ y₂ y₃ y₄ := by
  rw [h₀, h₁, h₂, h₃, h₄]

/-- The results of the forward convolution are those of its reference, whatever its arguments. -/
theorem algebraic : Cert.algebraic_ConvFwdIdeal_ConvFwdRefIdeal := by
  intro m g m' g' _ hagree
  refine ⟨_, _, run m g, (θ_run Cert.ConvFwdRefIdeal.defs _ _).mono (fun r h c => ?_) (Cert.ConvFwdRefIdeal.Value.run m' g')⟩
  obtain ⟨h0, h1, hargs⟩ := h c
  obtain ⟨a0, a1, a2, a3, a4⟩ := hagree c
  refine ⟨h0.trans ?_, h1.trans ?_, hargs⟩
  · refine (Cert.ConvFwdRefIdeal.Read.val_main_v195_eq (F := Ideal) _).trans ((congr5 (Cert.ConvFwdRefIdeal.Read.val_main_v195 (F := Ideal)) a0 a1 a2 a3 a4).trans ?_)
    funext i
    obtain ⟨s, e, rfl⟩ : ∃ (s : Fin 8192) (e : Fin 1024), i = ix2 s e := ⟨i 0, i 1, by blk_ext⟩
    exact (Cert.ConvFwdRefIdeal.Entry.out_apply (args m c) s e).trans (congrFun (congrFun (Cert.Conv.Args.outK_eq (args m c)) s) e).symm
  · refine (Cert.ConvFwdRefIdeal.Read.val_main_v196_eq (F := Ideal) _).trans
      ((congr (congrArg₂ (Cert.ConvFwdRefIdeal.Read.val_main_v196 (F := Ideal)) a0 a1) a2).trans ?_)
    funext i
    obtain ⟨s, e, rfl⟩ : ∃ (s : Fin 8192) (e : Fin 1024), i = ix2 s e := ⟨i 0, i 1, by blk_ext⟩
    exact (Cert.ConvFwdRefIdeal.Entry.cv_apply (args m c) s e).trans (congrFun (congrFun (Cert.Conv.Args.cvK_eq (args m c)) s) e).symm

end Cert.Proof.Fwd

end
-- ==== Proof.SfCell.lean ====
module

public import proofs.«01_k».proof.Proof.Gen.SguFwdIdeal.Frame
public import proofs.«01_k».proof.Proof.SguPoint

/-!
The forward spatial gating works cell by cell, as its gradient does: a cell is 128 positions of one chunk by the 128
features of one head. Here is what one cell computes, and the block that the cells fill.
-/

@[expose] public section

set_option maxRecDepth 16384

noncomputable section

open Idealize.ShloMosaic Idealize.ShloMosaic.TcCoe Idealize.SL.Sem

namespace Cert.SguFwdIdeal.Value

open Cert.SguFwdIdeal Cert.SguFwdIdeal.Gen
open Cert.SguBwdIdeal.Value (Fits fits_of emb_cell cell cell_apply strip strip_apply head head_apply place mate headOf hd_eq place_eq mate_eq mixB)

variable {ro co : ℕ}

theorem chunk_fits (h : Fits ro co) (a : Fin 2) : (![ro, 0] : Fin 2 → ℕ) a + S128x1024.size a ≤ S512x1024.size a := by
  obtain ⟨h1, h2, h3, h4⟩ := h
  fin_cases a <;> simp [S128x1024, S512x1024] <;> omega

/-- One chunk's rows of a block, as the body loads them. -/
def chunk (X : FVec Ideal S512x1024 .bf16) (h : Fits ro co) : Vec Ideal S128x1024 .bf16 :=
  View.ld (S := S512x1024) X (Rect.unit (s := S512x1024) ![ro, 0] S128x1024.size (chunk_fits h))

theorem chunk_apply (X : FVec Ideal S512x1024 .bf16) (h : Fits ro co) (p : Fin 128) (e : Fin 1024) : chunk X h (ix2 p e) = X (ix2 (h.row p) e) := by
  refine View.ld_unit_apply_of (Val := Elt Ideal) (e := .bf16) (S := S512x1024) X ![ro, 0] S128x1024.size (chunk_fits h) (ix2 p e) _ fun a => ?_
  fin_cases a
  · rfl
  · exact (Nat.zero_add _).symm

/-- The scaled and shifted normalised rows of a block. -/
def normB (V : FVec Ideal S512x1024 .bf16) (L B : FVec Ideal S1x1024 .f32) : FVec Ideal S512x1024 .bf16 := fun i =>
  Sgu.hat (fun k => V (ix2 (i 0) k)) (i 1) * L (ix2 0 (i 1)) + B (ix2 0 (i 1))

theorem norm_apply (X : FVec Ideal S128x1024 .bf16) (L B : FVec Ideal S1x1024 .f32) (p : Fin 128) (e : Fin 1024) :
    k0_pay2 (F := Ideal) X L B (ix2 p e) = Sgu.hat (fun k => X (ix2 p k)) e * L (ix2 0 e) + B (ix2 0 e) := by
  pointwise [k0_pay2, Sgu.hat, Sgu.rstd, Sgu.var, Sgu.cen]

theorem part_fits (h : Fits ro co) : S128x1024.Slices ![0, co] S128x128 :=
  ⟨rfl, fun a => by
    obtain ⟨h1, h2, h3, h4⟩ := h
    fin_cases a <;> simp [S128x1024, S128x128] <;> omega⟩

/-- What the positions of a chunk mix to. -/
def mix (V : FVec Ideal S512x1024 .bf16) (L B : FVec Ideal S1x1024 .f32) (W : FVec Ideal S8x128x128 .bf16) (C : FVec Ideal S128x1024 .f32)
    (h : Fits ro co) : FVec Ideal S128x128 .f32 :=
  addf (matmul (φ₁ := .bf16) dot_S128x128_S128x128_S128x128_1_0_0_1_n_n none (shapeCast (α := EReal) S128x128 (head W h) shapeCasts_S1x128x128_S128x128)
    (extractStridedSlice S128x128 ![0, co] (k0_pay2 (chunk V h) L B) (part_fits h)) (constant S128x128 .f32 0x00000000#32))
    (shapeCast (α := EReal) S128x128 (strip C h) shapeCasts_S128x128_S128x128)

/-- The cell that the body stores. -/
def outC (V : FVec Ideal S512x1024 .bf16) (L B : FVec Ideal S1x1024 .f32) (W : FVec Ideal S8x128x128 .bf16) (C : FVec Ideal S128x1024 .f32)
    (U G : FVec Ideal S512x1024 .bf16) (h : Fits ro co) : FVec Ideal S128x128 .bf16 :=
  k0_pay6 (mix V L B W C h) (k0_pay4 (cell G h)) (k0_pay5 (cell U h))

/-- The block that the cells fill. -/
def outB (V : FVec Ideal S512x1024 .bf16) (L B : FVec Ideal S1x1024 .f32) (W : FVec Ideal S8x128x128 .bf16) (C : FVec Ideal S128x1024 .f32)
    (U G : FVec Ideal S512x1024 .bf16) : FVec Ideal S512x1024 .bf16 := fun i =>
  U (ix2 (i 0) (i 1)) * mixB (normB V L B) W C (i 0) (i 1) * (G (ix2 (i 0) (i 1)) * Sgu.sgm (G (ix2 (i 0) (i 1))))

variable {V U G : FVec Ideal S512x1024 .bf16} {L B : FVec Ideal S1x1024 .f32} {W : FVec Ideal S8x128x128 .bf16} {C : FVec Ideal S128x1024 .f32}

theorem mix_apply (h : Fits ro co) (p d : Fin 128) : mix V L B W C h (ix2 p d) = mixB (normB V L B) W C (h.row p) (h.col d) := by
  have e : ∀ q : Fin 128, normB V L B (ix2 (mate (h.row p) q) (h.col d)) = k0_pay2 (F := Ideal) (chunk V h) L B (ix2 q (h.col d)) := fun q => by
    rw [norm_apply, ← mate_eq h p q]
    simp only [chunk_apply]
    rfl
  simp only [mixB, e, ← place_eq h, ← hd_eq h d]
  pointwise [mix]
  simp only [head_apply, strip_apply]
  blk_ext [Fits.col]

theorem outC_apply (h : Fits ro co) (p d : Fin 128) : outC V L B W C U G h (ix2 p d) = outB V L B W C U G (ix2 (h.row p) (h.col d)) := by
  show _ = U (ix2 (h.row p) (h.col d)) * mixB (normB V L B) W C (h.row p) (h.col d) * (G (ix2 (h.row p) (h.col d)) * Sgu.sgm (G (ix2 (h.row p) (h.col d))))
  rw [← mix_apply]
  pointwise [outC, k0_pay6, k0_pay5, k0_pay4, Sgu.sgm]
  simp only [cell_apply]

theorem out_step {inb : ∀ a, (![ro, co] : Fin 2 → ℕ) a + (![128, 128] : Fin 2 → ℕ) a ≤ S512x1024.size a}
    {w : Vec Ideal S128x128 .bf16} {l : List (View.Piece (Elt Ideal) S512x1024 .bf16)} (hr : ro % 128 = 0) (hc : co % 128 = 0)
    (hw : w = outC V L B W C U G (fits_of hr hc inb)) (hl : View.PiecesOf (Val := Elt Ideal) (outB V L B W C U G) l) :
    View.PiecesOf (Val := Elt Ideal) (outB V L B W C U G) (⟨Rect.unit (s := S512x1024) ![ro, co] ![128, 128] inb, w⟩ :: l) := by
  refine ⟨fun x => ?_, hl⟩
  obtain ⟨p, d, rfl⟩ : ∃ (p d : Fin 128), x = ix2 p d := ⟨x 0, x 1, by blk_ext⟩
  subst hw
  exact (outC_apply (fits_of hr hc inb) p d).trans (congrArg (outB V L B W C U G) (emb_cell (fits_of hr hc inb) inb p d).symm)

variable (m : (ℓ : Loc nD τ sig) → Buf (Elt Ideal) ℓ)

set_option maxHeartbeats 4000000 in
/-- What a grid point stores. -/
theorem out_point (c : Dev nD) (t : Fin cfg0.N) (j) : outsAt0 m c t j
    = outB (iblk m c 1 t) (iblk m c 3 t) (iblk m c 4 t) (iblk m c 5 t) (iblk m c 6 t) (iblk m c 0 t) (iblk m c 2 t) j := by
  rw [outsAt0]; frame_out
  refine View.canon_apply_of_pieces (Val := Elt Ideal) (e := .bf16)
    (outB (iblk m c 1 t) (iblk m c 3 t) (iblk m c 4 t) (iblk m c 5 t) (iblk m c 6 t) (iblk m c 0 t) (iblk m c 2 t)) _
    (View.PiecesOf.mem ?_) j (View.cover_of_tiledBy _ ![128, 128] (by sl_kernel_rfl) j)
  iterate 32 refine out_step rfl rfl rfl ?_
  exact trivial

end Cert.SguFwdIdeal.Value

end
-- ==== Proof.SfValue.lean ====
module

public import proofs.«01_k».proof.Proof.SfCell
public import Idealize.ShloMosaic.Lib.Claim

/-! The array that the forward spatial gating leaves, in terms of its arguments. -/

@[expose] public section

set_option maxRecDepth 16384

noncomputable section

open Idealize.ShloMosaic Idealize.ShloMosaic.TcCoe Idealize.SL.Sem
open Idealize.ShloMosaic.Pipeline (Dat)

namespace Cert.SguFwdIdeal.Value

open Cert.SguFwdIdeal Cert.SguFwdIdeal.Gen
open Cert.SguBwdIdeal.Value (place mate headOf mixB)

variable (m : (ℓ : Loc nD τ sig) → Buf (Elt Ideal) ℓ)

theorem idx : ∀ t : Fin cfg0.N, win0_0.index t = ![t.val, 3] ∧ win0_1.index t = ![t.val, 4] ∧ win0_2.index t = ![t.val, 5]
    ∧ win0_3.index t = ![0, 0] ∧ win0_4.index t = ![0, 0] ∧ win0_5.index t = ![0, 0, 0] ∧ win0_6.index t = ![0, 0] ∧ win0_7.index t = ![t.val, 1] :=
  (by decide +kernel : ∀ t : Fin grid0.N, _)

/-- A block's row in the whole array. -/
def at' (t : Fin cfg0.N) (r : Fin 512) : Fin 8192 := ⟨t.val * 512 + r.val, by have := t.isLt; have : cfg0.N = 16 := N_0; omega⟩

theorem mate_at (t : Fin cfg0.N) (r : Fin 512) (q : Fin 128) : at' t (mate r q) = Sgu.mate (at' t r) q := by
  apply Fin.ext
  simp only [at', mate, Sgu.mate]
  omega

theorem place_at (t : Fin cfg0.N) (r : Fin 512) : Sgu.place (at' t r) = place r := by
  apply Fin.ext
  simp only [at', place, Sgu.place]
  omega

theorem v6_apply (c : Dev nD) (s : Fin 8192) (k : Fin 6144) : V m c main_v6 (ix2 s k) = m ((c : Thread nD τ).loc main_arg0) (ix2 s k) := by
  simp only [V, hostOps0, List.flatten_cons, List.flatten_nil, List.append_nil]
  after_results
  pointwise

theorem v1_apply (c : Dev nD) (h : Fin 8) (p q : Fin 128) : V m c main_v1 (ix3 h p q) = m ((c : Thread nD τ).loc main_arg4) (ix4 0 h p q) := by
  simp only [V, hostOps0, List.flatten_cons, List.flatten_nil, List.append_nil]
  after_results
  pointwise

theorem v5_apply (c : Dev nD) (p : Fin 128) (e : Fin 1024) :
    V m c main_v5 (ix2 p e) = m ((c : Thread nD τ).loc main_arg5) (ix3 0 (headOf e) p) := by
  simp only [V, hostOps0, List.flatten_cons, List.flatten_nil, List.append_nil]
  after_results
  pointwise [headOf]

theorem u_block (c : Dev nD) (t : Fin cfg0.N) (r : Fin 512) (e : Fin 1024) :
    iblk m c 0 t (ix2 r e) = Sgu.uA (m ((c : Thread nD τ).loc main_arg0)) (at' t r) e := by
  rw [Sgu.uA, ← v6_apply m c]
  blk_ext [iblk, idx t, at']

theorem v_block (c : Dev nD) (t : Fin cfg0.N) (r : Fin 512) (e : Fin 1024) :
    iblk m c 1 t (ix2 r e) = Sgu.vA (m ((c : Thread nD τ).loc main_arg0)) (at' t r) e := by
  rw [Sgu.vA, ← v6_apply m c]
  blk_ext [iblk, idx t, at']

theorem g_block (c : Dev nD) (t : Fin cfg0.N) (r : Fin 512) (e : Fin 1024) :
    iblk m c 2 t (ix2 r e) = Sgu.gA (m ((c : Thread nD τ).loc main_arg0)) (at' t r) e := by
  rw [Sgu.gA, ← v6_apply m c]
  blk_ext [iblk, idx t, at']

theorem lg_block (c : Dev nD) (t : Fin cfg0.N) (e : Fin 1024) : iblk m c 3 t (ix2 0 e) = Sgu.lA (m ((c : Thread nD τ).loc main_arg2)) e := by
  rw [Sgu.lA]
  blk_ext [iblk, V, idx t]

theorem lb_block (c : Dev nD) (t : Fin cfg0.N) (e : Fin 1024) : iblk m c 4 t (ix2 0 e) = Sgu.lA (m ((c : Thread nD τ).loc main_arg3)) e := by
  rw [Sgu.lA]
  blk_ext [iblk, V, idx t]

theorem w_block (c : Dev nD) (t : Fin cfg0.N) (h : Fin 8) (p q : Fin 128) :
    iblk m c 5 t (ix3 h p q) = Sgu.wA (m ((c : Thread nD τ).loc main_arg4)) h p q := by
  rw [Sgu.wA, ← v1_apply m c]
  blk_ext [iblk, idx t]

theorem b_block (c : Dev nD) (t : Fin cfg0.N) (p : Fin 128) (e : Fin 1024) :
    iblk m c 6 t (ix2 p e) = Sgu.bA (m ((c : Thread nD τ).loc main_arg5)) (headOf e) p := by
  rw [Sgu.bA, ← v5_apply m c]
  blk_ext [iblk, idx t]

/-- The normalised rows and the gated output at a position and a feature. -/
def aN (c : Dev nD) : Sgu.Arr :=
  Sgu.norm (Sgu.vA (m ((c : Thread nD τ).loc main_arg0))) (Sgu.lA (m ((c : Thread nD τ).loc main_arg2))) (Sgu.lA (m ((c : Thread nD τ).loc main_arg3)))
def aM (c : Dev nD) : Sgu.Arr := Sgu.mixed (aN m c) (Sgu.wA (m ((c : Thread nD τ).loc main_arg4))) (Sgu.bA (m ((c : Thread nD τ).loc main_arg5)))
def aO (c : Dev nD) : Sgu.Arr := fun s e =>
  Sgu.uA (m ((c : Thread nD τ).loc main_arg0)) s e * aM m c s e
    * (Sgu.gA (m ((c : Thread nD τ).loc main_arg0)) s e * Sgu.sgm (Sgu.gA (m ((c : Thread nD τ).loc main_arg0)) s e))

theorem N_point (c : Dev nD) (t : Fin cfg0.N) (r : Fin 512) (e : Fin 1024) :
    normB (iblk m c 1 t) (iblk m c 3 t) (iblk m c 4 t) (ix2 r e) = aN m c (at' t r) e := by
  show Sgu.hat (fun k => iblk m c 1 t (ix2 r k)) e * iblk m c 3 t (ix2 0 e) + iblk m c 4 t (ix2 0 e) = _
  rw [lg_block, lb_block]
  simp only [v_block]
  rfl

theorem M_point (c : Dev nD) (t : Fin cfg0.N) (r : Fin 512) (e : Fin 1024) :
    mixB (normB (iblk m c 1 t) (iblk m c 3 t) (iblk m c 4 t)) (iblk m c 5 t) (iblk m c 6 t) r e = aM m c (at' t r) e := by
  rw [mixB]
  simp only [N_point, w_block, b_block, mate_at, ← place_at t]
  rfl

theorem O_point (c : Dev nD) (t : Fin cfg0.N) (r : Fin 512) (e : Fin 1024) : outsAt0 m c t (ix2 r e) = aO m c (at' t r) e := by
  rw [out_point]
  show (show EReal from iblk m c 0 t (ix2 r e)) * mixB (normB (iblk m c 1 t) (iblk m c 3 t) (iblk m c 4 t)) (iblk m c 5 t) (iblk m c 6 t) r e
    * ((show EReal from iblk m c 2 t (ix2 r e)) * Sgu.sgm (iblk m c 2 t (ix2 r e))) = _
  rw [M_point, g_block, u_block]
  rfl

/-- The whole output: the columns that are passed through, then the unit's. -/
def full (c : Dev nD) : FVec Ideal S8192x2048 .bf16 := fun i =>
  if h : 1024 ≤ (i 1).val then aO m c (i 0) ⟨(i 1).val - 1024, by have := (i 1).isLt; change (i 1).val < 2048 at this; omega⟩
  else m ((c : Thread nD τ).loc main_arg1) i

theorem full_left (c : Dev nD) (s : Fin 8192) (k : Fin 2048) (h : ¬ 1024 ≤ k.val) :
    full m c (ix2 s k) = m ((c : Thread nD τ).loc main_arg1) (ix2 s k) :=
  dif_neg h

theorem full_right (c : Dev nD) (s : Fin 8192) (k : Fin 2048) (h : 1024 ≤ k.val) :
    full m c (ix2 s k) = aO m c s (⟨k.val - 1024, by omega⟩ : Fin 1024) :=
  dif_pos (c := 1024 ≤ k.val) h

theorem v7_init (c : Dev nD) : V m c main_v7 = m ((c : Thread nD τ).loc main_arg1) := by
  simp only [V, hostOps0, List.flatten_cons, List.flatten_nil, List.append_nil]
  after_results
  rfl

theorem final7 (c : Dev nD) : (dats m 0 c).arrAt 7 (cfgs 0).N = full m c := by
  refine (dats m 0 c).arrAt_eq_of_coversWhere_of_agree 7 (full m c) (fun β => β 1 = 1) (by decide +kernel) (fun t hf y => ?_) (fun j hj => ?_)
  · blk_simp
    rw [after0_7]
    obtain ⟨r, e, rfl⟩ : ∃ (r : Fin 512) (e : Fin 1024), y = ix2 r e := ⟨y 0, y 1, by blk_ext⟩
    have h0 : ((cfg0.win 7).blk t).view.emb (ix2 r e) = ix2 (at' t r) (⟨1024 + e.val, by omega⟩ : Fin 2048) := by blk_ext [idx t, at']
    rw [h0]
    refine (O_point m c t r e).trans (Eq.symm ((dif_pos (show 1024 ≤ 1024 + e.val by omega)).trans (congrArg (aO m c (at' t r)) (Fin.ext ?_))))
    change 1024 + e.val - 1024 = e.val
    omega
  · have hj' : ¬ 1024 ≤ (j 1).val := by
      revert hj
      blk_simp [Pipeline.Window.cell_apply]
      have := (j 1).isLt
      change (j 1).val < 2048 at this
      omega
    have e : full m c j = m ((c : Thread nD τ).loc main_arg1) j := dif_neg hj'
    exact (congrFun (v7_init m c) j).trans e.symm

/-- The call's run: its result and its arguments. -/
theorem run (ρ : Dev nD → PrngReg) : θ_run defs (onTc (τ := τ) (main (F := Ideal))) ⟨m, fun _ => 0, ρ⟩ fun r => ∀ c : Dev nD,
    r.2.mem ((c.tc : Thread nD τ).loc main_v7) = full m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 7).trans (final7 m c), h.2 c⟩) (θ_run_and (run_main m ρ) (unchanged m ρ))

end Cert.SguFwdIdeal.Value

end
-- ==== Proof.SfPair.lean ====
module

public import proofs.«01_k».proof.Defs
public import proofs.«01_k».proof.Proof.SfValue
public import proofs.«01_k».proof.Proof.SguRef
public import proofs.«01_k».proof.Proof.ConvPair
public import proofs.«01_k».proof.Proof.FwdMath
public import proofs.«01_k».proof.Proof.Gen.SguFwdRefIdeal.Read

/-! The forward spatial gating against the gating unit of the forward lines. -/

@[expose] public section

set_option maxRecDepth 16384

noncomputable section

open Idealize.ShloMosaic Idealize.ShloMosaic.TcCoe Idealize.SL.Sem

namespace Cert.SguFwdRefIdeal.Entry

open Cert.SguFwdRefIdeal.Read

variable (P : FVec Ideal ⟨2, ![8192, 6144]⟩ .f32) (Y : FVec Ideal ⟨2, ![8192, 2048]⟩ .bf16) (G L : FVec Ideal ⟨2, ![1, 1024]⟩ .f32)
  (W : FVec Ideal ⟨4, ![1, 8, 128, 128]⟩ .f32) (B : FVec Ideal ⟨3, ![1, 8, 128]⟩ .f32)

set_option maxHeartbeats 4000000 in
/-- The mixed positions are computed by the same operations as in the gradient's reference. -/
theorem mixed_eq : val_main_v36 (F := Ideal) P G L W B = Cert.SguRefIdeal.Read.val_main_v38 (F := Ideal) P G L W B := by
  sl_kernel_rfl

theorem out_apply (s : Fin 8192) (e : Fin 1024) : val_main_v40 (F := Ideal) P G L W B (ix2 s e)
    = Sgu.uA P s e * Sgu.mixed (Sgu.norm (Sgu.vA P) (Sgu.lA G) (Sgu.lA L)) (Sgu.wA W) (Sgu.bA B) s e * (Sgu.gA P s e * Sgu.sgr (Sgu.gA P s e)) := by
  rw [← Cert.SguRefIdeal.Entry.mixed_apply, ← mixed_eq]
  pointwise [val_main_v40, val_main_v39, val_main_v38, val_main_v37, val_main_v5, val_main_v3, val_main_call0_v5, val_main_call0_v4, val_main_call0_v3, val_main_call0_v2,
    val_main_call0_v1, val_main_call0_v0, val_main_call0_cst, val_main_call0_cst_0, Sgu.uA, Sgu.gA, Sgu.sgr]

/-- The whole output by its columns. -/
theorem full_apply (s : Fin 8192) (k : Fin 2048) : val_main_v41 (F := Ideal) P Y G L W B (ix2 s k)
    = if h0 : k.val < 1024 then Y (ix2 s k) else val_main_v40 (F := Ideal) P G L W B (ix2 s (⟨k.val - 1024, by omega⟩ : Fin 1024)) := by
  pointwise [val_main_v41, val_main_v6]

end Cert.SguFwdRefIdeal.Entry

namespace Cert.Proof.Sf

open Cert.SguFwdIdeal (nD τ sig S8192x2048)
open Cert.SguFwdIdeal.Value

/-- The reference's frame. -/
theorem frame_ref : Cert.quiescent_SguFwdRefIdeal (hSguFwdRefIdeal := Cert.SguFwdRefIdeal.Gen.facts) := fun m g _ =>
  (θ_run Cert.SguFwdRefIdeal.defs _ _).mono (fun _ h => ⟨fun c => (h c).2, sem_eq_zero_of_no_sems (by decide) _⟩)
    (Cert.SguFwdRefIdeal.Value.run m g)

/-- The result of the forward spatial gating is that of its reference, whatever its arguments. -/
theorem algebraic : Cert.algebraic_SguFwdIdeal_SguFwdRefIdeal := by
  intro m g m' g' _ hagree
  refine ⟨_, run m g, (θ_run Cert.SguFwdRefIdeal.defs _ _).mono (fun r h c => ?_) (Cert.SguFwdRefIdeal.Value.run m' g')⟩
  obtain ⟨h0, hargs⟩ := h c
  obtain ⟨a0, a1, a2, a3, a4, a5⟩ := hagree c
  refine ⟨h0.trans ?_, hargs⟩
  refine (Cert.SguFwdRefIdeal.Read.val_main_v41_eq (F := Ideal) _ _ _ _ _ _).trans
    ((Cert.Proof.Conv.congr6 (Cert.SguFwdRefIdeal.Read.val_main_v41 (F := Ideal)) a0 a1 a2 a3 a4 a5).trans ?_)
  funext i
  obtain ⟨s, k, rfl⟩ : ∃ (s : Fin 8192) (k : Fin 2048), i = ix2 s k := ⟨i 0, i 1, by blk_ext⟩
  refine (Cert.SguFwdRefIdeal.Entry.full_apply _ _ _ _ _ _ s k).trans ?_
  by_cases hk : k.val < 1024
  · exact (dif_pos hk).trans (full_left m c s k (by omega)).symm
  · refine (dif_neg hk).trans (Eq.trans ?_ (full_right m c s k (by omega)).symm)
    rw [Cert.SguFwdRefIdeal.Entry.out_apply, ← Sgu.sgm_eq_sgr]
    rfl

end Cert.Proof.Sf

end
-- ==== Proof.PjRun.lean ====
module

public import proofs.«01_k».proof.Proof.Gen.ProjFwdIdeal.Frame
public import Idealize.ShloMosaic.Lib.VecWindow
public import Idealize.ShloMosaic.Lib.WritesUnit
public import Idealize.ShloMosaic.Lib.ValueIdx

/-! One grid point of the input projection, over any arithmetic: at a point of the first column block the rows are
normed and kept, at every point the kept rows meet one block of the matrix. -/

@[expose] public section

set_option maxRecDepth 16384

noncomputable section

namespace Cert.ProjFwdIdeal.Pj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.ProjFwdIdeal.Gen

variable {F : FTy → Type} [FloatOps F]

local notation "𝕄" => MT nD τ sig Unit (Elt F) ℕ (UR sig nD τ) ℕ

/-- The point is of the first column block. -/
abbrev first (i : grid0.Coords) : Prop := k0_cond1 i = 1#1

/-- The kept row block number `k`. -/
def kept (d : Vec F S8x1024x1024 .bf16) (k : Fin 8) : Vec F S1x1024x1024 .bf16 := fun x => d (ix3 k (x 1 : Fin 1024) (x 2 : Fin 1024))

/-- The matrix's column block number `k`. -/
def cols (w : Vec F S8x1024x768 .bf16) (k : Fin 8) : Vec F S1x1024x768 .bf16 := fun x => w (ix3 k (x 1 : Fin 1024) (x 2 : Fin 768))

/-- The kept row blocks with number `k` replaced. -/
def put (d : Vec F S8x1024x1024 .bf16) (k : Fin 8) (p : Vec F S1x1024x1024 .bf16) : Vec F S8x1024x1024 .bf16 := fun y =>
  if (y 0).val = k.val then p (ix3 (0 : Fin 1) (y 1 : Fin 1024) (y 2 : Fin 1024)) else d y

theorem off1_eq (i : grid0.Coords) : k0_off1 i = ![(i 1).val, 0, 0] := by
  have h : (i 1).val < 8 := (i 1).isLt
  unfold k0_off1
  have e : (Scalar.indexCast (BitVec.ofNat 32 (i 1).val)).toNat = (i 1).val := by
    simp only [Scalar.indexCast, BitVec.toNat_ofNat]
    omega
  simp only [e]

theorem off2_eq (i : grid0.Coords) : k0_off2 i = ![(i 1).val, 0, 0] := off1_eq i

theorem off3_eq (i : grid0.Coords) : k0_off3 i = ![(i 0).val, 0, 0] := by
  have h : (i 0).val < 8 := (i 0).isLt
  unfold k0_off3
  have e : (Scalar.indexCast (BitVec.ofNat 32 (i 0).val)).toNat = (i 0).val := by
    simp only [Scalar.indexCast, BitVec.toNat_ofNat]
    omega
  simp only [e]

/-- Reading the row block of the point. -/
theorem ld_kept (i : grid0.Coords) (d : Vec F S8x1024x1024 .bf16) :
    View.ld (Val := Elt F) d (Rect.unit (s := S8x1024x1024) (k0_off2 i) S1x1024x1024.size (k0_off2_inb i)) = kept d (i 1) := by
  funext x
  refine congrArg d (funext fun a => Fin.ext ?_)
  have e := congrFun (off2_eq i) a
  have h0 : (x 0).val < 1 := (x 0).isLt
  show k0_off2 i a + 1 * (x a).val = _
  rw [e]
  fin_cases a
  · show (i 1).val + 1 * (x 0).val = (i 1).val
    omega
  · show 0 + 1 * (x 1).val = (x 1).val
    omega
  · show 0 + 1 * (x 2).val = (x 2).val
    omega

/-- Reading the column block of the point. -/
theorem ld_cols (i : grid0.Coords) (w : Vec F S8x1024x768 .bf16) :
    View.ld (Val := Elt F) w (Rect.unit (s := S8x1024x768) (k0_off3 i) S1x1024x768.size (k0_off3_inb i)) = cols w (i 0) := by
  funext x
  refine congrArg w (funext fun a => Fin.ext ?_)
  have e := congrFun (off3_eq i) a
  have h0 : (x 0).val < 1 := (x 0).isLt
  show k0_off3 i a + 1 * (x a).val = _
  rw [e]
  fin_cases a
  · show (i 0).val + 1 * (x 0).val = (i 0).val
    omega
  · show 0 + 1 * (x 1).val = (x 1).val
    omega
  · show 0 + 1 * (x 2).val = (x 2).val
    omega

/-- A store of the point's row block, read back whole. -/
theorem read_put (v : View sig .tc .vmem S8x1024x1024 .bf16) (f : BufTy.Contents (Elt F) v.ty) (i : grid0.Coords) (hc : first i)
    (p : FVec F S1x1024x1024 .bf16) :
    v.read (Elt F) (v.writes (Elt F) f [⟨Rect.unit (s := S8x1024x1024) (k0_off1 i) S1x1024x1024.size (k0_off1_inb i hc), p⟩])
      = put (v.read (Elt F) f) (i 1) p := by
  funext y
  unfold put
  split
  · next h =>
    exact View.read_writes_cons_unit_of_mem v f _ _ _ y (ix3 (0 : Fin 1) (y 1 : Fin 1024) (y 2 : Fin 1024)) (off1_eq i) (by
      intro a
      fin_cases a
      · exact h
      · exact (Nat.zero_add _).symm
      · exact (Nat.zero_add _).symm)
  · next h =>
    refine (View.read_writes_cons_unit_of_not_mem v f _ _ _ y (off1_eq i) 0 ?_)
    show (y 0).val < (i 1).val ∨ (i 1).val + 1 ≤ (y 0).val
    omega

theorem kept_put (d : Vec F S8x1024x1024 .bf16) (k : Fin 8) (p : Vec F S1x1024x1024 .bf16) : kept (put d k p) k = p := by
  funext x
  have h0 : (x 0).val < 1 := (x 0).isLt
  refine (if_pos rfl).trans (congrArg p (funext fun a => Fin.ext ?_))
  fin_cases a
  · show 0 = (x 0).val
    omega
  · rfl
  · rfl

end Cert.ProjFwdIdeal.Pj
-- ==== Proof.PjPoint.lean ====
module

public import proofs.«01_k».proof.Proof.PjRun
public import proofs.«01_k».proof.Proof.Gen.ProjFwdIdeal.Skeleton
public import Idealize.ShloMosaic.Lib.Ring
public import Idealize.ShloMosaic.Lib.WordCmp

/-! The body of the input projection at a point, run on the memory. -/

@[expose] public section

set_option maxRecDepth 16384

noncomputable section

namespace Cert.ProjFwdIdeal.Pj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.ProjFwdIdeal.Gen

variable {F : FTy → Type} [FloatOps F]

local notation "𝕄" => MT nD τ sig Unit (Elt F) ℕ (UR sig nD τ) ℕ

variable (c : Dev nD) (i : grid0.Coords) (arg2 : Memref sig .tc .vmem S1024x1024 .f32) (harg2 : arg2.IsWhole) (arg3 : Memref sig .tc .vmem S1x1024 .f32) (harg3 : arg3.IsWhole)
  (arg4 : Memref sig .tc .vmem S8x1024x768 .bf16) (harg4 : arg4.IsWhole) (arg5 : Memref sig .tc .vmem S1024x768 .bf16) (harg5 : arg5.IsWhole)
  (arg6 : Memref sig .tc .vmem S1024x1024 .bf16) (harg6 : arg6.IsWhole) (arg7 : Memref sig .tc .vmem S8x1024x1024 .bf16) (harg7 : arg7.IsWhole)

set_option maxHeartbeats 4000000 in
/-- A later column block: the kept rows of the point meet its columns; nothing else changes. -/
theorem run_next (x : Vec F S1024x1024 .f32) (g : Vec F S1x1024 .f32) (w : Vec F S8x1024x768 .bf16) (e : Vec F S1024x1024 .bf16) (d : Vec F S8x1024x1024 .bf16)
    (hc : ¬ first i) (E : Set ℕ) (K : PUnit → sProp 𝕄) :
    iprop(owns (c : Thread nD τ) arg2 fullShare x ∗ owns (c : Thread nD τ) arg3 fullShare g ∗ owns (c : Thread nD τ) arg4 fullShare w
      ∗ (∃ y, owns (c : Thread nD τ) arg5 fullShare y) ∗ owns (c : Thread nD τ) arg6 fullShare e ∗ owns (c : Thread nD τ) arg7 fullShare d
      ∗ (owns (c : Thread nD τ) arg2 fullShare x ∗ owns (c : Thread nD τ) arg3 fullShare g ∗ owns (c : Thread nD τ) arg4 fullShare w
        ∗ owns (c : Thread nD τ) arg5 fullShare (k0_pay4 (kept d (i 1)) (cols w (i 0))) ∗ owns (c : Thread nD τ) arg6 fullShare e ∗ owns (c : Thread nD τ) arg7 fullShare d -∗ K ⟨⟩))
    ⊢ wp frame (wpE (defs₀ (F := F)) Variants.none c none) E (cc0_proj_ag (F := F) i arg2 harg2 arg3 harg3 arg4 harg4 arg5 harg5 arg6 harg6 arg7 harg7) K := by
  simp only [cc0_proj_ag_eq_skeleton]; unfold cc0_proj_ag_skel
  unfold owns
  iintro ⟨⟨%f2, %h2, H2⟩, ⟨%f3, %h3, H3⟩, ⟨%f4, %h4, H4⟩, ⟨%y5, %f5, %h5, H5⟩, ⟨%f6, %h6, H6⟩, ⟨%f7, %h7, H7⟩, Hk⟩
  subst h2; subst h3; subst h4; subst h6; subst h7
  sl_exec (disch := first | sl_exact hc)
  sl_step
  iapply Hk
  isplitl [H2]
  · iexists _; isplitr
    swap
    · iexact H2
    ipureintro; rfl
  isplitl [H3]
  · iexists _; isplitr
    swap
    · iexact H3
    ipureintro; rfl
  isplitl [H4]
  · iexists _; isplitr
    swap
    · iexact H4
    ipureintro; rfl
  isplitl [H5]
  · iexists _; isplitr
    swap
    · iexact H5
    ipureintro
    exact (View.read_writes_full arg5.view _ _ _ _).trans (congrArg₂ k0_pay4 (ld_kept i _) (ld_cols i _))
  isplitl [H6]
  · iexists _; isplitr
    swap
    · iexact H6
    ipureintro; rfl
  iexists _; isplitr
  swap
  · iexact H7
  ipureintro; rfl

set_option maxHeartbeats 4000000 in
/-- The first column block: the rows are normed, kept, given out transposed, and meet the first columns. -/
theorem run_first (x : Vec F S1024x1024 .f32) (g : Vec F S1x1024 .f32) (w : Vec F S8x1024x768 .bf16) (d : Vec F S8x1024x1024 .bf16)
    (hc : first i) (E : Set ℕ) (K : PUnit → sProp 𝕄) :
    iprop(owns (c : Thread nD τ) arg2 fullShare x ∗ owns (c : Thread nD τ) arg3 fullShare g ∗ owns (c : Thread nD τ) arg4 fullShare w
      ∗ (∃ y, owns (c : Thread nD τ) arg5 fullShare y) ∗ (∃ y, owns (c : Thread nD τ) arg6 fullShare y) ∗ owns (c : Thread nD τ) arg7 fullShare d
      ∗ (owns (c : Thread nD τ) arg2 fullShare x ∗ owns (c : Thread nD τ) arg3 fullShare g ∗ owns (c : Thread nD τ) arg4 fullShare w
        ∗ owns (c : Thread nD τ) arg5 fullShare (k0_pay4 (k0_pay2 x g) (cols w (i 0))) ∗ owns (c : Thread nD τ) arg6 fullShare (k0_pay3 x g)
        ∗ owns (c : Thread nD τ) arg7 fullShare (put d (i 1) (k0_pay2 x g)) -∗ K ⟨⟩))
    ⊢ wp frame (wpE (defs₀ (F := F)) Variants.none c none) E (cc0_proj_ag (F := F) i arg2 harg2 arg3 harg3 arg4 harg4 arg5 harg5 arg6 harg6 arg7 harg7) K := by
  simp only [cc0_proj_ag_eq_skeleton]; unfold cc0_proj_ag_skel
  unfold owns
  iintro ⟨⟨%f2, %h2, H2⟩, ⟨%f3, %h3, H3⟩, ⟨%f4, %h4, H4⟩, ⟨%y5, %f5, %h5, H5⟩, ⟨%y6, %f6, %h6, H6⟩, ⟨%f7, %h7, H7⟩, Hk⟩
  subst h2; subst h3; subst h4; subst h7
  sl_exec (disch := first | sl_exact hc)
  sl_step
  iapply Hk
  isplitl [H2]
  · iexists _; isplitr
    swap
    · iexact H2
    ipureintro; rfl
  isplitl [H3]
  · iexists _; isplitr
    swap
    · iexact H3
    ipureintro; rfl
  isplitl [H4]
  · iexists _; isplitr
    swap
    · iexact H4
    ipureintro; rfl
  isplitl [H5]
  · iexists _; isplitr
    swap
    · iexact H5
    ipureintro
    refine (View.read_writes_full arg5.view _ _ _ _).trans (congrArg₂ k0_pay4 ?_ (ld_cols i _))
    unfold run_first.sl.v4
    exact ((congrArg (fun X => View.ld (Val := Elt F) X (Rect.unit (s := S8x1024x1024) (k0_off2 i) S1x1024x1024.size (k0_off2_inb i)))
      (read_put arg7.view (arg7.view.junk (Val := Elt F)) i hc _)).trans ((ld_kept i _).trans (kept_put _ _ _))).trans
      (congrArg₂ k0_pay2 (View.readAt_full arg2.view f2 _) (View.readAt_full arg3.view f3 _))
  isplitl [H6]
  · iexists _; isplitr
    swap
    · iexact H6
    ipureintro
    exact (View.read_writes_full arg6.view _ _ _ _).trans (congrArg₂ k0_pay3 (View.readAt_full arg2.view f2 _) (View.readAt_full arg3.view f3 _))
  iexists _; isplitr
  swap
  · iexact H7
  ipureintro
  exact (read_put arg7.view f7 i hc _).trans (congrArg (put (arg7.view.read (Elt F) f7) (i 1))
    (congrArg₂ k0_pay2 (View.readAt_full arg2.view f2 _) (View.readAt_full arg3.view f3 _)))

end Cert.ProjFwdIdeal.Pj
-- ==== Proof.PjFrame.lean ====
module

public import proofs.«01_k».proof.Proof.PjPoint
public import Idealize.ShloMosaic.Lib.Claim
public import Idealize.ShloMosaic.Lib.Pipeline.TableIdle

/-! The run of the input projection: the scratch holds, before each point, the normed rows of every point before it. -/

@[expose] public section

set_option maxRecDepth 16384

noncomputable section

namespace Cert.ProjFwdIdeal.Pj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.ProjFwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem col_val (t : Fin cfg0.N) : (grid0.coords t 0).val = t.val / 8 := by
  have ht : t.val < 64 := Nat.lt_of_lt_of_eq t.isLt N_0
  have e : (grid0.coords t 0).val = t.val / 8 % 8 := Pipeline.Grid.coords_val t 0 (by decide) rfl
  omega

theorem row_val (t : Fin cfg0.N) : (grid0.coords t 1).val = t.val % 8 := by
  have e : (grid0.coords t 1).val = t.val / 1 % 8 := Pipeline.Grid.coords_val t 1 (by decide) rfl
  omega

/-- The body's condition holds at the first eight points. -/
theorem first_iff (t : Fin cfg0.N) : first (grid0.coords t) ↔ t.val < 8 := by
  have ht : t.val < 64 := Nat.lt_of_lt_of_eq t.isLt N_0
  have h : first (grid0.coords t) ↔ t.val / 8 = 0 := by
    simp only [first, k0_cond1, col_val]
    word_cmp
  rw [h]
  omega

/-- The rows, the gain and the matrix as point `t` sees them. -/
def xb (c : Dev nD) (t : Fin cfg0.N) : Vec F S1024x1024 .f32 := iblk m c 0 t
def gb (c : Dev nD) (t : Fin cfg0.N) : Vec F S1x1024 .f32 := iblk m c 1 t
def wb (c : Dev nD) (t : Fin cfg0.N) : Vec F S8x1024x768 .bf16 := iblk m c 2 t

/-- Point number `n`, the last of the first eight if `n` is beyond. -/
def pt (n : ℕ) : Fin cfg0.N := ⟨min n 7, Nat.lt_of_lt_of_eq (Nat.lt_of_le_of_lt (Nat.min_le_right n 7) (by decide)) N_0.symm⟩

theorem pt_self (t : Fin cfg0.N) (h : t.val < 8) : pt t.val = t := Fin.ext (Nat.min_eq_left (Nat.le_of_lt_succ h))

theorem pt_late (n k : ℕ) (hn : 7 ≤ n) (hk : 7 ≤ k) : pt n = pt k := Fin.ext ((Nat.min_eq_right hn).trans (Nat.min_eq_right hk).symm)

/-- The normed rows of block `k`. -/
def hrow (c : Dev nD) (k : Fin 8) : Vec F S1x1024x1024 .bf16 := k0_pay2 (xb m c (pt k.val)) (gb m c (pt k.val))

/-- They are what the body norms at its first points. -/
theorem hrow_self (c : Dev nD) (t : Fin cfg0.N) (h : t.val < 8) : hrow m c (grid0.coords t 1) = k0_pay2 (xb m c t) (gb m c t) := by
  have e : pt (grid0.coords t 1).val = t := by
    rw [row_val, Nat.mod_eq_of_lt h, pt_self t h]
  unfold hrow
  rw [e]

/-- The scratch holds the normed rows of the first `n` blocks. -/
def Holds (c : Dev nD) (n : ℕ) (d : Vec F S8x1024x1024 .bf16) : Prop := ∀ k : Fin 8, k.val < n → kept d k = hrow m c k

theorem kept_put_ne (d : Vec F S8x1024x1024 .bf16) (k j : Fin 8) (p : Vec F S1x1024x1024 .bf16) (h : j.val ≠ k.val) :
    kept (put d k p) j = kept d j := by
  funext x
  exact if_neg h

theorem holds_put (c : Dev nD) (t : Fin cfg0.N) (h : t.val < 8) (d : Vec F S8x1024x1024 .bf16) (hd : Holds m c t.val d) :
    Holds m c (t.val + 1) (put d (grid0.coords t 1) (k0_pay2 (xb m c t) (gb m c t))) := by
  intro k hk
  have e : (grid0.coords t 1).val = t.val := (row_val t).trans (Nat.mod_eq_of_lt h)
  by_cases hkt : k.val = t.val
  · have ek : k = grid0.coords t 1 := Fin.ext (hkt.trans e.symm)
    subst ek
    exact (kept_put d _ _).trans (hrow_self m c t h).symm
  · exact (kept_put_ne d _ k _ (fun h' => hkt (h'.trans e))).trans (hd k (by omega))

theorem holds_late (c : Dev nD) (n : ℕ) (h : 8 ≤ n) (d : Vec F S8x1024x1024 .bf16) (hd : Holds m c n d) (k : Fin 8) : kept d k = hrow m c k :=
  hd k (Nat.lt_of_lt_of_le k.isLt h)

attribute [local irreducible] iblk

/-- The scratch before point `n`, and the generator. -/
def inv (c : Dev nD) (n : ℕ) : sProp 𝕄 :=
  iprop((∃ d, ⌜Holds m c n d⌝ ∗ owns (c : Thread nD τ) (Memref.whole cc0_scratch0 : Memref sig .tc .vmem S8x1024x1024 .bf16) fullShare d)
    ∗ (∃ r, prngReg c r))

/-- What every buffer holds after every point. -/
def dats (_ : Fin 1) (c : Dev nD) : Dat τ (Elt F) Unit ℕ (UR sig nD τ) ℕ cfg0 c where
  A w := V m c (Pipeline.arrRef spec0 w)
  after w t := match w with
    | ⟨0, _⟩ => xb m c t
    | ⟨1, _⟩ => gb m c t
    | ⟨2, _⟩ => wb m c t
    | ⟨3, _⟩ => k0_pay4 (hrow m c (grid0.coords t 1)) (cols (wb m c t) (grid0.coords t 0))
    | ⟨4, _⟩ => k0_pay3 (xb m c (pt t.val)) (gb m c (pt t.val))
    | ⟨n + 5, h⟩ => absurd h (Nat.not_lt.mpr (Nat.le_add_left 5 n))
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xb m c t := by dsimp only [dats]
theorem after_1 (c : Dev nD) (t : Fin cfg0.N) : (dats m 0 c).after 1 t = gb m c t := by dsimp only [dats]
theorem after_2 (c : Dev nD) (t : Fin cfg0.N) : (dats m 0 c).after 2 t = wb m c t := by dsimp only [dats]
theorem after_3 (c : Dev nD) (t : Fin cfg0.N) :
    (dats m 0 c).after 3 t = k0_pay4 (hrow m c (grid0.coords t 1)) (cols (wb m c t) (grid0.coords t 0)) := by dsimp only [dats]
theorem after_4 (c : Dev nD) (t : Fin cfg0.N) : (dats m 0 c).after 4 t = k0_pay3 (xb m c (pt t.val)) (gb m c (pt t.val)) := by dsimp only [dats]

theorem before_0 (c : Dev nD) (t : Fin cfg0.N) (d) : (dats m 0 c).before 0 t d = xb m c t :=
  before0_0_of m (dats m 0 c) (A_eq m c 0) (fun t => after_0 m c t) t d

theorem before_1 (c : Dev nD) (t : Fin cfg0.N) (d) : (dats m 0 c).before 1 t d = gb m c t :=
  before0_1_of m (dats m 0 c) (A_eq m c 1) (fun t => after_1 m c t) t d

theorem before_2 (c : Dev nD) (t : Fin cfg0.N) (d) : (dats m 0 c).before 2 t d = wb m c t :=
  before0_2_of m (dats m 0 c) (A_eq m c 2) (fun t => after_2 m c t) t d

set_option maxHeartbeats 4000000 in
/-- The transposed rows are written back after each of the first seven points and at the end. -/
theorem flush_4 : ∀ t : Fin cfg0.N, (cfg0.win 4).flush t = true ↔ t.val < 7 ∨ t.val = 63 := by decide +kernel

/-- Its buffer holds nothing settled before the eighth point has run. -/
theorem fresh_4 (n : ℕ) (h : n ≤ cfg0.N) : cfg0.fresh 4 n = (decide (n ≤ 7) || decide (n = 64)) := by
  refine cfg0.fresh_tab 4 (fun n => decide (n ≤ 7) || decide (n = 64)) rfl (fun t => ?_) n h
  have ht : t.val < 64 := Nat.lt_of_lt_of_eq t.isLt N_0
  have hi : cfg0.idle 4 (cfg0.grid.coords t) = !(k0_cond1 (grid0.coords t) == 1#1) := rfl
  rw [hi]
  by_cases h8 : t.val < 8
  · have e1 : k0_cond1 (grid0.coords t) = 1#1 := (first_iff t).mpr h8
    by_cases h7 : t.val < 7
    · rw [(flush_4 t).mpr (Or.inl h7)]
      simp only [Bool.true_or, Bool.or_eq_true, decide_eq_true_eq]
      omega
    · have ef : (cfg0.win 4).flush t = false := Bool.eq_false_iff.mpr fun e => by have := (flush_4 t).mp e; omega
      rw [ef, e1]
      have e7 : t.val = 7 := by omega
      rw [e7]
      rfl
  · by_cases h63 : t.val = 63
    · rw [(flush_4 t).mpr (Or.inr h63), h63]
      rfl
    · have ef : (cfg0.win 4).flush t = false := Bool.eq_false_iff.mpr fun e => by have := (flush_4 t).mp e; omega
      have e1 : decide (t.val ≤ 7) = false := decide_eq_false (by omega)
      have e2 : decide (t.val = 64) = false := decide_eq_false (by omega)
      have e3 : decide (t.val + 1 ≤ 7) = false := decide_eq_false (by omega)
      have e4 : decide (t.val + 1 = 64) = false := decide_eq_false (by omega)
      simp only [ef, e1, e2, e3, e4, Bool.or_false, Bool.and_false]

theorem before_4 (c : Dev nD) (t : Fin cfg0.N) (h : ¬ t.val < 8) (d) :
    (dats m 0 c).before 4 t d = k0_pay3 (xb m c (pt t.val)) (gb m c (pt t.val)) := by
  have hN : t.val < 64 := Nat.lt_of_lt_of_eq t.isLt N_0
  have hl : ∀ (t : Fin cfg0.N), cfg0.fresh 4 t.val = false → 8 ≤ t.val := by
    intro t e
    rw [fresh_4 t.val (Nat.le_of_lt t.isLt)] at e
    by_contra h'
    rw [decide_eq_true (show t.val ≤ 7 by omega), Bool.true_or] at e
    exact absurd e (by decide)
  have hf : cfg0.fresh 4 t.val = false := by
    rw [fresh_4 t.val (Nat.le_of_lt t.isLt), decide_eq_false (by omega), decide_eq_false (by omega)]
    rfl
  refine ((dats m 0 c).before_out_traj 4 rfl (fun _ _ => rfl) (fun t _ _ e => ?_) t.val t rfl d).trans ?_
  · have h8 := hl t e
    rw [after_4, after_4]
    dsimp only
    rw [pt_late (t.val - 1) t.val (by omega) (by omega)]
  · rw [hf, if_neg Bool.false_ne_true, after_4]
    dsimp only
    rw [pt_late (t.val - 1) t.val (by omega) (by omega)]

/-- What the body leaves of the transposed rows is what the pipeline asks of it. -/
theorem leaves_4 (c : Dev nD) (t : Fin cfg0.N) :
    (owns (c : Thread nD τ) (win0_4.stage (cfg0.slots t 4) : Memref sig .tc .vmem S1024x1024 .bf16) fullShare ((dats m 0 c).after 4 t) : sProp 𝕄)
      ⊢ (match cfg0.idle 4 (cfg0.grid.coords t) with
        | true =>
          match (cfg0.win 4).flush t with
          | false => iprop(∃ d, owns (c : Thread nD τ) ((cfg0.win 4).stage (cfg0.slots t 4)) fullShare ((dats m 0 c).before 4 t d))
          | true => owns (c : Thread nD τ) ((cfg0.win 4).stage (cfg0.slots t 4)) fullShare ((dats m 0 c).after 4 t)
        | false => owns (c : Thread nD τ) ((cfg0.win 4).stage (cfg0.slots t 4)) fullShare ((dats m 0 c).after 4 t)) := by
  by_cases h0 : t.val < 8
  · have hi : cfg0.idle 4 (cfg0.grid.coords t) = false := by
      show (!(k0_cond1 (grid0.coords t) == 1#1)) = false
      rw [show k0_cond1 (grid0.coords t) = 1#1 from (first_iff t).mpr h0]
      rfl
    rw [hi]
  · cases cfg0.idle 4 (cfg0.grid.coords t)
    · exact .rfl
    · cases (cfg0.win 4).flush t
      · simp only [before_4 m c t h0, after_4]
        iintro H
        iexists (fun _ => Classical.arbitrary _)
        iexact H
      · exact .rfl

/-- What the body is given at point `t`. -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0) : Memref sig .tc .vmem S1024x1024 .f32) fullShare ((dats m 0 c).before 0 t d)) ∗ (∃ d, owns (c : Thread nD τ) (win0_1.stage (cfg0.slots t 1) : Memref sig .tc .vmem S1x1024 .f32) fullShare ((dats m 0 c).before 1 t d)) ∗ (∃ d, owns (c : Thread nD τ) (win0_2.stage (cfg0.slots t 2) : Memref sig .tc .vmem S8x1024x768 .bf16) fullShare ((dats m 0 c).before 2 t d)) ∗ (∃ d, owns (c : Thread nD τ) (win0_3.stage (cfg0.slots t 3) : Memref sig .tc .vmem S1024x768 .bf16) fullShare ((dats m 0 c).before 3 t d)) ∗ (∃ d, owns (c : Thread nD τ) (win0_4.stage (cfg0.slots t 4) : Memref sig .tc .vmem S1024x1024 .bf16) fullShare ((dats m 0 c).before 4 t d)))

/-- What the body returns. -/
def bodyPost (c : Dev nD) (t : Fin cfg0.N) : sProp 𝕄 :=
  iprop((dats m 0 c).Φ t.succ ∗ (dats m 0 c).owesAt () t.succ ∗ owns (c : Thread nD τ) (win0_0.stage (cfg0.slots t 0) : Memref sig .tc .vmem S1024x1024 .f32) fullShare ((dats m 0 c).after 0 t) ∗ owns (c : Thread nD τ) (win0_1.stage (cfg0.slots t 1) : Memref sig .tc .vmem S1x1024 .f32) fullShare ((dats m 0 c).after 1 t) ∗ owns (c : Thread nD τ) (win0_2.stage (cfg0.slots t 2) : Memref sig .tc .vmem S8x1024x768 .bf16) fullShare ((dats m 0 c).after 2 t) ∗ owns (c : Thread nD τ) (win0_3.stage (cfg0.slots t 3) : Memref sig .tc .vmem S1024x768 .bf16) fullShare ((dats m 0 c).after 3 t) ∗ owns (c : Thread nD τ) (win0_4.stage (cfg0.slots t 4) : Memref sig .tc .vmem S1024x1024 .bf16) fullShare ((dats m 0 c).after 4 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2, after_3, after_4]
  rw [show (dats m 0 c).Φ t.castSucc = inv m c t.val from rfl, show (dats m 0 c).Φ t.succ = inv m c (t.val + 1) from rfl]
  unfold inv
  by_cases h0 : t.val < 8
  · rw [hrow_self m c t h0, pt_self t h0]
    iintro ⟨⟨⟨%d, %hd, HS⟩, Hg⟩, Ho, ⟨%d0, H0⟩, ⟨%d1, H1⟩, ⟨%d2, H2⟩, ⟨%d3, H3⟩, ⟨%d4, H4⟩⟩
    iapply (run_first c (grid0.coords t) (win0_0.stage (cfg0.slots t 0) : Memref sig .tc .vmem S1024x1024 .f32) (hstage0_0 ((cfg0.slots t 0).cast nbuf0_0)) (win0_1.stage (cfg0.slots t 1) : Memref sig .tc .vmem S1x1024 .f32) (hstage0_1 ((cfg0.slots t 1).cast nbuf0_1)) (win0_2.stage (cfg0.slots t 2) : Memref sig .tc .vmem S8x1024x768 .bf16) (hstage0_2 ((cfg0.slots t 2).cast nbuf0_2)) (win0_3.stage (cfg0.slots t 3) : Memref sig .tc .vmem S1024x768 .bf16) (hstage0_3 ((cfg0.slots t 3).cast nbuf0_3)) (win0_4.stage (cfg0.slots t 4) : Memref sig .tc .vmem S1024x1024 .bf16) (hstage0_4 ((cfg0.slots t 4).cast nbuf0_4)) (Memref.whole cc0_scratch0) (Memref.isWhole_whole _) (xb m c t) (gb m c t) (wb m c t) d ((first_iff t).mpr h0))
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]
      · iexists _
        isplitr
        swap
        · iexact HS
        ipureintro
        exact holds_put m c t h0 d hd
      iexact Hg
    isplitl [Ho]; · iexact Ho
    isplitl [H0]; · iexact H0
    isplitl [H1]; · iexact H1
    isplitl [H2]; · iexact H2
    isplitl [H3]; · iexact H3
    iexact H4
  · simp only [before_4 m c t h0]
    iintro ⟨⟨⟨%d, %hd, HS⟩, Hg⟩, Ho, ⟨%d0, H0⟩, ⟨%d1, H1⟩, ⟨%d2, H2⟩, ⟨%d3, H3⟩, ⟨%d4, H4⟩⟩
    rw [← holds_late m c t.val (Nat.le_of_not_lt h0) d hd (grid0.coords t 1)]
    iapply (run_next c (grid0.coords t) (win0_0.stage (cfg0.slots t 0) : Memref sig .tc .vmem S1024x1024 .f32) (hstage0_0 ((cfg0.slots t 0).cast nbuf0_0)) (win0_1.stage (cfg0.slots t 1) : Memref sig .tc .vmem S1x1024 .f32) (hstage0_1 ((cfg0.slots t 1).cast nbuf0_1)) (win0_2.stage (cfg0.slots t 2) : Memref sig .tc .vmem S8x1024x768 .bf16) (hstage0_2 ((cfg0.slots t 2).cast nbuf0_2)) (win0_3.stage (cfg0.slots t 3) : Memref sig .tc .vmem S1024x768 .bf16) (hstage0_3 ((cfg0.slots t 3).cast nbuf0_3)) (win0_4.stage (cfg0.slots t 4) : Memref sig .tc .vmem S1024x1024 .bf16) (hstage0_4 ((cfg0.slots t 4).cast nbuf0_4)) (Memref.whole cc0_scratch0) (Memref.isWhole_whole _) (xb m c t) (gb m c t) (wb m c t) (k0_pay3 (xb m c (pt t.val)) (gb m c (pt t.val))) d (fun h => h0 ((first_iff t).mp h)))
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]
      · iexists _
        isplitr
        swap
        · iexact HS
        ipureintro
        exact fun k _ => holds_late m c t.val (Nat.le_of_not_lt h0) d hd k
      iexact Hg
    isplitl [Ho]; · iexact Ho
    isplitl [H0]; · iexact H0
    isplitl [H1]; · iexact H1
    isplitl [H2]; · iexact H2
    isplitl [H3]; · iexact H3
    iexact H4

/-- The body the pipeline calls is the body at the point's memrefs. -/
theorem defs₀_row (t : Fin cfg0.N) :
    defs₀ (F := F) .tc cfg0.body (cfg0.bodyArgs t (cfg0.slots t)) = bodyAt0 t := by
  unfold defs₀; rw [Defs.onTc_tc]

/-- The body's obligation to the pipeline. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply (leaves_4 m c t)
  iexact H4

/-- The scratch at some contents, and the generator. -/
theorem inv_eq (c : Dev nD) :
    (Pipeline.ΦA spec0 c : sProp 𝕄)
      = iprop((∃ d, owns (c : Thread nD τ) (Memref.whole cc0_scratch0 : Memref sig .tc .vmem S8x1024x1024 .bf16) fullShare d)
        ∗ (∃ r, prngReg c r)) := by
  unfold Pipeline.ΦA; rw [scopedRest0_eq]; simp only [owns_whole]; try rfl

theorem inv_in (c : Dev nD) : (Pipeline.ΦA spec0 c : sProp 𝕄) ⊢ inv m c 0 := by
  rw [inv_eq]
  unfold inv
  iintro ⟨⟨%d, HS⟩, Hg⟩
  isplitl [HS]
  · iexists d
    isplitr
    swap
    · iexact HS
    ipureintro
    exact fun k hk => absurd hk (Nat.not_lt_zero _)
  iexact Hg

theorem inv_out (c : Dev nD) (n : ℕ) : inv m c n ⊢ (Pipeline.ΦA spec0 c : sProp 𝕄) := by
  rw [inv_eq]
  unfold inv
  iintro ⟨⟨%d, %hd, HS⟩, Hg⟩
  isplitl [HS]
  · iexists d
    iexact HS
  iexact Hg

set_option backward.isDefEq.respectTransparency.types false in
set_option maxHeartbeats 800000 in
/-- The run, every counter at zero at its end. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => (dats m 0 c).share_full (fun _ => rfl) w)
    (howed := fun _ _ => rfl) (V := V m) (hmain := hmain m Variants.none) (hA := A_eq m)
    (hin := inv_in m) (hout := fun c => inv_out m c _)

/-- The run: every array of the call and every other buffer at what the points leave. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  frame_of m ρ (dats m) (A_eq m) (run_main m ρ)

/-- The run ends, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.ProjFwdIdeal.Pj
-- ==== Proof.PjFrameBits.lean ====
module

public import proofs.«01_k».proof.Proof.PjFrame
public import proofs.«01_k».proof.Proof.Gen.ProjFwd
public import Idealize.ShloMosaic.PureOps.BitExact

@[expose] public section

set_option maxRecDepth 16384

noncomputable section

namespace Cert.ProjFwd.Pj

open Idealize.ShloMosaic Idealize.ShloMosaic.TcCoe Idealize.ShloMosaic.Tactic
open Idealize.SL.Sem Cert.ProjFwd.Gen

/-- The two programs are one text: what is said of one is said of the other. -/
theorem same (m : (ℓ : Loc Cert.ProjFwd.nD Cert.ProjFwd.τ Cert.ProjFwd.sig) → Buf (Elt Bits) ℓ) (g : Dev Cert.ProjFwd.nD → PrngReg) :
    (θ_run (Cert.ProjFwdIdeal.defs (F := Bits)) (onTc (τ := Cert.ProjFwdIdeal.τ) (Cert.ProjFwdIdeal.main (F := Bits))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ r.2.sem = fun _ => 0))
      = (θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2))
      ∧ r.2.sem = fun _ => 0)) := by
  sl_kernel_rfl

/-- The frame of the program in bits, from the frame at any arithmetic. -/
theorem frame (m : (ℓ : Loc Cert.ProjFwd.nD Cert.ProjFwd.τ Cert.ProjFwd.sig) → Buf (Elt Bits) ℓ) (g : Dev Cert.ProjFwd.nD → PrngReg) :
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2))
      ∧ r.2.sem = fun _ => 0) :=
  (same m g).mp (Cert.ProjFwdIdeal.Pj.frame (F := Bits) m g)

end Cert.ProjFwd.Pj
-- ==== Proof.PjValue.lean ====
module

public import proofs.«01_k».proof.Proof.PjFrame
public import Idealize.ShloMosaic.Lib.Pipeline.ValueKit
public import proofs.«01_k».proof.Proof.Reals

/-! The arrays that the input projection leaves, in terms of its arguments. -/

@[expose] public section

set_option maxRecDepth 16384

noncomputable section

open Idealize.ShloMosaic Idealize.ShloMosaic.TcCoe Idealize.SL.Sem
open Idealize.ShloMosaic.Pipeline (Dat)

namespace Cert.ProjFwdIdeal.Pj

open Cert.ProjFwdIdeal Cert.ProjFwdIdeal.Gen

variable (m : (ℓ : Loc nD τ sig) → Buf (Elt Ideal) ℓ)

theorem idx : ∀ t : Fin cfg0.N, win0_0.index t = ![min t.val 7, 0] ∧ win0_1.index t = ![0, 0] ∧ win0_2.index t = ![0, 0, 0]
    ∧ win0_3.index t = ![t.val % 8, t.val / 8] ∧ win0_4.index t = ![0, min t.val 7] :=
  (by decide +kernel : ∀ t : Fin grid0.N, _)

/-- Row `r` of block `k` in the whole array. -/
def at' (k : Fin 8) (r : Fin 1024) : Fin 8192 := ⟨k.val * 1024 + r.val, by omega⟩

/-- Column `e` of block `j` in the whole matrix. -/
def col' (j : Fin 8) (e : Fin 768) : Fin 6144 := ⟨j.val * 768 + e.val, by omega⟩

/-- The normed rows at a position and a feature. -/
def nrm (X : FVec Ideal S8192x1024 .f32) (G : FVec Ideal S1x1024 .f32) (s : Fin 8192) (d : Fin 1024) : EReal :=
  X (ix2 s d) * Reals.rms (fun k => X (ix2 s k)) * G (ix2 0 d)

/-- The projected rows. -/
def proj (X : FVec Ideal S8192x1024 .f32) (G : FVec Ideal S1x1024 .f32) (W : FVec Ideal S1x1024x6144 .f32) : FVec Ideal S8192x6144 .bf16 :=
  fun i => ∑ d : Fin 1024, nrm X G (i 0) d * W (ix3 0 d (i 1))

/-- The normed rows, transposed. -/
def turned (X : FVec Ideal S8192x1024 .f32) (G : FVec Ideal S1x1024 .f32) : FVec Ideal S1024x8192 .bf16 := fun i => nrm X G (i 1) (i 0)

theorem norm_apply (x : FVec Ideal S1024x1024 .f32) (g : FVec Ideal S1x1024 .f32) (r d : Fin 1024) :
    k0_pay1 (F := Ideal) x g (ix2 r d) = x (ix2 r d) * Reals.rms (fun k => x (ix2 r k)) * g (ix2 0 d) := by
  pointwise [k0_pay1, Reals.rms]

theorem pay2_apply (x : FVec Ideal S1024x1024 .f32) (g : FVec Ideal S1x1024 .f32) (r d : Fin 1024) :
    k0_pay2 (F := Ideal) x g (ix3 0 r d) = k0_pay1 (F := Ideal) x g (ix2 r d) := by
  unfold k0_pay2
  generalize k0_pay1 (F := Ideal) x g = y
  pointwise

theorem pay3_apply (x : FVec Ideal S1024x1024 .f32) (g : FVec Ideal S1x1024 .f32) (d r : Fin 1024) :
    k0_pay3 (F := Ideal) x g (ix2 d r) = k0_pay1 (F := Ideal) x g (ix2 r d) := by
  unfold k0_pay3
  generalize k0_pay1 (F := Ideal) x g = y
  pointwise

theorem pay4_apply (h : FVec Ideal S1x1024x1024 .bf16) (w : FVec Ideal S1x1024x768 .bf16) (r : Fin 1024) (e : Fin 768) :
    k0_pay4 (F := Ideal) h w (ix2 r e) = ∑ d : Fin 1024, h (ix3 0 r d) * w (ix3 0 d e) := by
  pointwise [k0_pay4]

/-- The host's regrouped matrix, read at one entry. -/
theorem weights_apply (c : Dev nD) (j : Fin 8) (d : Fin 1024) (k : Fin 768) :
    V m c main_v3 (ix3 j d k) = m ((c : Thread nD τ).loc main_arg2) (ix3 0 d (col' j k)) := by
  simp only [V, hostOps0, List.flatten_cons, List.flatten_nil, List.append_nil]
  after_results
  pointwise
  blk_ext [col']

theorem x_at (c : Dev nD) (t : Fin cfg0.N) (k : Fin 8) (h : min t.val 7 = k.val) (r d : Fin 1024) :
    xb m c t (ix2 r d) = m ((c : Thread nD τ).loc main_arg0) (ix2 (at' k r) d) := by
  blk_ext [xb, iblk, V, idx t, at', h]

theorem x_block (c : Dev nD) (k : Fin 8) (r d : Fin 1024) :
    xb m c (pt k.val) (ix2 r d) = m ((c : Thread nD τ).loc main_arg0) (ix2 (at' k r) d) :=
  x_at m c (pt k.val) k (by simp only [pt]; omega) r d

theorem g_block (c : Dev nD) (t : Fin cfg0.N) (d : Fin 1024) : gb m c t (ix2 0 d) = m ((c : Thread nD τ).loc main_arg1) (ix2 0 d) := by
  blk_ext [gb, iblk, V, idx t]

theorem w_block (c : Dev nD) (t : Fin cfg0.N) (j : Fin 8) (d : Fin 1024) (k : Fin 768) :
    wb m c t (ix3 j d k) = m ((c : Thread nD τ).loc main_arg2) (ix3 0 d (col' j k)) := by
  rw [← weights_apply m c]
  blk_ext [wb, iblk, idx t]

/-- The normed rows of block `k`. -/
theorem block_apply (c : Dev nD) (k : Fin 8) (r d : Fin 1024) :
    k0_pay1 (F := Ideal) (xb m c (pt k.val)) (gb m c (pt k.val)) (ix2 r d)
      = nrm (m ((c : Thread nD τ).loc main_arg0)) (m ((c : Thread nD τ).loc main_arg1)) (at' k r) d := by
  rw [norm_apply, nrm, g_block]
  simp only [x_block]

/-- What a point leaves of the projection. -/
theorem proj_point (c : Dev nD) (t : Fin cfg0.N) (k j : Fin 8) (r : Fin 1024) (e : Fin 768) :
    k0_pay4 (F := Ideal) (hrow m c k) (cols (wb m c t) j) (ix2 r e)
      = ∑ d : Fin 1024, nrm (m ((c : Thread nD τ).loc main_arg0)) (m ((c : Thread nD τ).loc main_arg1)) (at' k r) d
          * m ((c : Thread nD τ).loc main_arg2) (ix3 0 d (col' j e)) := by
  rw [pay4_apply]
  refine Finset.sum_congr rfl fun d _ => congrArg₂ (fun a b : EReal => a * b) ?_ (w_block m c t j d e)
  exact (pay2_apply _ _ r d).trans (block_apply m c k r d)

theorem final3 (c : Dev nD) : (dats m 0 c).arrAt 3 (cfgs 0).N
    = proj (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after_3]
  obtain ⟨r, e, rfl⟩ : ∃ (r : Fin 1024) (e : Fin 768), y = ix2 r e := ⟨y 0, y 1, by blk_ext⟩
  have h0 : ((cfg0.win 3).blk t).view.emb (ix2 r e) = ix2 (at' (grid0.coords t 1) r) (col' (grid0.coords t 0) e) := by
    blk_ext [idx t, at', col', row_val t, col_val t]
  rw [h0]
  exact proj_point m c t (grid0.coords t 1) (grid0.coords t 0) r e

theorem final4 (c : Dev nD) : (dats m 0 c).arrAt 4 (cfgs 0).N
    = turned (m ((c : Thread nD τ).loc main_arg0)) (m ((c : Thread nD τ).loc main_arg1)) := by
  refine (dats m 0 c).arrAt_eq_of_covers 4 _ (by decide +kernel) fun t _ y => ?_
  blk_simp
  rw [after_4]
  obtain ⟨d, r, rfl⟩ : ∃ (d r : Fin 1024), y = ix2 d r := ⟨y 0, y 1, by blk_ext⟩
  have hk : min t.val 7 < 8 := by omega
  have h0 : ((cfg0.win 4).blk t).view.emb (ix2 d r) = ix2 d (at' ⟨min t.val 7, hk⟩ r) := by
    blk_ext [idx t, at']
  rw [h0]
  have hp : pt t.val = pt (min t.val 7) := Fin.ext (by simp only [pt]; omega)
  rw [hp]
  exact (pay3_apply _ _ d r).trans (block_apply m c ⟨min t.val 7, hk⟩ r d)

/-- The call's run: its results and its arguments. -/
theorem run (ρ : Dev nD → PrngReg) : θ_run defs (onTc (τ := τ) (main (F := Ideal))) ⟨m, fun _ => 0, ρ⟩ fun r => ∀ c : Dev nD,
    r.2.mem ((c.tc : Thread nD τ).loc main_v4_0)
        = proj (m ((c : Thread nD τ).loc main_arg0)) (m ((c : Thread nD τ).loc main_arg1)) (m ((c : Thread nD τ).loc main_arg2))
      ∧ r.2.mem ((c.tc : Thread nD τ).loc main_v4_1) = turned (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 3).trans (final3 m c), ((h.1 c).1 4).trans (final4 m c), h.2 c⟩)
    (θ_run_and (run_main m ρ) (unchanged m ρ))

end Cert.ProjFwdIdeal.Pj

end
-- ==== Proof.PjPair.lean ====
module

public import proofs.«01_k».proof.Defs
public import proofs.«01_k».proof.Proof.PjValue
public import proofs.«01_k».proof.Proof.Gen.ProjFwdRefIdeal.Read
public import Idealize.ShloMosaic.Lib.Claim

/-! The input projection against the normed product of the forward lines. -/

@[expose] public section

set_option maxRecDepth 16384

noncomputable section

open Idealize.ShloMosaic Idealize.ShloMosaic.TcCoe Idealize.SL.Sem

namespace Cert.ProjFwdRefIdeal.Entry

open Cert.ProjFwdRefIdeal.Read Cert.ProjFwdIdeal.Pj

variable (X : FVec Ideal ⟨2, ![8192, 1024]⟩ .f32) (G : FVec Ideal ⟨2, ![1, 1024]⟩ .f32) (W : FVec Ideal ⟨3, ![1, 1024, 6144]⟩ .f32)

theorem norm_apply (s : Fin 8192) (d : Fin 1024) : val_main_v11 (F := Ideal) X G (ix2 s d) = nrm X G s d := by
  pointwise [val_main_v11, val_main_v10, val_main_v9, val_main_v8, val_main_v7, val_main_v6, val_main_v5, val_main_cst_1, val_main_v4, val_main_v3, val_main_cst_0,
    val_main_v2, val_main_v1, val_main_cst, val_main_v0, nrm, Reals.rms]

theorem proj_eq : val_main_v14 (F := Ideal) X G W = proj X G W := by
  funext i
  obtain ⟨s, e, rfl⟩ : ∃ (s : Fin 8192) (e : Fin 6144), i = ix2 s e := ⟨i 0, i 1, by blk_ext⟩
  have h : val_main_v14 (F := Ideal) X G W (ix2 s e) = ∑ d : Fin 1024, val_main_v11 (F := Ideal) X G (ix2 s d) * W (ix3 0 d e) := by
    unfold val_main_v14 val_main_v13
    generalize val_main_v11 (F := Ideal) X G = y
    pointwise [val_main_v12]
  rw [h]
  exact Finset.sum_congr rfl fun d _ => congrArg (fun a : EReal => a * W (ix3 0 d e)) (norm_apply X G s d)

theorem turned_eq : val_main_v16 (F := Ideal) X G = turned X G := by
  funext i
  obtain ⟨d, s, rfl⟩ : ∃ (d : Fin 1024) (s : Fin 8192), i = ix2 d s := ⟨i 0, i 1, by blk_ext⟩
  have h : val_main_v16 (F := Ideal) X G (ix2 d s) = val_main_v11 (F := Ideal) X G (ix2 s d) := by
    unfold val_main_v16 val_main_v15
    generalize val_main_v11 (F := Ideal) X G = y
    pointwise
  exact h.trans (norm_apply X G s d)

end Cert.ProjFwdRefIdeal.Entry

namespace Cert.Proof.Pj

/-- The reference's frame. -/
theorem frame_ref : Cert.quiescent_ProjFwdRefIdeal (hProjFwdRefIdeal := Cert.ProjFwdRefIdeal.Gen.facts) := fun m g _ =>
  (θ_run Cert.ProjFwdRefIdeal.defs _ _).mono (fun _ h => ⟨fun c => (h c).2.2, sem_eq_zero_of_no_sems (by decide) _⟩)
    (Cert.ProjFwdRefIdeal.Value.run m g)

/-- The results of the input projection are those of its reference, whatever its arguments. -/
theorem algebraic : Cert.algebraic_ProjFwdIdeal_ProjFwdRefIdeal := by
  intro m g m' g' _ hagree
  refine ⟨_, _, Cert.ProjFwdIdeal.Pj.run m g, (θ_run Cert.ProjFwdRefIdeal.defs _ _).mono (fun r h c => ?_) (Cert.ProjFwdRefIdeal.Value.run m' g')⟩
  obtain ⟨h0, h1, h2⟩ := h c
  obtain ⟨a0, a1, a2⟩ := hagree c
  refine ⟨h0.trans ?_, h1.trans ?_, h2⟩
  · refine (Cert.ProjFwdRefIdeal.Read.val_main_v14_eq (F := Ideal) _ _ _).trans ?_
    rw [a0, a1, a2]
    exact Cert.ProjFwdRefIdeal.Entry.proj_eq _ _ _
  · refine (Cert.ProjFwdRefIdeal.Read.val_main_v16_eq (F := Ideal) _ _).trans ?_
    rw [a0, a1]
    exact Cert.ProjFwdRefIdeal.Entry.turned_eq _ _

end Cert.Proof.Pj

end
-- ==== Proof.lean ====
module

public import proofs.«01_k».proof.Defs
public import proofs.«01_k».proof.Proof.Gen.SguBwd
public import proofs.«01_k».proof.Proof.Gen.SguBwd.Skeleton
public import proofs.«01_k».proof.Proof.Gen.SguBwd.Launch
public import proofs.«01_k».proof.Proof.Gen.SguBwd.Points
public import proofs.«01_k».proof.Proof.Gen.SguBwd.Frame
public import proofs.«01_k».proof.Proof.Gen.SguBwdIdeal
public import proofs.«01_k».proof.Proof.Gen.SguBwdIdeal.Skeleton
public import proofs.«01_k».proof.Proof.Gen.SguBwdIdeal.Launch
public import proofs.«01_k».proof.Proof.Gen.SguBwdIdeal.Points
public import proofs.«01_k».proof.Proof.Gen.SguBwdIdeal.Frame
public import proofs.«01_k».proof.Proof.Gen.SguRefIdeal
public import proofs.«01_k».proof.Proof.Gen.SguRefIdeal.Run
public import proofs.«01_k».proof.Proof.Gen.SguRefIdeal.Read
public import proofs.«01_k».proof.Proof.Gen.DxBwd
public import proofs.«01_k».proof.Proof.Gen.DxBwd.Skeleton
public import proofs.«01_k».proof.Proof.Gen.DxBwd.Launch
public import proofs.«01_k».proof.Proof.Gen.DxBwd.Points
public import proofs.«01_k».proof.Proof.Gen.DxBwd.Frame
public import proofs.«01_k».proof.Proof.Gen.DxBwdIdeal
public import proofs.«01_k».proof.Proof.Gen.DxBwdIdeal.Skeleton
public import proofs.«01_k».proof.Proof.Gen.DxBwdIdeal.Launch
public import proofs.«01_k».proof.Proof.Gen.DxBwdIdeal.Points
public import proofs.«01_k».proof.Proof.Gen.DxBwdIdeal.Frame
public import proofs.«01_k».proof.Proof.Gen.DxRefIdeal
public import proofs.«01_k».proof.Proof.Gen.DxRefIdeal.Run
public import proofs.«01_k».proof.Proof.Gen.DxRefIdeal.Read
public import proofs.«01_k».proof.Proof.Gen.OutLoss
public import proofs.«01_k».proof.Proof.Gen.OutLoss.Skeleton
public import proofs.«01_k».proof.Proof.Gen.OutLoss.Launch
public import proofs.«01_k».proof.Proof.Gen.OutLoss.Points
public import proofs.«01_k».proof.Proof.Gen.OutLoss.Frame
public import proofs.«01_k».proof.Proof.Gen.OutLossIdeal
public import proofs.«01_k».proof.Proof.Gen.OutLossIdeal.Skeleton
public import proofs.«01_k».proof.Proof.Gen.OutLossIdeal.Launch
public import proofs.«01_k».proof.Proof.Gen.OutLossIdeal.Points
public import proofs.«01_k».proof.Proof.Gen.OutLossIdeal.Frame
public import proofs.«01_k».proof.Proof.Gen.OutLossRefIdeal
public import proofs.«01_k».proof.Proof.Gen.OutLossRefIdeal.Run
public import proofs.«01_k».proof.Proof.Gen.OutLossRefIdeal.Read
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Loops
public import proofs.«01_k».proof.Proof.Gen.ConvBwdIdeal.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.SguPair
public import proofs.«01_k».proof.Proof.DxPair
public import proofs.«01_k».proof.Proof.OlPair
public import proofs.«01_k».proof.Proof.ConvFrameBits
public import proofs.«01_k».proof.Proof.ConvPair
public import proofs.«01_k».proof.Proof.FwdPair
public import proofs.«01_k».proof.Proof.SfPair
public import proofs.«01_k».proof.Proof.PjFrameBits
public import proofs.«01_k».proof.Proof.PjPair
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Loops
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.SguFwd
public import proofs.«01_k».proof.Proof.Gen.SguFwd.Skeleton
public import proofs.«01_k».proof.Proof.Gen.SguFwd.Launch
public import proofs.«01_k».proof.Proof.Gen.SguFwd.Points
public import proofs.«01_k».proof.Proof.Gen.SguFwd.Frame
public import proofs.«01_k».proof.Proof.Gen.SguFwdIdeal
public import proofs.«01_k».proof.Proof.Gen.SguFwdIdeal.Skeleton
public import proofs.«01_k».proof.Proof.Gen.SguFwdIdeal.Launch
public import proofs.«01_k».proof.Proof.Gen.SguFwdIdeal.Points
public import proofs.«01_k».proof.Proof.Gen.SguFwdIdeal.Frame
public import proofs.«01_k».proof.Proof.Gen.ProjFwd
public import proofs.«01_k».proof.Proof.Gen.ProjFwd.Skeleton
public import proofs.«01_k».proof.Proof.Gen.ProjFwd.Launch
public import proofs.«01_k».proof.Proof.Gen.ProjFwd.Points
public import proofs.«01_k».proof.Proof.Gen.ProjFwdIdeal
public import proofs.«01_k».proof.Proof.Gen.ProjFwdIdeal.Skeleton
public import proofs.«01_k».proof.Proof.Gen.ProjFwdIdeal.Points
public import proofs.«01_k».proof.Proof.Gen.ProjFwdIdeal.Frame
public import proofs.«01_k».proof.Proof.Gen.ProjFwdIdeal.Launch
public import proofs.«01_k».proof.Proof.Gen.ProjFwdRefIdeal
public import proofs.«01_k».proof.Proof.Gen.ProjFwdRefIdeal.Run
public import proofs.«01_k».proof.Proof.Gen.ProjFwdRefIdeal.Read
public import proofs.«01_k».proof.Proof.Gen.SguFwdRefIdeal
public import proofs.«01_k».proof.Proof.Gen.SguFwdRefIdeal.Run
public import proofs.«01_k».proof.Proof.Gen.SguFwdRefIdeal.Read
public import Idealize.ShloMosaic.Adequacy
public import Idealize.ShloMosaic.Init

@[expose] public section

noncomputable section

namespace Cert.Proof

open Idealize.ShloMosaic Idealize.SL.Sem

theorem claim : Cert.Claim :=
  ⟨Cert.SguBwd.Gen.facts, Cert.SguBwdIdeal.Gen.facts, Cert.SguRefIdeal.Gen.facts,
    Cert.DxBwd.Gen.facts, Cert.DxBwdIdeal.Gen.facts, Cert.DxRefIdeal.Gen.facts,
    Cert.OutLoss.Gen.facts, Cert.OutLossIdeal.Gen.facts, Cert.OutLossRefIdeal.Gen.facts,
    Cert.ConvBwd.Gen.facts, Cert.ConvBwdIdeal.Gen.facts, Cert.ConvRefIdeal.Gen.facts,
    Cert.ConvFwd.Gen.facts, Cert.ConvFwdIdeal.Gen.facts, Cert.ConvFwdRefIdeal.Gen.facts,
    Cert.SguFwd.Gen.facts, Cert.SguFwdIdeal.Gen.facts, Cert.SguFwdRefIdeal.Gen.facts,
    Cert.ProjFwd.Gen.facts, Cert.ProjFwdIdeal.Gen.facts, Cert.ProjFwdRefIdeal.Gen.facts, SguPair.preFacts, Dx.preFacts, Ol.preFacts, Conv.preFacts,
    fun m ρ _ => Cert.SguBwd.Gen.frame m ρ,
    fun m ρ _ => Cert.SguBwdIdeal.Gen.frame m ρ,
    fun m ρ _ => Cert.SguBwdIdeal.Gen.frame m ρ,
    SguPair.frame_ref,
    fun m ρ _ => SguPair.frame_ref m ρ trivial,
    fun m ρ _ => Cert.DxBwd.Gen.frame m ρ,
    fun m ρ _ => Cert.DxBwdIdeal.Gen.frame m ρ,
    fun m ρ _ => Cert.DxBwdIdeal.Gen.frame m ρ,
    Dx.frame_ref,
    fun m ρ _ => Dx.frame_ref m ρ trivial,
    fun m ρ _ => Cert.OutLoss.Gen.frame m ρ,
    fun m ρ _ => Cert.OutLossIdeal.Gen.frame m ρ,
    fun m ρ _ => Cert.OutLossIdeal.Gen.frame m ρ,
    Ol.frame_ref,
    fun m ρ _ => Ol.frame_ref m ρ trivial,
    fun m ρ _ => Cert.ConvBwd.Conv.frame m ρ,
    fun m ρ _ => Cert.ConvBwdIdeal.Conv.frame m ρ,
    fun m ρ _ => Cert.ConvBwdIdeal.Conv.frame m ρ,
    Conv.frame_ref,
    fun m ρ _ => Conv.frame_ref m ρ trivial,
    fun m ρ _ => Cert.ConvFwd.Gen.frame m ρ,
    fun m ρ _ => Cert.ConvFwdIdeal.Gen.frame m ρ,
    Fwd.frame_ref,
    fun m ρ _ => Cert.SguFwd.Gen.frame m ρ,
    fun m ρ _ => Cert.SguFwdIdeal.Gen.frame m ρ,
    Sf.frame_ref,
    fun m ρ _ => Cert.ProjFwd.Pj.frame m ρ,
    fun m ρ _ => Cert.ProjFwdIdeal.Pj.frame m ρ,
    Pj.frame_ref,
    trivial,
    SguPair.algebraic,
    trivial,
    Dx.algebraic,
    trivial,
    Ol.algebraic,
    trivial,
    Conv.algebraic,
    trivial,
    Fwd.algebraic,
    trivial,
    Sf.algebraic,
    trivial,
    Pj.algebraic⟩

end Cert.Proof

end
